-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v55_0)) (v1 : (c : Dev Cert.Kernel4Ideal.nD) → Buf (Elt Ideal) ((c.tc : Thread Cert.Kernel4Ideal.nD Cert.Kernel4Ideal.τ).loc Cert.Kernel4Ideal.main_v55_1)) (v2 : (c : Dev Cert.Kernel4Ideal.nD) → Buf (Elt Ideal) ((c.tc : Thread Cert.Kernel4Ideal.nD Cert.Kernel4Ideal.τ).loc Cert.Kernel4Ideal.main_v55_2)) (v3 : (c : Dev Cert.Kernel4Ideal.nD) → Buf (Elt Ideal) ((c.tc : Thread Cert.Kernel4Ideal.nD Cert.Kernel4Ideal.τ).loc Cert.Kernel4Ideal.main_v55_3)) (v4 : (c : Dev Cert.Kernel4Ideal.nD) → Buf (Elt Ideal) ((c.tc : Thread Cert.Kernel4Ideal.nD Cert.Kernel4Ideal.τ).loc Cert.Kernel4Ideal.main_v55_4)) (v5 : (c : Dev Cert.Kernel4Ideal.nD) → Buf (Elt Ideal) ((c.tc : Thread Cert.Kernel4Ideal.nD Cert.Kernel4Ideal.τ).loc Cert.Kernel4Ideal.main_v55_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55_0) = v0 c
          ∧ r.2.mem ((c.tc : Thread Cert.Kernel4Ideal.nD Cert.Kernel4Ideal.τ).loc Cert.Kernel4Ideal.main_v55_1) = v1 c
          ∧ r.2.mem ((c.tc : Thread Cert.Kernel4Ideal.nD Cert.Kernel4Ideal.τ).loc Cert.Kernel4Ideal.main_v55_2) = v2 c
          ∧ r.2.mem ((c.tc : Thread Cert.Kernel4Ideal.nD Cert.Kernel4Ideal.τ).loc Cert.Kernel4Ideal.main_v55_3) = v3 c
          ∧ r.2.mem ((c.tc : Thread Cert.Kernel4Ideal.nD Cert.Kernel4Ideal.τ).loc Cert.Kernel4Ideal.main_v55_4) = v4 c
          ∧ r.2.mem ((c.tc : Thread Cert.Kernel4Ideal.nD Cert.Kernel4Ideal.τ).loc Cert.Kernel4Ideal.main_v55_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v159) = v0 c
          ∧ r.2.mem ((c.tc : Thread Cert.Reference4Ideal.nD Cert.Reference4Ideal.τ).loc Cert.Reference4Ideal.main_v161) = v1 c
          ∧ r.2.mem ((c.tc : Thread Cert.Reference4Ideal.nD Cert.Reference4Ideal.τ).loc Cert.Reference4Ideal.main_v164) = v2 c
          ∧ r.2.mem ((c.tc : Thread Cert.Reference4Ideal.nD Cert.Reference4Ideal.τ).loc Cert.Reference4Ideal.main_v167) = v3 c
          ∧ r.2.mem ((c.tc : Thread Cert.Reference4Ideal.nD Cert.Reference4Ideal.τ).loc Cert.Reference4Ideal.main_v170) = v4 c
          ∧ r.2.mem ((c.tc : Thread Cert.Reference4Ideal.nD Cert.Reference4Ideal.τ).loc Cert.Reference4Ideal.main_v157) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v54_2)) (v1 : (c : Dev Cert.Kernel6Ideal.nD) → Buf (Elt Ideal) ((c.tc : Thread Cert.Kernel6Ideal.nD Cert.Kernel6Ideal.τ).loc Cert.Kernel6Ideal.main_v54_3)) (v2 : (c : Dev Cert.Kernel6Ideal.nD) → Buf (Elt Ideal) ((c.tc : Thread Cert.Kernel6Ideal.nD Cert.Kernel6Ideal.τ).loc Cert.Kernel6Ideal.main_v54_4)) (v3 : (c : Dev Cert.Kernel6Ideal.nD) → Buf (Elt Ideal) ((c.tc : Thread Cert.Kernel6Ideal.nD Cert.Kernel6Ideal.τ).loc Cert.Kernel6Ideal.main_v55_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v54_2) = v0 c
          ∧ r.2.mem ((c.tc : Thread Cert.Kernel6Ideal.nD Cert.Kernel6Ideal.τ).loc Cert.Kernel6Ideal.main_v54_3) = v1 c
          ∧ r.2.mem ((c.tc : Thread Cert.Kernel6Ideal.nD Cert.Kernel6Ideal.τ).loc Cert.Kernel6Ideal.main_v54_4) = v2 c
          ∧ r.2.mem ((c.tc : Thread Cert.Kernel6Ideal.nD Cert.Kernel6Ideal.τ).loc Cert.Kernel6Ideal.main_v55_0) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_v85) = v1 c
          ∧ r.2.mem ((c.tc : Thread Cert.Reference6Ideal.nD Cert.Reference6Ideal.τ).loc Cert.Reference6Ideal.main_v88) = v2 c
          ∧ r.2.mem ((c.tc : Thread Cert.Reference6Ideal.nD Cert.Reference6Ideal.τ).loc Cert.Reference6Ideal.main_v90) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8x8192x1024 : Shape := ⟨3, ![8, 8192, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S2048x1024 : Shape := ⟨2, ![2048, 1024]⟩
abbrev S1024x256 : Shape := ⟨2, ![1024, 256]⟩
abbrev S256x1024 : Shape := ⟨2, ![256, 1024]⟩
abbrev S2048x256 : Shape := ⟨2, ![2048, 256]⟩
abbrev S256 : Shape := ⟨1, ![256]⟩
abbrev S256x1 : Shape := ⟨2, ![256, 1]⟩

abbrev nBuf : Space → Nat
  | .hbm => 18
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S65536x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

@[reducible] def k0_t1_loop : Scf.Loop 32 :=
  let c0_i32_15 : BitVec 32 := 0#32
  let c8_i32 : BitVec 32 := 8#32
  let v24 : BitVec 32 := Scalar.addi c0_i32_15 c8_i32
  let c1_i32 : BitVec 32 := 1#32
  ⟨c0_i32_15, v24, c1_i32⟩
def k0_mult1 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c256_i32 : BitVec 32 := 256#32
  let v25 : BitVec 32 := Scalar.muli arg10 c256_i32
  v25
def k0_off1 (k0_t1 : Fin k0_t1_loop.trips) : Fin 2 → Nat :=
  let c0_i32_15 : BitVec 32 := 0#32
  let c1_i32 : BitVec 32 := 1#32
  let arg10 : BitVec 32 := Scf.iv c0_i32_15 c1_i32 k0_t1
  let c256_i32 : BitVec 32 := 256#32
  let v25 : BitVec 32 := Scalar.muli arg10 c256_i32
  let v26 : BitVec 32 := v25
  let v27 : Index := Scalar.indexCast v26
  let c0_17 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x8192x1024 : Shape := ⟨3, ![8, 8192, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S8x8192x2816 : Shape := ⟨3, ![8, 8192, 2816]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S65536x1024 : Shape := ⟨2, ![65536, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8x8192x1024, .f32⟩
  | .hbm, ⟨8, _⟩ => ⟨S8x8192x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x8192x2816, .f32⟩
  | .hbm, ⟨13, _⟩ => ⟨S8x8192x2816, .f32⟩
  | .hbm, ⟨14, _⟩ => ⟨S8x8192x2816, .f32⟩
  | .hbm, ⟨15, _⟩ => ⟨S_, .f32⟩
  | .hbm, ⟨16, _⟩ => ⟨S8x8192x2816, .f32⟩
  | .hbm, ⟨17, _⟩ => ⟨S8x8192x2816, .f32⟩
  | .hbm, ⟨18, _⟩ => ⟨S_, .f32⟩
  | .hbm, ⟨19, _⟩ => ⟨S8x8192x2816, .f32⟩
  | .hbm, ⟨20, _⟩ => ⟨S8x8192x2816, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S8x8192x1024, .f32⟩
  | .hbm, ⟨25, _⟩ => ⟨S_, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1, .f32⟩
  | .hbm, ⟨50, _⟩ => ⟨S8x8192x1024, .f32⟩
  | .hbm, ⟨51, _⟩ => ⟨S8x8192x1024, .f32⟩
  | .hbm, ⟨52, _⟩ => ⟨S1x1x1024, .f32⟩
  | .hbm, ⟨53, _⟩ => ⟨S8x8192x1024, .f32⟩
  | .hbm, ⟨54, _⟩ => ⟨S8x8192x1024, .f32⟩
  | .hbm, ⟨55, _⟩ => ⟨S1x1x1024, .f32⟩
  | .hbm, ⟨56, _⟩ => ⟨S8x8192x1024, .f32⟩
  | .hbm, ⟨57, _⟩ => ⟨S8x8192x1024, .f32⟩
  | .hbm, ⟨58, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel2.lean ====
abbrev S8x8192x512 : Shape := ⟨3, ![8, 8192, 512]⟩
abbrev S16x512 : Shape := ⟨2, ![16, 512]⟩
abbrev S8x8192x1024 : Shape := ⟨3, ![8, 8192, 1024]⟩
abbrev S1x1024x4936 : Shape := ⟨3, ![1, 1024, 4936]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024x4936 : Shape := ⟨2, ![1024, 4936]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1024x256 : Shape := ⟨2, ![1024, 256]⟩
abbrev S_ : Shape := ⟨0, ![]⟩
abbrev S1024x120 : Shape := ⟨2, ![1024, 120]⟩
abbrev S1024x1792 : Shape := ⟨2, ![1024, 1792]⟩
abbrev S1024x1536 : Shape := ⟨2, ![1024, 1536]⟩
abbrev S1024x2048 : Shape := ⟨2, ![1024, 2048]⟩
abbrev S8x16x512x512 : Shape := ⟨4, ![8, 16, 512, 512]⟩
abbrev S8x15x8x512 : Shape := ⟨4, ![8, 15, 8, 512]⟩
abbrev S8x512 : Shape := ⟨2, ![8, 512]⟩
abbrev S1x1x8x512 : Shape := ⟨4, ![1, 1, 8, 512]⟩
abbrev S8x1x8x512 : Shape := ⟨4, ![8, 1, 8, 512]⟩
abbrev S8x16x8x512 : Shape := ⟨4, ![8, 16, 8, 512]⟩
abbrev S3x512 : Shape := ⟨2, ![3, 512]⟩
abbrev S5x512 : Shape := ⟨2, ![5, 512]⟩
abbrev S512x1024 : Shape := ⟨2, ![512, 1024]⟩
abbrev S1024 : Shape := ⟨1, ![1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 63
  | .vmem => 19
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .f32⟩
  | .hbm, ⟨2, _⟩ => ⟨S16x512, .f32⟩
  | .hbm, ⟨3, _⟩ => ⟨S8x8192x512, .f32⟩
  | .hbm, ⟨4, _⟩ => ⟨S8x8192x1024, .f32⟩
  | .hbm, ⟨5, _⟩ => ⟨S1x1024x4936, .f32⟩
  | .hbm, ⟨6, _⟩ => ⟨S1x3x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1024x4936, .f32⟩
  | .hbm, ⟨13, _⟩ => ⟨S1024x512, .f32⟩
  | .hbm, ⟨14, _⟩ => ⟨S1024x128, .f32⟩
  | .hbm, ⟨15, _⟩ => ⟨S1024x128, .f32⟩
  | .hbm, ⟨16, _⟩ => ⟨S1024x512, .f32⟩
  | .hbm, ⟨17, _⟩ => ⟨S1024x64, .f32⟩
  | .hbm, ⟨18, _⟩ => ⟨S1024x8, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x1024, .f32⟩
  | .hbm, ⟨23, _⟩ => ⟨S1024x1024, .f32⟩
  | .hbm, ⟨24, _⟩ => ⟨S1024x64, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S1024x256, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S1024x64, .f32⟩
  | .hbm, ⟨33, _⟩ => ⟨S1024x256, .f32⟩
  | .hbm, ⟨34, _⟩ => ⟨S_, .f32⟩
  | .hbm, ⟨35, _⟩ => ⟨S1024x120, .f32⟩
  | .hbm, ⟨36, _⟩ => ⟨S1024x1792, .f32⟩
  | .hbm, ⟨37, _⟩ => ⟨S1024x1536, .f32⟩
  | .hbm, ⟨38, _⟩ => ⟨S1024x2048, .f32⟩
  | .hbm, ⟨39, _⟩ => ⟨S1024x1792, .bf16⟩
  | .hbm, ⟨40, _⟩ => ⟨S1024x1536, .bf16⟩
  | .hbm, ⟨41, _⟩ => ⟨S1024x2048, .bf16⟩
  | .hbm, ⟨42, _⟩ => ⟨S8x16x512x512, .f32⟩
  | .hbm, ⟨43, _⟩ => ⟨S8x15x8x512, .f32⟩
  | .hbm, ⟨44, _⟩ => ⟨S8x512, .f32⟩
  | .hbm, ⟨45, _⟩ => ⟨S1x1x8x512, .f32⟩
  | .hbm, ⟨46, _⟩ => ⟨S8x1x8x512, .f32⟩
  | .hbm, ⟨47, _⟩ => ⟨S8x16x8x512, .f32⟩
  | .hbm, ⟨48, _⟩ => ⟨S3x512, .f32⟩
  | .hbm, ⟨49, _⟩ => ⟨S_, .f32⟩
  | .hbm, ⟨50, _⟩ => ⟨S5x512, .f32⟩
  | .hbm, ⟨51, _⟩ => ⟨S8x512, .f32⟩
  | .hbm, ⟨52, _⟩ => ⟨S512x1024, .f32⟩
  | .hbm, ⟨53, _⟩ => ⟨S512x1024, .bf16⟩
  | .hbm, ⟨54, _⟩ => ⟨S512x1024, .f32⟩
  | .hbm, ⟨55, _⟩ => ⟨S512x1024, .bf16⟩
  | .hbm, ⟨56, _⟩ => ⟨S1024x1024, .f32⟩
  | .hbm, ⟨57, _⟩ => ⟨S1024x1024, .bf16⟩
  | .hbm, ⟨58, _⟩ => ⟨S1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S8x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x1x8x512, .f32⟩
  | .local _ .vmem, ⟨5, _⟩ => ⟨S1x1x8x512, .f32⟩
  | .local _ .vmem, ⟨6, _⟩ => ⟨S1x512x512, .f32⟩
  | .local _ .vmem, ⟨7, _⟩ => ⟨S1x512x512, .f32⟩
  | .local _ .vmem, ⟨8, _⟩ => ⟨S1x512x1024, .f32⟩
  | .local _ .vmem, ⟨9, _⟩ => ⟨S1x512x1024, .f32⟩
  | .local _ .vmem, ⟨10, _⟩ => ⟨S8x512, .f32⟩
  | .local _ .vmem, ⟨11, _⟩ => ⟨S1024x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x8192x512 : Shape := ⟨3, ![8, 8192, 512]⟩
abbrev S16x512 : Shape := ⟨2, ![16, 512]⟩
abbrev S8x8192x1024 : Shape := ⟨3, ![8, 8192, 1024]⟩
abbrev S1x1024x4936 : Shape := ⟨3, ![1, 1024, 4936]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024x4936 : Shape := ⟨2, ![1024, 4936]⟩
abbrev S8x8192x4936 : Shape := ⟨3, ![8, 8192, 4936]⟩
abbrev S8x8192x128 : Shape := ⟨3, ![8, 8192, 128]⟩
abbrev S8x8192x64 : Shape := ⟨3, ![8, 8192, 64]⟩
abbrev S8x8192x8 : Shape := ⟨3, ![8, 8192, 8]⟩
abbrev S512x1024 : Shape := ⟨2, ![512, 1024]⟩
abbrev S1x16x512 : Shape := ⟨3, ![1, 16, 512]⟩
abbrev S8x16x512 : Shape := ⟨3, ![8, 16, 512]⟩
abbrev S8x8208x512 : Shape := ⟨3, ![8, 8208, 512]⟩
abbrev S3x512 : Shape := ⟨2, ![3, 512]⟩
abbrev S_ : Shape := ⟨0, ![]⟩
abbrev S8x8210x512 : Shape := ⟨3, ![8, 8210, 512]⟩
abbrev S1x512 : Shape := ⟨2, ![1, 512]⟩
abbrev S512 : Shape := ⟨1, ![512]⟩
abbrev S1x1x512 : Shape := ⟨3, ![1, 1, 512]⟩
abbrev S1024x1024 : Shape := ⟨2, ![1024, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .f32⟩
  | .hbm, ⟨2, _⟩ => ⟨S16x512, .f32⟩
  | .hbm, ⟨3, _⟩ => ⟨S8x8192x512, .f32⟩
  | .hbm, ⟨4, _⟩ => ⟨S8x8192x1024, .f32⟩
  | .hbm, ⟨5, _⟩ => ⟨S1x1024x4936, .f32⟩
  | .hbm, ⟨6, _⟩ => ⟨S1x3x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1024x4936, .f32⟩
  | .hbm, ⟨13, _⟩ => ⟨S8x8192x4936, .f32⟩
  | .hbm, ⟨14, _⟩ => ⟨S8x8192x512, .f32⟩
  | .hbm, ⟨15, _⟩ => ⟨S8x8192x128, .f32⟩
  | .hbm, ⟨16, _⟩ => ⟨S8x8192x128, .f32⟩
  | .hbm, ⟨17, _⟩ => ⟨S8x8192x512, .f32⟩
  | .hbm, ⟨18, _⟩ => ⟨S8x8192x64, .f32⟩
  | .hbm, ⟨19, _⟩ => ⟨S8x8192x8, .f32⟩
  | .hbm, ⟨20, _⟩ => ⟨S8x8192x512, .f32⟩
  | .hbm, ⟨21, _⟩ => ⟨S8x8192x512, .f32⟩
  | .hbm, ⟨22, _⟩ => ⟨S8x8192x512, .f32⟩
  | .hbm, ⟨23, _⟩ => ⟨S8x8192x1024, .f32⟩
  | .hbm, ⟨24, _⟩ => ⟨S8x8192x1024, .f32⟩
  | .hbm, ⟨25, _⟩ => ⟨S8x8192x512, .f32⟩
  | .hbm, ⟨26, _⟩ => ⟨S512x1024, .f32⟩
  | .hbm, ⟨27, _⟩ => ⟨S8x8192x1024, .f32⟩
  | .hbm, ⟨28, _⟩ => ⟨S1x16x512, .f32⟩
  | .hbm, ⟨29, _⟩ => ⟨S8x16x512, .f32⟩
  | .hbm, ⟨30, _⟩ => ⟨S8x8208x512, .f32⟩
  | .hbm, ⟨31, _⟩ => ⟨S3x512, .f32⟩
  | .hbm, ⟨32, _⟩ => ⟨S_, .i32⟩
  | .hbm, ⟨33, _⟩ => ⟨S_, .f32⟩
  | .hbm, ⟨34, _⟩ => ⟨S8x8210x512, .f32⟩
  | .hbm, ⟨35, _⟩ => ⟨S8x8208x512, .f32⟩
  | .hbm, ⟨36, _⟩ => ⟨S1x512, .f32⟩
  | .hbm, ⟨37, _⟩ => ⟨S512, .f32⟩
  | .hbm, ⟨38, _⟩ => ⟨S1x1x512, .f32⟩
  | .hbm, ⟨39, _⟩ => ⟨S8x8208x512, .f32⟩
  | .hbm, ⟨40, _⟩ => ⟨S8x8208x512, .f32⟩
  | .hbm, ⟨41, _⟩ => ⟨S_, .f32⟩
  | .hbm, ⟨42, _⟩ => ⟨S8x8208x512, .f32⟩
  | .hbm, ⟨43, _⟩ => ⟨S8x8208x512, .f32⟩
  | .hbm, ⟨44, _⟩ => ⟨S8x8208x512, .f32⟩
  | .hbm, ⟨45, _⟩ => ⟨S1x512, .f32⟩
  | .hbm, ⟨46, _⟩ => ⟨S512, .f32⟩
  | .hbm, ⟨47, _⟩ => ⟨S1x1x512, .f32⟩
  | .hbm, ⟨48, _⟩ => ⟨S8x8208x512, .f32⟩
  | .hbm, ⟨49, _⟩ => ⟨S8x8208x512, .f32⟩
  | .hbm, ⟨50, _⟩ => ⟨S8x8208x512, .f32⟩
  | .hbm, ⟨51, _⟩ => ⟨S8x8208x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S8x8208x512, .f32⟩
  | .hbm, ⟨56, _⟩ => ⟨S8x8208x512, .f32⟩
  | .hbm, ⟨57, _⟩ => ⟨S8x8208x512, .f32⟩
  | .hbm, ⟨58, _⟩ => ⟨S8x8192x512, .f32⟩
  | .hbm, ⟨59, _⟩ => ⟨S8x8192x512, .f32⟩
  | .hbm, ⟨60, _⟩ => ⟨S512x1024, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S_, .f32⟩
  | .hbm, ⟨65, _⟩ => ⟨S8x8192x1024, .f32⟩
  | .hbm, ⟨66, _⟩ => ⟨S8x8192x1024, .f32⟩
  | .hbm, ⟨67, _⟩ => ⟨S_, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S_, .f32⟩
  | .hbm, ⟨74, _⟩ => ⟨S8x8192x1024, .f32⟩
  | .hbm, ⟨75, _⟩ => ⟨S8x8192x1024, .f32⟩
  | .hbm, ⟨76, _⟩ => ⟨S_, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S8x8192x1024, .f32⟩
  | .hbm, ⟨81, _⟩ => ⟨S_, .f32⟩
  | .hbm, ⟨82, _⟩ => ⟨S8x8192x1024, .f32⟩
  | .hbm, ⟨83, _⟩ => ⟨S8x8192x1024, .f32⟩
  | .hbm, ⟨84, _⟩ => ⟨S1024x1024, .f32⟩
  | .hbm, ⟨85, _⟩ => ⟨S8x8192x1024, .f32⟩
  | .hbm, ⟨86, _⟩ => ⟨S8x8192x1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S8x8192, .f32⟩
  | .hbm, ⟨91, _⟩ => ⟨S8x8192x1, .f32⟩
  | .hbm, ⟨92, _⟩ => ⟨S_, .f32⟩
  | .hbm, ⟨93, _⟩ => ⟨S8x8192x1, .f32⟩
  | .hbm, ⟨94, _⟩ => ⟨S8x8192x1, .f32⟩
  | .hbm, ⟨95, _⟩ => ⟨S8x8192x1024, .f32⟩
  | .hbm, ⟨96, _⟩ => ⟨S8x8192x1024, .f32⟩
  | .hbm, ⟨97, _⟩ => ⟨S8x8192x1024, .f32⟩
  | .hbm, ⟨98, _⟩ => ⟨S_, .f32⟩
  | .hbm, ⟨99, _⟩ => ⟨S8x8192, .f32⟩
  | .hbm, ⟨100, _⟩ => ⟨S8x8192x1, .f32⟩
  | .hbm, ⟨101, _⟩ => ⟨S_, .f32⟩
  | .hbm, ⟨102, _⟩ => ⟨S8x8192x1, .f32⟩
  | .hbm, ⟨103, _⟩ => ⟨S8x8192x1, .f32⟩
  | .hbm, ⟨104, _⟩ => ⟨S_, .f32⟩
  | .hbm, ⟨105, _⟩ => ⟨S8x8192x1, .f32⟩
  | .hbm, ⟨106, _⟩ => ⟨S8x8192x1, .f32⟩
  | .hbm, ⟨107, _⟩ => ⟨S8x8192x1, .f32⟩
  | .hbm, ⟨108, _⟩ => ⟨S8x8192x1024, .f32⟩
  | .hbm, ⟨109, _⟩ => ⟨S8x8192x1024, .f32⟩
  | .hbm, ⟨110, _⟩ => ⟨S1x1x1024, .f32⟩
  | .hbm, ⟨111, _⟩ => ⟨S8x8192x1024, .f32⟩
  | .hbm, ⟨112, _⟩ => ⟨S8x8192x1024, .f32⟩
  | .hbm, ⟨113, _⟩ => ⟨S1x1x1024, .f32⟩
  | .hbm, ⟨114, _⟩ => ⟨S8x8192x1024, .f32⟩
  | .hbm, ⟨115, _⟩ => ⟨S8x8192x1024, .f32⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_0 : Ref sig .tc := ⟨.hbm, 64, rfl⟩
abbrev main_v49 : Ref sig .tc := ⟨.hbm, 65, rfl⟩
abbrev main_v50 : Ref sig .tc := ⟨.hbm, 66, rfl⟩
abbrev main_cst_1 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_5 : Ref sig .tc := ⟨.hbm, 89, rfl⟩
abbrev main_v69 : Ref sig .tc := ⟨.hbm, 90, rfl⟩
abbrev main_v70 : Ref sig .tc := ⟨.hbm, 91, rfl⟩
abbrev main_cst_6 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_v79 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]
-- ==== Kernel3.lean ====
abbrev S8x8192x1024 : Shape := ⟨3, ![8, 8192, 1024]⟩
abbrev S1x1024x4936 : Shape := ⟨3, ![1, 1024, 4936]⟩
abbrev S1024x4936 : Shape := ⟨2, ![1024, 4936]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1024x256 : Shape := ⟨2, ![1024, 256]⟩
abbrev S_ : Shape := ⟨0, ![]⟩
abbrev S1024x120 : Shape := ⟨2, ![1024, 120]⟩
abbrev S1024x1792 : Shape := ⟨2, ![1024, 1792]⟩
abbrev S1024x1536 : Shape := ⟨2, ![1024, 1536]⟩
abbrev S1024x2048 : Shape := ⟨2, ![1024, 2048]⟩
abbrev S65536x1024 : Shape := ⟨2, ![65536, 1024]⟩
abbrev S65536x512 : Shape := ⟨2, ![65536, 512]⟩

abbrev nBuf : Space → Nat
  | .hbm => 35
  | .vmem => 7
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4936, .f32⟩
  | .hbm, ⟨2, _⟩ => ⟨S1024x4936, .f32⟩
  | .hbm, ⟨3, _⟩ => ⟨S1024x512, .f32⟩
  | .hbm, ⟨4, _⟩ => ⟨S1024x128, .f32⟩
  | .hbm, ⟨5, _⟩ => ⟨S1024x128, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x1024, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x256, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x256, .f32⟩
  | .hbm, ⟨24, _⟩ => ⟨S_, .f32⟩
  | .hbm, ⟨25, _⟩ => ⟨S1024x120, .f32⟩
  | .hbm, ⟨26, _⟩ => ⟨S1024x1792, .f32⟩
  | .hbm, ⟨27, _⟩ => ⟨S1024x1536, .f32⟩
  | .hbm, ⟨28, _⟩ => ⟨S1024x2048, .f32⟩
  | .hbm, ⟨29, _⟩ => ⟨S1024x1792, .bf16⟩
  | .hbm, ⟨30, _⟩ => ⟨S1024x1536, .bf16⟩
  | .hbm, ⟨31, _⟩ => ⟨S1024x2048, .bf16⟩
  | .hbm, ⟨32, _⟩ => ⟨S65536x1024, .f32⟩
  | .hbm, ⟨33, _⟩ => ⟨S65536x512, .f32⟩
  | .hbm, ⟨34, _⟩ => ⟨S65536x512, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30_0 : Ref sig .tc := ⟨.hbm, 33, rfl⟩
abbrev main_v30_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x8192x1024 : Shape := ⟨3, ![8, 8192, 1024]⟩
abbrev S1x1024x4936 : Shape := ⟨3, ![1, 1024, 4936]⟩
abbrev S1024x4936 : Shape := ⟨2, ![1024, 4936]⟩
abbrev S8x8192x4936 : Shape := ⟨3, ![8, 8192, 4936]⟩
abbrev S8x8192x512 : Shape := ⟨3, ![8, 8192, 512]⟩
abbrev S8x8192x128 : Shape := ⟨3, ![8, 8192, 128]⟩
abbrev S8x8192x64 : Shape := ⟨3, ![8, 8192, 64]⟩
abbrev S8x8192x8 : Shape := ⟨3, ![8, 8192, 8]⟩
abbrev S65536x512 : Shape := ⟨2, ![65536, 512]⟩

abbrev nBuf : Space → Nat
  | .hbm => 18
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4936, .f32⟩
  | .hbm, ⟨2, _⟩ => ⟨S1024x4936, .f32⟩
  | .hbm, ⟨3, _⟩ => ⟨S8x8192x4936, .f32⟩
  | .hbm, ⟨4, _⟩ => ⟨S8x8192x512, .f32⟩
  | .hbm, ⟨5, _⟩ => ⟨S8x8192x128, .f32⟩
  | .hbm, ⟨6, _⟩ => ⟨S8x8192x128, .f32⟩
  | .hbm, ⟨7, _⟩ => ⟨S8x8192x512, .f32⟩
  | .hbm, ⟨8, _⟩ => ⟨S8x8192x64, .f32⟩
  | .hbm, ⟨9, _⟩ => ⟨S8x8192x8, .f32⟩
  | .hbm, ⟨10, _⟩ => ⟨S8x8192x512, .f32⟩
  | .hbm, ⟨11, _⟩ => ⟨S8x8192x512, .f32⟩
  | .hbm, ⟨12, _⟩ => ⟨S8x8192x512, .f32⟩
  | .hbm, ⟨13, _⟩ => ⟨S8x8192x1024, .f32⟩
  | .hbm, ⟨14, _⟩ => ⟨S8x8192x1024, .f32⟩
  | .hbm, ⟨15, _⟩ => ⟨S8x8192x512, .f32⟩
  | .hbm, ⟨16, _⟩ => ⟨S65536x512, .f32⟩
  | .hbm, ⟨17, _⟩ => ⟨S65536x512, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel4.lean ====
abbrev S8x8192x1024 : Shape := ⟨3, ![8, 8192, 1024]⟩
abbrev S1x1024x4936 : Shape := ⟨3, ![1, 1024, 4936]⟩
abbrev S1024x4936 : Shape := ⟨2, ![1024, 4936]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1024x256 : Shape := ⟨2, ![1024, 256]⟩
abbrev S_ : Shape := ⟨0, ![]⟩
abbrev S1024x120 : Shape := ⟨2, ![1024, 120]⟩
abbrev S1024x1792 : Shape := ⟨2, ![1024, 1792]⟩
abbrev S1024x1536 : Shape := ⟨2, ![1024, 1536]⟩
abbrev S1024x2048 : Shape := ⟨2, ![1024, 2048]⟩
abbrev S8208 : Shape := ⟨1, ![8208]⟩
abbrev S32 : Shape := ⟨1, ![32]⟩
abbrev S8208x1 : Shape := ⟨2, ![8208, 1]⟩
abbrev S1x32 : Shape := ⟨2, ![1, 32]⟩
abbrev S8208x32 : Shape := ⟨2, ![8208, 32]⟩
abbrev S1x8208x1x32 : Shape := ⟨4, ![1, 8208, 1, 32]⟩
abbrev S1x8208x4x32 : Shape := ⟨4, ![1, 8208, 4, 32]⟩
abbrev S8208x128 : Shape := ⟨2, ![8208, 128]⟩
abbrev S8208x64 : Shape := ⟨2, ![8208, 64]⟩
abbrev S1x8208x1x64 : Shape := ⟨4, ![1, 8208, 1, 64]⟩
abbrev S1x8208x2x64 : Shape := ⟨4, ![1, 8208, 2, 64]⟩
abbrev S65536x1024 : Shape := ⟨2, ![65536, 1024]⟩
abbrev S8192x128 : Shape := ⟨2, ![8192, 128]⟩
abbrev S65536x512 : Shape := ⟨2, ![65536, 512]⟩
abbrev S65536x256 : Shape := ⟨2, ![65536, 256]⟩
abbrev S65536x128 : Shape := ⟨2, ![65536, 128]⟩

abbrev nBuf : Space → Nat
  | .hbm => 66
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4936, .f32⟩
  | .hbm, ⟨2, _⟩ => ⟨S1024x4936, .f32⟩
  | .hbm, ⟨3, _⟩ => ⟨S1024x512, .f32⟩
  | .hbm, ⟨4, _⟩ => ⟨S1024x128, .f32⟩
  | .hbm, ⟨5, _⟩ => ⟨S1024x128, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x1024, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x256, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x256, .f32⟩
  | .hbm, ⟨24, _⟩ => ⟨S_, .f32⟩
  | .hbm, ⟨25, _⟩ => ⟨S1024x120, .f32⟩
  | .hbm, ⟨26, _⟩ => ⟨S1024x1792, .f32⟩
  | .hbm, ⟨27, _⟩ => ⟨S1024x1536, .f32⟩
  | .hbm, ⟨28, _⟩ => ⟨S1024x2048, .f32⟩
  | .hbm, ⟨29, _⟩ => ⟨S1024x1792, .bf16⟩
  | .hbm, ⟨30, _⟩ => ⟨S1024x1536, .bf16⟩
  | .hbm, ⟨31, _⟩ => ⟨S1024x2048, .bf16⟩
  | .hbm, ⟨32, _⟩ => ⟨S8208, .i32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S8208, .f32⟩
  | .hbm, ⟨42, _⟩ => ⟨S8208x1, .f32⟩
  | .hbm, ⟨43, _⟩ => ⟨S1x32, .f32⟩
  | .hbm, ⟨44, _⟩ => ⟨S8208x32, .f32⟩
  | .hbm, ⟨45, _⟩ => ⟨S8208x32, .f32⟩
  | .hbm, ⟨46, _⟩ => ⟨S8208x32, .f32⟩
  | .hbm, ⟨47, _⟩ => ⟨S8208x32, .f32⟩
  | .hbm, ⟨48, _⟩ => ⟨S8208x32, .f32⟩
  | .hbm, ⟨49, _⟩ => ⟨S1x8208x1x32, .f32⟩
  | .hbm, ⟨50, _⟩ => ⟨S1x8208x4x32, .f32⟩
  | .hbm, ⟨51, _⟩ => ⟨S8208x128, .f32⟩
  | .hbm, ⟨52, _⟩ => ⟨S8208x32, .f32⟩
  | .hbm, ⟨53, _⟩ => ⟨S8208x64, .f32⟩
  | .hbm, ⟨54, _⟩ => ⟨S1x8208x1x64, .f32⟩
  | .hbm, ⟨55, _⟩ => ⟨S1x8208x2x64, .f32⟩
  | .hbm, ⟨56, _⟩ => ⟨S8208x128, .f32⟩
  | .hbm, ⟨57, _⟩ => ⟨S65536x1024, .f32⟩
  | .hbm, ⟨58, _⟩ => ⟨S8192x128, .f32⟩
  | .hbm, ⟨59, _⟩ => ⟨S8192x128, .f32⟩
  | .hbm, ⟨60, _⟩ => ⟨S65536x512, .bf16⟩
  | .hbm, ⟨61, _⟩ => ⟨S65536x512, .bf16⟩
  | .hbm, ⟨62, _⟩ => ⟨S65536x256, .bf16⟩
  | .hbm, ⟨63, _⟩ => ⟨S65536x128, .bf16⟩
  | .hbm, ⟨64, _⟩ => ⟨S65536x256, .bf16⟩
  | .hbm, ⟨65, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1024x1792, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x256, .bf16⟩
  | .local _ .vmem, ⟨12, _⟩ => ⟨S1024x256, .bf16⟩
  | .local _ .vmem, ⟨13, _⟩ => ⟨S1024x128, .bf16⟩
  | .local _ .vmem, ⟨14, _⟩ => ⟨S1024x128, .bf16⟩
  | .local _ .vmem, ⟨15, _⟩ => ⟨S1024x256, .bf16⟩
  | .local _ .vmem, ⟨16, _⟩ => ⟨S1024x256, .bf16⟩
  | .local _ .vmem, ⟨17, _⟩ => ⟨S1024x128, .f32⟩
  | .local _ .vmem, ⟨18, _⟩ => ⟨S1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_0 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55_0 : Ref sig .tc := ⟨.hbm, 60, rfl⟩
abbrev main_v55_1 : Ref sig .tc := ⟨.hbm, 61, rfl⟩
abbrev main_v55_2 : Ref sig .tc := ⟨.hbm, 62, rfl⟩
abbrev main_v55_3 : Ref sig .tc := ⟨.hbm, 63, rfl⟩
abbrev main_v55_4 : Ref sig .tc := ⟨.hbm, 64, rfl⟩
abbrev main_v55_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x8192x1024 : Shape := ⟨3, ![8, 8192, 1024]⟩
abbrev S1x1024x4936 : Shape := ⟨3, ![1, 1024, 4936]⟩
abbrev S8208 : Shape := ⟨1, ![8208]⟩
abbrev S8192 : Shape := ⟨1, ![8192]⟩
abbrev S1024x4936 : Shape := ⟨2, ![1024, 4936]⟩
abbrev S8x8192x4936 : Shape := ⟨3, ![8, 8192, 4936]⟩
abbrev S8x8192x512 : Shape := ⟨3, ![8, 8192, 512]⟩
abbrev S8x8192x128 : Shape := ⟨3, ![8, 8192, 128]⟩
abbrev S8x8192x64 : Shape := ⟨3, ![8, 8192, 64]⟩
abbrev S8x8192x8 : Shape := ⟨3, ![8, 8192, 8]⟩
abbrev S8x8192x8x64 : Shape := ⟨4, ![8, 8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8x8192x8x32 : Shape := ⟨4, ![8, 8192, 8, 32]⟩
abbrev S1x8192x1x32 : Shape := ⟨4, ![1, 8192, 1, 32]⟩
abbrev S8x8192x2x64 : Shape := ⟨4, ![8, 8192, 2, 64]⟩
abbrev S8x8192x2x32 : Shape := ⟨4, ![8, 8192, 2, 32]⟩
abbrev S8x8192x1x64 : Shape := ⟨4, ![8, 8192, 1, 64]⟩
abbrev S8x8192x1x32 : Shape := ⟨4, ![8, 8192, 1, 32]⟩
abbrev S65536x128 : Shape := ⟨2, ![65536, 128]⟩
abbrev S65536x512 : Shape := ⟨2, ![65536, 512]⟩
abbrev S8x8192x2x128 : Shape := ⟨4, ![8, 8192, 2, 128]⟩
abbrev S65536x256 : Shape := ⟨2, ![65536, 256]⟩
abbrev S8x8192x1x128 : Shape := ⟨4, ![8, 8192, 1, 128]⟩

abbrev nBuf : Space → Nat
  | .hbm => 185
  | .vmem => 0
  | .smem => 0
  | _ => 0

abbrev hbmTy0_0 (i : Nat) : BufTy := match i % 128 with
  | 0 => ⟨S8x8192x1024, .f32⟩
  | 1 => ⟨S1x1024x4936, .f32⟩
  | 2 => ⟨S8208, .i32⟩
  | 3 => ⟨S8192, .i32⟩
  | 4 => ⟨S1024x4936, .f32⟩
  | 5 => ⟨S8x8192x4936, .f32⟩
  | 6 => ⟨S8x8192x512, .f32⟩
  | 7 => ⟨S8x8192x128, .f32⟩
  | 8 => ⟨S8x8192x128, .f32⟩
  | 9 => ⟨S8x8192x512, .f32⟩
  | 10 => ⟨S8x8192x64, .f32⟩
  | 11 => ⟨S8x8192x8, .f32⟩
  | 12 => ⟨S8x8192x512, .f32⟩
  | 13 => ⟨S8x8192x512, .f32⟩
  | 14 => ⟨S8x8192x512, .f32⟩
  | 15 => ⟨S8x8192x1024, .f32⟩
  | 16 => ⟨S8x8192x1024, .f32⟩
  | 17 => ⟨S8x8192x8x64, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8192, .f32⟩
  | 27 => ⟨S8192x1, .f32⟩
  | 28 => ⟨S1x32, .f32⟩
  | 29 => ⟨S8192x32, .f32⟩
  | 30 => ⟨S8192x32, .f32⟩
  | 31 => ⟨S8192x32, .f32⟩
  | 32 => ⟨S8192x32, .f32⟩
  | 33 => ⟨S8192x1x32, .f32⟩
  | 34 => ⟨S8192x32, .f32⟩
  | 35 => ⟨S8192x1x32, .f32⟩
  | 36 => ⟨S8x8192x8x32, .f32⟩
  | 37 => ⟨S8x8192x8x32, .f32⟩
  | 38 => ⟨S1x8192x1x32, .f32⟩
  | 39 => ⟨S8x8192x8x32, .f32⟩
  | 40 => ⟨S8x8192x8x32, .f32⟩
  | 41 => ⟨S1x8192x1x32, .f32⟩
  | 42 => ⟨S8x8192x8x32, .f32⟩
  | 43 => ⟨S8x8192x8x32, .f32⟩
  | 44 => ⟨S8x8192x8x32, .f32⟩
  | 45 => ⟨S1x8192x1x32, .f32⟩
  | 46 => ⟨S8x8192x8x32, .f32⟩
  | 47 => ⟨S8x8192x8x32, .f32⟩
  | 48 => ⟨S1x8192x1x32, .f32⟩
  | 49 => ⟨S8x8192x8x32, .f32⟩
  | 50 => ⟨S8x8192x8x32, .f32⟩
  | 51 => ⟨S8x8192x8x32, .f32⟩
  | 52 => ⟨S8x8192x8x64, .f32⟩
  | 53 => ⟨S_, .f32⟩
  | 54 => ⟨S8x8192x8x64, .f32⟩
  | 55 => ⟨S8x8192x8x64, .f32⟩
  | 56 => ⟨S8x8192x2x64, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S8192, .f32⟩
  | 66 => ⟨S8192x1, .f32⟩
  | 67 => ⟨S1x32, .f32⟩
  | 68 => ⟨S8192x32, .f32⟩
  | 69 => ⟨S8192x32, .f32⟩
  | 70 => ⟨S8192x32, .f32⟩
  | 71 => ⟨S8192x32, .f32⟩
  | 72 => ⟨S8192x1x32, .f32⟩
  | 73 => ⟨S8192x32, .f32⟩
  | 74 => ⟨S8192x1x32, .f32⟩
  | 75 => ⟨S8x8192x2x32, .f32⟩
  | 76 => ⟨S8x8192x2x32, .f32⟩
  | 77 => ⟨S1x8192x1x32, .f32⟩
  | 78 => ⟨S8x8192x2x32, .f32⟩
  | 79 => ⟨S8x8192x2x32, .f32⟩
  | 80 => ⟨S1x8192x1x32, .f32⟩
  | 81 => ⟨S8x8192x2x32, .f32⟩
  | 82 => ⟨S8x8192x2x32, .f32⟩
  | 83 => ⟨S8x8192x2x32, .f32⟩
  | 84 => ⟨S1x8192x1x32, .f32⟩
  | 85 => ⟨S8x8192x2x32, .f32⟩
  | 86 => ⟨S8x8192x2x32, .f32⟩
  | 87 => ⟨S1x8192x1x32, .f32⟩
  | 88 => ⟨S8x8192x2x32, .f32⟩
  | 89 => ⟨S8x8192x2x32, .f32⟩
  | 90 => ⟨S8x8192x2x32, .f32⟩
  | 91 => ⟨S8x8192x2x64, .f32⟩
  | 92 => ⟨S8x8192x2x64, .f32⟩
  | 93 => ⟨S8x8192x8x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S8192, .f32⟩
  | 103 => ⟨S8192x1, .f32⟩
  | 104 => ⟨S1x32, .f32⟩
  | 105 => ⟨S8192x32, .f32⟩
  | 106 => ⟨S8192x32, .f32⟩
  | 107 => ⟨S8192x32, .f32⟩
  | 108 => ⟨S8192x32, .f32⟩
  | 109 => ⟨S8192x1x32, .f32⟩
  | 110 => ⟨S8192x32, .f32⟩
  | 111 => ⟨S8192x1x32, .f32⟩
  | 112 => ⟨S8x8192x8x32, .f32⟩
  | 113 => ⟨S8x8192x8x32, .f32⟩
  | 114 => ⟨S1x8192x1x32, .f32⟩
  | 115 => ⟨S8x8192x8x32, .f32⟩
  | 116 => ⟨S8x8192x8x32, .f32⟩
  | 117 => ⟨S1x8192x1x32, .f32⟩
  | 118 => ⟨S8x8192x8x32, .f32⟩
  | 119 => ⟨S8x8192x8x32, .f32⟩
  | 120 => ⟨S8x8192x8x32, .f32⟩
  | 121 => ⟨S1x8192x1x32, .f32⟩
  | 122 => ⟨S8x8192x8x32, .f32⟩
  | 123 => ⟨S8x8192x8x32, .f32⟩
  | 124 => ⟨S1x8192x1x32, .f32⟩
  | 125 => ⟨S8x8192x8x32, .f32⟩
  | 126 => ⟨S8x8192x8x32, .f32⟩
  | 127 => ⟨S8x8192x8x32, .f32⟩
  | _ => ⟨S8x8192x1024, .f32⟩

abbrev hbmTy0_1 (i : Nat) : BufTy := match i % 128 with
  | 0 => ⟨S8x8192x8x64, .f32⟩
  | 1 => ⟨S8x8192x1x64, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S8192, .f32⟩
  | 11 => ⟨S8192x1, .f32⟩
  | 12 => ⟨S1x32, .f32⟩
  | 13 => ⟨S8192x32, .f32⟩
  | 14 => ⟨S8192x32, .f32⟩
  | 15 => ⟨S8192x32, .f32⟩
  | 16 => ⟨S8192x32, .f32⟩
  | 17 => ⟨S8192x1x32, .f32⟩
  | 18 => ⟨S8192x32, .f32⟩
  | 19 => ⟨S8192x1x32, .f32⟩
  | 20 => ⟨S8x8192x1x32, .f32⟩
  | 21 => ⟨S8x8192x1x32, .f32⟩
  | 22 => ⟨S1x8192x1x32, .f32⟩
  | 23 => ⟨S8x8192x1x32, .f32⟩
  | 24 => ⟨S8x8192x1x32, .f32⟩
  | 25 => ⟨S1x8192x1x32, .f32⟩
  | 26 => ⟨S8x8192x1x32, .f32⟩
  | 27 => ⟨S8x8192x1x32, .f32⟩
  | 28 => ⟨S8x8192x1x32, .f32⟩
  | 29 => ⟨S1x8192x1x32, .f32⟩
  | 30 => ⟨S8x8192x1x32, .f32⟩
  | 31 => ⟨S8x8192x1x32, .f32⟩
  | 32 => ⟨S1x8192x1x32, .f32⟩
  | 33 => ⟨S8x8192x1x32, .f32⟩
  | 34 => ⟨S8x8192x1x32, .f32⟩
  | 35 => ⟨S8x8192x1x32, .f32⟩
  | 36 => ⟨S8x8192x1x64, .f32⟩
  | 37 => ⟨S_, .f32⟩
  | 38 => ⟨S8x8192x8, .f32⟩
  | 39 => ⟨S8x8192x8, .f32⟩
  | 40 => ⟨S_, .i32⟩
  | 41 => ⟨S_, .f32⟩
  | 42 => ⟨S8x8192x128, .f32⟩
  | 43 => ⟨S65536x128, .f32⟩
  | 44 => ⟨S65536x512, .f32⟩
  | 45 => ⟨S65536x512, .bf16⟩
  | 46 => ⟨S65536x512, .f32⟩
  | 47 => ⟨S65536x512, .bf16⟩
  | 48 => ⟨S8x8192x2x128, .f32⟩
  | 49 => ⟨S65536x256, .f32⟩
  | 50 => ⟨S65536x256, .bf16⟩
  | 51 => ⟨S8x8192x1x128, .f32⟩
  | 52 => ⟨S65536x128, .f32⟩
  | 53 => ⟨S65536x128, .bf16⟩
  | 54 => ⟨S8x8192x2x128, .f32⟩
  | 55 => ⟨S65536x256, .f32⟩
  | 56 => ⟨S65536x256, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_cst_2 : Ref sig .tc := ⟨.hbm, 59, rfl⟩
abbrev main_v54 : Ref sig .tc := ⟨.hbm, 60, rfl⟩
abbrev main_v55 : Ref sig .tc := ⟨.hbm, 61, rfl⟩
abbrev main_cst_3 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_cst_4 : Ref sig .tc := ⟨.hbm, 96, rfl⟩
abbrev main_v89 : Ref sig .tc := ⟨.hbm, 97, rfl⟩
abbrev main_v90 : Ref sig .tc := ⟨.hbm, 98, rfl⟩
abbrev main_cst_5 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_cst_6 : Ref sig .tc := ⟨.hbm, 132, rfl⟩
abbrev main_v123 : Ref sig .tc := ⟨.hbm, 133, rfl⟩
abbrev main_v124 : Ref sig .tc := ⟨.hbm, 134, rfl⟩
abbrev main_cst_7 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_cst_8 : Ref sig .tc := ⟨.hbm, 165, rfl⟩
abbrev main_v154 : Ref sig .tc := ⟨.hbm, 166, rfl⟩
abbrev main_v155 : Ref sig .tc := ⟨.hbm, 167, rfl⟩
abbrev main_c : Ref sig .tc := ⟨.hbm, 168, rfl⟩
abbrev main_call0_v0 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩

abbrev nD : Nat := 1
abbrev τ : Topo := Topo.v7x

variable {F : FTy → Type} [FloatOps F]
-- ==== Kernel5.lean ====
abbrev S65536x512 : Shape := ⟨2, ![65536, 512]⟩
abbrev S16x256 : Shape := ⟨2, ![16, 256]⟩
abbrev S65536x256 : Shape := ⟨2, ![65536, 256]⟩
abbrev S16x128 : Shape := ⟨2, ![16, 128]⟩
abbrev S65536x128 : Shape := ⟨2, ![65536, 128]⟩
abbrev S1x16x256 : Shape := ⟨3, ![1, 16, 256]⟩
abbrev S8x16x256 : Shape := ⟨3, ![8, 16, 256]⟩
abbrev S8x8192x256 : Shape := ⟨3, ![8, 8192, 256]⟩
abbrev S_ : Shape := ⟨0, ![]⟩
abbrev S8x1008x256 : Shape := ⟨3, ![8, 1008, 256]⟩
abbrev S8x9216x256 : Shape := ⟨3, ![8, 9216, 256]⟩
abbrev S8x9216x16 : Shape := ⟨3, ![8, 9216, 16]⟩
abbrev S1 : Shape := ⟨1, ![1]⟩
abbrev S8x9216 : Shape := ⟨2, ![8, 9216]⟩
abbrev S8x9216x64 : Shape := ⟨3, ![8, 9216, 64]⟩
abbrev S8x9216x160 : Shape := ⟨3, ![8, 9216, 160]⟩
abbrev S8x160x9216 : Shape := ⟨3, ![8, 160, 9216]⟩
abbrev S8x8192x128 : Shape := ⟨3, ![8, 8192, 128]⟩
abbrev S8x8192x8 : Shape := ⟨3, ![8, 8192, 8]⟩
abbrev S8x8x8192 : Shape := ⟨3, ![8, 8, 8192]⟩
abbrev S8x8192x512 : Shape := ⟨3, ![8, 8192, 512]⟩
abbrev S1x16x128 : Shape := ⟨3, ![1, 16, 128]⟩
abbrev S8x16x128 : Shape := ⟨3, ![8, 16, 128]⟩
abbrev S8x1008x128 : Shape := ⟨3, ![8, 1008, 128]⟩
abbrev S8x9216x128 : Shape := ⟨3, ![8, 9216, 128]⟩
abbrev S1x256x512 : Shape := ⟨3, ![1, 256, 512]⟩
abbrev S1x8x256 : Shape := ⟨3, ![1, 8, 256]⟩
abbrev S1x9216x128 : Shape := ⟨3, ![1, 9216, 128]⟩
abbrev S1x9216x256 : Shape := ⟨3, ![1, 9216, 256]⟩
abbrev S1x160x9216 : Shape := ⟨3, ![1, 160, 9216]⟩
abbrev S9216x256 : Shape := ⟨2, ![9216, 256]⟩
abbrev S256x256 : Shape := ⟨2, ![256, 256]⟩
abbrev S4x1024x512 : Shape := ⟨3, ![4, 1024, 512]⟩
abbrev S4x128x512 : Shape := ⟨3, ![4, 128, 512]⟩
abbrev S4x80x512 : Shape := ⟨3, ![4, 80, 512]⟩
abbrev S256x128 : Shape := ⟨2, ![256, 128]⟩
abbrev S1x256 : Shape := ⟨2, ![1, 256]⟩
abbrev S1x256x128 : Shape := ⟨3, ![1, 256, 128]⟩
abbrev S128x256 : Shape := ⟨2, ![128, 256]⟩
abbrev S128x512 : Shape := ⟨2, ![128, 512]⟩
abbrev S1x128x512 : Shape := ⟨3, ![1, 128, 512]⟩
abbrev S256x512 : Shape := ⟨2, ![256, 512]⟩
abbrev S1x1x256 : Shape := ⟨3, ![1, 1, 256]⟩
abbrev S8x256 : Shape := ⟨2, ![8, 256]⟩
abbrev S256 : Shape := ⟨1, ![256]⟩
abbrev S1x1x1 : Shape := ⟨3, ![1, 1, 1]⟩
abbrev S1x256x256 : Shape := ⟨3, ![1, 256, 256]⟩
abbrev S1x80x1024 : Shape := ⟨3, ![1, 80, 1024]⟩
abbrev S80x1024 : Shape := ⟨2, ![80, 1024]⟩
abbrev S1x1024x512 : Shape := ⟨3, ![1, 1024, 512]⟩
abbrev S1024x512 : Shape := ⟨2, ![1024, 512]⟩
abbrev S80x512 : Shape := ⟨2, ![80, 512]⟩
abbrev S1x80x256 : Shape := ⟨3, ![1, 80, 256]⟩
abbrev S80x256 : Shape := ⟨2, ![80, 256]⟩
abbrev S1x80x512 : Shape := ⟨3, ![1, 80, 512]⟩
abbrev S1x512x512 : Shape := ⟨3, ![1, 512, 512]⟩
abbrev S512x512 : Shape := ⟨2, ![512, 512]⟩
abbrev S1x64x256 : Shape := ⟨3, ![1, 64, 256]⟩
abbrev S64x256 : Shape := ⟨2, ![64, 256]⟩

abbrev nBuf : Space → Nat
  | .hbm => 44
  | .vmem => 21
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S16x256, .bf16⟩
  | .hbm, ⟨3, _⟩ => ⟨S65536x256, .bf16⟩
  | .hbm, ⟨4, _⟩ => ⟨S16x128, .bf16⟩
  | .hbm, ⟨5, _⟩ => ⟨S65536x128, .bf16⟩
  | .hbm, ⟨6, _⟩ => ⟨S16x256, .bf16⟩
  | .hbm, ⟨7, _⟩ => ⟨S65536x256, .bf16⟩
  | .hbm, ⟨8, _⟩ => ⟨S65536x128, .f32⟩
  | .hbm, ⟨9, _⟩ => ⟨S1x16x256, .bf16⟩
  | .hbm, ⟨10, _⟩ => ⟨S8x16x256, .bf16⟩
  | .hbm, ⟨11, _⟩ => ⟨S8x8192x256, .bf16⟩
  | .hbm, ⟨12, _⟩ => ⟨S_, .bf16⟩
  | .hbm, ⟨13, _⟩ => ⟨S8x1008x256, .bf16⟩
  | .hbm, ⟨14, _⟩ => ⟨S8x9216x256, .bf16⟩
  | .hbm, ⟨15, _⟩ => ⟨S_, .bf16⟩
  | .hbm, ⟨16, _⟩ => ⟨S8x9216x16, .bf16⟩
  | .hbm, ⟨17, _⟩ => ⟨S_, .i32⟩
  | .hbm, ⟨18, _⟩ => ⟨S1, .i32⟩
  | .hbm, ⟨19, _⟩ => ⟨S_, .bf16⟩
  | .hbm, ⟨20, _⟩ => ⟨S8x9216, .bf16⟩
  | .hbm, ⟨21, _⟩ => ⟨S8x9216x16, .bf16⟩
  | .hbm, ⟨22, _⟩ => ⟨S8x9216x64, .bf16⟩
  | .hbm, ⟨23, _⟩ => ⟨S8x9216x64, .bf16⟩
  | .hbm, ⟨24, _⟩ => ⟨S8x9216x160, .bf16⟩
  | .hbm, ⟨25, _⟩ => ⟨S8x160x9216, .bf16⟩
  | .hbm, ⟨26, _⟩ => ⟨S8x8192x128, .f32⟩
  | .hbm, ⟨27, _⟩ => ⟨S8x8192x8, .f32⟩
  | .hbm, ⟨28, _⟩ => ⟨S8x8x8192, .f32⟩
  | .hbm, ⟨29, _⟩ => ⟨S8x8192x512, .bf16⟩
  | .hbm, ⟨30, _⟩ => ⟨S8x8192x512, .bf16⟩
  | .hbm, ⟨31, _⟩ => ⟨S1x16x128, .bf16⟩
  | .hbm, ⟨32, _⟩ => ⟨S8x16x128, .bf16⟩
  | .hbm, ⟨33, _⟩ => ⟨S8x8192x128, .bf16⟩
  | .hbm, ⟨34, _⟩ => ⟨S_, .bf16⟩
  | .hbm, ⟨35, _⟩ => ⟨S8x1008x128, .bf16⟩
  | .hbm, ⟨36, _⟩ => ⟨S8x9216x128, .bf16⟩
  | .hbm, ⟨37, _⟩ => ⟨S1x16x256, .bf16⟩
  | .hbm, ⟨38, _⟩ => ⟨S8x16x256, .bf16⟩
  | .hbm, ⟨39, _⟩ => ⟨S8x8192x256, .bf16⟩
  | .hbm, ⟨40, _⟩ => ⟨S_, .bf16⟩
  | .hbm, ⟨41, _⟩ => ⟨S8x1008x256, .bf16⟩
  | .hbm, ⟨42, _⟩ => ⟨S8x9216x256, .bf16⟩
  | .hbm, ⟨43, _⟩ => ⟨S8x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8x256, .f32⟩
  | .local _ .vmem, ⟨3, _⟩ => ⟨S1x8x256, .f32⟩
  | .local _ .vmem, ⟨4, _⟩ => ⟨S1x256x512, .bf16⟩
  | .local _ .vmem, ⟨5, _⟩ => ⟨S1x256x512, .bf16⟩
  | .local _ .vmem, ⟨6, _⟩ => ⟨S1x9216x128, .bf16⟩
  | .local _ .vmem, ⟨7, _⟩ => ⟨S1x9216x128, .bf16⟩
  | .local _ .vmem, ⟨8, _⟩ => ⟨S1x9216x256, .bf16⟩
  | .local _ .vmem, ⟨9, _⟩ => ⟨S1x9216x256, .bf16⟩
  | .local _ .vmem, ⟨10, _⟩ => ⟨S1x160x9216, .bf16⟩
  | .local _ .vmem, ⟨11, _⟩ => ⟨S1x160x9216, .bf16⟩
  | .local _ .vmem, ⟨12, _⟩ => ⟨S1x256x512, .bf16⟩
  | .local _ .vmem, ⟨13, _⟩ => ⟨S1x256x512, .bf16⟩
  | .local _ .vmem, ⟨14, _⟩ => ⟨S9216x256, .i32⟩
  | .local _ .vmem, ⟨15, _⟩ => ⟨S256x256, .i32⟩
  | .local _ .vmem, ⟨16, _⟩ => ⟨S4x1024x512, .f32⟩
  | .local _ .vmem, ⟨17, _⟩ => ⟨S4x1024x512, .bf16⟩
  | .local _ .vmem, ⟨18, _⟩ => ⟨S4x128x512, .bf16⟩
  | .local _ .vmem, ⟨19, _⟩ => ⟨S4x128x512, .bf16⟩
  | .local _ .vmem, ⟨20, _⟩ => ⟨S4x80x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_92 : BitVec 32 := 1#32
  ⟨c0_i32_89, v204, c1_i32_92⟩
def k0_mult1 (i : grid0.Coords) (k0_t1 : Fin (k0_t1_loop i).trips) : BitVec 32 :=
  let c0_i32_89 : BitVec 32 := 0#32
  let c1_i32_92 : BitVec 32 := 1#32
  let arg16 : BitVec 32 := Scf.iv c0_i32_89 c1_i32_92 k0_t1
  let c4_i32_218 : BitVec 32 := 4#32
  let v515 : BitVec 32 := Scalar.muli arg16 c4_i32_218
  let c0_i32_219 : BitVec 32 := 0#32
  let v516 : BitVec 32 := Scalar.addi v515 c0_i32_219
  let c256_i32_220 : BitVec 32 := 256#32
  let v517 : BitVec 32 := Scalar.muli v516 c256_i32_220
  v517
def k0_off1 (i : grid0.Coords) (k0_t1 : Fin (k0_t1_loop i).trips) (c0_i32_219 : BitVec 32) : Fin 3 → Nat :=
  let c0_221 : Index := 0#32
  let c0_i32_89 : BitVec 32 := 0#32
  let c1_i32_92 : BitVec 32 := 1#32
  let arg16 : BitVec 32 := Scf.iv c0_i32_89 c1_i32_92 k0_t1
  let c4_i32_218 : BitVec 32 := 4#32
  let v515 : BitVec 32 := Scalar.muli arg16 c4_i32_218
  let v516 : BitVec 32 := Scalar.addi v515 c0_i32_219
  let c256_i32_220 : BitVec 32 := 256#32
  let v517 : BitVec 32 := Scalar.muli v516 c256_i32_220
  let v518 : BitVec 32 := v517
  let v519 : Index := Scalar.indexCast v518
  let c0_222 : Index := 0#32
  ![0, v519.toNat, 0]
def k0_off2 (i : grid0.Coords) (k0_t1 : Fin (k0_t1_loop i).trips) (c0_i32_219 : BitVec 32) : Fin 2 → Nat :=
  let c0_i32_89 : BitVec 32 := 0#32
  let c1_i32_92 : BitVec 32 := 1#32
  let arg16 : BitVec 32 := Scf.iv c0_i32_89 c1_i32_92 k0_t1
  let c4_i32_218 : BitVec 32 := 4#32
  let v515 : BitVec 32 := Scalar.muli arg16 c4_i32_218
  let v516 : BitVec 32 := Scalar.addi v515 c0_i32_219
  let c256_i32_220 : BitVec 32 := 256#32
  let v517 : BitVec 32 := Scalar.muli v516 c256_i32_220
  let v518 : BitVec 32 := v517
  let v614 : Index := Scalar.indexCast v518
  let c0_272 : Index := 0#32
  ![v614.toNat, 0]
def k0_mult2 (i : grid0.Coords) (k0_t1 : Fin (k0_t1_loop i).trips) : BitVec 32 :=
  let c0_i32_89 : BitVec 32 := 0#32
  let c1_i32_92 : BitVec 32 := 1#32
  let arg16 : BitVec 32 := Scf.iv c0_i32_89 c1_i32_92 k0_t1
  let c4_i32_218 : BitVec 32 := 4#32
  let v515 : BitVec 32 := Scalar.muli arg16 c4_i32_218
  let c1_i32_277 : BitVec 32 := 1#32
  let v623 : BitVec 32 := Scalar.addi v515 c1_i32_277
  let c256_i32_278 : BitVec 32 := 256#32
  let v624 : BitVec 32 := Scalar.muli v623 c256_i32_278
  v624
def k0_mult3 (i : grid0.Coords) (k0_t1 : Fin (k0_t1_loop i).trips) : BitVec 32 :=
  let c0_i32_89 : BitVec 32 := 0#32
  let c1_i32_92 : BitVec 32 := 1#32
  let arg16 : BitVec 32 := Scf.iv c0_i32_89 c1_i32_92 k0_t1
  let c4_i32_218 : BitVec 32 := 4#32
  let v515 : BitVec 32 := Scalar.muli arg16 c4_i32_218
  let c2_i32_340 : BitVec 32 := 2#32
  let v730 : BitVec 32 := Scalar.addi v515 c2_i32_340
  let c256_i32_341 : BitVec 32 := 256#32
  let v731 : BitVec 32 := Scalar.muli v730 c256_i32_341
  v731
def k0_mult4 (i : grid0.Coords) (k0_t1 : Fin (k0_t1_loop i).trips) : BitVec 32 :=
  let c0_i32_89 : BitVec 32 := 0#32
  let c1_i32_92 : BitVec 32 := 1#32
  let arg16 : BitVec 32 := Scf.iv c0_i32_89 c1_i32_92 k0_t1
  let c4_i32_218 : BitVec 32 := 4#32
  let v515 : BitVec 32 := Scalar.muli arg16 c4_i32_218
  let c3_i32 : BitVec 32 := 3#32
  let v837 : BitVec 32 := Scalar.addi v515 c3_i32
  let c256_i32_403 : BitVec 32 := 256#32
  let v838 : BitVec 32 := Scalar.muli v837 c256_i32_403
  v838
@[reducible] def k0_t2_loop (i : grid0.Coords) : Scf.Loop 32 :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let v201 : BitVec 32 := Scalar.addi c0_i32_89 v200
  let c1_i32_93 : BitVec 32 := 1#32
  ⟨v204, v201, c1_i32_93⟩
def k0_mult5 (i : grid0.Coords) (k0_t2 : Fin (k0_t2_loop i).trips) : BitVec 32 :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_93 : BitVec 32 := 1#32
  let arg16 : BitVec 32 := Scf.iv v204 c1_i32_93 k0_t2
  let c4_i32_218 : BitVec 32 := 4#32
  let v515 : BitVec 32 := Scalar.muli arg16 c4_i32_218
  let c0_i32_219 : BitVec 32 := 0#32
  let v516 : BitVec 32 := Scalar.addi v515 c0_i32_219
  let c256_i32_220 : BitVec 32 := 256#32
  let v517 : BitVec 32 := Scalar.muli v516 c256_i32_220
  v517
def k0_off3 (i : grid0.Coords) (k0_t2 : Fin (k0_t2_loop i).trips) (c0_i32_219 : BitVec 32) : Fin 3 → Nat :=
  let c0_221 : Index := 0#32
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_93 : BitVec 32 := 1#32
  let arg16 : BitVec 32 := Scf.iv v204 c1_i32_93 k0_t2
  let c4_i32_218 : BitVec 32 := 4#32
  let v515 : BitVec 32 := Scalar.muli arg16 c4_i32_218
  let v516 : BitVec 32 := Scalar.addi v515 c0_i32_219
  let c256_i32_220 : BitVec 32 := 256#32
  let v517 : BitVec 32 := Scalar.muli v516 c256_i32_220
  let v518 : BitVec 32 := v517
  let v519 : Index := Scalar.indexCast v518
  let c0_222 : Index := 0#32
  ![0, v519.toNat, 0]
def k0_off4 (i : grid0.Coords) (k0_t2 : Fin (k0_t2_loop i).trips) (c0_i32_219 : BitVec 32) : Fin 2 → Nat :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_93 : BitVec 32 := 1#32
  let arg16 : BitVec 32 := Scf.iv v204 c1_i32_93 k0_t2
  let c4_i32_218 : BitVec 32 := 4#32
  let v515 : BitVec 32 := Scalar.muli arg16 c4_i32_218
  let v516 : BitVec 32 := Scalar.addi v515 c0_i32_219
  let c256_i32_220 : BitVec 32 := 256#32
  let v517 : BitVec 32 := Scalar.muli v516 c256_i32_220
  let v518 : BitVec 32 := v517
  let v614 : Index := Scalar.indexCast v518
  let c0_272 : Index := 0#32
  ![v614.toNat, 0]
def k0_mult6 (i : grid0.Coords) (k0_t2 : Fin (k0_t2_loop i).trips) : BitVec 32 :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_93 : BitVec 32 := 1#32
  let arg16 : BitVec 32 := Scf.iv v204 c1_i32_93 k0_t2
  let c4_i32_218 : BitVec 32 := 4#32
  let v515 : BitVec 32 := Scalar.muli arg16 c4_i32_218
  let c1_i32_277 : BitVec 32 := 1#32
  let v623 : BitVec 32 := Scalar.addi v515 c1_i32_277
  let c256_i32_278 : BitVec 32 := 256#32
  let v624 : BitVec 32 := Scalar.muli v623 c256_i32_278
  v624
def k0_mult7 (i : grid0.Coords) (k0_t2 : Fin (k0_t2_loop i).trips) : BitVec 32 :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_93 : BitVec 32 := 1#32
  let arg16 : BitVec 32 := Scf.iv v204 c1_i32_93 k0_t2
  let c4_i32_218 : BitVec 32 := 4#32
  let v515 : BitVec 32 := Scalar.muli arg16 c4_i32_218
  let c2_i32_340 : BitVec 32 := 2#32
  let v730 : BitVec 32 := Scalar.addi v515 c2_i32_340
  let c256_i32_341 : BitVec 32 := 256#32
  let v731 : BitVec 32 := Scalar.muli v730 c256_i32_341
  v731
def k0_mult8 (i : grid0.Coords) (k0_t2 : Fin (k0_t2_loop i).trips) : BitVec 32 :=
  let c0_i32_89 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v200 : BitVec 32 := Scalar.subi v166 c0_i32_89
  let c1_i32_91 : BitVec 32 := 1#32
  let v202 : BitVec 32 := Scalar.divsi v200 c1_i32_91
  let v203 : BitVec 32 := Scalar.muli v202 c1_i32_91
  let v204 : BitVec 32 := Scalar.addi c0_i32_89 v203
  let c1_i32_93 : BitVec 32 := 1#32
  let arg16 : BitVec 32 := Scf.iv v204 c1_i32_93 k0_t2
  let c4_i32_218 : BitVec 32 := 4#32
  let v515 : BitVec 32 := Scalar.muli arg16 c4_i32_218
  let c3_i32 : BitVec 32 := 3#32
  let v837 : BitVec 32 := Scalar.addi v515 c3_i32
  let c256_i32_403 : BitVec 32 := 256#32
  let v838 : BitVec 32 := Scalar.muli v837 c256_i32_403
  v838
@[reducible] def k0_t3_loop (i : grid0.Coords) : Scf.Loop 32 :=
  let c0_i32_94 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let v207 : BitVec 32 := Scalar.subi v194 c0_i32_94
  let c1_i32_96 : BitVec 32 := 1#32
  let v209 : BitVec 32 := Scalar.divsi v207 c1_i32_96
  let v210 : BitVec 32 := Scalar.muli v209 c1_i32_96
  let v211 : BitVec 32 := Scalar.addi c0_i32_94 v210
  let c1_i32_97 : BitVec 32 := 1#32
  ⟨c0_i32_94, v211, c1_i32_97⟩
def k0_mult9 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_218 : BitVec 32 := 0#32
  let v515 : BitVec 32 := Scalar.addi v195 c0_i32_218
  let c256_i32_219 : BitVec 32 := 256#32
  let v516 : BitVec 32 := Scalar.muli v515 c256_i32_219
  v516
def k0_off5 (i : grid0.Coords) (c0_i32_218 : BitVec 32) : Fin 3 → Nat :=
  let c0_220 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v515 : BitVec 32 := Scalar.addi v195 c0_i32_218
  let c256_i32_219 : BitVec 32 := 256#32
  let v516 : BitVec 32 := Scalar.muli v515 c256_i32_219
  let v517 : BitVec 32 := v516
  let v518 : Index := Scalar.indexCast v517
  let c0_221 : Index := 0#32
  ![0, v518.toNat, 0]
def k0_off6 (i : grid0.Coords) (c0_i32_218 : BitVec 32) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v515 : BitVec 32 := Scalar.addi v195 c0_i32_218
  let c256_i32_219 : BitVec 32 := 256#32
  let v516 : BitVec 32 := Scalar.muli v515 c256_i32_219
  let v517 : BitVec 32 := v516
  let v613 : Index := Scalar.indexCast v517
  let c0_271 : Index := 0#32
  ![v613.toNat, 0]
def k0_mult10 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_276 : BitVec 32 := 1#32
  let v622 : BitVec 32 := Scalar.addi v195 c1_i32_276
  let c256_i32_277 : BitVec 32 := 256#32
  let v623 : BitVec 32 := Scalar.muli v622 c256_i32_277
  v623
@[reducible] def k0_t4_loop (i : grid0.Coords) : Scf.Loop 32 :=
  let c0_i32_94 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let v207 : BitVec 32 := Scalar.subi v194 c0_i32_94
  let c1_i32_96 : BitVec 32 := 1#32
  let v209 : BitVec 32 := Scalar.divsi v207 c1_i32_96
  let v210 : BitVec 32 := Scalar.muli v209 c1_i32_96
  let v211 : BitVec 32 := Scalar.addi c0_i32_94 v210
  let v208 : BitVec 32 := Scalar.addi c0_i32_94 v207
  let c1_i32_98 : BitVec 32 := 1#32
  ⟨v211, v208, c1_i32_98⟩
def k0_mult11 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_218 : BitVec 32 := 0#32
  let v515 : BitVec 32 := Scalar.addi v195 c0_i32_218
  let c256_i32_219 : BitVec 32 := 256#32
  let v516 : BitVec 32 := Scalar.muli v515 c256_i32_219
  v516
def k0_off7 (i : grid0.Coords) (c0_i32_218 : BitVec 32) : Fin 3 → Nat :=
  let c0_220 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v515 : BitVec 32 := Scalar.addi v195 c0_i32_218
  let c256_i32_219 : BitVec 32 := 256#32
  let v516 : BitVec 32 := Scalar.muli v515 c256_i32_219
  let v517 : BitVec 32 := v516
  let v518 : Index := Scalar.indexCast v517
  let c0_221 : Index := 0#32
  ![0, v518.toNat, 0]
def k0_off8 (i : grid0.Coords) (c0_i32_218 : BitVec 32) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v515 : BitVec 32 := Scalar.addi v195 c0_i32_218
  let c256_i32_219 : BitVec 32 := 256#32
  let v516 : BitVec 32 := Scalar.muli v515 c256_i32_219
  let v517 : BitVec 32 := v516
  let v613 : Index := Scalar.indexCast v517
  let c0_271 : Index := 0#32
  ![v613.toNat, 0]
def k0_mult12 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_276 : BitVec 32 := 1#32
  let v622 : BitVec 32 := Scalar.addi v195 c1_i32_276
  let c256_i32_277 : BitVec 32 := 256#32
  let v623 : BitVec 32 := Scalar.muli v622 c256_i32_277
  v623
@[reducible] def k0_t5_loop : Scf.Loop 32 :=
  let c0_i32_107 : BitVec 32 := 0#32
  let c7_i32 : BitVec 32 := 7#32
  let v351 : BitVec 32 := Scalar.addi c0_i32_107 c7_i32
  let c1_i32_108 : BitVec 32 := 1#32
  ⟨c0_i32_107, v351, c1_i32_108⟩
@[reducible] def k0_t6_loop (i : grid0.Coords) : Scf.Loop 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_261 : BitVec 32 := 1#32
  ⟨c0_i32_259, v632, c1_i32_261⟩
def k0_mult13 (i : grid0.Coords) (k0_t6 : Fin (k0_t6_loop i).trips) : BitVec 32 :=
  let c0_i32_259 : BitVec 32 := 0#32
  let c1_i32_261 : BitVec 32 := 1#32
  let arg22 : BitVec 32 := Scf.iv c0_i32_259 c1_i32_261 k0_t6
  let c4_i32_325 : BitVec 32 := 4#32
  let v789 : BitVec 32 := Scalar.muli arg22 c4_i32_325
  let c0_i32_326 : BitVec 32 := 0#32
  let v790 : BitVec 32 := Scalar.addi v789 c0_i32_326
  let c256_i32_327 : BitVec 32 := 256#32
  let v791 : BitVec 32 := Scalar.muli v790 c256_i32_327
  v791
def k0_off9 (i : grid0.Coords) (k0_t6 : Fin (k0_t6_loop i).trips) (c0_i32_326 : BitVec 32) : Fin 2 → Nat :=
  let c0_i32_259 : BitVec 32 := 0#32
  let c1_i32_261 : BitVec 32 := 1#32
  let arg22 : BitVec 32 := Scf.iv c0_i32_259 c1_i32_261 k0_t6
  let c4_i32_325 : BitVec 32 := 4#32
  let v789 : BitVec 32 := Scalar.muli arg22 c4_i32_325
  let v790 : BitVec 32 := Scalar.addi v789 c0_i32_326
  let c256_i32_327 : BitVec 32 := 256#32
  let v791 : BitVec 32 := Scalar.muli v790 c256_i32_327
  let v792 : BitVec 32 := v791
  let v793 : Index := Scalar.indexCast v792
  let c0_328 : Index := 0#32
  ![v793.toNat, 0]
def k0_mult14 (i : grid0.Coords) (k0_t6 : Fin (k0_t6_loop i).trips) : BitVec 32 :=
  let c0_i32_259 : BitVec 32 := 0#32
  let c1_i32_261 : BitVec 32 := 1#32
  let arg22 : BitVec 32 := Scf.iv c0_i32_259 c1_i32_261 k0_t6
  let c4_i32_331 : BitVec 32 := 4#32
  let v866 : BitVec 32 := Scalar.muli arg22 c4_i32_331
  let c1_i32_332 : BitVec 32 := 1#32
  let v867 : BitVec 32 := Scalar.addi v866 c1_i32_332
  let c256_i32_333 : BitVec 32 := 256#32
  let v868 : BitVec 32 := Scalar.muli v867 c256_i32_333
  v868
def k0_mult15 (i : grid0.Coords) (k0_t6 : Fin (k0_t6_loop i).trips) : BitVec 32 :=
  let c0_i32_259 : BitVec 32 := 0#32
  let c1_i32_261 : BitVec 32 := 1#32
  let arg22 : BitVec 32 := Scf.iv c0_i32_259 c1_i32_261 k0_t6
  let c4_i32_337 : BitVec 32 := 4#32
  let v943 : BitVec 32 := Scalar.muli arg22 c4_i32_337
  let c2_i32_338 : BitVec 32 := 2#32
  let v944 : BitVec 32 := Scalar.addi v943 c2_i32_338
  let c256_i32_339 : BitVec 32 := 256#32
  let v945 : BitVec 32 := Scalar.muli v944 c256_i32_339
  v945
def k0_mult16 (i : grid0.Coords) (k0_t6 : Fin (k0_t6_loop i).trips) : BitVec 32 :=
  let c0_i32_259 : BitVec 32 := 0#32
  let c1_i32_261 : BitVec 32 := 1#32
  let arg22 : BitVec 32 := Scf.iv c0_i32_259 c1_i32_261 k0_t6
  let c4_i32_343 : BitVec 32 := 4#32
  let v1020 : BitVec 32 := Scalar.muli arg22 c4_i32_343
  let c3_i32_344 : BitVec 32 := 3#32
  let v1021 : BitVec 32 := Scalar.addi v1020 c3_i32_344
  let c256_i32_345 : BitVec 32 := 256#32
  let v1022 : BitVec 32 := Scalar.muli v1021 c256_i32_345
  v1022
@[reducible] def k0_t7_loop (i : grid0.Coords) : Scf.Loop 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let v629 : BitVec 32 := Scalar.addi c0_i32_259 v628
  let c1_i32_262 : BitVec 32 := 1#32
  ⟨v632, v629, c1_i32_262⟩
def k0_mult17 (i : grid0.Coords) (k0_t7 : Fin (k0_t7_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t7
  let c4_i32_325 : BitVec 32 := 4#32
  let v789 : BitVec 32 := Scalar.muli arg22 c4_i32_325
  let c0_i32_326 : BitVec 32 := 0#32
  let v790 : BitVec 32 := Scalar.addi v789 c0_i32_326
  let c256_i32_327 : BitVec 32 := 256#32
  let v791 : BitVec 32 := Scalar.muli v790 c256_i32_327
  v791
def k0_off10 (i : grid0.Coords) (k0_t7 : Fin (k0_t7_loop i).trips) (c0_i32_326 : BitVec 32) : Fin 2 → Nat :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t7
  let c4_i32_325 : BitVec 32 := 4#32
  let v789 : BitVec 32 := Scalar.muli arg22 c4_i32_325
  let v790 : BitVec 32 := Scalar.addi v789 c0_i32_326
  let c256_i32_327 : BitVec 32 := 256#32
  let v791 : BitVec 32 := Scalar.muli v790 c256_i32_327
  let v792 : BitVec 32 := v791
  let v793 : Index := Scalar.indexCast v792
  let c0_328 : Index := 0#32
  ![v793.toNat, 0]
def k0_mult18 (i : grid0.Coords) (k0_t7 : Fin (k0_t7_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t7
  let c4_i32_331 : BitVec 32 := 4#32
  let v866 : BitVec 32 := Scalar.muli arg22 c4_i32_331
  let c1_i32_332 : BitVec 32 := 1#32
  let v867 : BitVec 32 := Scalar.addi v866 c1_i32_332
  let c256_i32_333 : BitVec 32 := 256#32
  let v868 : BitVec 32 := Scalar.muli v867 c256_i32_333
  v868
def k0_mult19 (i : grid0.Coords) (k0_t7 : Fin (k0_t7_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t7
  let c4_i32_337 : BitVec 32 := 4#32
  let v943 : BitVec 32 := Scalar.muli arg22 c4_i32_337
  let c2_i32_338 : BitVec 32 := 2#32
  let v944 : BitVec 32 := Scalar.addi v943 c2_i32_338
  let c256_i32_339 : BitVec 32 := 256#32
  let v945 : BitVec 32 := Scalar.muli v944 c256_i32_339
  v945
def k0_mult20 (i : grid0.Coords) (k0_t7 : Fin (k0_t7_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t7
  let c4_i32_343 : BitVec 32 := 4#32
  let v1020 : BitVec 32 := Scalar.muli arg22 c4_i32_343
  let c3_i32_344 : BitVec 32 := 3#32
  let v1021 : BitVec 32 := Scalar.addi v1020 c3_i32_344
  let c256_i32_345 : BitVec 32 := 256#32
  let v1022 : BitVec 32 := Scalar.muli v1021 c256_i32_345
  v1022
@[reducible] def k0_t8_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let c1_i32_265 : BitVec 32 := 1#32
  ⟨v635, v640, c1_i32_265⟩
def k0_mult21 (i : grid0.Coords) (k0_t8 : Fin (k0_t8_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let c1_i32_265 : BitVec 32 := 1#32
  let arg22 : BitVec 32 := Scf.iv v635 c1_i32_265 k0_t8
  let c256_i32_325 : BitVec 32 := 256#32
  let v789 : BitVec 32 := Scalar.muli arg22 c256_i32_325
  v789
def k0_off11 (i : grid0.Coords) (k0_t8 : Fin (k0_t8_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let c1_i32_265 : BitVec 32 := 1#32
  let arg22 : BitVec 32 := Scf.iv v635 c1_i32_265 k0_t8
  let c256_i32_325 : BitVec 32 := 256#32
  let v789 : BitVec 32 := Scalar.muli arg22 c256_i32_325
  let v790 : BitVec 32 := v789
  let v791 : Index := Scalar.indexCast v790
  let c0_326 : Index := 0#32
  ![v791.toNat, 0]
@[reducible] def k0_t9_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let v637 : BitVec 32 := Scalar.addi v635 v636
  let c1_i32_266 : BitVec 32 := 1#32
  ⟨v640, v637, c1_i32_266⟩
def k0_mult22 (i : grid0.Coords) (k0_t9 : Fin (k0_t9_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let c1_i32_266 : BitVec 32 := 1#32
  let arg22 : BitVec 32 := Scf.iv v640 c1_i32_266 k0_t9
  let c256_i32_325 : BitVec 32 := 256#32
  let v789 : BitVec 32 := Scalar.muli arg22 c256_i32_325
  v789
def k0_off12 (i : grid0.Coords) (k0_t9 : Fin (k0_t9_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let c1_i32_266 : BitVec 32 := 1#32
  let arg22 : BitVec 32 := Scf.iv v640 c1_i32_266 k0_t9
  let c256_i32_325 : BitVec 32 := 256#32
  let v789 : BitVec 32 := Scalar.muli arg22 c256_i32_325
  let v790 : BitVec 32 := v789
  let v791 : Index := Scalar.indexCast v790
  let c0_326 : Index := 0#32
  ![v791.toNat, 0]
@[reducible] def k0_t10_loop (i : grid0.Coords) : Scf.Loop 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_316 : BitVec 32 := 1#32
  ⟨c0_i32_314, v769, c1_i32_316⟩
def k0_mult23 (i : grid0.Coords) (k0_t10 : Fin (k0_t10_loop i).trips) : BitVec 32 :=
  let c0_i32_314 : BitVec 32 := 0#32
  let c1_i32_316 : BitVec 32 := 1#32
  let arg22 : BitVec 32 := Scf.iv c0_i32_314 c1_i32_316 k0_t10
  let c4_i32_325 : BitVec 32 := 4#32
  let v789 : BitVec 32 := Scalar.muli arg22 c4_i32_325
  let c0_i32_326 : BitVec 32 := 0#32
  let v790 : BitVec 32 := Scalar.addi v789 c0_i32_326
  let c256_i32_327 : BitVec 32 := 256#32
  let v791 : BitVec 32 := Scalar.muli v790 c256_i32_327
  v791
def k0_off13 (i : grid0.Coords) (k0_t10 : Fin (k0_t10_loop i).trips) (c0_i32_326 : BitVec 32) : Fin 2 → Nat :=
  let c0_i32_314 : BitVec 32 := 0#32
  let c1_i32_316 : BitVec 32 := 1#32
  let arg22 : BitVec 32 := Scf.iv c0_i32_314 c1_i32_316 k0_t10
  let c4_i32_325 : BitVec 32 := 4#32
  let v789 : BitVec 32 := Scalar.muli arg22 c4_i32_325
  let v790 : BitVec 32 := Scalar.addi v789 c0_i32_326
  let c256_i32_327 : BitVec 32 := 256#32
  let v791 : BitVec 32 := Scalar.muli v790 c256_i32_327
  let v792 : BitVec 32 := v791
  let v793 : Index := Scalar.indexCast v792
  let c0_328 : Index := 0#32
  ![v793.toNat, 0]
def k0_mult24 (i : grid0.Coords) (k0_t10 : Fin (k0_t10_loop i).trips) : BitVec 32 :=
  let c0_i32_314 : BitVec 32 := 0#32
  let c1_i32_316 : BitVec 32 := 1#32
  let arg22 : BitVec 32 := Scf.iv c0_i32_314 c1_i32_316 k0_t10
  let c4_i32_331 : BitVec 32 := 4#32
  let v866 : BitVec 32 := Scalar.muli arg22 c4_i32_331
  let c1_i32_332 : BitVec 32 := 1#32
  let v867 : BitVec 32 := Scalar.addi v866 c1_i32_332
  let c256_i32_333 : BitVec 32 := 256#32
  let v868 : BitVec 32 := Scalar.muli v867 c256_i32_333
  v868
def k0_mult25 (i : grid0.Coords) (k0_t10 : Fin (k0_t10_loop i).trips) : BitVec 32 :=
  let c0_i32_314 : BitVec 32 := 0#32
  let c1_i32_316 : BitVec 32 := 1#32
  let arg22 : BitVec 32 := Scf.iv c0_i32_314 c1_i32_316 k0_t10
  let c4_i32_337 : BitVec 32 := 4#32
  let v943 : BitVec 32 := Scalar.muli arg22 c4_i32_337
  let c2_i32_338 : BitVec 32 := 2#32
  let v944 : BitVec 32 := Scalar.addi v943 c2_i32_338
  let c256_i32_339 : BitVec 32 := 256#32
  let v945 : BitVec 32 := Scalar.muli v944 c256_i32_339
  v945
def k0_mult26 (i : grid0.Coords) (k0_t10 : Fin (k0_t10_loop i).trips) : BitVec 32 :=
  let c0_i32_314 : BitVec 32 := 0#32
  let c1_i32_316 : BitVec 32 := 1#32
  let arg22 : BitVec 32 := Scf.iv c0_i32_314 c1_i32_316 k0_t10
  let c4_i32_343 : BitVec 32 := 4#32
  let v1020 : BitVec 32 := Scalar.muli arg22 c4_i32_343
  let c3_i32_344 : BitVec 32 := 3#32
  let v1021 : BitVec 32 := Scalar.addi v1020 c3_i32_344
  let c256_i32_345 : BitVec 32 := 256#32
  let v1022 : BitVec 32 := Scalar.muli v1021 c256_i32_345
  v1022
@[reducible] def k0_t11_loop (i : grid0.Coords) : Scf.Loop 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let v766 : BitVec 32 := Scalar.addi c0_i32_314 v765
  let c1_i32_317 : BitVec 32 := 1#32
  ⟨v769, v766, c1_i32_317⟩
def k0_mult27 (i : grid0.Coords) (k0_t11 : Fin (k0_t11_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t11
  let c4_i32_325 : BitVec 32 := 4#32
  let v789 : BitVec 32 := Scalar.muli arg22 c4_i32_325
  let c0_i32_326 : BitVec 32 := 0#32
  let v790 : BitVec 32 := Scalar.addi v789 c0_i32_326
  let c256_i32_327 : BitVec 32 := 256#32
  let v791 : BitVec 32 := Scalar.muli v790 c256_i32_327
  v791
def k0_off14 (i : grid0.Coords) (k0_t11 : Fin (k0_t11_loop i).trips) (c0_i32_326 : BitVec 32) : Fin 2 → Nat :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t11
  let c4_i32_325 : BitVec 32 := 4#32
  let v789 : BitVec 32 := Scalar.muli arg22 c4_i32_325
  let v790 : BitVec 32 := Scalar.addi v789 c0_i32_326
  let c256_i32_327 : BitVec 32 := 256#32
  let v791 : BitVec 32 := Scalar.muli v790 c256_i32_327
  let v792 : BitVec 32 := v791
  let v793 : Index := Scalar.indexCast v792
  let c0_328 : Index := 0#32
  ![v793.toNat, 0]
def k0_mult28 (i : grid0.Coords) (k0_t11 : Fin (k0_t11_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t11
  let c4_i32_331 : BitVec 32 := 4#32
  let v866 : BitVec 32 := Scalar.muli arg22 c4_i32_331
  let c1_i32_332 : BitVec 32 := 1#32
  let v867 : BitVec 32 := Scalar.addi v866 c1_i32_332
  let c256_i32_333 : BitVec 32 := 256#32
  let v868 : BitVec 32 := Scalar.muli v867 c256_i32_333
  v868
def k0_mult29 (i : grid0.Coords) (k0_t11 : Fin (k0_t11_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t11
  let c4_i32_337 : BitVec 32 := 4#32
  let v943 : BitVec 32 := Scalar.muli arg22 c4_i32_337
  let c2_i32_338 : BitVec 32 := 2#32
  let v944 : BitVec 32 := Scalar.addi v943 c2_i32_338
  let c256_i32_339 : BitVec 32 := 256#32
  let v945 : BitVec 32 := Scalar.muli v944 c256_i32_339
  v945
def k0_mult30 (i : grid0.Coords) (k0_t11 : Fin (k0_t11_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t11
  let c4_i32_343 : BitVec 32 := 4#32
  let v1020 : BitVec 32 := Scalar.muli arg22 c4_i32_343
  let c3_i32_344 : BitVec 32 := 3#32
  let v1021 : BitVec 32 := Scalar.addi v1020 c3_i32_344
  let c256_i32_345 : BitVec 32 := 256#32
  let v1022 : BitVec 32 := Scalar.muli v1021 c256_i32_345
  v1022
@[reducible] def k0_t12_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let c1_i32_320 : BitVec 32 := 1#32
  ⟨v772, v777, c1_i32_320⟩
def k0_mult31 (i : grid0.Coords) (k0_t12 : Fin (k0_t12_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let c1_i32_320 : BitVec 32 := 1#32
  let arg22 : BitVec 32 := Scf.iv v772 c1_i32_320 k0_t12
  let c256_i32_325 : BitVec 32 := 256#32
  let v789 : BitVec 32 := Scalar.muli arg22 c256_i32_325
  v789
def k0_off15 (i : grid0.Coords) (k0_t12 : Fin (k0_t12_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let c1_i32_320 : BitVec 32 := 1#32
  let arg22 : BitVec 32 := Scf.iv v772 c1_i32_320 k0_t12
  let c256_i32_325 : BitVec 32 := 256#32
  let v789 : BitVec 32 := Scalar.muli arg22 c256_i32_325
  let v790 : BitVec 32 := v789
  let v791 : Index := Scalar.indexCast v790
  let c0_326 : Index := 0#32
  ![v791.toNat, 0]
@[reducible] def k0_t13_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let v774 : BitVec 32 := Scalar.addi v772 v773
  let c1_i32_321 : BitVec 32 := 1#32
  ⟨v777, v774, c1_i32_321⟩
def k0_mult32 (i : grid0.Coords) (k0_t13 : Fin (k0_t13_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let c1_i32_321 : BitVec 32 := 1#32
  let arg22 : BitVec 32 := Scf.iv v777 c1_i32_321 k0_t13
  let c256_i32_325 : BitVec 32 := 256#32
  let v789 : BitVec 32 := Scalar.muli arg22 c256_i32_325
  v789
def k0_off16 (i : grid0.Coords) (k0_t13 : Fin (k0_t13_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let c1_i32_321 : BitVec 32 := 1#32
  let arg22 : BitVec 32 := Scf.iv v777 c1_i32_321 k0_t13
  let c256_i32_325 : BitVec 32 := 256#32
  let v789 : BitVec 32 := Scalar.muli arg22 c256_i32_325
  let v790 : BitVec 32 := v789
  let v791 : Index := Scalar.indexCast v790
  let c0_326 : Index := 0#32
  ![v791.toNat, 0]
@[reducible] def k0_t14_loop (i : grid0.Coords) : Scf.Loop 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_261 : BitVec 32 := 1#32
  ⟨c0_i32_259, v632, c1_i32_261⟩
def k0_mult33 (i : grid0.Coords) (k0_t14 : Fin (k0_t14_loop i).trips) : BitVec 32 :=
  let c0_i32_259 : BitVec 32 := 0#32
  let c1_i32_261 : BitVec 32 := 1#32
  let arg22 : BitVec 32 := Scf.iv c0_i32_259 c1_i32_261 k0_t14
  let c4_i32_330 : BitVec 32 := 4#32
  let v803 : BitVec 32 := Scalar.muli arg22 c4_i32_330
  let c0_i32_331 : BitVec 32 := 0#32
  let v804 : BitVec 32 := Scalar.addi v803 c0_i32_331
  let c256_i32_332 : BitVec 32 := 256#32
  let v805 : BitVec 32 := Scalar.muli v804 c256_i32_332
  v805
def k0_off17 (i : grid0.Coords) (k0_t14 : Fin (k0_t14_loop i).trips) (c0_i32_331 : BitVec 32) : Fin 2 → Nat :=
  let c0_i32_259 : BitVec 32 := 0#32
  let c1_i32_261 : BitVec 32 := 1#32
  let arg22 : BitVec 32 := Scf.iv c0_i32_259 c1_i32_261 k0_t14
  let c4_i32_330 : BitVec 32 := 4#32
  let v803 : BitVec 32 := Scalar.muli arg22 c4_i32_330
  let v804 : BitVec 32 := Scalar.addi v803 c0_i32_331
  let c256_i32_332 : BitVec 32 := 256#32
  let v805 : BitVec 32 := Scalar.muli v804 c256_i32_332
  let v806 : BitVec 32 := v805
  let v807 : Index := Scalar.indexCast v806
  let c0_333 : Index := 0#32
  ![v807.toNat, 0]
def k0_mult34 (i : grid0.Coords) (k0_t14 : Fin (k0_t14_loop i).trips) : BitVec 32 :=
  let c0_i32_259 : BitVec 32 := 0#32
  let c1_i32_261 : BitVec 32 := 1#32
  let arg22 : BitVec 32 := Scf.iv c0_i32_259 c1_i32_261 k0_t14
  let c4_i32_336 : BitVec 32 := 4#32
  let v880 : BitVec 32 := Scalar.muli arg22 c4_i32_336
  let c1_i32_337 : BitVec 32 := 1#32
  let v881 : BitVec 32 := Scalar.addi v880 c1_i32_337
  let c256_i32_338 : BitVec 32 := 256#32
  let v882 : BitVec 32 := Scalar.muli v881 c256_i32_338
  v882
def k0_mult35 (i : grid0.Coords) (k0_t14 : Fin (k0_t14_loop i).trips) : BitVec 32 :=
  let c0_i32_259 : BitVec 32 := 0#32
  let c1_i32_261 : BitVec 32 := 1#32
  let arg22 : BitVec 32 := Scf.iv c0_i32_259 c1_i32_261 k0_t14
  let c4_i32_342 : BitVec 32 := 4#32
  let v957 : BitVec 32 := Scalar.muli arg22 c4_i32_342
  let c2_i32_343 : BitVec 32 := 2#32
  let v958 : BitVec 32 := Scalar.addi v957 c2_i32_343
  let c256_i32_344 : BitVec 32 := 256#32
  let v959 : BitVec 32 := Scalar.muli v958 c256_i32_344
  v959
def k0_mult36 (i : grid0.Coords) (k0_t14 : Fin (k0_t14_loop i).trips) : BitVec 32 :=
  let c0_i32_259 : BitVec 32 := 0#32
  let c1_i32_261 : BitVec 32 := 1#32
  let arg22 : BitVec 32 := Scf.iv c0_i32_259 c1_i32_261 k0_t14
  let c4_i32_348 : BitVec 32 := 4#32
  let v1034 : BitVec 32 := Scalar.muli arg22 c4_i32_348
  let c3_i32_349 : BitVec 32 := 3#32
  let v1035 : BitVec 32 := Scalar.addi v1034 c3_i32_349
  let c256_i32_350 : BitVec 32 := 256#32
  let v1036 : BitVec 32 := Scalar.muli v1035 c256_i32_350
  v1036
@[reducible] def k0_t15_loop (i : grid0.Coords) : Scf.Loop 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let v629 : BitVec 32 := Scalar.addi c0_i32_259 v628
  let c1_i32_262 : BitVec 32 := 1#32
  ⟨v632, v629, c1_i32_262⟩
def k0_mult37 (i : grid0.Coords) (k0_t15 : Fin (k0_t15_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t15
  let c4_i32_330 : BitVec 32 := 4#32
  let v803 : BitVec 32 := Scalar.muli arg22 c4_i32_330
  let c0_i32_331 : BitVec 32 := 0#32
  let v804 : BitVec 32 := Scalar.addi v803 c0_i32_331
  let c256_i32_332 : BitVec 32 := 256#32
  let v805 : BitVec 32 := Scalar.muli v804 c256_i32_332
  v805
def k0_off18 (i : grid0.Coords) (k0_t15 : Fin (k0_t15_loop i).trips) (c0_i32_331 : BitVec 32) : Fin 2 → Nat :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t15
  let c4_i32_330 : BitVec 32 := 4#32
  let v803 : BitVec 32 := Scalar.muli arg22 c4_i32_330
  let v804 : BitVec 32 := Scalar.addi v803 c0_i32_331
  let c256_i32_332 : BitVec 32 := 256#32
  let v805 : BitVec 32 := Scalar.muli v804 c256_i32_332
  let v806 : BitVec 32 := v805
  let v807 : Index := Scalar.indexCast v806
  let c0_333 : Index := 0#32
  ![v807.toNat, 0]
def k0_mult38 (i : grid0.Coords) (k0_t15 : Fin (k0_t15_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t15
  let c4_i32_336 : BitVec 32 := 4#32
  let v880 : BitVec 32 := Scalar.muli arg22 c4_i32_336
  let c1_i32_337 : BitVec 32 := 1#32
  let v881 : BitVec 32 := Scalar.addi v880 c1_i32_337
  let c256_i32_338 : BitVec 32 := 256#32
  let v882 : BitVec 32 := Scalar.muli v881 c256_i32_338
  v882
def k0_mult39 (i : grid0.Coords) (k0_t15 : Fin (k0_t15_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t15
  let c4_i32_342 : BitVec 32 := 4#32
  let v957 : BitVec 32 := Scalar.muli arg22 c4_i32_342
  let c2_i32_343 : BitVec 32 := 2#32
  let v958 : BitVec 32 := Scalar.addi v957 c2_i32_343
  let c256_i32_344 : BitVec 32 := 256#32
  let v959 : BitVec 32 := Scalar.muli v958 c256_i32_344
  v959
def k0_mult40 (i : grid0.Coords) (k0_t15 : Fin (k0_t15_loop i).trips) : BitVec 32 :=
  let c0_i32_259 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let v628 : BitVec 32 := Scalar.subi v627 c0_i32_259
  let c1_i32_260 : BitVec 32 := 1#32
  let v630 : BitVec 32 := Scalar.divsi v628 c1_i32_260
  let v631 : BitVec 32 := Scalar.muli v630 c1_i32_260
  let v632 : BitVec 32 := Scalar.addi c0_i32_259 v631
  let c1_i32_262 : BitVec 32 := 1#32
  let arg22 : BitVec 32 := Scf.iv v632 c1_i32_262 k0_t15
  let c4_i32_348 : BitVec 32 := 4#32
  let v1034 : BitVec 32 := Scalar.muli arg22 c4_i32_348
  let c3_i32_349 : BitVec 32 := 3#32
  let v1035 : BitVec 32 := Scalar.addi v1034 c3_i32_349
  let c256_i32_350 : BitVec 32 := 256#32
  let v1036 : BitVec 32 := Scalar.muli v1035 c256_i32_350
  v1036
@[reducible] def k0_t16_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let c1_i32_265 : BitVec 32 := 1#32
  ⟨v635, v640, c1_i32_265⟩
def k0_mult41 (i : grid0.Coords) (k0_t16 : Fin (k0_t16_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let c1_i32_265 : BitVec 32 := 1#32
  let arg22 : BitVec 32 := Scf.iv v635 c1_i32_265 k0_t16
  let c256_i32_330 : BitVec 32 := 256#32
  let v803 : BitVec 32 := Scalar.muli arg22 c256_i32_330
  v803
def k0_off19 (i : grid0.Coords) (k0_t16 : Fin (k0_t16_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let c1_i32_265 : BitVec 32 := 1#32
  let arg22 : BitVec 32 := Scf.iv v635 c1_i32_265 k0_t16
  let c256_i32_330 : BitVec 32 := 256#32
  let v803 : BitVec 32 := Scalar.muli arg22 c256_i32_330
  let v804 : BitVec 32 := v803
  let v805 : Index := Scalar.indexCast v804
  let c0_331 : Index := 0#32
  ![v805.toNat, 0]
@[reducible] def k0_t17_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let v637 : BitVec 32 := Scalar.addi v635 v636
  let c1_i32_266 : BitVec 32 := 1#32
  ⟨v640, v637, c1_i32_266⟩
def k0_mult42 (i : grid0.Coords) (k0_t17 : Fin (k0_t17_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let c1_i32_266 : BitVec 32 := 1#32
  let arg22 : BitVec 32 := Scf.iv v640 c1_i32_266 k0_t17
  let c256_i32_330 : BitVec 32 := 256#32
  let v803 : BitVec 32 := Scalar.muli arg22 c256_i32_330
  v803
def k0_off20 (i : grid0.Coords) (k0_t17 : Fin (k0_t17_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_253 : BitVec 32 := 0#32
  let v612 : BitVec 1 := Scalar.cmpi .sgt v21 c0_i32_253
  let v613 : BitVec 32 := Scalar.extui v612
  let c0_i32_254 : BitVec 32 := 0#32
  let v614 : BitVec 1 := Scalar.cmpi .slt v21 c0_i32_254
  let v615 : BitVec 32 := Scalar.extui v614
  let v616 : BitVec 32 := Scalar.subi v613 v615
  let c4_i32_252 : BitVec 32 := 4#32
  let c0_i32_255 : BitVec 32 := 0#32
  let v617 : BitVec 1 := Scalar.cmpi .sgt c4_i32_252 c0_i32_255
  let v618 : BitVec 32 := Scalar.extui v617
  let c0_i32_256 : BitVec 32 := 0#32
  let v619 : BitVec 1 := Scalar.cmpi .slt c4_i32_252 c0_i32_256
  let v620 : BitVec 32 := Scalar.extui v619
  let v621 : BitVec 32 := Scalar.subi v618 v620
  let v622 : BitVec 1 := Scalar.cmpi .ne v616 v621
  let v623 : BitVec 32 := Scalar.remsi v21 c4_i32_252
  let c0_i32_257 : BitVec 32 := 0#32
  let v624 : BitVec 1 := Scalar.cmpi .ne v623 c0_i32_257
  let v625 : BitVec 1 := Scalar.andi v622 v624
  let v611 : BitVec 32 := Scalar.divsi v21 c4_i32_252
  let c1_i32_258 : BitVec 32 := 1#32
  let v626 : BitVec 32 := Scalar.subi v611 c1_i32_258
  let v627 : BitVec 32 := Scalar.select v625 v626 v611
  let c4_i32_263 : BitVec 32 := 4#32
  let v635 : BitVec 32 := Scalar.muli v627 c4_i32_263
  let v636 : BitVec 32 := Scalar.subi v21 v635
  let c1_i32_264 : BitVec 32 := 1#32
  let v638 : BitVec 32 := Scalar.divsi v636 c1_i32_264
  let v639 : BitVec 32 := Scalar.muli v638 c1_i32_264
  let v640 : BitVec 32 := Scalar.addi v635 v639
  let c1_i32_266 : BitVec 32 := 1#32
  let arg22 : BitVec 32 := Scf.iv v640 c1_i32_266 k0_t17
  let c256_i32_330 : BitVec 32 := 256#32
  let v803 : BitVec 32 := Scalar.muli arg22 c256_i32_330
  let v804 : BitVec 32 := v803
  let v805 : Index := Scalar.indexCast v804
  let c0_331 : Index := 0#32
  ![v805.toNat, 0]
@[reducible] def k0_t18_loop (i : grid0.Coords) : Scf.Loop 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_316 : BitVec 32 := 1#32
  ⟨c0_i32_314, v769, c1_i32_316⟩
def k0_mult43 (i : grid0.Coords) (k0_t18 : Fin (k0_t18_loop i).trips) : BitVec 32 :=
  let c0_i32_314 : BitVec 32 := 0#32
  let c1_i32_316 : BitVec 32 := 1#32
  let arg22 : BitVec 32 := Scf.iv c0_i32_314 c1_i32_316 k0_t18
  let c4_i32_330 : BitVec 32 := 4#32
  let v803 : BitVec 32 := Scalar.muli arg22 c4_i32_330
  let c0_i32_331 : BitVec 32 := 0#32
  let v804 : BitVec 32 := Scalar.addi v803 c0_i32_331
  let c256_i32_332 : BitVec 32 := 256#32
  let v805 : BitVec 32 := Scalar.muli v804 c256_i32_332
  v805
def k0_off21 (i : grid0.Coords) (k0_t18 : Fin (k0_t18_loop i).trips) (c0_i32_331 : BitVec 32) : Fin 2 → Nat :=
  let c0_i32_314 : BitVec 32 := 0#32
  let c1_i32_316 : BitVec 32 := 1#32
  let arg22 : BitVec 32 := Scf.iv c0_i32_314 c1_i32_316 k0_t18
  let c4_i32_330 : BitVec 32 := 4#32
  let v803 : BitVec 32 := Scalar.muli arg22 c4_i32_330
  let v804 : BitVec 32 := Scalar.addi v803 c0_i32_331
  let c256_i32_332 : BitVec 32 := 256#32
  let v805 : BitVec 32 := Scalar.muli v804 c256_i32_332
  let v806 : BitVec 32 := v805
  let v807 : Index := Scalar.indexCast v806
  let c0_333 : Index := 0#32
  ![v807.toNat, 0]
def k0_mult44 (i : grid0.Coords) (k0_t18 : Fin (k0_t18_loop i).trips) : BitVec 32 :=
  let c0_i32_314 : BitVec 32 := 0#32
  let c1_i32_316 : BitVec 32 := 1#32
  let arg22 : BitVec 32 := Scf.iv c0_i32_314 c1_i32_316 k0_t18
  let c4_i32_336 : BitVec 32 := 4#32
  let v880 : BitVec 32 := Scalar.muli arg22 c4_i32_336
  let c1_i32_337 : BitVec 32 := 1#32
  let v881 : BitVec 32 := Scalar.addi v880 c1_i32_337
  let c256_i32_338 : BitVec 32 := 256#32
  let v882 : BitVec 32 := Scalar.muli v881 c256_i32_338
  v882
def k0_mult45 (i : grid0.Coords) (k0_t18 : Fin (k0_t18_loop i).trips) : BitVec 32 :=
  let c0_i32_314 : BitVec 32 := 0#32
  let c1_i32_316 : BitVec 32 := 1#32
  let arg22 : BitVec 32 := Scf.iv c0_i32_314 c1_i32_316 k0_t18
  let c4_i32_342 : BitVec 32 := 4#32
  let v957 : BitVec 32 := Scalar.muli arg22 c4_i32_342
  let c2_i32_343 : BitVec 32 := 2#32
  let v958 : BitVec 32 := Scalar.addi v957 c2_i32_343
  let c256_i32_344 : BitVec 32 := 256#32
  let v959 : BitVec 32 := Scalar.muli v958 c256_i32_344
  v959
def k0_mult46 (i : grid0.Coords) (k0_t18 : Fin (k0_t18_loop i).trips) : BitVec 32 :=
  let c0_i32_314 : BitVec 32 := 0#32
  let c1_i32_316 : BitVec 32 := 1#32
  let arg22 : BitVec 32 := Scf.iv c0_i32_314 c1_i32_316 k0_t18
  let c4_i32_348 : BitVec 32 := 4#32
  let v1034 : BitVec 32 := Scalar.muli arg22 c4_i32_348
  let c3_i32_349 : BitVec 32 := 3#32
  let v1035 : BitVec 32 := Scalar.addi v1034 c3_i32_349
  let c256_i32_350 : BitVec 32 := 256#32
  let v1036 : BitVec 32 := Scalar.muli v1035 c256_i32_350
  v1036
@[reducible] def k0_t19_loop (i : grid0.Coords) : Scf.Loop 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let v766 : BitVec 32 := Scalar.addi c0_i32_314 v765
  let c1_i32_317 : BitVec 32 := 1#32
  ⟨v769, v766, c1_i32_317⟩
def k0_mult47 (i : grid0.Coords) (k0_t19 : Fin (k0_t19_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t19
  let c4_i32_330 : BitVec 32 := 4#32
  let v803 : BitVec 32 := Scalar.muli arg22 c4_i32_330
  let c0_i32_331 : BitVec 32 := 0#32
  let v804 : BitVec 32 := Scalar.addi v803 c0_i32_331
  let c256_i32_332 : BitVec 32 := 256#32
  let v805 : BitVec 32 := Scalar.muli v804 c256_i32_332
  v805
def k0_off22 (i : grid0.Coords) (k0_t19 : Fin (k0_t19_loop i).trips) (c0_i32_331 : BitVec 32) : Fin 2 → Nat :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t19
  let c4_i32_330 : BitVec 32 := 4#32
  let v803 : BitVec 32 := Scalar.muli arg22 c4_i32_330
  let v804 : BitVec 32 := Scalar.addi v803 c0_i32_331
  let c256_i32_332 : BitVec 32 := 256#32
  let v805 : BitVec 32 := Scalar.muli v804 c256_i32_332
  let v806 : BitVec 32 := v805
  let v807 : Index := Scalar.indexCast v806
  let c0_333 : Index := 0#32
  ![v807.toNat, 0]
def k0_mult48 (i : grid0.Coords) (k0_t19 : Fin (k0_t19_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t19
  let c4_i32_336 : BitVec 32 := 4#32
  let v880 : BitVec 32 := Scalar.muli arg22 c4_i32_336
  let c1_i32_337 : BitVec 32 := 1#32
  let v881 : BitVec 32 := Scalar.addi v880 c1_i32_337
  let c256_i32_338 : BitVec 32 := 256#32
  let v882 : BitVec 32 := Scalar.muli v881 c256_i32_338
  v882
def k0_mult49 (i : grid0.Coords) (k0_t19 : Fin (k0_t19_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t19
  let c4_i32_342 : BitVec 32 := 4#32
  let v957 : BitVec 32 := Scalar.muli arg22 c4_i32_342
  let c2_i32_343 : BitVec 32 := 2#32
  let v958 : BitVec 32 := Scalar.addi v957 c2_i32_343
  let c256_i32_344 : BitVec 32 := 256#32
  let v959 : BitVec 32 := Scalar.muli v958 c256_i32_344
  v959
def k0_mult50 (i : grid0.Coords) (k0_t19 : Fin (k0_t19_loop i).trips) : BitVec 32 :=
  let c0_i32_314 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let v765 : BitVec 32 := Scalar.subi v764 c0_i32_314
  let c1_i32_315 : BitVec 32 := 1#32
  let v767 : BitVec 32 := Scalar.divsi v765 c1_i32_315
  let v768 : BitVec 32 := Scalar.muli v767 c1_i32_315
  let v769 : BitVec 32 := Scalar.addi c0_i32_314 v768
  let c1_i32_317 : BitVec 32 := 1#32
  let arg22 : BitVec 32 := Scf.iv v769 c1_i32_317 k0_t19
  let c4_i32_348 : BitVec 32 := 4#32
  let v1034 : BitVec 32 := Scalar.muli arg22 c4_i32_348
  let c3_i32_349 : BitVec 32 := 3#32
  let v1035 : BitVec 32 := Scalar.addi v1034 c3_i32_349
  let c256_i32_350 : BitVec 32 := 256#32
  let v1036 : BitVec 32 := Scalar.muli v1035 c256_i32_350
  v1036
@[reducible] def k0_t20_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let c1_i32_320 : BitVec 32 := 1#32
  ⟨v772, v777, c1_i32_320⟩
def k0_mult51 (i : grid0.Coords) (k0_t20 : Fin (k0_t20_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let c1_i32_320 : BitVec 32 := 1#32
  let arg22 : BitVec 32 := Scf.iv v772 c1_i32_320 k0_t20
  let c256_i32_330 : BitVec 32 := 256#32
  let v803 : BitVec 32 := Scalar.muli arg22 c256_i32_330
  v803
def k0_off23 (i : grid0.Coords) (k0_t20 : Fin (k0_t20_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let c1_i32_320 : BitVec 32 := 1#32
  let arg22 : BitVec 32 := Scf.iv v772 c1_i32_320 k0_t20
  let c256_i32_330 : BitVec 32 := 256#32
  let v803 : BitVec 32 := Scalar.muli arg22 c256_i32_330
  let v804 : BitVec 32 := v803
  let v805 : Index := Scalar.indexCast v804
  let c0_331 : Index := 0#32
  ![v805.toNat, 0]
@[reducible] def k0_t21_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let v774 : BitVec 32 := Scalar.addi v772 v773
  let c1_i32_321 : BitVec 32 := 1#32
  ⟨v777, v774, c1_i32_321⟩
def k0_mult52 (i : grid0.Coords) (k0_t21 : Fin (k0_t21_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let c1_i32_321 : BitVec 32 := 1#32
  let arg22 : BitVec 32 := Scf.iv v777 c1_i32_321 k0_t21
  let c256_i32_330 : BitVec 32 := 256#32
  let v803 : BitVec 32 := Scalar.muli arg22 c256_i32_330
  v803
def k0_off24 (i : grid0.Coords) (k0_t21 : Fin (k0_t21_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_308 : BitVec 32 := 0#32
  let v749 : BitVec 1 := Scalar.cmpi .sgt v21 c0_i32_308
  let v750 : BitVec 32 := Scalar.extui v749
  let c0_i32_309 : BitVec 32 := 0#32
  let v751 : BitVec 1 := Scalar.cmpi .slt v21 c0_i32_309
  let v752 : BitVec 32 := Scalar.extui v751
  let v753 : BitVec 32 := Scalar.subi v750 v752
  let c4_i32_307 : BitVec 32 := 4#32
  let c0_i32_310 : BitVec 32 := 0#32
  let v754 : BitVec 1 := Scalar.cmpi .sgt c4_i32_307 c0_i32_310
  let v755 : BitVec 32 := Scalar.extui v754
  let c0_i32_311 : BitVec 32 := 0#32
  let v756 : BitVec 1 := Scalar.cmpi .slt c4_i32_307 c0_i32_311
  let v757 : BitVec 32 := Scalar.extui v756
  let v758 : BitVec 32 := Scalar.subi v755 v757
  let v759 : BitVec 1 := Scalar.cmpi .ne v753 v758
  let v760 : BitVec 32 := Scalar.remsi v21 c4_i32_307
  let c0_i32_312 : BitVec 32 := 0#32
  let v761 : BitVec 1 := Scalar.cmpi .ne v760 c0_i32_312
  let v762 : BitVec 1 := Scalar.andi v759 v761
  let v748 : BitVec 32 := Scalar.divsi v21 c4_i32_307
  let c1_i32_313 : BitVec 32 := 1#32
  let v763 : BitVec 32 := Scalar.subi v748 c1_i32_313
  let v764 : BitVec 32 := Scalar.select v762 v763 v748
  let c4_i32_318 : BitVec 32 := 4#32
  let v772 : BitVec 32 := Scalar.muli v764 c4_i32_318
  let v773 : BitVec 32 := Scalar.subi v21 v772
  let c1_i32_319 : BitVec 32 := 1#32
  let v775 : BitVec 32 := Scalar.divsi v773 c1_i32_319
  let v776 : BitVec 32 := Scalar.muli v775 c1_i32_319
  let v777 : BitVec 32 := Scalar.addi v772 v776
  let c1_i32_321 : BitVec 32 := 1#32
  let arg22 : BitVec 32 := Scf.iv v777 c1_i32_321 k0_t21
  let c256_i32_330 : BitVec 32 := 256#32
  let v803 : BitVec 32 := Scalar.muli arg22 c256_i32_330
  let v804 : BitVec 32 := v803
  let v805 : Index := Scalar.indexCast v804
  let c0_331 : Index := 0#32
  ![v805.toNat, 0]
@[reducible] def k0_t22_loop (i : grid0.Coords) : Scf.Loop 32 :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let c1_i32_232 : BitVec 32 := 1#32
  ⟨c0_i32_230, v549, c1_i32_232⟩
def k0_mult53 (i : grid0.Coords) (k0_t22 : Fin (k0_t22_loop i).trips) : BitVec 32 :=
  let c0_i32_230 : BitVec 32 := 0#32
  let c1_i32_232 : BitVec 32 := 1#32
  let arg16 : BitVec 32 := Scf.iv c0_i32_230 c1_i32_232 k0_t22
  let c4_i32_238 : BitVec 32 := 4#32
  let v560 : BitVec 32 := Scalar.muli arg16 c4_i32_238
  let c0_i32_239 : BitVec 32 := 0#32
  let v561 : BitVec 32 := Scalar.addi v560 c0_i32_239
  let c256_i32_240 : BitVec 32 := 256#32
  let v562 : BitVec 32 := Scalar.muli v561 c256_i32_240
  v562
def k0_off25 (i : grid0.Coords) (k0_t22 : Fin (k0_t22_loop i).trips) (c0_i32_239 : BitVec 32) : Fin 2 → Nat :=
  let c0_i32_230 : BitVec 32 := 0#32
  let c1_i32_232 : BitVec 32 := 1#32
  let arg16 : BitVec 32 := Scf.iv c0_i32_230 c1_i32_232 k0_t22
  let c4_i32_238 : BitVec 32 := 4#32
  let v560 : BitVec 32 := Scalar.muli arg16 c4_i32_238
  let v561 : BitVec 32 := Scalar.addi v560 c0_i32_239
  let c256_i32_240 : BitVec 32 := 256#32
  let v562 : BitVec 32 := Scalar.muli v561 c256_i32_240
  let v563 : BitVec 32 := v562
  let v564 : Index := Scalar.indexCast v563
  let c0_241 : Index := 0#32
  ![v564.toNat, 0]
def k0_mult54 (i : grid0.Coords) (k0_t22 : Fin (k0_t22_loop i).trips) : BitVec 32 :=
  let c0_i32_230 : BitVec 32 := 0#32
  let c1_i32_232 : BitVec 32 := 1#32
  let arg16 : BitVec 32 := Scf.iv c0_i32_230 c1_i32_232 k0_t22
  let c4_i32_247 : BitVec 32 := 4#32
  let v590 : BitVec 32 := Scalar.muli arg16 c4_i32_247
  let c1_i32_248 : BitVec 32 := 1#32
  let v591 : BitVec 32 := Scalar.addi v590 c1_i32_248
  let c256_i32_249 : BitVec 32 := 256#32
  let v592 : BitVec 32 := Scalar.muli v591 c256_i32_249
  v592
def k0_mult55 (i : grid0.Coords) (k0_t22 : Fin (k0_t22_loop i).trips) : BitVec 32 :=
  let c0_i32_230 : BitVec 32 := 0#32
  let c1_i32_232 : BitVec 32 := 1#32
  let arg16 : BitVec 32 := Scf.iv c0_i32_230 c1_i32_232 k0_t22
  let c4_i32_256 : BitVec 32 := 4#32
  let v620 : BitVec 32 := Scalar.muli arg16 c4_i32_256
  let c2_i32_257 : BitVec 32 := 2#32
  let v621 : BitVec 32 := Scalar.addi v620 c2_i32_257
  let c256_i32_258 : BitVec 32 := 256#32
  let v622 : BitVec 32 := Scalar.muli v621 c256_i32_258
  v622
def k0_mult56 (i : grid0.Coords) (k0_t22 : Fin (k0_t22_loop i).trips) : BitVec 32 :=
  let c0_i32_230 : BitVec 32 := 0#32
  let c1_i32_232 : BitVec 32 := 1#32
  let arg16 : BitVec 32 := Scf.iv c0_i32_230 c1_i32_232 k0_t22
  let c4_i32_265 : BitVec 32 := 4#32
  let v650 : BitVec 32 := Scalar.muli arg16 c4_i32_265
  let c3_i32 : BitVec 32 := 3#32
  let v651 : BitVec 32 := Scalar.addi v650 c3_i32
  let c256_i32_266 : BitVec 32 := 256#32
  let v652 : BitVec 32 := Scalar.muli v651 c256_i32_266
  v652
@[reducible] def k0_t23_loop (i : grid0.Coords) : Scf.Loop 32 :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let v546 : BitVec 32 := Scalar.addi c0_i32_230 v545
  let c1_i32_233 : BitVec 32 := 1#32
  ⟨v549, v546, c1_i32_233⟩
def k0_mult57 (i : grid0.Coords) (k0_t23 : Fin (k0_t23_loop i).trips) : BitVec 32 :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let c1_i32_233 : BitVec 32 := 1#32
  let arg16 : BitVec 32 := Scf.iv v549 c1_i32_233 k0_t23
  let c4_i32_238 : BitVec 32 := 4#32
  let v560 : BitVec 32 := Scalar.muli arg16 c4_i32_238
  let c0_i32_239 : BitVec 32 := 0#32
  let v561 : BitVec 32 := Scalar.addi v560 c0_i32_239
  let c256_i32_240 : BitVec 32 := 256#32
  let v562 : BitVec 32 := Scalar.muli v561 c256_i32_240
  v562
def k0_off26 (i : grid0.Coords) (k0_t23 : Fin (k0_t23_loop i).trips) (c0_i32_239 : BitVec 32) : Fin 2 → Nat :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let c1_i32_233 : BitVec 32 := 1#32
  let arg16 : BitVec 32 := Scf.iv v549 c1_i32_233 k0_t23
  let c4_i32_238 : BitVec 32 := 4#32
  let v560 : BitVec 32 := Scalar.muli arg16 c4_i32_238
  let v561 : BitVec 32 := Scalar.addi v560 c0_i32_239
  let c256_i32_240 : BitVec 32 := 256#32
  let v562 : BitVec 32 := Scalar.muli v561 c256_i32_240
  let v563 : BitVec 32 := v562
  let v564 : Index := Scalar.indexCast v563
  let c0_241 : Index := 0#32
  ![v564.toNat, 0]
def k0_mult58 (i : grid0.Coords) (k0_t23 : Fin (k0_t23_loop i).trips) : BitVec 32 :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let c1_i32_233 : BitVec 32 := 1#32
  let arg16 : BitVec 32 := Scf.iv v549 c1_i32_233 k0_t23
  let c4_i32_247 : BitVec 32 := 4#32
  let v590 : BitVec 32 := Scalar.muli arg16 c4_i32_247
  let c1_i32_248 : BitVec 32 := 1#32
  let v591 : BitVec 32 := Scalar.addi v590 c1_i32_248
  let c256_i32_249 : BitVec 32 := 256#32
  let v592 : BitVec 32 := Scalar.muli v591 c256_i32_249
  v592
def k0_mult59 (i : grid0.Coords) (k0_t23 : Fin (k0_t23_loop i).trips) : BitVec 32 :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let c1_i32_233 : BitVec 32 := 1#32
  let arg16 : BitVec 32 := Scf.iv v549 c1_i32_233 k0_t23
  let c4_i32_256 : BitVec 32 := 4#32
  let v620 : BitVec 32 := Scalar.muli arg16 c4_i32_256
  let c2_i32_257 : BitVec 32 := 2#32
  let v621 : BitVec 32 := Scalar.addi v620 c2_i32_257
  let c256_i32_258 : BitVec 32 := 256#32
  let v622 : BitVec 32 := Scalar.muli v621 c256_i32_258
  v622
def k0_mult60 (i : grid0.Coords) (k0_t23 : Fin (k0_t23_loop i).trips) : BitVec 32 :=
  let c0_i32_230 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let v545 : BitVec 32 := Scalar.subi v544 c0_i32_230
  let c1_i32_231 : BitVec 32 := 1#32
  let v547 : BitVec 32 := Scalar.divsi v545 c1_i32_231
  let v548 : BitVec 32 := Scalar.muli v547 c1_i32_231
  let v549 : BitVec 32 := Scalar.addi c0_i32_230 v548
  let c1_i32_233 : BitVec 32 := 1#32
  let arg16 : BitVec 32 := Scf.iv v549 c1_i32_233 k0_t23
  let c4_i32_265 : BitVec 32 := 4#32
  let v650 : BitVec 32 := Scalar.muli arg16 c4_i32_265
  let c3_i32 : BitVec 32 := 3#32
  let v651 : BitVec 32 := Scalar.addi v650 c3_i32
  let c256_i32_266 : BitVec 32 := 256#32
  let v652 : BitVec 32 := Scalar.muli v651 c256_i32_266
  v652
@[reducible] def k0_t24_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let c4_i32_234 : BitVec 32 := 4#32
  let v552 : BitVec 32 := Scalar.muli v544 c4_i32_234
  let v553 : BitVec 32 := Scalar.subi v21 v552
  let c1_i32_235 : BitVec 32 := 1#32
  let v555 : BitVec 32 := Scalar.divsi v553 c1_i32_235
  let v556 : BitVec 32 := Scalar.muli v555 c1_i32_235
  let v557 : BitVec 32 := Scalar.addi v552 v556
  let c1_i32_236 : BitVec 32 := 1#32
  ⟨v552, v557, c1_i32_236⟩
def k0_mult61 (i : grid0.Coords) (k0_t24 : Fin (k0_t24_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let c4_i32_234 : BitVec 32 := 4#32
  let v552 : BitVec 32 := Scalar.muli v544 c4_i32_234
  let c1_i32_236 : BitVec 32 := 1#32
  let arg16 : BitVec 32 := Scf.iv v552 c1_i32_236 k0_t24
  let c256_i32_238 : BitVec 32 := 256#32
  let v560 : BitVec 32 := Scalar.muli arg16 c256_i32_238
  v560
def k0_off27 (i : grid0.Coords) (k0_t24 : Fin (k0_t24_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let c4_i32_234 : BitVec 32 := 4#32
  let v552 : BitVec 32 := Scalar.muli v544 c4_i32_234
  let c1_i32_236 : BitVec 32 := 1#32
  let arg16 : BitVec 32 := Scf.iv v552 c1_i32_236 k0_t24
  let c256_i32_238 : BitVec 32 := 256#32
  let v560 : BitVec 32 := Scalar.muli arg16 c256_i32_238
  let v561 : BitVec 32 := v560
  let v562 : Index := Scalar.indexCast v561
  let c0_239 : Index := 0#32
  ![v562.toNat, 0]
@[reducible] def k0_t25_loop (i : grid0.Coords) : Scf.Loop 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let c4_i32_234 : BitVec 32 := 4#32
  let v552 : BitVec 32 := Scalar.muli v544 c4_i32_234
  let v553 : BitVec 32 := Scalar.subi v21 v552
  let c1_i32_235 : BitVec 32 := 1#32
  let v555 : BitVec 32 := Scalar.divsi v553 c1_i32_235
  let v556 : BitVec 32 := Scalar.muli v555 c1_i32_235
  let v557 : BitVec 32 := Scalar.addi v552 v556
  let v554 : BitVec 32 := Scalar.addi v552 v553
  let c1_i32_237 : BitVec 32 := 1#32
  ⟨v557, v554, c1_i32_237⟩
def k0_mult62 (i : grid0.Coords) (k0_t25 : Fin (k0_t25_loop i).trips) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let c4_i32_234 : BitVec 32 := 4#32
  let v552 : BitVec 32 := Scalar.muli v544 c4_i32_234
  let v553 : BitVec 32 := Scalar.subi v21 v552
  let c1_i32_235 : BitVec 32 := 1#32
  let v555 : BitVec 32 := Scalar.divsi v553 c1_i32_235
  let v556 : BitVec 32 := Scalar.muli v555 c1_i32_235
  let v557 : BitVec 32 := Scalar.addi v552 v556
  let c1_i32_237 : BitVec 32 := 1#32
  let arg16 : BitVec 32 := Scf.iv v557 c1_i32_237 k0_t25
  let c256_i32_238 : BitVec 32 := 256#32
  let v560 : BitVec 32 := Scalar.muli arg16 c256_i32_238
  v560
def k0_off28 (i : grid0.Coords) (k0_t25 : Fin (k0_t25_loop i).trips) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c0_i32_224 : BitVec 32 := 0#32
  let v529 : BitVec 1 := Scalar.cmpi .sgt v21 c0_i32_224
  let v530 : BitVec 32 := Scalar.extui v529
  let c0_i32_225 : BitVec 32 := 0#32
  let v531 : BitVec 1 := Scalar.cmpi .slt v21 c0_i32_225
  let v532 : BitVec 32 := Scalar.extui v531
  let v533 : BitVec 32 := Scalar.subi v530 v532
  let c4_i32_223 : BitVec 32 := 4#32
  let c0_i32_226 : BitVec 32 := 0#32
  let v534 : BitVec 1 := Scalar.cmpi .sgt c4_i32_223 c0_i32_226
  let v535 : BitVec 32 := Scalar.extui v534
  let c0_i32_227 : BitVec 32 := 0#32
  let v536 : BitVec 1 := Scalar.cmpi .slt c4_i32_223 c0_i32_227
  let v537 : BitVec 32 := Scalar.extui v536
  let v538 : BitVec 32 := Scalar.subi v535 v537
  let v539 : BitVec 1 := Scalar.cmpi .ne v533 v538
  let v540 : BitVec 32 := Scalar.remsi v21 c4_i32_223
  let c0_i32_228 : BitVec 32 := 0#32
  let v541 : BitVec 1 := Scalar.cmpi .ne v540 c0_i32_228
  let v542 : BitVec 1 := Scalar.andi v539 v541
  let v528 : BitVec 32 := Scalar.divsi v21 c4_i32_223
  let c1_i32_229 : BitVec 32 := 1#32
  let v543 : BitVec 32 := Scalar.subi v528 c1_i32_229
  let v544 : BitVec 32 := Scalar.select v542 v543 v528
  let c4_i32_234 : BitVec 32 := 4#32
  let v552 : BitVec 32 := Scalar.muli v544 c4_i32_234
  let v553 : BitVec 32 := Scalar.subi v21 v552
  let c1_i32_235 : BitVec 32 := 1#32
  let v555 : BitVec 32 := Scalar.divsi v553 c1_i32_235
  let v556 : BitVec 32 := Scalar.muli v555 c1_i32_235
  let v557 : BitVec 32 := Scalar.addi v552 v556
  let c1_i32_237 : BitVec 32 := 1#32
  let arg16 : BitVec 32 := Scf.iv v557 c1_i32_237 k0_t25
  let c256_i32_238 : BitVec 32 := 256#32
  let v560 : BitVec 32 := Scalar.muli arg16 c256_i32_238
  let v561 : BitVec 32 := v560
  let v562 : Index := Scalar.indexCast v561
  let c0_239 : Index := 0#32
  ![v562.toNat, 0]
@[reducible] def k0_t26_loop (i : grid0.Coords) : Scf.Loop 32 :=
  let c0_i32_133 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v396 : BitVec 32 := Scalar.subi v395 c0_i32_133
  let c1_i32_134 : BitVec 32 := 1#32
  let v398 : BitVec 32 := Scalar.divsi v396 c1_i32_134
  let v399 : BitVec 32 := Scalar.muli v398 c1_i32_134
  let v400 : BitVec 32 := Scalar.addi c0_i32_133 v399
  let c1_i32_135 : BitVec 32 := 1#32
  ⟨c0_i32_133, v400, c1_i32_135⟩
def k0_mult63 : BitVec 32 :=
  let c0_i32_226 : BitVec 32 := 0#32
  c0_i32_226
def k0_mult64 : BitVec 32 :=
  let c0_i32_230 : BitVec 32 := 0#32
  c0_i32_230
def k0_mult65 : BitVec 32 :=
  let c0_i32_243 : BitVec 32 := 0#32
  c0_i32_243
def k0_mult66 : BitVec 32 :=
  let c0_i32_256 : BitVec 32 := 0#32
  c0_i32_256
def k0_mult67 : BitVec 32 :=
  let c0_i32_269 : BitVec 32 := 0#32
  c0_i32_269
def k0_mult68 : BitVec 32 :=
  let c256_i32_282 : BitVec 32 := 256#32
  c256_i32_282
def k0_mult69 : BitVec 32 :=
  let c256_i32_286 : BitVec 32 := 256#32
  c256_i32_286
def k0_mult70 : BitVec 32 :=
  let c256_i32_299 : BitVec 32 := 256#32
  c256_i32_299
def k0_mult71 : BitVec 32 :=
  let c256_i32_312 : BitVec 32 := 256#32
  c256_i32_312
def k0_mult72 : BitVec 32 :=
  let c256_i32_325 : BitVec 32 := 256#32
  c256_i32_325
def k0_mult73 : BitVec 32 :=
  let c512_i32 : BitVec 32 := 512#32
  c512_i32
def k0_mult74 : BitVec 32 :=
  let c512_i32_341 : BitVec 32 := 512#32
  c512_i32_341
def k0_mult75 : BitVec 32 :=
  let c512_i32_353 : BitVec 32 := 512#32
  c512_i32_353
def k0_mult76 : BitVec 32 :=
  let c512_i32_366 : BitVec 32 := 512#32
  c512_i32_366
def k0_mult77 : BitVec 32 :=
  let c512_i32_379 : BitVec 32 := 512#32
  c512_i32_379
def k0_mult78 : BitVec 32 :=
  let c768_i32 : BitVec 32 := 768#32
  c768_i32
def k0_mult79 : BitVec 32 :=
  let c768_i32_395 : BitVec 32 := 768#32
  c768_i32_395
def k0_mult80 : BitVec 32 :=
  let c768_i32_407 : BitVec 32 := 768#32
  c768_i32_407
def k0_mult81 : BitVec 32 :=
  let c768_i32_420 : BitVec 32 := 768#32
  c768_i32_420
def k0_mult82 : BitVec 32 :=
  let c768_i32_433 : BitVec 32 := 768#32
  c768_i32_433
@[reducible] def k0_t27_loop (i : grid0.Coords) : Scf.Loop 32 :=
  let c0_i32_133 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v396 : BitVec 32 := Scalar.subi v395 c0_i32_133
  let c1_i32_134 : BitVec 32 := 1#32
  let v398 : BitVec 32 := Scalar.divsi v396 c1_i32_134
  let v399 : BitVec 32 := Scalar.muli v398 c1_i32_134
  let v400 : BitVec 32 := Scalar.addi c0_i32_133 v399
  let v397 : BitVec 32 := Scalar.addi c0_i32_133 v396
  let c1_i32_136 : BitVec 32 := 1#32
  ⟨v400, v397, c1_i32_136⟩
def k0_mult83 : BitVec 32 :=
  let c0_i32_226 : BitVec 32 := 0#32
  c0_i32_226
def k0_mult84 : BitVec 32 :=
  let c0_i32_230 : BitVec 32 := 0#32
  c0_i32_230
def k0_mult85 : BitVec 32 :=
  let c0_i32_243 : BitVec 32 := 0#32
  c0_i32_243
def k0_mult86 : BitVec 32 :=
  let c0_i32_256 : BitVec 32 := 0#32
  c0_i32_256
def k0_mult87 : BitVec 32 :=
  let c0_i32_269 : BitVec 32 := 0#32
  c0_i32_269
def k0_mult88 : BitVec 32 :=
  let c256_i32_282 : BitVec 32 := 256#32
  c256_i32_282
def k0_mult89 : BitVec 32 :=
  let c256_i32_286 : BitVec 32 := 256#32
  c256_i32_286
def k0_mult90 : BitVec 32 :=
  let c256_i32_299 : BitVec 32 := 256#32
  c256_i32_299
def k0_mult91 : BitVec 32 :=
  let c256_i32_312 : BitVec 32 := 256#32
  c256_i32_312
def k0_mult92 : BitVec 32 :=
  let c256_i32_325 : BitVec 32 := 256#32
  c256_i32_325
def k0_mult93 : BitVec 32 :=
  let c512_i32 : BitVec 32 := 512#32
  c512_i32
def k0_mult94 : BitVec 32 :=
  let c512_i32_341 : BitVec 32 := 512#32
  c512_i32_341
def k0_mult95 : BitVec 32 :=
  let c512_i32_353 : BitVec 32 := 512#32
  c512_i32_353
def k0_mult96 : BitVec 32 :=
  let c512_i32_366 : BitVec 32 := 512#32
  c512_i32_366
def k0_mult97 : BitVec 32 :=
  let c512_i32_379 : BitVec 32 := 512#32
  c512_i32_379
def k0_mult98 : BitVec 32 :=
  let c768_i32 : BitVec 32 := 768#32
  c768_i32
def k0_mult99 : BitVec 32 :=
  let c768_i32_395 : BitVec 32 := 768#32
  c768_i32_395
def k0_mult100 : BitVec 32 :=
  let c768_i32_407 : BitVec 32 := 768#32
  c768_i32_407
def k0_mult101 : BitVec 32 :=
  let c768_i32_420 : BitVec 32 := 768#32
  c768_i32_420
def k0_mult102 : BitVec 32 :=
  let c768_i32_433 : BitVec 32 := 768#32
  c768_i32_433
@[reducible] def k0_t28_loop (i : grid0.Coords) : Scf.Loop 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_139 : BitVec 32 := 1#32
  ⟨c1_i32_137, v407, c1_i32_139⟩
def k0_mult103 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c0_i32_227 : BitVec 32 := 0#32
  let v524 : BitVec 32 := Scalar.addi v515 c0_i32_227
  let c256_i32_228 : BitVec 32 := 256#32
  let v525 : BitVec 32 := Scalar.muli v524 c256_i32_228
  v525
def k0_off29 (i : grid0.Coords) (k0_t28 : Fin (k0_t28_loop i).trips) (c0_i32_227 : BitVec 32) : Fin 2 → Nat :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let v524 : BitVec 32 := Scalar.addi v515 c0_i32_227
  let c256_i32_228 : BitVec 32 := 256#32
  let v525 : BitVec 32 := Scalar.muli v524 c256_i32_228
  let v526 : BitVec 32 := v525
  let v527 : Index := Scalar.indexCast v526
  let c0_229 : Index := 0#32
  ![v527.toNat, 0]
def k0_mult104 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c0_i32_241 : BitVec 32 := 0#32
  let v550 : BitVec 32 := Scalar.addi v515 c0_i32_241
  let c256_i32_242 : BitVec 32 := 256#32
  let v551 : BitVec 32 := Scalar.muli v550 c256_i32_242
  v551
def k0_off30 (i : grid0.Coords) (k0_t28 : Fin (k0_t28_loop i).trips) (c0_i32_241 : BitVec 32) : Fin 3 → Nat :=
  let c0_243 : Index := 0#32
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let v550 : BitVec 32 := Scalar.addi v515 c0_i32_241
  let c256_i32_242 : BitVec 32 := 256#32
  let v551 : BitVec 32 := Scalar.muli v550 c256_i32_242
  let v552 : BitVec 32 := v551
  let v553 : Index := Scalar.indexCast v552
  let c0_244 : Index := 0#32
  ![0, v553.toNat, 0]
def k0_mult105 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c0_i32_264 : BitVec 32 := 0#32
  let v713 : BitVec 32 := Scalar.addi v515 c0_i32_264
  let c256_i32_265 : BitVec 32 := 256#32
  let v714 : BitVec 32 := Scalar.muli v713 c256_i32_265
  v714
def k0_mult106 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c0_i32_287 : BitVec 32 := 0#32
  let v876 : BitVec 32 := Scalar.addi v515 c0_i32_287
  let c256_i32_288 : BitVec 32 := 256#32
  let v877 : BitVec 32 := Scalar.muli v876 c256_i32_288
  v877
def k0_off31 (i : grid0.Coords) (k0_t28 : Fin (k0_t28_loop i).trips) (c0_i32_287 : BitVec 32) : Fin 3 → Nat :=
  let c0_289 : Index := 0#32
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let v876 : BitVec 32 := Scalar.addi v515 c0_i32_287
  let c256_i32_288 : BitVec 32 := 256#32
  let v877 : BitVec 32 := Scalar.muli v876 c256_i32_288
  let v878 : BitVec 32 := v877
  let v879 : Index := Scalar.indexCast v878
  let c128_290 : Index := 128#32
  ![0, v879.toNat, 128]
def k0_mult107 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c0_i32_310 : BitVec 32 := 0#32
  let v1039 : BitVec 32 := Scalar.addi v515 c0_i32_310
  let c256_i32_311 : BitVec 32 := 256#32
  let v1040 : BitVec 32 := Scalar.muli v1039 c256_i32_311
  v1040
def k0_mult108 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c1_i32_324 : BitVec 32 := 1#32
  let v1186 : BitVec 32 := Scalar.addi v515 c1_i32_324
  let c256_i32_325 : BitVec 32 := 256#32
  let v1187 : BitVec 32 := Scalar.muli v1186 c256_i32_325
  v1187
def k0_mult109 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c1_i32_338 : BitVec 32 := 1#32
  let v1212 : BitVec 32 := Scalar.addi v515 c1_i32_338
  let c256_i32_339 : BitVec 32 := 256#32
  let v1213 : BitVec 32 := Scalar.muli v1212 c256_i32_339
  v1213
def k0_mult110 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c1_i32_361 : BitVec 32 := 1#32
  let v1375 : BitVec 32 := Scalar.addi v515 c1_i32_361
  let c256_i32_362 : BitVec 32 := 256#32
  let v1376 : BitVec 32 := Scalar.muli v1375 c256_i32_362
  v1376
def k0_mult111 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c1_i32_384 : BitVec 32 := 1#32
  let v1538 : BitVec 32 := Scalar.addi v515 c1_i32_384
  let c256_i32_385 : BitVec 32 := 256#32
  let v1539 : BitVec 32 := Scalar.muli v1538 c256_i32_385
  v1539
def k0_mult112 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c1_i32_407 : BitVec 32 := 1#32
  let v1701 : BitVec 32 := Scalar.addi v515 c1_i32_407
  let c256_i32_408 : BitVec 32 := 256#32
  let v1702 : BitVec 32 := Scalar.muli v1701 c256_i32_408
  v1702
def k0_mult113 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c2_i32_421 : BitVec 32 := 2#32
  let v1848 : BitVec 32 := Scalar.addi v515 c2_i32_421
  let c256_i32_422 : BitVec 32 := 256#32
  let v1849 : BitVec 32 := Scalar.muli v1848 c256_i32_422
  v1849
def k0_mult114 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c2_i32_434 : BitVec 32 := 2#32
  let v1874 : BitVec 32 := Scalar.addi v515 c2_i32_434
  let c256_i32_435 : BitVec 32 := 256#32
  let v1875 : BitVec 32 := Scalar.muli v1874 c256_i32_435
  v1875
def k0_mult115 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c2_i32_457 : BitVec 32 := 2#32
  let v2037 : BitVec 32 := Scalar.addi v515 c2_i32_457
  let c256_i32_458 : BitVec 32 := 256#32
  let v2038 : BitVec 32 := Scalar.muli v2037 c256_i32_458
  v2038
def k0_mult116 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c2_i32_480 : BitVec 32 := 2#32
  let v2200 : BitVec 32 := Scalar.addi v515 c2_i32_480
  let c256_i32_481 : BitVec 32 := 256#32
  let v2201 : BitVec 32 := Scalar.muli v2200 c256_i32_481
  v2201
def k0_mult117 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c2_i32_503 : BitVec 32 := 2#32
  let v2363 : BitVec 32 := Scalar.addi v515 c2_i32_503
  let c256_i32_504 : BitVec 32 := 256#32
  let v2364 : BitVec 32 := Scalar.muli v2363 c256_i32_504
  v2364
def k0_mult118 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c3_i32 : BitVec 32 := 3#32
  let v2510 : BitVec 32 := Scalar.addi v515 c3_i32
  let c256_i32_517 : BitVec 32 := 256#32
  let v2511 : BitVec 32 := Scalar.muli v2510 c256_i32_517
  v2511
def k0_mult119 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c3_i32_529 : BitVec 32 := 3#32
  let v2536 : BitVec 32 := Scalar.addi v515 c3_i32_529
  let c256_i32_530 : BitVec 32 := 256#32
  let v2537 : BitVec 32 := Scalar.muli v2536 c256_i32_530
  v2537
def k0_mult120 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c3_i32_552 : BitVec 32 := 3#32
  let v2699 : BitVec 32 := Scalar.addi v515 c3_i32_552
  let c256_i32_553 : BitVec 32 := 256#32
  let v2700 : BitVec 32 := Scalar.muli v2699 c256_i32_553
  v2700
def k0_mult121 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c3_i32_575 : BitVec 32 := 3#32
  let v2862 : BitVec 32 := Scalar.addi v515 c3_i32_575
  let c256_i32_576 : BitVec 32 := 256#32
  let v2863 : BitVec 32 := Scalar.muli v2862 c256_i32_576
  v2863
def k0_mult122 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c4_i32_218 : BitVec 32 := 4#32
  let v515 : BitVec 32 := Scalar.muli arg16 c4_i32_218
  let c3_i32_598 : BitVec 32 := 3#32
  let v3025 : BitVec 32 := Scalar.addi v515 c3_i32_598
  let c256_i32_599 : BitVec 32 := 256#32
  let v3026 : BitVec 32 := Scalar.muli v3025 c256_i32_599
  v3026
@[reducible] def k0_t29_loop (i : grid0.Coords) : Scf.Loop 32 :=
  let c0_i32_616 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_614 : BitVec 32 := 1#32
  let v3174 : BitVec 32 := Scalar.minsi v21 c1_i32_614
  let v3175 : BitVec 32 := Scalar.subi v3174 c0_i32_616
  let c1_i32_617 : BitVec 32 := 1#32
  let v3177 : BitVec 32 := Scalar.divsi v3175 c1_i32_617
  let v3178 : BitVec 32 := Scalar.muli v3177 c1_i32_617
  let v3179 : BitVec 32 := Scalar.addi c0_i32_616 v3178
  let c1_i32_618 : BitVec 32 := 1#32
  ⟨c0_i32_616, v3179, c1_i32_618⟩
def k0_mult123 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  v3204
def k0_off32 (i : grid0.Coords) (k0_t28 : Fin (k0_t28_loop i).trips) : Fin 3 → Nat :=
  let c0_629 : Index := 0#32
  let c0_630 : Index := 0#32
  let c1_i32_137 : BitVec 32 := 1#32
  let c1_i32_139 : BitVec 32 := 1#32
  let arg16 : BitVec 32 := Scf.iv c1_i32_137 c1_i32_139 k0_t28
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3206 : Index := Scalar.indexCast v3205
  ![0, 0, v3206.toNat]
def k0_off33 (i : grid0.Coords) (k0_t28 : Fin (k0_t28_loop i).trips) : Fin 3 → Nat :=
  let c0_665 : Index := 0#32
  let c80 : Index := 80#32
  let c1_i32_137 : BitVec 32 := 1#32
  let c1_i32_139 : BitVec 32 := 1#32
  let arg16 : BitVec 32 := Scf.iv c1_i32_137 c1_i32_139 k0_t28
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3262 : Index := Scalar.indexCast v3205
  ![0, 80, v3262.toNat]
@[reducible] def k0_t30_loop (i : grid0.Coords) : Scf.Loop 32 :=
  let c0_i32_616 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_614 : BitVec 32 := 1#32
  let v3174 : BitVec 32 := Scalar.minsi v21 c1_i32_614
  let v3175 : BitVec 32 := Scalar.subi v3174 c0_i32_616
  let c1_i32_617 : BitVec 32 := 1#32
  let v3177 : BitVec 32 := Scalar.divsi v3175 c1_i32_617
  let v3178 : BitVec 32 := Scalar.muli v3177 c1_i32_617
  let v3179 : BitVec 32 := Scalar.addi c0_i32_616 v3178
  let v3176 : BitVec 32 := Scalar.addi c0_i32_616 v3175
  let c1_i32_619 : BitVec 32 := 1#32
  ⟨v3179, v3176, c1_i32_619⟩
def k0_mult124 (i : grid0.Coords) (k0_t28 : Fin (k0_t28_loop i).trips) : BitVec 32 :=
  let c1_i32_137 : BitVec 32 := 1#32
  let c1_i32_139 : BitVec 32 := 1#32
  let arg16 : BitVec 32 := Scf.iv c1_i32_137 c1_i32_139 k0_t28
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  v3204
def k0_off34 (i : grid0.Coords) (k0_t28 : Fin (k0_t28_loop i).trips) : Fin 3 → Nat :=
  let c0_629 : Index := 0#32
  let c0_630 : Index := 0#32
  let c1_i32_137 : BitVec 32 := 1#32
  let c1_i32_139 : BitVec 32 := 1#32
  let arg16 : BitVec 32 := Scf.iv c1_i32_137 c1_i32_139 k0_t28
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3206 : Index := Scalar.indexCast v3205
  ![0, 0, v3206.toNat]
def k0_off35 (i : grid0.Coords) (k0_t28 : Fin (k0_t28_loop i).trips) : Fin 3 → Nat :=
  let c0_665 : Index := 0#32
  let c80 : Index := 80#32
  let c1_i32_137 : BitVec 32 := 1#32
  let c1_i32_139 : BitVec 32 := 1#32
  let arg16 : BitVec 32 := Scf.iv c1_i32_137 c1_i32_139 k0_t28
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3262 : Index := Scalar.indexCast v3205
  ![0, 80, v3262.toNat]
@[reducible] def k0_t31_loop (i : grid0.Coords) : Scf.Loop 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let v404 : BitVec 32 := Scalar.addi c1_i32_137 v403
  let c1_i32_140 : BitVec 32 := 1#32
  ⟨v407, v404, c1_i32_140⟩
def k0_mult125 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c0_i32_227 : BitVec 32 := 0#32
  let v524 : BitVec 32 := Scalar.addi v515 c0_i32_227
  let c256_i32_228 : BitVec 32 := 256#32
  let v525 : BitVec 32 := Scalar.muli v524 c256_i32_228
  v525
def k0_off36 (i : grid0.Coords) (k0_t31 : Fin (k0_t31_loop i).trips) (c0_i32_227 : BitVec 32) : Fin 2 → Nat :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let v524 : BitVec 32 := Scalar.addi v515 c0_i32_227
  let c256_i32_228 : BitVec 32 := 256#32
  let v525 : BitVec 32 := Scalar.muli v524 c256_i32_228
  let v526 : BitVec 32 := v525
  let v527 : Index := Scalar.indexCast v526
  let c0_229 : Index := 0#32
  ![v527.toNat, 0]
def k0_mult126 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c0_i32_241 : BitVec 32 := 0#32
  let v550 : BitVec 32 := Scalar.addi v515 c0_i32_241
  let c256_i32_242 : BitVec 32 := 256#32
  let v551 : BitVec 32 := Scalar.muli v550 c256_i32_242
  v551
def k0_off37 (i : grid0.Coords) (k0_t31 : Fin (k0_t31_loop i).trips) (c0_i32_241 : BitVec 32) : Fin 3 → Nat :=
  let c0_243 : Index := 0#32
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let v550 : BitVec 32 := Scalar.addi v515 c0_i32_241
  let c256_i32_242 : BitVec 32 := 256#32
  let v551 : BitVec 32 := Scalar.muli v550 c256_i32_242
  let v552 : BitVec 32 := v551
  let v553 : Index := Scalar.indexCast v552
  let c0_244 : Index := 0#32
  ![0, v553.toNat, 0]
def k0_mult127 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c0_i32_264 : BitVec 32 := 0#32
  let v713 : BitVec 32 := Scalar.addi v515 c0_i32_264
  let c256_i32_265 : BitVec 32 := 256#32
  let v714 : BitVec 32 := Scalar.muli v713 c256_i32_265
  v714
def k0_mult128 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c0_i32_287 : BitVec 32 := 0#32
  let v876 : BitVec 32 := Scalar.addi v515 c0_i32_287
  let c256_i32_288 : BitVec 32 := 256#32
  let v877 : BitVec 32 := Scalar.muli v876 c256_i32_288
  v877
def k0_off38 (i : grid0.Coords) (k0_t31 : Fin (k0_t31_loop i).trips) (c0_i32_287 : BitVec 32) : Fin 3 → Nat :=
  let c0_289 : Index := 0#32
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let v876 : BitVec 32 := Scalar.addi v515 c0_i32_287
  let c256_i32_288 : BitVec 32 := 256#32
  let v877 : BitVec 32 := Scalar.muli v876 c256_i32_288
  let v878 : BitVec 32 := v877
  let v879 : Index := Scalar.indexCast v878
  let c128_290 : Index := 128#32
  ![0, v879.toNat, 128]
def k0_mult129 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c0_i32_310 : BitVec 32 := 0#32
  let v1039 : BitVec 32 := Scalar.addi v515 c0_i32_310
  let c256_i32_311 : BitVec 32 := 256#32
  let v1040 : BitVec 32 := Scalar.muli v1039 c256_i32_311
  v1040
def k0_mult130 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c1_i32_324 : BitVec 32 := 1#32
  let v1186 : BitVec 32 := Scalar.addi v515 c1_i32_324
  let c256_i32_325 : BitVec 32 := 256#32
  let v1187 : BitVec 32 := Scalar.muli v1186 c256_i32_325
  v1187
def k0_mult131 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c1_i32_338 : BitVec 32 := 1#32
  let v1212 : BitVec 32 := Scalar.addi v515 c1_i32_338
  let c256_i32_339 : BitVec 32 := 256#32
  let v1213 : BitVec 32 := Scalar.muli v1212 c256_i32_339
  v1213
def k0_mult132 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c1_i32_361 : BitVec 32 := 1#32
  let v1375 : BitVec 32 := Scalar.addi v515 c1_i32_361
  let c256_i32_362 : BitVec 32 := 256#32
  let v1376 : BitVec 32 := Scalar.muli v1375 c256_i32_362
  v1376
def k0_mult133 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c1_i32_384 : BitVec 32 := 1#32
  let v1538 : BitVec 32 := Scalar.addi v515 c1_i32_384
  let c256_i32_385 : BitVec 32 := 256#32
  let v1539 : BitVec 32 := Scalar.muli v1538 c256_i32_385
  v1539
def k0_mult134 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c1_i32_407 : BitVec 32 := 1#32
  let v1701 : BitVec 32 := Scalar.addi v515 c1_i32_407
  let c256_i32_408 : BitVec 32 := 256#32
  let v1702 : BitVec 32 := Scalar.muli v1701 c256_i32_408
  v1702
def k0_mult135 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c2_i32_421 : BitVec 32 := 2#32
  let v1848 : BitVec 32 := Scalar.addi v515 c2_i32_421
  let c256_i32_422 : BitVec 32 := 256#32
  let v1849 : BitVec 32 := Scalar.muli v1848 c256_i32_422
  v1849
def k0_mult136 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c2_i32_434 : BitVec 32 := 2#32
  let v1874 : BitVec 32 := Scalar.addi v515 c2_i32_434
  let c256_i32_435 : BitVec 32 := 256#32
  let v1875 : BitVec 32 := Scalar.muli v1874 c256_i32_435
  v1875
def k0_mult137 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c2_i32_457 : BitVec 32 := 2#32
  let v2037 : BitVec 32 := Scalar.addi v515 c2_i32_457
  let c256_i32_458 : BitVec 32 := 256#32
  let v2038 : BitVec 32 := Scalar.muli v2037 c256_i32_458
  v2038
def k0_mult138 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c2_i32_480 : BitVec 32 := 2#32
  let v2200 : BitVec 32 := Scalar.addi v515 c2_i32_480
  let c256_i32_481 : BitVec 32 := 256#32
  let v2201 : BitVec 32 := Scalar.muli v2200 c256_i32_481
  v2201
def k0_mult139 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c2_i32_503 : BitVec 32 := 2#32
  let v2363 : BitVec 32 := Scalar.addi v515 c2_i32_503
  let c256_i32_504 : BitVec 32 := 256#32
  let v2364 : BitVec 32 := Scalar.muli v2363 c256_i32_504
  v2364
def k0_mult140 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c3_i32 : BitVec 32 := 3#32
  let v2510 : BitVec 32 := Scalar.addi v515 c3_i32
  let c256_i32_517 : BitVec 32 := 256#32
  let v2511 : BitVec 32 := Scalar.muli v2510 c256_i32_517
  v2511
def k0_mult141 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c3_i32_529 : BitVec 32 := 3#32
  let v2536 : BitVec 32 := Scalar.addi v515 c3_i32_529
  let c256_i32_530 : BitVec 32 := 256#32
  let v2537 : BitVec 32 := Scalar.muli v2536 c256_i32_530
  v2537
def k0_mult142 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c3_i32_552 : BitVec 32 := 3#32
  let v2699 : BitVec 32 := Scalar.addi v515 c3_i32_552
  let c256_i32_553 : BitVec 32 := 256#32
  let v2700 : BitVec 32 := Scalar.muli v2699 c256_i32_553
  v2700
def k0_mult143 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c3_i32_575 : BitVec 32 := 3#32
  let v2862 : BitVec 32 := Scalar.addi v515 c3_i32_575
  let c256_i32_576 : BitVec 32 := 256#32
  let v2863 : BitVec 32 := Scalar.muli v2862 c256_i32_576
  v2863
def k0_mult144 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c4_i32_218 : BitVec 32 := 4#32
  let v515 : BitVec 32 := Scalar.muli arg16 c4_i32_218
  let c3_i32_598 : BitVec 32 := 3#32
  let v3025 : BitVec 32 := Scalar.addi v515 c3_i32_598
  let c256_i32_599 : BitVec 32 := 256#32
  let v3026 : BitVec 32 := Scalar.muli v3025 c256_i32_599
  v3026
@[reducible] def k0_t32_loop (i : grid0.Coords) : Scf.Loop 32 :=
  let c0_i32_616 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_614 : BitVec 32 := 1#32
  let v3174 : BitVec 32 := Scalar.minsi v21 c1_i32_614
  let v3175 : BitVec 32 := Scalar.subi v3174 c0_i32_616
  let c1_i32_617 : BitVec 32 := 1#32
  let v3177 : BitVec 32 := Scalar.divsi v3175 c1_i32_617
  let v3178 : BitVec 32 := Scalar.muli v3177 c1_i32_617
  let v3179 : BitVec 32 := Scalar.addi c0_i32_616 v3178
  let c1_i32_618 : BitVec 32 := 1#32
  ⟨c0_i32_616, v3179, c1_i32_618⟩
def k0_mult145 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  v3204
def k0_off39 (i : grid0.Coords) (k0_t31 : Fin (k0_t31_loop i).trips) : Fin 3 → Nat :=
  let c0_629 : Index := 0#32
  let c0_630 : Index := 0#32
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3206 : Index := Scalar.indexCast v3205
  ![0, 0, v3206.toNat]
def k0_off40 (i : grid0.Coords) (k0_t31 : Fin (k0_t31_loop i).trips) : Fin 3 → Nat :=
  let c0_665 : Index := 0#32
  let c80 : Index := 80#32
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3262 : Index := Scalar.indexCast v3205
  ![0, 80, v3262.toNat]
@[reducible] def k0_t33_loop (i : grid0.Coords) : Scf.Loop 32 :=
  let c0_i32_616 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_614 : BitVec 32 := 1#32
  let v3174 : BitVec 32 := Scalar.minsi v21 c1_i32_614
  let v3175 : BitVec 32 := Scalar.subi v3174 c0_i32_616
  let c1_i32_617 : BitVec 32 := 1#32
  let v3177 : BitVec 32 := Scalar.divsi v3175 c1_i32_617
  let v3178 : BitVec 32 := Scalar.muli v3177 c1_i32_617
  let v3179 : BitVec 32 := Scalar.addi c0_i32_616 v3178
  let v3176 : BitVec 32 := Scalar.addi c0_i32_616 v3175
  let c1_i32_619 : BitVec 32 := 1#32
  ⟨v3179, v3176, c1_i32_619⟩
def k0_mult146 (i : grid0.Coords) (k0_t31 : Fin (k0_t31_loop i).trips) : BitVec 32 :=
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  v3204
def k0_off41 (i : grid0.Coords) (k0_t31 : Fin (k0_t31_loop i).trips) : Fin 3 → Nat :=
  let c0_629 : Index := 0#32
  let c0_630 : Index := 0#32
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3206 : Index := Scalar.indexCast v3205
  ![0, 0, v3206.toNat]
def k0_off42 (i : grid0.Coords) (k0_t31 : Fin (k0_t31_loop i).trips) : Fin 3 → Nat :=
  let c0_665 : Index := 0#32
  let c80 : Index := 80#32
  let c1_i32_137 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let v403 : BitVec 32 := Scalar.subi v166 c1_i32_137
  let c1_i32_138 : BitVec 32 := 1#32
  let v405 : BitVec 32 := Scalar.divsi v403 c1_i32_138
  let v406 : BitVec 32 := Scalar.muli v405 c1_i32_138
  let v407 : BitVec 32 := Scalar.addi c1_i32_137 v406
  let c1_i32_140 : BitVec 32 := 1#32
  let arg16 : BitVec 32 := Scf.iv v407 c1_i32_140 k0_t31
  let c1_i32_612 : BitVec 32 := 1#32
  let v3172 : BitVec 32 := Scalar.subi arg16 c1_i32_612
  let c4_i32_613 : BitVec 32 := 4#32
  let v3173 : BitVec 32 := Scalar.muli v3172 c4_i32_613
  let c256_i32_628 : BitVec 32 := 256#32
  let v3204 : BitVec 32 := Scalar.muli v3173 c256_i32_628
  let v3205 : BitVec 32 := v3204
  let v3262 : Index := Scalar.indexCast v3205
  ![0, 80, v3262.toNat]
@[reducible] def k0_t34_loop (i : grid0.Coords) : Scf.Loop 32 :=
  let c0_i32_141 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v410 : BitVec 32 := Scalar.muli v194 v395
  let v411 : BitVec 32 := Scalar.subi v410 c0_i32_141
  let c1_i32_142 : BitVec 32 := 1#32
  let v413 : BitVec 32 := Scalar.divsi v411 c1_i32_142
  let v414 : BitVec 32 := Scalar.muli v413 c1_i32_142
  let v415 : BitVec 32 := Scalar.addi c0_i32_141 v414
  let c1_i32_143 : BitVec 32 := 1#32
  ⟨c0_i32_141, v415, c1_i32_143⟩
def k0_mult147 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_226 : BitVec 32 := 0#32
  let v523 : BitVec 32 := Scalar.addi v195 c0_i32_226
  let c256_i32_227 : BitVec 32 := 256#32
  let v524 : BitVec 32 := Scalar.muli v523 c256_i32_227
  v524
def k0_off43 (i : grid0.Coords) (c0_i32_226 : BitVec 32) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v523 : BitVec 32 := Scalar.addi v195 c0_i32_226
  let c256_i32_227 : BitVec 32 := 256#32
  let v524 : BitVec 32 := Scalar.muli v523 c256_i32_227
  let v525 : BitVec 32 := v524
  let v526 : Index := Scalar.indexCast v525
  let c0_228 : Index := 0#32
  ![v526.toNat, 0]
def k0_mult148 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_240 : BitVec 32 := 0#32
  let v549 : BitVec 32 := Scalar.addi v195 c0_i32_240
  let c256_i32_241 : BitVec 32 := 256#32
  let v550 : BitVec 32 := Scalar.muli v549 c256_i32_241
  v550
def k0_off44 (i : grid0.Coords) (c0_i32_240 : BitVec 32) : Fin 3 → Nat :=
  let c0_242 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v549 : BitVec 32 := Scalar.addi v195 c0_i32_240
  let c256_i32_241 : BitVec 32 := 256#32
  let v550 : BitVec 32 := Scalar.muli v549 c256_i32_241
  let v551 : BitVec 32 := v550
  let v552 : Index := Scalar.indexCast v551
  let c0_243 : Index := 0#32
  ![0, v552.toNat, 0]
def k0_mult149 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_263 : BitVec 32 := 0#32
  let v712 : BitVec 32 := Scalar.addi v195 c0_i32_263
  let c256_i32_264 : BitVec 32 := 256#32
  let v713 : BitVec 32 := Scalar.muli v712 c256_i32_264
  v713
def k0_mult150 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_286 : BitVec 32 := 0#32
  let v875 : BitVec 32 := Scalar.addi v195 c0_i32_286
  let c256_i32_287 : BitVec 32 := 256#32
  let v876 : BitVec 32 := Scalar.muli v875 c256_i32_287
  v876
def k0_off45 (i : grid0.Coords) (c0_i32_286 : BitVec 32) : Fin 3 → Nat :=
  let c0_288 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v875 : BitVec 32 := Scalar.addi v195 c0_i32_286
  let c256_i32_287 : BitVec 32 := 256#32
  let v876 : BitVec 32 := Scalar.muli v875 c256_i32_287
  let v877 : BitVec 32 := v876
  let v878 : Index := Scalar.indexCast v877
  let c128_289 : Index := 128#32
  ![0, v878.toNat, 128]
def k0_mult151 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_309 : BitVec 32 := 0#32
  let v1038 : BitVec 32 := Scalar.addi v195 c0_i32_309
  let c256_i32_310 : BitVec 32 := 256#32
  let v1039 : BitVec 32 := Scalar.muli v1038 c256_i32_310
  v1039
def k0_mult152 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_323 : BitVec 32 := 1#32
  let v1185 : BitVec 32 := Scalar.addi v195 c1_i32_323
  let c256_i32_324 : BitVec 32 := 256#32
  let v1186 : BitVec 32 := Scalar.muli v1185 c256_i32_324
  v1186
def k0_mult153 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_337 : BitVec 32 := 1#32
  let v1211 : BitVec 32 := Scalar.addi v195 c1_i32_337
  let c256_i32_338 : BitVec 32 := 256#32
  let v1212 : BitVec 32 := Scalar.muli v1211 c256_i32_338
  v1212
def k0_mult154 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_360 : BitVec 32 := 1#32
  let v1374 : BitVec 32 := Scalar.addi v195 c1_i32_360
  let c256_i32_361 : BitVec 32 := 256#32
  let v1375 : BitVec 32 := Scalar.muli v1374 c256_i32_361
  v1375
def k0_mult155 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_383 : BitVec 32 := 1#32
  let v1537 : BitVec 32 := Scalar.addi v195 c1_i32_383
  let c256_i32_384 : BitVec 32 := 256#32
  let v1538 : BitVec 32 := Scalar.muli v1537 c256_i32_384
  v1538
def k0_mult156 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_406 : BitVec 32 := 1#32
  let v1700 : BitVec 32 := Scalar.addi v195 c1_i32_406
  let c256_i32_407 : BitVec 32 := 256#32
  let v1701 : BitVec 32 := Scalar.muli v1700 c256_i32_407
  v1701
@[reducible] def k0_t35_loop (i : grid0.Coords) : Scf.Loop 32 :=
  let c0_i32_493 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_491 : BitVec 32 := 1#32
  let v1976 : BitVec 32 := Scalar.minsi v21 c1_i32_491
  let v1977 : BitVec 32 := Scalar.subi v1976 c0_i32_493
  let c1_i32_494 : BitVec 32 := 1#32
  let v1979 : BitVec 32 := Scalar.divsi v1977 c1_i32_494
  let v1980 : BitVec 32 := Scalar.muli v1979 c1_i32_494
  let v1981 : BitVec 32 := Scalar.addi c0_i32_493 v1980
  let c1_i32_495 : BitVec 32 := 1#32
  ⟨c0_i32_493, v1981, c1_i32_495⟩
def k0_mult157 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  v2006
def k0_off46 (i : grid0.Coords) : Fin 3 → Nat :=
  let c0_506 : Index := 0#32
  let c0_507 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2008 : Index := Scalar.indexCast v2007
  ![0, 0, v2008.toNat]
def k0_off47 (i : grid0.Coords) : Fin 3 → Nat :=
  let c0_542 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2064 : Index := Scalar.indexCast v2007
  ![0, 80, v2064.toNat]
@[reducible] def k0_t36_loop (i : grid0.Coords) : Scf.Loop 32 :=
  let c0_i32_493 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_491 : BitVec 32 := 1#32
  let v1976 : BitVec 32 := Scalar.minsi v21 c1_i32_491
  let v1977 : BitVec 32 := Scalar.subi v1976 c0_i32_493
  let c1_i32_494 : BitVec 32 := 1#32
  let v1979 : BitVec 32 := Scalar.divsi v1977 c1_i32_494
  let v1980 : BitVec 32 := Scalar.muli v1979 c1_i32_494
  let v1981 : BitVec 32 := Scalar.addi c0_i32_493 v1980
  let v1978 : BitVec 32 := Scalar.addi c0_i32_493 v1977
  let c1_i32_496 : BitVec 32 := 1#32
  ⟨v1981, v1978, c1_i32_496⟩
def k0_mult158 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  v2006
def k0_off48 (i : grid0.Coords) : Fin 3 → Nat :=
  let c0_506 : Index := 0#32
  let c0_507 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2008 : Index := Scalar.indexCast v2007
  ![0, 0, v2008.toNat]
def k0_off49 (i : grid0.Coords) : Fin 3 → Nat :=
  let c0_542 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2064 : Index := Scalar.indexCast v2007
  ![0, 80, v2064.toNat]
@[reducible] def k0_t37_loop (i : grid0.Coords) : Scf.Loop 32 :=
  let c0_i32_141 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v410 : BitVec 32 := Scalar.muli v194 v395
  let v411 : BitVec 32 := Scalar.subi v410 c0_i32_141
  let c1_i32_142 : BitVec 32 := 1#32
  let v413 : BitVec 32 := Scalar.divsi v411 c1_i32_142
  let v414 : BitVec 32 := Scalar.muli v413 c1_i32_142
  let v415 : BitVec 32 := Scalar.addi c0_i32_141 v414
  let v412 : BitVec 32 := Scalar.addi c0_i32_141 v411
  let c1_i32_144 : BitVec 32 := 1#32
  ⟨v415, v412, c1_i32_144⟩
def k0_mult159 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_226 : BitVec 32 := 0#32
  let v523 : BitVec 32 := Scalar.addi v195 c0_i32_226
  let c256_i32_227 : BitVec 32 := 256#32
  let v524 : BitVec 32 := Scalar.muli v523 c256_i32_227
  v524
def k0_off50 (i : grid0.Coords) (c0_i32_226 : BitVec 32) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v523 : BitVec 32 := Scalar.addi v195 c0_i32_226
  let c256_i32_227 : BitVec 32 := 256#32
  let v524 : BitVec 32 := Scalar.muli v523 c256_i32_227
  let v525 : BitVec 32 := v524
  let v526 : Index := Scalar.indexCast v525
  let c0_228 : Index := 0#32
  ![v526.toNat, 0]
def k0_mult160 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_240 : BitVec 32 := 0#32
  let v549 : BitVec 32 := Scalar.addi v195 c0_i32_240
  let c256_i32_241 : BitVec 32 := 256#32
  let v550 : BitVec 32 := Scalar.muli v549 c256_i32_241
  v550
def k0_off51 (i : grid0.Coords) (c0_i32_240 : BitVec 32) : Fin 3 → Nat :=
  let c0_242 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v549 : BitVec 32 := Scalar.addi v195 c0_i32_240
  let c256_i32_241 : BitVec 32 := 256#32
  let v550 : BitVec 32 := Scalar.muli v549 c256_i32_241
  let v551 : BitVec 32 := v550
  let v552 : Index := Scalar.indexCast v551
  let c0_243 : Index := 0#32
  ![0, v552.toNat, 0]
def k0_mult161 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_263 : BitVec 32 := 0#32
  let v712 : BitVec 32 := Scalar.addi v195 c0_i32_263
  let c256_i32_264 : BitVec 32 := 256#32
  let v713 : BitVec 32 := Scalar.muli v712 c256_i32_264
  v713
def k0_mult162 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_286 : BitVec 32 := 0#32
  let v875 : BitVec 32 := Scalar.addi v195 c0_i32_286
  let c256_i32_287 : BitVec 32 := 256#32
  let v876 : BitVec 32 := Scalar.muli v875 c256_i32_287
  v876
def k0_off52 (i : grid0.Coords) (c0_i32_286 : BitVec 32) : Fin 3 → Nat :=
  let c0_288 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v875 : BitVec 32 := Scalar.addi v195 c0_i32_286
  let c256_i32_287 : BitVec 32 := 256#32
  let v876 : BitVec 32 := Scalar.muli v875 c256_i32_287
  let v877 : BitVec 32 := v876
  let v878 : Index := Scalar.indexCast v877
  let c128_289 : Index := 128#32
  ![0, v878.toNat, 128]
def k0_mult163 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_309 : BitVec 32 := 0#32
  let v1038 : BitVec 32 := Scalar.addi v195 c0_i32_309
  let c256_i32_310 : BitVec 32 := 256#32
  let v1039 : BitVec 32 := Scalar.muli v1038 c256_i32_310
  v1039
def k0_mult164 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_323 : BitVec 32 := 1#32
  let v1185 : BitVec 32 := Scalar.addi v195 c1_i32_323
  let c256_i32_324 : BitVec 32 := 256#32
  let v1186 : BitVec 32 := Scalar.muli v1185 c256_i32_324
  v1186
def k0_mult165 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_337 : BitVec 32 := 1#32
  let v1211 : BitVec 32 := Scalar.addi v195 c1_i32_337
  let c256_i32_338 : BitVec 32 := 256#32
  let v1212 : BitVec 32 := Scalar.muli v1211 c256_i32_338
  v1212
def k0_mult166 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_360 : BitVec 32 := 1#32
  let v1374 : BitVec 32 := Scalar.addi v195 c1_i32_360
  let c256_i32_361 : BitVec 32 := 256#32
  let v1375 : BitVec 32 := Scalar.muli v1374 c256_i32_361
  v1375
def k0_mult167 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_383 : BitVec 32 := 1#32
  let v1537 : BitVec 32 := Scalar.addi v195 c1_i32_383
  let c256_i32_384 : BitVec 32 := 256#32
  let v1538 : BitVec 32 := Scalar.muli v1537 c256_i32_384
  v1538
def k0_mult168 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_406 : BitVec 32 := 1#32
  let v1700 : BitVec 32 := Scalar.addi v195 c1_i32_406
  let c256_i32_407 : BitVec 32 := 256#32
  let v1701 : BitVec 32 := Scalar.muli v1700 c256_i32_407
  v1701
@[reducible] def k0_t38_loop (i : grid0.Coords) : Scf.Loop 32 :=
  let c0_i32_493 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_491 : BitVec 32 := 1#32
  let v1976 : BitVec 32 := Scalar.minsi v21 c1_i32_491
  let v1977 : BitVec 32 := Scalar.subi v1976 c0_i32_493
  let c1_i32_494 : BitVec 32 := 1#32
  let v1979 : BitVec 32 := Scalar.divsi v1977 c1_i32_494
  let v1980 : BitVec 32 := Scalar.muli v1979 c1_i32_494
  let v1981 : BitVec 32 := Scalar.addi c0_i32_493 v1980
  let c1_i32_495 : BitVec 32 := 1#32
  ⟨c0_i32_493, v1981, c1_i32_495⟩
def k0_mult169 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  v2006
def k0_off53 (i : grid0.Coords) : Fin 3 → Nat :=
  let c0_506 : Index := 0#32
  let c0_507 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2008 : Index := Scalar.indexCast v2007
  ![0, 0, v2008.toNat]
def k0_off54 (i : grid0.Coords) : Fin 3 → Nat :=
  let c0_542 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2064 : Index := Scalar.indexCast v2007
  ![0, 80, v2064.toNat]
@[reducible] def k0_t39_loop (i : grid0.Coords) : Scf.Loop 32 :=
  let c0_i32_493 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_491 : BitVec 32 := 1#32
  let v1976 : BitVec 32 := Scalar.minsi v21 c1_i32_491
  let v1977 : BitVec 32 := Scalar.subi v1976 c0_i32_493
  let c1_i32_494 : BitVec 32 := 1#32
  let v1979 : BitVec 32 := Scalar.divsi v1977 c1_i32_494
  let v1980 : BitVec 32 := Scalar.muli v1979 c1_i32_494
  let v1981 : BitVec 32 := Scalar.addi c0_i32_493 v1980
  let v1978 : BitVec 32 := Scalar.addi c0_i32_493 v1977
  let c1_i32_496 : BitVec 32 := 1#32
  ⟨v1981, v1978, c1_i32_496⟩
def k0_mult170 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  v2006
def k0_off55 (i : grid0.Coords) : Fin 3 → Nat :=
  let c0_506 : Index := 0#32
  let c0_507 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2008 : Index := Scalar.indexCast v2007
  ![0, 0, v2008.toNat]
def k0_off56 (i : grid0.Coords) : Fin 3 → Nat :=
  let c0_542 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_490 : BitVec 32 := 4#32
  let v1975 : BitVec 32 := Scalar.subi v195 c4_i32_490
  let c256_i32_505 : BitVec 32 := 256#32
  let v2006 : BitVec 32 := Scalar.muli v1975 c256_i32_505
  let v2007 : BitVec 32 := v2006
  let v2064 : Index := Scalar.indexCast v2007
  ![0, 80, v2064.toNat]
@[reducible] def k0_t40_loop (i : grid0.Coords) : Scf.Loop 32 :=
  let c0_i32_146 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let c1_i32_145 : BitVec 32 := 1#32
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v418 : BitVec 32 := Scalar.subi c1_i32_145 v395
  let v419 : BitVec 32 := Scalar.muli v194 v418
  let v420 : BitVec 32 := Scalar.subi v419 c0_i32_146
  let c1_i32_147 : BitVec 32 := 1#32
  let v422 : BitVec 32 := Scalar.divsi v420 c1_i32_147
  let v423 : BitVec 32 := Scalar.muli v422 c1_i32_147
  let v424 : BitVec 32 := Scalar.addi c0_i32_146 v423
  let c1_i32_148 : BitVec 32 := 1#32
  ⟨c0_i32_146, v424, c1_i32_148⟩
def k0_mult171 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_226 : BitVec 32 := 0#32
  let v523 : BitVec 32 := Scalar.addi v195 c0_i32_226
  let c256_i32_227 : BitVec 32 := 256#32
  let v524 : BitVec 32 := Scalar.muli v523 c256_i32_227
  v524
def k0_off57 (i : grid0.Coords) (c0_i32_226 : BitVec 32) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v523 : BitVec 32 := Scalar.addi v195 c0_i32_226
  let c256_i32_227 : BitVec 32 := 256#32
  let v524 : BitVec 32 := Scalar.muli v523 c256_i32_227
  let v525 : BitVec 32 := v524
  let v526 : Index := Scalar.indexCast v525
  let c0_228 : Index := 0#32
  ![v526.toNat, 0]
def k0_mult172 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_231 : BitVec 32 := 0#32
  let v533 : BitVec 32 := Scalar.addi v195 c0_i32_231
  let c256_i32_232 : BitVec 32 := 256#32
  let v534 : BitVec 32 := Scalar.muli v533 c256_i32_232
  v534
def k0_off58 (i : grid0.Coords) (c0_i32_231 : BitVec 32) : Fin 3 → Nat :=
  let c0_233 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v533 : BitVec 32 := Scalar.addi v195 c0_i32_231
  let c256_i32_232 : BitVec 32 := 256#32
  let v534 : BitVec 32 := Scalar.muli v533 c256_i32_232
  let v535 : BitVec 32 := v534
  let v536 : Index := Scalar.indexCast v535
  let c0_234 : Index := 0#32
  ![0, v536.toNat, 0]
def k0_mult173 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_245 : BitVec 32 := 0#32
  let v680 : BitVec 32 := Scalar.addi v195 c0_i32_245
  let c256_i32_246 : BitVec 32 := 256#32
  let v681 : BitVec 32 := Scalar.muli v680 c256_i32_246
  v681
def k0_mult174 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_259 : BitVec 32 := 0#32
  let v827 : BitVec 32 := Scalar.addi v195 c0_i32_259
  let c256_i32_260 : BitVec 32 := 256#32
  let v828 : BitVec 32 := Scalar.muli v827 c256_i32_260
  v828
def k0_off59 (i : grid0.Coords) (c0_i32_259 : BitVec 32) : Fin 3 → Nat :=
  let c0_261 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v827 : BitVec 32 := Scalar.addi v195 c0_i32_259
  let c256_i32_260 : BitVec 32 := 256#32
  let v828 : BitVec 32 := Scalar.muli v827 c256_i32_260
  let v829 : BitVec 32 := v828
  let v830 : Index := Scalar.indexCast v829
  let c128_262 : Index := 128#32
  ![0, v830.toNat, 128]
def k0_mult175 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_273 : BitVec 32 := 0#32
  let v974 : BitVec 32 := Scalar.addi v195 c0_i32_273
  let c256_i32_274 : BitVec 32 := 256#32
  let v975 : BitVec 32 := Scalar.muli v974 c256_i32_274
  v975
def k0_mult176 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_287 : BitVec 32 := 1#32
  let v1121 : BitVec 32 := Scalar.addi v195 c1_i32_287
  let c256_i32_288 : BitVec 32 := 256#32
  let v1122 : BitVec 32 := Scalar.muli v1121 c256_i32_288
  v1122
def k0_mult177 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_292 : BitVec 32 := 1#32
  let v1131 : BitVec 32 := Scalar.addi v195 c1_i32_292
  let c256_i32_293 : BitVec 32 := 256#32
  let v1132 : BitVec 32 := Scalar.muli v1131 c256_i32_293
  v1132
def k0_mult178 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_306 : BitVec 32 := 1#32
  let v1278 : BitVec 32 := Scalar.addi v195 c1_i32_306
  let c256_i32_307 : BitVec 32 := 256#32
  let v1279 : BitVec 32 := Scalar.muli v1278 c256_i32_307
  v1279
def k0_mult179 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_320 : BitVec 32 := 1#32
  let v1425 : BitVec 32 := Scalar.addi v195 c1_i32_320
  let c256_i32_321 : BitVec 32 := 256#32
  let v1426 : BitVec 32 := Scalar.muli v1425 c256_i32_321
  v1426
def k0_mult180 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_334 : BitVec 32 := 1#32
  let v1572 : BitVec 32 := Scalar.addi v195 c1_i32_334
  let c256_i32_335 : BitVec 32 := 256#32
  let v1573 : BitVec 32 := Scalar.muli v1572 c256_i32_335
  v1573
@[reducible] def k0_t41_loop (i : grid0.Coords) : Scf.Loop 32 :=
  let c0_i32_146 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let c1_i32_145 : BitVec 32 := 1#32
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v418 : BitVec 32 := Scalar.subi c1_i32_145 v395
  let v419 : BitVec 32 := Scalar.muli v194 v418
  let v420 : BitVec 32 := Scalar.subi v419 c0_i32_146
  let c1_i32_147 : BitVec 32 := 1#32
  let v422 : BitVec 32 := Scalar.divsi v420 c1_i32_147
  let v423 : BitVec 32 := Scalar.muli v422 c1_i32_147
  let v424 : BitVec 32 := Scalar.addi c0_i32_146 v423
  let v421 : BitVec 32 := Scalar.addi c0_i32_146 v420
  let c1_i32_149 : BitVec 32 := 1#32
  ⟨v424, v421, c1_i32_149⟩
def k0_mult181 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_226 : BitVec 32 := 0#32
  let v523 : BitVec 32 := Scalar.addi v195 c0_i32_226
  let c256_i32_227 : BitVec 32 := 256#32
  let v524 : BitVec 32 := Scalar.muli v523 c256_i32_227
  v524
def k0_off60 (i : grid0.Coords) (c0_i32_226 : BitVec 32) : Fin 2 → Nat :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v523 : BitVec 32 := Scalar.addi v195 c0_i32_226
  let c256_i32_227 : BitVec 32 := 256#32
  let v524 : BitVec 32 := Scalar.muli v523 c256_i32_227
  let v525 : BitVec 32 := v524
  let v526 : Index := Scalar.indexCast v525
  let c0_228 : Index := 0#32
  ![v526.toNat, 0]
def k0_mult182 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_231 : BitVec 32 := 0#32
  let v533 : BitVec 32 := Scalar.addi v195 c0_i32_231
  let c256_i32_232 : BitVec 32 := 256#32
  let v534 : BitVec 32 := Scalar.muli v533 c256_i32_232
  v534
def k0_off61 (i : grid0.Coords) (c0_i32_231 : BitVec 32) : Fin 3 → Nat :=
  let c0_233 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v533 : BitVec 32 := Scalar.addi v195 c0_i32_231
  let c256_i32_232 : BitVec 32 := 256#32
  let v534 : BitVec 32 := Scalar.muli v533 c256_i32_232
  let v535 : BitVec 32 := v534
  let v536 : Index := Scalar.indexCast v535
  let c0_234 : Index := 0#32
  ![0, v536.toNat, 0]
def k0_mult183 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_245 : BitVec 32 := 0#32
  let v680 : BitVec 32 := Scalar.addi v195 c0_i32_245
  let c256_i32_246 : BitVec 32 := 256#32
  let v681 : BitVec 32 := Scalar.muli v680 c256_i32_246
  v681
def k0_mult184 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_259 : BitVec 32 := 0#32
  let v827 : BitVec 32 := Scalar.addi v195 c0_i32_259
  let c256_i32_260 : BitVec 32 := 256#32
  let v828 : BitVec 32 := Scalar.muli v827 c256_i32_260
  v828
def k0_off62 (i : grid0.Coords) (c0_i32_259 : BitVec 32) : Fin 3 → Nat :=
  let c0_261 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let v827 : BitVec 32 := Scalar.addi v195 c0_i32_259
  let c256_i32_260 : BitVec 32 := 256#32
  let v828 : BitVec 32 := Scalar.muli v827 c256_i32_260
  let v829 : BitVec 32 := v828
  let v830 : Index := Scalar.indexCast v829
  let c128_262 : Index := 128#32
  ![0, v830.toNat, 128]
def k0_mult185 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c0_i32_273 : BitVec 32 := 0#32
  let v974 : BitVec 32 := Scalar.addi v195 c0_i32_273
  let c256_i32_274 : BitVec 32 := 256#32
  let v975 : BitVec 32 := Scalar.muli v974 c256_i32_274
  v975
def k0_mult186 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_287 : BitVec 32 := 1#32
  let v1121 : BitVec 32 := Scalar.addi v195 c1_i32_287
  let c256_i32_288 : BitVec 32 := 256#32
  let v1122 : BitVec 32 := Scalar.muli v1121 c256_i32_288
  v1122
def k0_mult187 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_292 : BitVec 32 := 1#32
  let v1131 : BitVec 32 := Scalar.addi v195 c1_i32_292
  let c256_i32_293 : BitVec 32 := 256#32
  let v1132 : BitVec 32 := Scalar.muli v1131 c256_i32_293
  v1132
def k0_mult188 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_306 : BitVec 32 := 1#32
  let v1278 : BitVec 32 := Scalar.addi v195 c1_i32_306
  let c256_i32_307 : BitVec 32 := 256#32
  let v1279 : BitVec 32 := Scalar.muli v1278 c256_i32_307
  v1279
def k0_mult189 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_320 : BitVec 32 := 1#32
  let v1425 : BitVec 32 := Scalar.addi v195 c1_i32_320
  let c256_i32_321 : BitVec 32 := 256#32
  let v1426 : BitVec 32 := Scalar.muli v1425 c256_i32_321
  v1426
def k0_mult190 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c1_i32_334 : BitVec 32 := 1#32
  let v1572 : BitVec 32 := Scalar.addi v195 c1_i32_334
  let c256_i32_335 : BitVec 32 := 256#32
  let v1573 : BitVec 32 := Scalar.muli v1572 c256_i32_335
  v1573
@[reducible] def k0_t42_loop (i : grid0.Coords) : Scf.Loop 32 :=
  let c0_i32_151 : BitVec 32 := 0#32
  let c1_i32_150 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let v427 : BitVec 32 := Scalar.subi c1_i32_150 v194
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v428 : BitVec 32 := Scalar.muli v427 v395
  let v429 : BitVec 32 := Scalar.subi v428 c0_i32_151
  let c1_i32_152 : BitVec 32 := 1#32
  let v431 : BitVec 32 := Scalar.divsi v429 c1_i32_152
  let v432 : BitVec 32 := Scalar.muli v431 c1_i32_152
  let v433 : BitVec 32 := Scalar.addi c0_i32_151 v432
  let c1_i32_153 : BitVec 32 := 1#32
  ⟨c0_i32_151, v433, c1_i32_153⟩
@[reducible] def k0_t43_loop (i : grid0.Coords) : Scf.Loop 32 :=
  let c0_i32_371 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_369 : BitVec 32 := 1#32
  let v780 : BitVec 32 := Scalar.minsi v21 c1_i32_369
  let v781 : BitVec 32 := Scalar.subi v780 c0_i32_371
  let c1_i32_372 : BitVec 32 := 1#32
  let v783 : BitVec 32 := Scalar.divsi v781 c1_i32_372
  let v784 : BitVec 32 := Scalar.muli v783 c1_i32_372
  let v785 : BitVec 32 := Scalar.addi c0_i32_371 v784
  let c1_i32_373 : BitVec 32 := 1#32
  ⟨c0_i32_371, v785, c1_i32_373⟩
def k0_mult191 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  v786
def k0_off63 (i : grid0.Coords) : Fin 3 → Nat :=
  let c0_376 : Index := 0#32
  let c0_377 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v788 : Index := Scalar.indexCast v787
  ![0, 0, v788.toNat]
def k0_off64 (i : grid0.Coords) : Fin 3 → Nat :=
  let c0_412 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v844 : Index := Scalar.indexCast v787
  ![0, 80, v844.toNat]
@[reducible] def k0_t44_loop (i : grid0.Coords) : Scf.Loop 32 :=
  let c0_i32_371 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_369 : BitVec 32 := 1#32
  let v780 : BitVec 32 := Scalar.minsi v21 c1_i32_369
  let v781 : BitVec 32 := Scalar.subi v780 c0_i32_371
  let c1_i32_372 : BitVec 32 := 1#32
  let v783 : BitVec 32 := Scalar.divsi v781 c1_i32_372
  let v784 : BitVec 32 := Scalar.muli v783 c1_i32_372
  let v785 : BitVec 32 := Scalar.addi c0_i32_371 v784
  let v782 : BitVec 32 := Scalar.addi c0_i32_371 v781
  let c1_i32_374 : BitVec 32 := 1#32
  ⟨v785, v782, c1_i32_374⟩
def k0_mult192 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  v786
def k0_off65 (i : grid0.Coords) : Fin 3 → Nat :=
  let c0_376 : Index := 0#32
  let c0_377 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v788 : Index := Scalar.indexCast v787
  ![0, 0, v788.toNat]
def k0_off66 (i : grid0.Coords) : Fin 3 → Nat :=
  let c0_412 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v844 : Index := Scalar.indexCast v787
  ![0, 80, v844.toNat]
@[reducible] def k0_t45_loop (i : grid0.Coords) : Scf.Loop 32 :=
  let c0_i32_151 : BitVec 32 := 0#32
  let c1_i32_150 : BitVec 32 := 1#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let v427 : BitVec 32 := Scalar.subi c1_i32_150 v194
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c1_i32_132 : BitVec 32 := 1#32
  let v395 : BitVec 32 := Scalar.minsi v166 c1_i32_132
  let v428 : BitVec 32 := Scalar.muli v427 v395
  let v429 : BitVec 32 := Scalar.subi v428 c0_i32_151
  let c1_i32_152 : BitVec 32 := 1#32
  let v431 : BitVec 32 := Scalar.divsi v429 c1_i32_152
  let v432 : BitVec 32 := Scalar.muli v431 c1_i32_152
  let v433 : BitVec 32 := Scalar.addi c0_i32_151 v432
  let v430 : BitVec 32 := Scalar.addi c0_i32_151 v429
  let c1_i32_154 : BitVec 32 := 1#32
  ⟨v433, v430, c1_i32_154⟩
@[reducible] def k0_t46_loop (i : grid0.Coords) : Scf.Loop 32 :=
  let c0_i32_371 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_369 : BitVec 32 := 1#32
  let v780 : BitVec 32 := Scalar.minsi v21 c1_i32_369
  let v781 : BitVec 32 := Scalar.subi v780 c0_i32_371
  let c1_i32_372 : BitVec 32 := 1#32
  let v783 : BitVec 32 := Scalar.divsi v781 c1_i32_372
  let v784 : BitVec 32 := Scalar.muli v783 c1_i32_372
  let v785 : BitVec 32 := Scalar.addi c0_i32_371 v784
  let c1_i32_373 : BitVec 32 := 1#32
  ⟨c0_i32_371, v785, c1_i32_373⟩
def k0_mult193 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  v786
def k0_off67 (i : grid0.Coords) : Fin 3 → Nat :=
  let c0_376 : Index := 0#32
  let c0_377 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v788 : Index := Scalar.indexCast v787
  ![0, 0, v788.toNat]
def k0_off68 (i : grid0.Coords) : Fin 3 → Nat :=
  let c0_412 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v844 : Index := Scalar.indexCast v787
  ![0, 80, v844.toNat]
@[reducible] def k0_t47_loop (i : grid0.Coords) : Scf.Loop 32 :=
  let c0_i32_371 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_369 : BitVec 32 := 1#32
  let v780 : BitVec 32 := Scalar.minsi v21 c1_i32_369
  let v781 : BitVec 32 := Scalar.subi v780 c0_i32_371
  let c1_i32_372 : BitVec 32 := 1#32
  let v783 : BitVec 32 := Scalar.divsi v781 c1_i32_372
  let v784 : BitVec 32 := Scalar.muli v783 c1_i32_372
  let v785 : BitVec 32 := Scalar.addi c0_i32_371 v784
  let v782 : BitVec 32 := Scalar.addi c0_i32_371 v781
  let c1_i32_374 : BitVec 32 := 1#32
  ⟨v785, v782, c1_i32_374⟩
def k0_mult194 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  v786
def k0_off69 (i : grid0.Coords) : Fin 3 → Nat :=
  let c0_376 : Index := 0#32
  let c0_377 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v788 : Index := Scalar.indexCast v787
  ![0, 0, v788.toNat]
def k0_off70 (i : grid0.Coords) : Fin 3 → Nat :=
  let c0_412 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c4_i32_368 : BitVec 32 := 4#32
  let v779 : BitVec 32 := Scalar.subi v195 c4_i32_368
  let c256_i32_375 : BitVec 32 := 256#32
  let v786 : BitVec 32 := Scalar.muli v779 c256_i32_375
  let v787 : BitVec 32 := v786
  let v844 : Index := Scalar.indexCast v787
  ![0, 80, v844.toNat]
@[reducible] def k0_t48_loop (i : grid0.Coords) : Scf.Loop 32 :=
  let c0_i32_155 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let v436 : BitVec 32 := Scalar.subi v194 c0_i32_155
  let c1_i32_156 : BitVec 32 := 1#32
  let v438 : BitVec 32 := Scalar.divsi v436 c1_i32_156
  let v439 : BitVec 32 := Scalar.muli v438 c1_i32_156
  let v440 : BitVec 32 := Scalar.addi c0_i32_155 v439
  let c1_i32_157 : BitVec 32 := 1#32
  ⟨c0_i32_155, v440, c1_i32_157⟩
@[reducible] def k0_t49_loop (i : grid0.Coords) : Scf.Loop 32 :=
  let c0_i32_300 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_298 : BitVec 32 := 1#32
  let v651 : BitVec 32 := Scalar.minsi v21 c1_i32_298
  let v652 : BitVec 32 := Scalar.subi v651 c0_i32_300
  let c1_i32_301 : BitVec 32 := 1#32
  let v654 : BitVec 32 := Scalar.divsi v652 c1_i32_301
  let v655 : BitVec 32 := Scalar.muli v654 c1_i32_301
  let v656 : BitVec 32 := Scalar.addi c0_i32_300 v655
  let c1_i32_302 : BitVec 32 := 1#32
  ⟨c0_i32_300, v656, c1_i32_302⟩
def k0_mult195 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  v657
def k0_off71 (i : grid0.Coords) : Fin 3 → Nat :=
  let c0_305 : Index := 0#32
  let c0_306 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v659 : Index := Scalar.indexCast v658
  ![0, 0, v659.toNat]
def k0_off72 (i : grid0.Coords) : Fin 3 → Nat :=
  let c0_341 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v715 : Index := Scalar.indexCast v658
  ![0, 80, v715.toNat]
@[reducible] def k0_t50_loop (i : grid0.Coords) : Scf.Loop 32 :=
  let c0_i32_300 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_298 : BitVec 32 := 1#32
  let v651 : BitVec 32 := Scalar.minsi v21 c1_i32_298
  let v652 : BitVec 32 := Scalar.subi v651 c0_i32_300
  let c1_i32_301 : BitVec 32 := 1#32
  let v654 : BitVec 32 := Scalar.divsi v652 c1_i32_301
  let v655 : BitVec 32 := Scalar.muli v654 c1_i32_301
  let v656 : BitVec 32 := Scalar.addi c0_i32_300 v655
  let v653 : BitVec 32 := Scalar.addi c0_i32_300 v652
  let c1_i32_303 : BitVec 32 := 1#32
  ⟨v656, v653, c1_i32_303⟩
def k0_mult196 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  v657
def k0_off73 (i : grid0.Coords) : Fin 3 → Nat :=
  let c0_305 : Index := 0#32
  let c0_306 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v659 : Index := Scalar.indexCast v658
  ![0, 0, v659.toNat]
def k0_off74 (i : grid0.Coords) : Fin 3 → Nat :=
  let c0_341 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v715 : Index := Scalar.indexCast v658
  ![0, 80, v715.toNat]
@[reducible] def k0_t51_loop (i : grid0.Coords) : Scf.Loop 32 :=
  let c0_i32_155 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_73 : BitVec 32 := 1#32
  let v167 : BitVec 32 := Scalar.addi v21 c1_i32_73
  let c4_i32_74 : BitVec 32 := 4#32
  let c0_i32_75 : BitVec 32 := 0#32
  let v168 : BitVec 1 := Scalar.cmpi .eq c4_i32_74 c0_i32_75
  let c1_i32_76 : BitVec 32 := 1#32
  let v169 : BitVec 32 := Scalar.select v168 c1_i32_76 c4_i32_74
  let v170 : BitVec 32 := Scalar.remsi v167 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  let c0_i32_80 : BitVec 32 := 0#32
  let v179 : BitVec 1 := Scalar.cmpi .sgt v177 c0_i32_80
  let v180 : BitVec 32 := Scalar.extui v179
  let c0_i32_81 : BitVec 32 := 0#32
  let v181 : BitVec 1 := Scalar.cmpi .slt v177 c0_i32_81
  let v182 : BitVec 32 := Scalar.extui v181
  let v183 : BitVec 32 := Scalar.subi v180 v182
  let c2_i32 : BitVec 32 := 2#32
  let c0_i32_82 : BitVec 32 := 0#32
  let v184 : BitVec 1 := Scalar.cmpi .sgt c2_i32 c0_i32_82
  let v185 : BitVec 32 := Scalar.extui v184
  let c0_i32_83 : BitVec 32 := 0#32
  let v186 : BitVec 1 := Scalar.cmpi .slt c2_i32 c0_i32_83
  let v187 : BitVec 32 := Scalar.extui v186
  let v188 : BitVec 32 := Scalar.subi v185 v187
  let v189 : BitVec 1 := Scalar.cmpi .ne v183 v188
  let v190 : BitVec 32 := Scalar.remsi v177 c2_i32
  let c0_i32_84 : BitVec 32 := 0#32
  let v191 : BitVec 1 := Scalar.cmpi .ne v190 c0_i32_84
  let v192 : BitVec 1 := Scalar.andi v189 v191
  let v178 : BitVec 32 := Scalar.divsi v177 c2_i32
  let c1_i32_85 : BitVec 32 := 1#32
  let v193 : BitVec 32 := Scalar.subi v178 c1_i32_85
  let v194 : BitVec 32 := Scalar.select v192 v193 v178
  let v436 : BitVec 32 := Scalar.subi v194 c0_i32_155
  let c1_i32_156 : BitVec 32 := 1#32
  let v438 : BitVec 32 := Scalar.divsi v436 c1_i32_156
  let v439 : BitVec 32 := Scalar.muli v438 c1_i32_156
  let v440 : BitVec 32 := Scalar.addi c0_i32_155 v439
  let v437 : BitVec 32 := Scalar.addi c0_i32_155 v436
  let c1_i32_158 : BitVec 32 := 1#32
  ⟨v440, v437, c1_i32_158⟩
@[reducible] def k0_t52_loop (i : grid0.Coords) : Scf.Loop 32 :=
  let c0_i32_300 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_298 : BitVec 32 := 1#32
  let v651 : BitVec 32 := Scalar.minsi v21 c1_i32_298
  let v652 : BitVec 32 := Scalar.subi v651 c0_i32_300
  let c1_i32_301 : BitVec 32 := 1#32
  let v654 : BitVec 32 := Scalar.divsi v652 c1_i32_301
  let v655 : BitVec 32 := Scalar.muli v654 c1_i32_301
  let v656 : BitVec 32 := Scalar.addi c0_i32_300 v655
  let c1_i32_302 : BitVec 32 := 1#32
  ⟨c0_i32_300, v656, c1_i32_302⟩
def k0_mult197 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  v657
def k0_off75 (i : grid0.Coords) : Fin 3 → Nat :=
  let c0_305 : Index := 0#32
  let c0_306 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v659 : Index := Scalar.indexCast v658
  ![0, 0, v659.toNat]
def k0_off76 (i : grid0.Coords) : Fin 3 → Nat :=
  let c0_341 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v715 : Index := Scalar.indexCast v658
  ![0, 80, v715.toNat]
@[reducible] def k0_t53_loop (i : grid0.Coords) : Scf.Loop 32 :=
  let c0_i32_300 : BitVec 32 := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_298 : BitVec 32 := 1#32
  let v651 : BitVec 32 := Scalar.minsi v21 c1_i32_298
  let v652 : BitVec 32 := Scalar.subi v651 c0_i32_300
  let c1_i32_301 : BitVec 32 := 1#32
  let v654 : BitVec 32 := Scalar.divsi v652 c1_i32_301
  let v655 : BitVec 32 := Scalar.muli v654 c1_i32_301
  let v656 : BitVec 32 := Scalar.addi c0_i32_300 v655
  let v653 : BitVec 32 := Scalar.addi c0_i32_300 v652
  let c1_i32_303 : BitVec 32 := 1#32
  ⟨v656, v653, c1_i32_303⟩
def k0_mult198 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  v657
def k0_off77 (i : grid0.Coords) : Fin 3 → Nat :=
  let c0_305 : Index := 0#32
  let c0_306 : Index := 0#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v659 : Index := Scalar.indexCast v658
  ![0, 0, v659.toNat]
def k0_off78 (i : grid0.Coords) : Fin 3 → Nat :=
  let c0_341 : Index := 0#32
  let c80 : Index := 80#32
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  let c256_i32_0 : BitVec 32 := 256#32
  let v2 : BitVec 32 := Scalar.addi v1 c256_i32_0
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.addi v20 c1_i32_7
  let c1_i32_66 : BitVec 32 := 1#32
  let v149 : BitVec 32 := Scalar.addi v21 c1_i32_66
  let c0_i32_67 : BitVec 32 := 0#32
  let v151 : BitVec 1 := Scalar.cmpi .sgt v149 c0_i32_67
  let v152 : BitVec 32 := Scalar.extui v151
  let c0_i32_68 : BitVec 32 := 0#32
  let v153 : BitVec 1 := Scalar.cmpi .slt v149 c0_i32_68
  let v154 : BitVec 32 := Scalar.extui v153
  let v155 : BitVec 32 := Scalar.subi v152 v154
  let c4_i32 : BitVec 32 := 4#32
  let c0_i32_69 : BitVec 32 := 0#32
  let v156 : BitVec 1 := Scalar.cmpi .sgt c4_i32 c0_i32_69
  let v157 : BitVec 32 := Scalar.extui v156
  let c0_i32_70 : BitVec 32 := 0#32
  let v158 : BitVec 1 := Scalar.cmpi .slt c4_i32 c0_i32_70
  let v159 : BitVec 32 := Scalar.extui v158
  let v160 : BitVec 32 := Scalar.subi v157 v159
  let v161 : BitVec 1 := Scalar.cmpi .ne v155 v160
  let v162 : BitVec 32 := Scalar.remsi v149 c4_i32
  let c0_i32_71 : BitVec 32 := 0#32
  let v163 : BitVec 1 := Scalar.cmpi .ne v162 c0_i32_71
  let v164 : BitVec 1 := Scalar.andi v161 v163
  let v150 : BitVec 32 := Scalar.divsi v149 c4_i32
  let c1_i32_72 : BitVec 32 := 1#32
  let v165 : BitVec 32 := Scalar.subi v150 c1_i32_72
  let v166 : BitVec 32 := Scalar.select v164 v165 v150
  let c4_i32_86 : BitVec 32 := 4#32
  let v195 : BitVec 32 := Scalar.muli v166 c4_i32_86
  let c256_i32_304 : BitVec 32 := 256#32
  let v657 : BitVec 32 := Scalar.muli v195 c256_i32_304
  let v658 : BitVec 32 := v657
  let v715 : Index := Scalar.indexCast v658
  ![0, 80, v715.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9216x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x9216x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x160x9216 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6.lean ====
abbrev S16x1024 : Shape := ⟨2, ![16, 1024]⟩
abbrev S1x1024x4936 : Shape := ⟨3, ![1, 1024, 4936]⟩
abbrev S1024x4936 : Shape := ⟨2, ![1024, 4936]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1024x256 : Shape := ⟨2, ![1024, 256]⟩
abbrev S_ : Shape := ⟨0, ![]⟩
abbrev S1024x120 : Shape := ⟨2, ![1024, 120]⟩
abbrev S1024x1792 : Shape := ⟨2, ![1024, 1792]⟩
abbrev S1024x1536 : Shape := ⟨2, ![1024, 1536]⟩
abbrev S1024x2048 : Shape := ⟨2, ![1024, 2048]⟩
abbrev S8208 : Shape := ⟨1, ![8208]⟩
abbrev S32 : Shape := ⟨1, ![32]⟩
abbrev S8208x1 : Shape := ⟨2, ![8208, 1]⟩
abbrev S1x32 : Shape := ⟨2, ![1, 32]⟩
abbrev S8208x32 : Shape := ⟨2, ![8208, 32]⟩
abbrev S1x8208x1x32 : Shape := ⟨4, ![1, 8208, 1, 32]⟩
abbrev S1x8208x4x32 : Shape := ⟨4, ![1, 8208, 4, 32]⟩
abbrev S8208x128 : Shape := ⟨2, ![8208, 128]⟩
abbrev S8208x64 : Shape := ⟨2, ![8208, 64]⟩
abbrev S1x8208x1x64 : Shape := ⟨4, ![1, 8208, 1, 64]⟩
abbrev S1x8208x2x64 : Shape := ⟨4, ![1, 8208, 2, 64]⟩
abbrev S16x128 : Shape := ⟨2, ![16, 128]⟩
abbrev S16x512 : Shape := ⟨2, ![16, 512]⟩
abbrev S16x256 : Shape := ⟨2, ![16, 256]⟩

abbrev nBuf : Space → Nat
  | .hbm => 67
  | .vmem => 14
  | .smem => 0
  | _ => 0

abbrev bufTy : (tb : Table) → Fin (tcTables nBuf tb) → BufTy
  | .hbm, ⟨0, _⟩ => ⟨S16x1024, .f32⟩
  | .hbm, ⟨1, _⟩ => ⟨S1x1024x4936, .f32⟩
  | .hbm, ⟨2, _⟩ => ⟨S1024x4936, .f32⟩
  | .hbm, ⟨3, _⟩ => ⟨S1024x512, .f32⟩
  | .hbm, ⟨4, _⟩ => ⟨S1024x128, .f32⟩
  | .hbm, ⟨5, _⟩ => ⟨S1024x128, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x1024, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x256, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x256, .f32⟩
  | .hbm, ⟨24, _⟩ => ⟨S_, .f32⟩
  | .hbm, ⟨25, _⟩ => ⟨S1024x120, .f32⟩
  | .hbm, ⟨26, _⟩ => ⟨S1024x1792, .f32⟩
  | .hbm, ⟨27, _⟩ => ⟨S1024x1536, .f32⟩
  | .hbm, ⟨28, _⟩ => ⟨S1024x2048, .f32⟩
  | .hbm, ⟨29, _⟩ => ⟨S1024x1792, .bf16⟩
  | .hbm, ⟨30, _⟩ => ⟨S1024x1536, .bf16⟩
  | .hbm, ⟨31, _⟩ => ⟨S1024x2048, .bf16⟩
  | .hbm, ⟨32, _⟩ => ⟨S8208, .i32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S8208, .f32⟩
  | .hbm, ⟨42, _⟩ => ⟨S8208x1, .f32⟩
  | .hbm, ⟨43, _⟩ => ⟨S1x32, .f32⟩
  | .hbm, ⟨44, _⟩ => ⟨S8208x32, .f32⟩
  | .hbm, ⟨45, _⟩ => ⟨S8208x32, .f32⟩
  | .hbm, ⟨46, _⟩ => ⟨S8208x32, .f32⟩
  | .hbm, ⟨47, _⟩ => ⟨S8208x32, .f32⟩
  | .hbm, ⟨48, _⟩ => ⟨S8208x32, .f32⟩
  | .hbm, ⟨49, _⟩ => ⟨S1x8208x1x32, .f32⟩
  | .hbm, ⟨50, _⟩ => ⟨S1x8208x4x32, .f32⟩
  | .hbm, ⟨51, _⟩ => ⟨S8208x128, .f32⟩
  | .hbm, ⟨52, _⟩ => ⟨S8208x32, .f32⟩
  | .hbm, ⟨53, _⟩ => ⟨S8208x64, .f32⟩
  | .hbm, ⟨54, _⟩ => ⟨S1x8208x1x64, .f32⟩
  | .hbm, ⟨55, _⟩ => ⟨S1x8208x2x64, .f32⟩
  | .hbm, ⟨56, _⟩ => ⟨S8208x128, .f32⟩
  | .hbm, ⟨57, _⟩ => ⟨S16x128, .f32⟩
  | .hbm, ⟨58, _⟩ => ⟨S16x128, .f32⟩
  | .hbm, ⟨59, _⟩ => ⟨S16x512, .bf16⟩
  | .hbm, ⟨60, _⟩ => ⟨S16x512, .bf16⟩
  | .hbm, ⟨61, _⟩ => ⟨S16x256, .bf16⟩
  | .hbm, ⟨62, _⟩ => ⟨S16x128, .bf16⟩
  | .hbm, ⟨63, _⟩ => ⟨S16x256, .bf16⟩
  | .hbm, ⟨64, _⟩ => ⟨S16x128, .f32⟩
  | .hbm, ⟨65, _⟩ => ⟨S16x512, .f32⟩
  | .hbm, ⟨66, _⟩ => ⟨S16x512, .f32⟩
  | .local _ .vmem, ⟨0, _⟩ => ⟨S16x1024, .f32⟩
  | .local _ .vmem, ⟨1, _⟩ => ⟨S1024x1792, .bf16⟩
  | .local _ .vmem, ⟨2, _⟩ => ⟨S16x128, .f32⟩
  | .local _ .vmem, ⟨3, _⟩ => ⟨S16x128, .f32⟩
  | .local _ .vmem, ⟨4, _⟩ => ⟨S16x512, .bf16⟩
  | .local _ .vmem, ⟨5, _⟩ => ⟨S16x512, .bf16⟩
  | .local _ .vmem, ⟨6, _⟩ => ⟨S16x256, .bf16⟩
  | .local _ .vmem, ⟨7, _⟩ => ⟨S16x128, .bf16⟩
  | .local _ .vmem, ⟨8, _⟩ => ⟨S16x256, .bf16⟩
  | .local _ .vmem, ⟨9, _⟩ => ⟨S16x128, .f32⟩
  | .local _ .vmem, ⟨10, _⟩ => ⟨S16x1024, .f32⟩
  | .local _ .vmem, ⟨11, _⟩ => ⟨S1024x1536, .bf16⟩
  | .local _ .vmem, ⟨12, _⟩ => ⟨S16x512, .f32⟩
  | .local _ .vmem, ⟨13, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_0 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54_0 : Ref sig .tc := ⟨.hbm, 59, rfl⟩
abbrev main_v54_1 : Ref sig .tc := ⟨.hbm, 60, rfl⟩
abbrev main_v54_2 : Ref sig .tc := ⟨.hbm, 61, rfl⟩
abbrev main_v54_3 : Ref sig .tc := ⟨.hbm, 62, rfl⟩
abbrev main_v54_4 : Ref sig .tc := ⟨.hbm, 63, rfl⟩
abbrev main_v54_5 : Ref sig .tc := ⟨.hbm, 64, rfl⟩
abbrev main_v55_0 : Ref sig .tc := ⟨.hbm, 65, rfl⟩
abbrev main_v55_1 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S16x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]
-- ==== Reference6Ideal.lean ====
abbrev S16x1024 : Shape := ⟨2, ![16, 1024]⟩
abbrev S1x1024x4936 : Shape := ⟨3, ![1, 1024, 4936]⟩
abbrev S16 : Shape := ⟨1, ![16]⟩
abbrev S1x16x1024 : Shape := ⟨3, ![1, 16, 1024]⟩
abbrev S1024x4936 : Shape := ⟨2, ![1024, 4936]⟩
abbrev S1x16x4936 : Shape := ⟨3, ![1, 16, 4936]⟩
abbrev S1x16x512 : Shape := ⟨3, ![1, 16, 512]⟩
abbrev S1x16x128 : Shape := ⟨3, ![1, 16, 128]⟩
abbrev S1x16x64 : Shape := ⟨3, ![1, 16, 64]⟩
abbrev S1x16x8 : Shape := ⟨3, ![1, 16, 8]⟩
abbrev S1x16x2x64 : Shape := ⟨4, ![1, 16, 2, 64]⟩
abbrev S32 : Shape := ⟨1, ![32]⟩
abbrev S_ : Shape := ⟨0, ![]⟩
abbrev S16x1 : Shape := ⟨2, ![16, 1]⟩
abbrev S1x32 : Shape := ⟨2, ![1, 32]⟩
abbrev S16x32 : Shape := ⟨2, ![16, 32]⟩
abbrev S16x1x32 : Shape := ⟨3, ![16, 1, 32]⟩
abbrev S1x16x2x32 : Shape := ⟨4, ![1, 16, 2, 32]⟩
abbrev S1x16x1x32 : Shape := ⟨4, ![1, 16, 1, 32]⟩
abbrev S1x16x1x64 : Shape := ⟨4, ![1, 16, 1, 64]⟩
abbrev S1x16x2x128 : Shape := ⟨4, ![1, 16, 2, 128]⟩
abbrev S16x256 : Shape := ⟨2, ![16, 256]⟩
abbrev S1x16x1x128 : Shape := ⟨4, ![1, 16, 1, 128]⟩
abbrev S16x128 : Shape := ⟨2, ![16, 128]⟩
abbrev S16x512 : Shape := ⟨2, ![16, 512]⟩

abbrev nBuf : Space → Nat
  | .hbm => 97
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x4936, .f32⟩
  | .hbm, ⟨2, _⟩ => ⟨S16, .i32⟩
  | .hbm, ⟨3, _⟩ => ⟨S1x16x1024, .f32⟩
  | .hbm, ⟨4, _⟩ => ⟨S1024x4936, .f32⟩
  | .hbm, ⟨5, _⟩ => ⟨S1x16x4936, .f32⟩
  | .hbm, ⟨6, _⟩ => ⟨S1x16x512, .f32⟩
  | .hbm, ⟨7, _⟩ => ⟨S1x16x128, .f32⟩
  | .hbm, ⟨8, _⟩ => ⟨S1x16x128, .f32⟩
  | .hbm, ⟨9, _⟩ => ⟨S1x16x512, .f32⟩
  | .hbm, ⟨10, _⟩ => ⟨S1x16x64, .f32⟩
  | .hbm, ⟨11, _⟩ => ⟨S1x16x8, .f32⟩
  | .hbm, ⟨12, _⟩ => ⟨S1x16x512, .f32⟩
  | .hbm, ⟨13, _⟩ => ⟨S1x16x512, .f32⟩
  | .hbm, ⟨14, _⟩ => ⟨S1x16x512, .f32⟩
  | .hbm, ⟨15, _⟩ => ⟨S1x16x1024, .f32⟩
  | .hbm, ⟨16, _⟩ => ⟨S1x16x1024, .f32⟩
  | .hbm, ⟨17, _⟩ => ⟨S1x16x2x64, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S16, .f32⟩
  | .hbm, ⟨27, _⟩ => ⟨S16x1, .f32⟩
  | .hbm, ⟨28, _⟩ => ⟨S1x32, .f32⟩
  | .hbm, ⟨29, _⟩ => ⟨S16x32, .f32⟩
  | .hbm, ⟨30, _⟩ => ⟨S16x32, .f32⟩
  | .hbm, ⟨31, _⟩ => ⟨S16x32, .f32⟩
  | .hbm, ⟨32, _⟩ => ⟨S16x32, .f32⟩
  | .hbm, ⟨33, _⟩ => ⟨S16x1x32, .f32⟩
  | .hbm, ⟨34, _⟩ => ⟨S16x32, .f32⟩
  | .hbm, ⟨35, _⟩ => ⟨S16x1x32, .f32⟩
  | .hbm, ⟨36, _⟩ => ⟨S1x16x2x32, .f32⟩
  | .hbm, ⟨37, _⟩ => ⟨S1x16x2x32, .f32⟩
  | .hbm, ⟨38, _⟩ => ⟨S1x16x1x32, .f32⟩
  | .hbm, ⟨39, _⟩ => ⟨S1x16x2x32, .f32⟩
  | .hbm, ⟨40, _⟩ => ⟨S1x16x2x32, .f32⟩
  | .hbm, ⟨41, _⟩ => ⟨S1x16x1x32, .f32⟩
  | .hbm, ⟨42, _⟩ => ⟨S1x16x2x32, .f32⟩
  | .hbm, ⟨43, _⟩ => ⟨S1x16x2x32, .f32⟩
  | .hbm, ⟨44, _⟩ => ⟨S1x16x2x32, .f32⟩
  | .hbm, ⟨45, _⟩ => ⟨S1x16x1x32, .f32⟩
  | .hbm, ⟨46, _⟩ => ⟨S1x16x2x32, .f32⟩
  | .hbm, ⟨47, _⟩ => ⟨S1x16x2x32, .f32⟩
  | .hbm, ⟨48, _⟩ => ⟨S1x16x1x32, .f32⟩
  | .hbm, ⟨49, _⟩ => ⟨S1x16x2x32, .f32⟩
  | .hbm, ⟨50, _⟩ => ⟨S1x16x2x32, .f32⟩
  | .hbm, ⟨51, _⟩ => ⟨S1x16x2x32, .f32⟩
  | .hbm, ⟨52, _⟩ => ⟨S1x16x2x64, .f32⟩
  | .hbm, ⟨53, _⟩ => ⟨S1x16x2x64, .f32⟩
  | .hbm, ⟨54, _⟩ => ⟨S1x16x1x64, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S16, .f32⟩
  | .hbm, ⟨64, _⟩ => ⟨S16x1, .f32⟩
  | .hbm, ⟨65, _⟩ => ⟨S1x32, .f32⟩
  | .hbm, ⟨66, _⟩ => ⟨S16x32, .f32⟩
  | .hbm, ⟨67, _⟩ => ⟨S16x32, .f32⟩
  | .hbm, ⟨68, _⟩ => ⟨S16x32, .f32⟩
  | .hbm, ⟨69, _⟩ => ⟨S16x32, .f32⟩
  | .hbm, ⟨70, _⟩ => ⟨S16x1x32, .f32⟩
  | .hbm, ⟨71, _⟩ => ⟨S16x32, .f32⟩
  | .hbm, ⟨72, _⟩ => ⟨S16x1x32, .f32⟩
  | .hbm, ⟨73, _⟩ => ⟨S1x16x1x32, .f32⟩
  | .hbm, ⟨74, _⟩ => ⟨S1x16x1x32, .f32⟩
  | .hbm, ⟨75, _⟩ => ⟨S1x16x1x32, .f32⟩
  | .hbm, ⟨76, _⟩ => ⟨S1x16x1x32, .f32⟩
  | .hbm, ⟨77, _⟩ => ⟨S1x16x1x32, .f32⟩
  | .hbm, ⟨78, _⟩ => ⟨S1x16x1x32, .f32⟩
  | .hbm, ⟨79, _⟩ => ⟨S1x16x1x32, .f32⟩
  | .hbm, ⟨80, _⟩ => ⟨S1x16x1x32, .f32⟩
  | .hbm, ⟨81, _⟩ => ⟨S1x16x1x32, .f32⟩
  | .hbm, ⟨82, _⟩ => ⟨S1x16x1x32, .f32⟩
  | .hbm, ⟨83, _⟩ => ⟨S1x16x1x32, .f32⟩
  | .hbm, ⟨84, _⟩ => ⟨S1x16x1x32, .f32⟩
  | .hbm, ⟨85, _⟩ => ⟨S1x16x1x64, .f32⟩
  | .hbm, ⟨86, _⟩ => ⟨S1x16x2x128, .f32⟩
  | .hbm, ⟨87, _⟩ => ⟨S16x256, .f32⟩
  | .hbm, ⟨88, _⟩ => ⟨S16x256, .bf16⟩
  | .hbm, ⟨89, _⟩ => ⟨S1x16x1x128, .f32⟩
  | .hbm, ⟨90, _⟩ => ⟨S16x128, .f32⟩
  | .hbm, ⟨91, _⟩ => ⟨S16x128, .bf16⟩
  | .hbm, ⟨92, _⟩ => ⟨S1x16x2x128, .f32⟩
  | .hbm, ⟨93, _⟩ => ⟨S16x256, .f32⟩
  | .hbm, ⟨94, _⟩ => ⟨S16x256, .bf16⟩
  | .hbm, ⟨95, _⟩ => ⟨S1x16x512, .f32⟩
  | .hbm, ⟨96, _⟩ => ⟨S16x512, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_cst_1 : Ref sig .tc := ⟨.hbm, 57, rfl⟩
abbrev main_v53 : Ref sig .tc := ⟨.hbm, 58, rfl⟩
abbrev main_v54 : Ref sig .tc := ⟨.hbm, 59, rfl⟩
abbrev main_cst_2 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩

abbrev nD : Nat := 1
abbrev τ : Topo := Topo.v7x

variable {F : FTy → Type} [FloatOps F]
-- ==== Kernel7.lean ====
abbrev S16x1024 : Shape := ⟨2, ![16, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S16x2816 : Shape := ⟨2, ![16, 2816]⟩
abbrev S16 : Shape := ⟨1, ![16]⟩
abbrev S16x1 : Shape := ⟨2, ![16, 1]⟩

abbrev nBuf : Space → Nat
  | .hbm => 17
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16x1024, .f32⟩
  | .local _ .vmem, ⟨0, _⟩ => ⟨S16x1024, .f32⟩
  | .local _ .vmem, ⟨1, _⟩ => ⟨S1024x2816, .bf16⟩
  | .local _ .vmem, ⟨2, _⟩ => ⟨S1024x2816, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S16x1024, .f32⟩
  | .local _ .vmem, ⟨7, _⟩ => ⟨S16x1024, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_14 : BitVec 32 := 0#32
  let v21 : BitVec 1 := Scalar.cmpi .eq arg1 c0_i32_14
  let v22 : BitVec 32 := Scalar.extui v21
  let c0_i32_15 : BitVec 32 := 0#32
  let v23 : BitVec 1 := Scalar.cmpi .ne v22 c0_i32_15
  v23

def k0_mult1 : BitVec 32 :=
  let c0_i32_16 : BitVec 32 := 0#32
  let c16_i32 : BitVec 32 := 16#32
  let v24 : BitVec 32 := Scalar.muli c0_i32_16 c16_i32
  v24
def k0_off1 : Fin 2 → Nat :=
  let c0_i32_16 : BitVec 32 := 0#32
  let c16_i32 : BitVec 32 := 16#32
  let v24 : BitVec 32 := Scalar.muli c0_i32_16 c16_i32
  let v25 : BitVec 32 := v24
  let v26 : Index := Scalar.indexCast v25
  let c0_17 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S16x1024 : Shape := ⟨2, ![16, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S16x2816 : Shape := ⟨2, ![16, 2816]⟩
abbrev S1024 : Shape := ⟨1, ![1024]⟩
abbrev S16 : Shape := ⟨1, ![16]⟩
abbrev S16x1 : Shape := ⟨2, ![16, 1]⟩

abbrev nBuf : Space → Nat
  | .hbm => 58
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16x2816, .f32⟩
  | .hbm, ⟨13, _⟩ => ⟨S16x2816, .f32⟩
  | .hbm, ⟨14, _⟩ => ⟨S16x2816, .f32⟩
  | .hbm, ⟨15, _⟩ => ⟨S_, .f32⟩
  | .hbm, ⟨16, _⟩ => ⟨S16x2816, .f32⟩
  | .hbm, ⟨17, _⟩ => ⟨S16x2816, .f32⟩
  | .hbm, ⟨18, _⟩ => ⟨S_, .f32⟩
  | .hbm, ⟨19, _⟩ => ⟨S16x2816, .f32⟩
  | .hbm, ⟨20, _⟩ => ⟨S16x2816, .f32⟩
  | .hbm, ⟨21, _⟩ => ⟨S16x2816, .f32⟩
  | .hbm, ⟨22, _⟩ => ⟨S16x2816, .f32⟩
  | .hbm, ⟨23, _⟩ => ⟨S16x2816, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S16, .f32⟩
  | .hbm, ⟨33, _⟩ => ⟨S16x1, .f32⟩
  | .hbm, ⟨34, _⟩ => ⟨S_, .f32⟩
  | .hbm, ⟨35, _⟩ => ⟨S16x1, .f32⟩
  | .hbm, ⟨36, _⟩ => ⟨S16x1, .f32⟩
  | .hbm, ⟨37, _⟩ => ⟨S16x1024, .f32⟩
  | .hbm, ⟨38, _⟩ => ⟨S16x1024, .f32⟩
  | .hbm, ⟨39, _⟩ => ⟨S16x1024, .f32⟩
  | .hbm, ⟨40, _⟩ => ⟨S_, .f32⟩
  | .hbm, ⟨41, _⟩ => ⟨S16, .f32⟩
  | .hbm, ⟨42, _⟩ => ⟨S16x1, .f32⟩
  | .hbm, ⟨43, _⟩ => ⟨S_, .f32⟩
  | .hbm, ⟨44, _⟩ => ⟨S16x1, .f32⟩
  | .hbm, ⟨45, _⟩ => ⟨S16x1, .f32⟩
  | .hbm, ⟨46, _⟩ => ⟨S_, .f32⟩
  | .hbm, ⟨47, _⟩ => ⟨S16x1, .f32⟩
  | .hbm, ⟨48, _⟩ => ⟨S16x1, .f32⟩
  | .hbm, ⟨49, _⟩ => ⟨S16x1, .f32⟩
  | .hbm, ⟨50, _⟩ => ⟨S16x1024, .f32⟩
  | .hbm, ⟨51, _⟩ => ⟨S16x1024, .f32⟩
  | .hbm, ⟨52, _⟩ => ⟨S1x1024, .f32⟩
  | .hbm, ⟨53, _⟩ => ⟨S16x1024, .f32⟩
  | .hbm, ⟨54, _⟩ => ⟨S16x1024, .f32⟩
  | .hbm, ⟨55, _⟩ => ⟨S1x1024, .f32⟩
  | .hbm, ⟨56, _⟩ => ⟨S16x1024, .f32⟩
  | .hbm, ⟨57, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.RowNorm.lean ====
/-
  The normalisation of one row over the extended reals, as a function of the row: what both normalising kernels and both
  of their references compute at an index.
-/
module

public import Idealize.ShloMosaic.Lib.Pipeline.ValueKit
public import Idealize.ShloMosaic.Lib.Pointwise

@[expose] public section

noncomputable section

open Idealize.ShloMosaic

namespace Cert.RowNorm

/-- The mean of a row of 1024. -/
def mean (v : Fin 1024 → Ideal .f32) : Ideal .f32 := Ideal.div (∑ k, v k) (Ideal.ofBits FTy.f32 0x44800000#32)

/-- The row's element `l` less the mean, over the root of the variance, scaled by `g` and shifted by `b`. -/
def lnAt (v : Fin 1024 → Ideal .f32) (g b : Ideal .f32) (l : Fin 1024) : Ideal .f32 :=
  (v l - mean v) * Ideal.rsqrt (mean (fun k => (v k - mean v) * (v k - mean v)) + Ideal.ofBits FTy.f32 0x3727C5AC#32) * g + b

/-- A row and the half of another, the first scaled by the residual's factor. -/
def resid (x o : Fin 1024 → Ideal .f32) : Fin 1024 → Ideal .f32 := fun k =>
  Ideal.ofBits FTy.f32 0x3F9837F0#32 * x k + Ideal.ofBits FTy.f32 0x3F000000#32 * o k

/-- A row scaled by the residual's factor and the projection of the two gated halves: the attention's `a` and the
    convolution's `v`, each projected, under the gates of the row. -/
def merged (h : Fin 1024 → Ideal .f32) (ga gc : Fin 1024 → Fin 1024 → Ideal .f32) (a : Fin 512 → Ideal .f32) (wa : Fin 512 → Fin 1024 → Ideal .f32)
    (v : Fin 512 → Ideal .f32) (wc : Fin 512 → Fin 1024 → Ideal .f32) (wo : Fin 1024 → Fin 1024 → Ideal .f32) : Fin 1024 → Ideal .f32 := fun l =>
  Ideal.ofBits FTy.f32 0x3F9837F0#32 * h l + ∑ k : Fin 1024, (Ideal.logistic (∑ d, h d * ga d k) * (∑ e, a e * wa e k)
    + Ideal.logistic (∑ d, h d * gc d k) * ∑ e, v e * wc e k) * wo k l

end Cert.RowNorm

end
-- ==== Proof.FfnBody.lean ====
/-
  What one grid point of the gated linear unit leaves, by the point's place in its run of eleven: the first adds its part to
  zeros and keeps the rows for the others, the middle ones add theirs to what the point before left, and the last adds its
  part and then replaces every row by its normalised sum with the residual, 256 rows at a time.
-/
module

public import proofs.«01_k».proof.Proof.Gen.KernelIdeal.Value
public import proofs.«01_k».proof.Proof.RowNorm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.FfnValue

open Cert.KernelIdeal Cert.KernelIdeal.Gen

theorem hz : (![0, 0] : Fin 2 → Nat) = fun _ => 0 := funext fun a => by fin_cases a <;> rfl

open Cert.RowNorm

/-- One point's part of the product at an index. -/
def part (xb : FVec Ideal S2048x1024 .bf16) (wg wu : FVec Ideal S1024x256 .bf16) (wd : FVec Ideal S256x1024 .bf16) (r : Fin 2048) (l : Fin 1024) : Ideal .f32 :=
  ∑ f : Fin 256, ((∑ k : Fin 1024, xb (ix2 r k) * wg (ix2 k f)) * Ideal.logistic (∑ k : Fin 1024, xb (ix2 r k) * wg (ix2 k f))
    * ∑ k : Fin 1024, xb (ix2 r k) * wu (ix2 k f)) * wd (ix2 f l)

/-- The accumulating store adds the point's part. -/
theorem pay3_at (xb : FVec Ideal S2048x1024 .bf16) (wg wu : FVec Ideal S1024x256 .bf16) (a : FVec Ideal S2048x1024 .f32) (wd : FVec Ideal S256x1024 .bf16)
    (r : Fin 2048) (l : Fin 1024) : k0_pay3 (F := Ideal) xb wg wu a wd (ix2 r l) = a (ix2 r l) + part xb wg wu wd r l := by
  unfold part
  pointwise [k0_pay3]

/-- The normalising store of 256 rows. -/
theorem pay4_at (x o : FVec Ideal S256x1024 .f32) (g b : FVec Ideal S1x1024 .f32) (r : Fin 256) (l : Fin 1024) :
    k0_pay4 (F := Ideal) x o g b (ix2 r l) = lnAt (resid (fun k => x (ix2 r k)) (fun k => o (ix2 r k))) (g (ix2 0 l)) (b (ix2 0 l)) l := by
  unfold lnAt mean resid
  pointwise [k0_pay4]

/-- The rows kept for the later points are the rows. -/
theorem pay2_at (x : FVec Ideal S2048x1024 .f32) (r : Fin 2048) (l : Fin 1024) : k0_pay2 (F := Ideal) x (ix2 r l) = x (ix2 r l) := by
  pointwise [k0_pay2]

/-- The first point's accumulator starts at zero. -/
theorem pay1_at (r : Fin 2048) (l : Fin 1024) : k0_pay1 (F := Ideal) (ix2 r l) = 0 := by
  pointwise [k0_pay1]

/-- What a store of a whole block leaves. -/
theorem read_whole {S : Shape} {e : EltTy} (v : View sig .tc .vmem S e) {off : Fin S.rank → Nat} (h : off = fun _ => 0)
    (inb : ∀ a, off a + S.size a ≤ S.size a) (G : v.ty.Contents (Elt Ideal)) (P : S.Idx → Elt Ideal e) :
    v.read (Elt Ideal) (v.writes (Elt Ideal) G [⟨Rect.unit off S.size inb, P⟩]) = P := by
  subst h; funext y
  have e := View.read_writes_cons_emb v G (Rect.whole S) P [] y
  rw [Rect.emb_whole_apply] at e
  exact e

section
variable (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .bf16) (harg9 : arg9.IsWhole)
    (x0 : Vec Ideal S2048x1024 .f32) (x1 : Vec Ideal S1024x256 .bf16) (x2 : Vec Ideal S1024x256 .bf16) (x3 : Vec Ideal S256x1024 .bf16) (x4 : Vec Ideal S1x1024 .f32) (x5 : Vec Ideal S1x1024 .f32) (xo6 : Vec Ideal S2048x1024 .f32) (xs0 : Vec Ideal S2048x1024 .bf16)

/-- A middle point adds its part to what the point before left. -/
theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo6 xs0
      = k0_pay3 xs0 x1 x2 xo6 x3 := by
  frame_out

/-- A first point's scratch: the rows, narrowed. -/
theorem scr_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay2 x0 := by
  frame_out

/-- A first point adds its part to zeros. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay2 x0) x1 x2 (k0_pay1 (F := Ideal)) x3 := by
  frame_out

/-- A trip's one store: the normalised rows of its range, from the rows held before the trip. -/
theorem trip_open (hc : cond0_1 i) (X2 X6 X7) (k) (f) :
    tripL_k0_t1 (F := Ideal) Variants.none c none i arg2 harg2 arg3 harg3 arg4 harg4 arg5 harg5 arg6 harg6 arg7 harg7 arg8 harg8 arg9 harg9 hc X2 X6 X7 k f
    = [⟨Rect.unit (k0_off1 k) ![256, 1024] (k0_off1_inb i k hc), k0_pay4 (F := Ideal)
        (View.readAt (Elt Ideal) arg2.view (Rect.unit (s := S2048x1024) (k0_off1 k) ![256, 1024] (k0_off1_inb i k hc)).toLoadRect X2)
        (View.readAt (Elt Ideal) arg8.view (Rect.unit (s := S2048x1024) (k0_off1 k) ![256, 1024] (k0_off1_inb i k hc)).toLoadRect f)
        (View.readAt (Elt Ideal) arg6.view (Rect.unit (s := S1x1024) ![0, 0] ![1, 1024] inb_S1x1024_S1x1024_0_0).toLoadRect X6)
        (View.readAt (Elt Ideal) arg7.view (Rect.unit (s := S1x1024) ![0, 0] ![1, 1024] inb_S1x1024_S1x1024_0_0).toLoadRect X7)⟩] := by
  unfold tripL_k0_t1 trip_k0_t1
  dsimp only

/-- A trip's payload at an index of its range. -/
theorem trip_pay (n : ℕ) (hn : n < 8) (off : Fin 2 → ℕ) (ho : off = ![256 * n, 0]) (hin : ∀ a, off a + ![256, 1024] a ≤ S2048x1024.size a)
    (X2 : BufTy.Contents (Elt Ideal) arg2.view.ty) (X6 : BufTy.Contents (Elt Ideal) arg6.view.ty) (X7 : BufTy.Contents (Elt Ideal) arg7.view.ty)
    (f : BufTy.Contents (Elt Ideal) arg8.view.ty) (r : Fin 256) (l : Fin 1024) :
    k0_pay4 (F := Ideal)
        (View.readAt (Elt Ideal) arg2.view (Rect.unit (s := S2048x1024) off ![256, 1024] hin).toLoadRect X2)
        (View.readAt (Elt Ideal) arg8.view (Rect.unit (s := S2048x1024) off ![256, 1024] hin).toLoadRect f)
        (View.readAt (Elt Ideal) arg6.view (Rect.unit (s := S1x1024) ![0, 0] ![1, 1024] inb_S1x1024_S1x1024_0_0).toLoadRect X6)
        (View.readAt (Elt Ideal) arg7.view (Rect.unit (s := S1x1024) ![0, 0] ![1, 1024] inb_S1x1024_S1x1024_0_0).toLoadRect X7) (ix2 r l)
    = lnAt (resid (fun k => arg2.view.read (Elt Ideal) X2 (ix2 (⟨256 * n + r.val, by omega⟩ : Fin 2048) k))
        (fun k => arg8.view.read (Elt Ideal) f (ix2 (⟨256 * n + r.val, by omega⟩ : Fin 2048) k)))
        (arg6.view.read (Elt Ideal) X6 (ix2 (0 : Fin 1) l)) (arg7.view.read (Elt Ideal) X7 (ix2 (0 : Fin 1) l)) l := by
  subst ho
  have e (k : Fin 1024) : (Rect.unit (s := S2048x1024) ![256 * n, 0] ![256, 1024] hin).toLoadRect.idx (ix2 r k)
      = (ix2 (⟨256 * n + r.val, by omega⟩ : Fin 2048) k : S2048x1024.Idx) := by
    funext a; apply Fin.ext; fin_cases a <;> simp [Rect.unit, LoadRect.idx]
  have e1 : (Rect.unit (s := S1x1024) ![0, 0] ![1, 1024] inb_S1x1024_S1x1024_0_0).toLoadRect.idx (ix2 (0 : Fin 1) l)
      = (ix2 (0 : Fin 1) l : S1x1024.Idx) := by
    funext a; apply Fin.ext; fin_cases a <;> simp [Rect.unit, LoadRect.idx]
  refine (pay4_at _ _ _ _ r l).trans ?_
  simp only [View.readAt_apply]
  rw [e1]
  simp only [e]

theorem trips_eq : k0_t1_loop.trips = 8 := by decide +kernel

/-- What the output block reads after `n` trips: the rows of the trips done are normalised, the others are as they were. -/
theorem rows_after (hc : cond0_1 i) (X2 : BufTy.Contents (Elt Ideal) arg2.view.ty) (X6 : BufTy.Contents (Elt Ideal) arg6.view.ty) (X7 : BufTy.Contents (Elt Ideal) arg7.view.ty)
    (G : BufTy.Contents (Elt Ideal) arg8.view.ty) : ∀ n : ℕ, n ≤ 8 → ∀ (r : Fin 2048) (l : Fin 1024),
    arg8.view.read (Elt Ideal) (arg8.view.writes (Elt Ideal) G (pb_k0_t1 Variants.none c none i arg2 harg2 arg3 harg3 arg4 harg4 arg5 harg5 arg6 harg6 arg7 harg7 arg8 harg8 arg9 harg9 hc X2 X6 X7 G n)) (ix2 r l)
    = if r.val < 256 * n then lnAt (resid (fun k => arg2.view.read (Elt Ideal) X2 (ix2 r k)) (fun k => arg8.view.read (Elt Ideal) G (ix2 r k)))
        (arg6.view.read (Elt Ideal) X6 (ix2 (0 : Fin 1) l)) (arg7.view.read (Elt Ideal) X7 (ix2 (0 : Fin 1) l)) l
      else arg8.view.read (Elt Ideal) G (ix2 r l) := by
  intro n
  induction n with
  | zero => intro _ r l; rw [if_neg (by omega)]; rfl
  | succ n ih =>
    intro hn r l
    have hk : n < k0_t1_loop.trips := by rw [trips_eq]; omega
    have hs := pb_k0_t1_succ (F := Ideal) Variants.none c none i arg2 harg2 arg3 harg3 arg4 harg4 arg5 harg5 arg6 harg6 arg7 harg7 arg8 harg8 arg9 harg9 hc X2 X6 X7 G ⟨n, hk⟩
    dsimp only at hs
    rw [hs, trip_open, List.singleton_append]
    have ho := k0_off1_eq ⟨n, hk⟩
    dsimp only at ho
    by_cases h : 256 * n ≤ r.val ∧ r.val < 256 * (n + 1)
    · rw [View.read_writes_cons_hit_of_coords arg8.view _ _ _ _ (ix2 (⟨r.val - 256 * n, by omega⟩ : Fin 256) l) _ ?_]
      · refine (trip_pay arg2 arg6 arg7 arg8 n (by omega) _ ho _ X2 X6 X7 _ _ _).trans ?_
        have er : (⟨256 * n + (r.val - 256 * n), by omega⟩ : Fin 2048) = r := Fin.ext (by dsimp only; omega)
        dsimp only
        rw [er, if_pos h.2]
        congr 2
        funext k
        rw [ih (by omega) r k, if_neg (by omega)]
      · intro a
        fin_cases a <;> simp [ho, Rect.unit] <;> omega
    · rw [View.read_writes_cons_miss_of_axis arg8.view _ _ _ (ix2 r l) 0 (256 * n) 256 (by simp [ho, Rect.unit]) rfl rfl (by simp; omega), ih (by omega) r l]
      by_cases h2 : r.val < 256 * n
      · rw [if_pos h2, if_pos (by omega)]
      · rw [if_neg h2, if_neg (by omega)]

/-- A last point leaves the normalised rows of the finished sum and the residual. -/
theorem out_C (hc0 : ¬cond0_0 i) (hc1 : cond0_1 i) (r : Fin 2048) (l : Fin 1024) :
    out0_C_6 c i arg2 harg2 arg3 harg3 arg4 harg4 arg5 harg5 arg6 harg6 arg7 harg7 arg8 harg8 arg9 harg9 hc0 hc1 x0 x1 x2 x3 x4 x5 xo6 xs0 (ix2 r l)
      = lnAt (resid (fun k => x0 (ix2 r k)) (fun k => k0_pay3 (F := Ideal) xs0 x1 x2 xo6 x3 (ix2 r k))) (x4 (ix2 (0 : Fin 1) l)) (x5 (ix2 (0 : Fin 1) l)) l := by
  unfold out0_C_6
  rw [View.read_writes_of_cover _ _ arg8.view arg8.view.junk _ (fun y => cover0_C_6 _ _ _ _ _ _ _ _ _ _ _ _ _ _ _ _ _ _ _ _ _ _ _ _ _ _ _ _ y)]
  unfold kernelRun0_C
  dsimp only
  sl_unfold_words
  rw [View.writes_append]
  have ht : Scf.trips 0#32 (Scalar.addi 0#32 8#32) 1#32 = 8 := by decide +kernel
  rw [ht]
  refine (rows_after c i arg2 harg2 arg3 harg3 arg4 harg4 arg5 harg5 arg6 harg6 arg7 harg7 arg8 harg8 arg9 harg9 hc1 _ _ _ _ 8 le_rfl r l).trans ?_
  rw [if_pos (by omega), harg2.read_unread, harg6.read_unread, harg7.read_unread]
  simp only [View.readAt_eq_ld, harg9.read_unread, harg8.read_unread, harg3.read_unread, harg4.read_unread, harg5.read_unread, View.ld_unit_zero (S := S2048x1024) hz, View.ld_unit_zero (S := S1024x256) hz, View.ld_unit_zero (S := S256x1024) hz]
  congr 2
  funext k
  exact congrFun (read_whole arg8.view hz _ _ _) _
end

end Cert.KernelIdeal.FfnValue

end
-- ==== Proof.FfnRef.lean ====
/-
  The gated linear unit's reference over the extended reals: its result as a function of its six arguments, and that function
  at an index: the normalised row of the residual and the half of the down-projected, gated columns.
-/
module

public import proofs.«01_k».proof.Proof.RowNorm
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.FfnRef

open Cert.ReferenceIdeal Cert.ReferenceIdeal.Gen Cert.RowNorm

/-- The gate columns. -/
abbrev GATE (X : FVec Ideal S8x8192x1024 .f32) (W : FVec Ideal S1x1024x2816 .f32) : FVec Ideal S8x8192x2816 .f32 :=
  Host.dotGeneral dot_S8x8192x1024_S1024x2816_S8x8192x2816_2_0_01_1_n_n none X (shapeCast _ W shapeCasts_S1x1024x2816_S1024x2816)

/-- The residual's sum. -/
abbrev H (X : FVec Ideal S8x8192x1024 .f32) (Wg Wu : FVec Ideal S1x1024x2816 .f32) (Wd : FVec Ideal S1x2816x1024 .f32) : FVec Ideal S8x8192x1024 .f32 :=
  addf (mulf (broadcastInDim S8x8192x1024 ![] bcast_S_S8x8192x1024 (constant S_ .f32 0x3F9837F0#32)) X)
    (mulf (broadcastInDim S8x8192x1024 ![] bcast_S_S8x8192x1024 (constant S_ .f32 0x3F000000#32))
      (Host.dotGeneral dot_S8x8192x2816_S2816x1024_S8x8192x1024_2_0_01_1_n_n none
        (mulf (mulf (GATE X Wg) (Host.divf (broadcastInDim S8x8192x2816 ![] bcast_S_S8x8192x2816 (constant S_ .f32 0x3F800000#32))
          (addf (broadcastInDim S8x8192x2816 ![] bcast_S_S8x8192x2816 (constant S_ .f32 0x3F800000#32)) (Host.exp (Host.negf (GATE X Wg)))))) (GATE X Wu))
        (shapeCast _ Wd shapeCasts_S1x2816x1024_S2816x1024)))

/-- Each row's mean, spread over the row. -/
abbrev MU (h : FVec Ideal S8x8192x1024 .f32) : FVec Ideal S8x8192x1024 .f32 :=
  broadcastInDim S8x8192x1024 ![0, 1, 2] bcast_S8x8192x1_S8x8192x1024_0_1_2 (Host.divf (broadcastInDim S8x8192x1 ![0, 1] bcast_S8x8192_S8x8192x1_0_1
    (Host.reduceAdd h (constant S_ .f32 0x00000000#32) reducesTo_S8x8192x1024_S8x8192_d2 h_S_)) (broadcastInDim S8x8192x1 ![] bcast_S_S8x8192x1 (constant S_ .f32 0x44800000#32)))

/-- The normalisation of every row. -/
abbrev NORM (h : FVec Ideal S8x8192x1024 .f32) (g b : FVec Ideal S1x1024 .f32) : FVec Ideal S65536x1024 .f32 :=
  shapeCast _ (addf (mulf (mulf (subf h (MU h)) (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf (subf h (MU h)) (subf h (MU h))) (constant S_ .f32 0x00000000#32) reducesTo_S8x8192x1024_S8x8192_d2 h_S_))
      (broadcastInDim S8x8192x1 ![] bcast_S_S8x8192x1 (constant S_ .f32 0x44800000#32))) (broadcastInDim S8x8192x1 ![] bcast_S_S8x8192x1 (constant S_ .f32 0x3727C5AC#32))))))
    (broadcastInDim S8x8192x1024 ![0, 1, 2] bcast_S1x1x1024_S8x8192x1024_0_1_2 (broadcastInDim S1x1x1024 ![2] bcast_S1024_S1x1x1024_2 (shapeCast _ g shapeCasts_S1x1024_S1024))))
    (broadcastInDim S8x8192x1024 ![0, 1, 2] bcast_S1x1x1024_S8x8192x1024_0_1_2 (broadcastInDim S1x1x1024 ![2] bcast_S1024_S1x1x1024_2 (shapeCast _ b shapeCasts_S1x1024_S1024))))
    shapeCasts_S8x8192x1024_S65536x1024

/-- The reference's result. -/
def REF (X : FVec Ideal S8x8192x1024 .f32) (Wg Wu : FVec Ideal S1x1024x2816 .f32) (Wd : FVec Ideal S1x2816x1024 .f32) (g b : FVec Ideal S1x1024 .f32) :
    FVec Ideal S65536x1024 .f32 := NORM (H X Wg Wu Wd) g b

set_option maxHeartbeats 1600000 in
/-- The run's composed term is `REF` of the arguments. -/
theorem res_eq (m : (ℓ : Loc nD τ sig) → Buf (Elt Ideal) ℓ) (c : Dev nD) : Value.res_main_v37 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- One of the 2816 products that a result's sum before the residual has. -/
def term (X : FVec Ideal S8x8192x1024 .f32) (Wg Wu : FVec Ideal S1x1024x2816 .f32) (Wd : FVec Ideal S1x2816x1024 .f32) (r : Fin 65536) (l : Fin 1024)
    (f : Fin 2816) : Ideal .f32 :=
  ((∑ k : Fin 1024, X (ix3 ⟨r.val / 8192, by omega⟩ ⟨r.val % 8192, by omega⟩ k) * Wg (ix3 0 k f))
      * Ideal.logistic (∑ k : Fin 1024, X (ix3 ⟨r.val / 8192, by omega⟩ ⟨r.val % 8192, by omega⟩ k) * Wg (ix3 0 k f))
    * ∑ k : Fin 1024, X (ix3 ⟨r.val / 8192, by omega⟩ ⟨r.val % 8192, by omega⟩ k) * Wu (ix3 0 k f)) * Wd (ix3 0 f l)

/-- The normalised rows at an index. -/
theorem norm_at (h : FVec Ideal S8x8192x1024 .f32) (g b : FVec Ideal S1x1024 .f32) (r : Fin 65536) (l : Fin 1024) : NORM h g b (ix2 r l)
    = lnAt (fun k => h (ix3 ⟨r.val / 8192, by omega⟩ ⟨r.val % 8192, by omega⟩ k)) (g (ix2 0 l)) (b (ix2 0 l)) l := by
  unfold lnAt mean
  pointwise [NORM, MU]

/-- The residual's sum at an index. -/
theorem h_at (X : FVec Ideal S8x8192x1024 .f32) (Wg Wu : FVec Ideal S1x1024x2816 .f32) (Wd : FVec Ideal S1x2816x1024 .f32) (r : Fin 65536) (l : Fin 1024) :
    H X Wg Wu Wd (ix3 ⟨r.val / 8192, by omega⟩ ⟨r.val % 8192, by omega⟩ l)
    = resid (fun k => X (ix3 ⟨r.val / 8192, by omega⟩ ⟨r.val % 8192, by omega⟩ k)) (fun k => ∑ f : Fin 2816, term X Wg Wu Wd r k f) l := by
  unfold resid term
  pointwise [H, GATE]
  rfl

/-- The reference's result at an index. -/
theorem ref_at (X : FVec Ideal S8x8192x1024 .f32) (Wg Wu : FVec Ideal S1x1024x2816 .f32) (Wd : FVec Ideal S1x2816x1024 .f32) (g b : FVec Ideal S1x1024 .f32)
    (r : Fin 65536) (l : Fin 1024) : REF X Wg Wu Wd g b (ix2 r l)
    = lnAt (resid (fun k => X (ix3 ⟨r.val / 8192, by omega⟩ ⟨r.val % 8192, by omega⟩ k)) (fun k => ∑ f : Fin 2816, term X Wg Wu Wd r k f))
        (g (ix2 0 l)) (b (ix2 0 l)) l := by
  unfold REF
  rw [norm_at]
  congr 1
  funext k
  exact h_at X Wg Wu Wd r k

end Cert.ReferenceIdeal.FfnRef

end
-- ==== Proof.FfnValue.lean ====
/-
  The gated linear unit over the extended reals: what the result array of the kernel holds after its run. Eleven grid points
  in turn hold the same 2048 rows, each adding 256 of the 2816 products of every element; the last normalises. The sums of
  256 joined are the reference's sum.
-/
module

public import proofs.«01_k».proof.Proof.Gen.KernelIdeal.Value
public import proofs.«01_k».proof.Proof.FfnBody
public import proofs.«01_k».proof.Proof.FfnRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.FfnValue

open Cert.KernelIdeal Cert.KernelIdeal.Gen
open Cert.ReferenceIdeal.FfnRef (REF term ref_at)
open Cert.RowNorm

variable (m : (ℓ : Loc nD τ sig) → Buf (Elt Ideal) ℓ)

/-- Where each window's block lies at point `t`. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![t.val / 11, 0] :=
  (by decide +kernel : ∀ t : Fin grid0.N, _)

theorem pt_lt (t : Fin cfg0.N) : t.val < 352 := lt_of_lt_of_eq t.isLt N_0

set_option maxHeartbeats 1600000 in
/-- The array `main_v0` when the grid starts. -/
theorem entry_x (c : Dev nD) : V m c main_v0 = shapeCast S65536x1024 (m ((c : Thread nD τ).loc main_arg0)) shapeCasts_S8x8192x1024_S65536x1024 := by
  unfold V; after_results <;> rfl

set_option maxHeartbeats 1600000 in
/-- The array `main_v2` when the grid starts. -/
theorem entry_wg (c : Dev nD) : V m c main_v2 = truncf .bf16 (shapeCast S1024x2816 (m ((c : Thread nD τ).loc main_arg1)) shapeCasts_S1x1024x2816_S1024x2816 : FVec Ideal S1024x2816 .f32) bitsLt_bf16_f32 := by
  unfold V; after_results <;> rfl

set_option maxHeartbeats 1600000 in
/-- The array `main_v4` when the grid starts. -/
theorem entry_wu (c : Dev nD) : V m c main_v4 = truncf .bf16 (shapeCast S1024x2816 (m ((c : Thread nD τ).loc main_arg2)) shapeCasts_S1x1024x2816_S1024x2816 : FVec Ideal S1024x2816 .f32) bitsLt_bf16_f32 := by
  unfold V; after_results <;> rfl

set_option maxHeartbeats 1600000 in
/-- The array `main_v6` when the grid starts. -/
theorem entry_wd (c : Dev nD) : V m c main_v6 = truncf .bf16 (shapeCast S2816x1024 (m ((c : Thread nD τ).loc main_arg3)) shapeCasts_S1x2816x1024_S2816x1024 : FVec Ideal S2816x1024 .f32) bitsLt_bf16_f32 := by
  unfold V; after_results <;> rfl

set_option maxHeartbeats 1600000 in
/-- The array `main_v8` when the grid starts. -/
theorem entry_g (c : Dev nD) : V m c main_v8 = broadcastInDim S1x1024 ![1] bcast_S1024_S1x1024_1 (shapeCast S1024 (m ((c : Thread nD τ).loc main_arg4)) shapeCasts_S1x1024_S1024 : FVec Ideal S1024 .f32) := by
  unfold V; after_results <;> rfl

set_option maxHeartbeats 1600000 in
/-- The array `main_v10` when the grid starts. -/
theorem entry_b (c : Dev nD) : V m c main_v10 = broadcastInDim S1x1024 ![1] bcast_S1024_S1x1024_1 (shapeCast S1024 (m ((c : Thread nD τ).loc main_arg5)) shapeCasts_S1x1024_S1024 : FVec Ideal S1024 .f32) := by
  unfold V; after_results <;> rfl

/-- The rows with the two leading axes joined, at an index. -/
theorem rows_at (X : FVec Ideal S8x8192x1024 .f32) (r : Fin 65536) (k : Fin 1024) :
    shapeCast S65536x1024 X shapeCasts_S8x8192x1024_S65536x1024 (ix2 r k) = X (ix3 ⟨r.val / 8192, by omega⟩ ⟨r.val % 8192, by omega⟩ k) := by
  pointwise
theorem cols_at (W : FVec Ideal S1x1024x2816 .f32) (k : Fin 1024) (f : Fin 2816) :
    (truncf .bf16 (shapeCast S1024x2816 W shapeCasts_S1x1024x2816_S1024x2816 : FVec Ideal S1024x2816 .f32) bitsLt_bf16_f32 : FVec Ideal S1024x2816 .bf16) (ix2 k f) = W (ix3 0 k f) := by
  pointwise
theorem down_at (W : FVec Ideal S1x2816x1024 .f32) (f : Fin 2816) (l : Fin 1024) :
    (truncf .bf16 (shapeCast S2816x1024 W shapeCasts_S1x2816x1024_S2816x1024 : FVec Ideal S2816x1024 .f32) bitsLt_bf16_f32 : FVec Ideal S2816x1024 .bf16) (ix2 f l) = W (ix3 0 f l) := by
  pointwise
theorem vec_at (g : FVec Ideal S1x1024 .f32) (l : Fin 1024) :
    broadcastInDim S1x1024 ![1] bcast_S1024_S1x1024_1 (shapeCast S1024 g shapeCasts_S1x1024_S1024 : FVec Ideal S1024 .f32) (ix2 0 l) = g (ix2 0 l) := by
  pointwise

/-- Where an element of a block lies in its array. -/
theorem emb_x (t : Fin cfg0.N) (r : Fin 2048) (k : Fin 1024) (ht : t.val < 352) :
    (win0_0.blk t).view.emb (ix2 r k) = (ix2 (⟨t.val / 11 * 2048 + r.val, by omega⟩ : Fin 65536) k : S65536x1024.Idx) := by
  blk_ext [idx t]
theorem emb_wg (t : Fin cfg0.N) (k : Fin 1024) (f : Fin 256) :
    (win0_1.blk t).view.emb (ix2 k f) = (ix2 k (⟨t.val % 11 * 256 + f.val, by omega⟩ : Fin 2816) : S1024x2816.Idx) := by
  blk_ext [idx t]
theorem emb_wu (t : Fin cfg0.N) (k : Fin 1024) (f : Fin 256) :
    (win0_2.blk t).view.emb (ix2 k f) = (ix2 k (⟨t.val % 11 * 256 + f.val, by omega⟩ : Fin 2816) : S1024x2816.Idx) := by
  blk_ext [idx t]
theorem emb_wd (t : Fin cfg0.N) (f : Fin 256) (l : Fin 1024) :
    (win0_3.blk t).view.emb (ix2 f l) = (ix2 (⟨t.val % 11 * 256 + f.val, by omega⟩ : Fin 2816) l : S2816x1024.Idx) := by
  blk_ext [idx t]
theorem emb_g (t : Fin cfg0.N) (l : Fin 1024) : (win0_4.blk t).view.emb (ix2 (0 : Fin 1) l) = (ix2 (0 : Fin 1) l : S1x1024.Idx) := by
  blk_ext [idx t]
theorem emb_b (t : Fin cfg0.N) (l : Fin 1024) : (win0_5.blk t).view.emb (ix2 (0 : Fin 1) l) = (ix2 (0 : Fin 1) l : S1x1024.Idx) := by
  blk_ext [idx t]
theorem emb_o (t : Fin cfg0.N) (r : Fin 2048) (k : Fin 1024) (ht : t.val < 352) :
    (win0_6.blk t).view.emb (ix2 r k) = (ix2 (⟨t.val / 11 * 2048 + r.val, by omega⟩ : Fin 65536) k : S65536x1024.Idx) := by
  blk_ext [idx t]

/-- The six blocks of point `t` at an index, from the arguments. -/
theorem read_x (c : Dev nD) (t : Fin cfg0.N) (r : Fin 2048) (k : Fin 1024) (ht : t.val < 352) :
    iblk m c 0 t (ix2 r k) = (m ((c : Thread nD τ).loc main_arg0) : FVec Ideal S8x8192x1024 .f32)
      (ix3 ⟨(t.val / 11 * 2048 + r.val) / 8192, by omega⟩ ⟨(t.val / 11 * 2048 + r.val) % 8192, by omega⟩ k) := by
  unfold iblk
  show V m c main_v0 ((win0_0.blk t).view.emb (ix2 r k)) = _
  rw [entry_x, emb_x t r k ht]
  exact rows_at _ _ _
theorem read_wg (c : Dev nD) (t : Fin cfg0.N) (k : Fin 1024) (f : Fin 256) :
    iblk m c 1 t (ix2 k f) = (m ((c : Thread nD τ).loc main_arg1) : FVec Ideal S1x1024x2816 .f32) (ix3 0 k (⟨t.val % 11 * 256 + f.val, by omega⟩ : Fin 2816)) := by
  unfold iblk
  show V m c main_v2 ((win0_1.blk t).view.emb (ix2 k f)) = _
  rw [entry_wg, emb_wg t k f]
  exact cols_at _ _ _
theorem read_wu (c : Dev nD) (t : Fin cfg0.N) (k : Fin 1024) (f : Fin 256) :
    iblk m c 2 t (ix2 k f) = (m ((c : Thread nD τ).loc main_arg2) : FVec Ideal S1x1024x2816 .f32) (ix3 0 k (⟨t.val % 11 * 256 + f.val, by omega⟩ : Fin 2816)) := by
  unfold iblk
  show V m c main_v4 ((win0_2.blk t).view.emb (ix2 k f)) = _
  rw [entry_wu, emb_wu t k f]
  exact cols_at _ _ _
theorem read_wd (c : Dev nD) (t : Fin cfg0.N) (f : Fin 256) (l : Fin 1024) :
    iblk m c 3 t (ix2 f l) = (m ((c : Thread nD τ).loc main_arg3) : FVec Ideal S1x2816x1024 .f32) (ix3 0 (⟨t.val % 11 * 256 + f.val, by omega⟩ : Fin 2816) l) := by
  unfold iblk
  show V m c main_v6 ((win0_3.blk t).view.emb (ix2 f l)) = _
  rw [entry_wd, emb_wd t f l]
  exact down_at _ _ _
theorem read_g (c : Dev nD) (t : Fin cfg0.N) (l : Fin 1024) :
    iblk m c 4 t (ix2 (0 : Fin 1) l) = (m ((c : Thread nD τ).loc main_arg4) : FVec Ideal S1x1024 .f32) (ix2 0 l) := by
  unfold iblk
  show V m c main_v8 ((win0_4.blk t).view.emb (ix2 (0 : Fin 1) l)) = _
  rw [entry_g, emb_g t l]
  exact vec_at _ _
theorem read_b (c : Dev nD) (t : Fin cfg0.N) (l : Fin 1024) :
    iblk m c 5 t (ix2 (0 : Fin 1) l) = (m ((c : Thread nD τ).loc main_arg5) : FVec Ideal S1x1024 .f32) (ix2 0 l) := by
  unfold iblk
  show V m c main_v10 ((win0_5.blk t).view.emb (ix2 (0 : Fin 1) l)) = _
  rw [entry_b, emb_b t l]
  exact vec_at _ _

/-- The products that step `s` of row block `q` adds; nothing outside the grid. -/
def stepSum (c : Dev nD) (q s : ℕ) (r : Fin 2048) (l : Fin 1024) : Ideal .f32 :=
  if h : q < 32 ∧ s < 11 then ∑ f : Fin 256, term (m ((c : Thread nD τ).loc main_arg0)) (m ((c : Thread nD τ).loc main_arg1)) (m ((c : Thread nD τ).loc main_arg2)) (m ((c : Thread nD τ).loc main_arg3))
    (⟨q * 2048 + r.val, by omega⟩ : Fin 65536) l (⟨s * 256 + f.val, by omega⟩ : Fin 2816)
  else 0

/-- The rows that a point keeps for the later ones of its run. -/
abbrev Kept (c : Dev nD) (t : Fin cfg0.N) (xb : FVec Ideal S2048x1024 .bf16) : Prop :=
  ∀ (r : Fin 2048) (k : Fin 1024), xb (ix2 r k) = iblk m c 0 t (ix2 r k)

/-- A point's part is its step's products. -/
theorem part_eq (c : Dev nD) (t : Fin cfg0.N) (xb : FVec Ideal S2048x1024 .bf16) (hx : Kept m c t xb) (r : Fin 2048) (l : Fin 1024) :
    part xb (iblk m c 1 t) (iblk m c 2 t) (iblk m c 3 t) r l = stepSum m c (t.val / 11) (t.val % 11) r l := by
  have ht := pt_lt t
  unfold part stepSum
  rw [dif_pos ⟨by omega, by omega⟩]
  refine Finset.sum_congr rfl fun f _ => ?_
  have hg : (∑ k : Fin 1024, xb (ix2 r k) * iblk m c 1 t (ix2 k f)) = _ :=
    Finset.sum_congr rfl fun k _ => congrArg₂ (· * ·) ((hx r k).trans (read_x m c t r k ht)) (read_wg m c t k f)
  have hu : (∑ k : Fin 1024, xb (ix2 r k) * iblk m c 2 t (ix2 k f)) = _ :=
    Finset.sum_congr rfl fun k _ => congrArg₂ (· * ·) ((hx r k).trans (read_x m c t r k ht)) (read_wu m c t k f)
  exact congrArg₂ (· * ·) (congrArg₂ (· * ·) (congrArg₂ (· * ·) hg (congrArg Ideal.logistic hg)) hu) (read_wd m c t f l)

/-- Points of one run hold the same rows. -/
theorem rows_same (c : Dev nD) (t t' : Fin cfg0.N) (h : t.val / 11 = t'.val / 11) (r : Fin 2048) (k : Fin 1024) :
    iblk m c 0 t (ix2 r k) = iblk m c 0 t' (ix2 r k) := by
  have ht := pt_lt t
  have ht' := pt_lt t'
  refine (read_x m c t r k ht).trans (Eq.trans ?_ (read_x m c t' r k ht').symm)
  simp only [h]

/-- What the points of a run leave before the last: the steps' sums so far, and the rows. -/
theorem outs_at (c : Dev nD) : ∀ (n : ℕ) (hn : n < cfg0.N), n % 11 ≠ 10 →
    (∀ (r : Fin 2048) (l : Fin 1024), (outsAt0 m c n hn).1 (ix2 r l) = ∑ s ∈ Finset.range (n % 11 + 1), stepSum m c (n / 11) s r l)
    ∧ Kept m c ⟨n, hn⟩ (outsAt0 m c n hn).2 := by
  intro n
  induction n using Nat.strong_induction_on with
  | _ n ih =>
  intro hn h1
  by_cases h0 : n % 11 = 0
  · have e := outsAt0_A m c ⟨n, hn⟩ h0 h1
    dsimp only at e
    rw [e]
    dsimp only
    have hk : Kept m c ⟨n, hn⟩ (k0_pay2 (F := Ideal) (iblk m c 0 ⟨n, hn⟩)) := fun r k => pay2_at _ r k
    refine ⟨fun r l => ?_, ?_⟩
    · rw [out_A, h0, Finset.sum_range_one]
      refine (pay3_at _ _ _ _ _ r l).trans ?_
      rw [pay1_at, zero_add, part_eq m c ⟨n, hn⟩ _ hk]
      simp only [h0]
    · rw [scr_A]; exact hk
  · have e := outsAt0_B m c ⟨n, hn⟩ h0 h1
    dsimp only at e
    rw [e]
    dsimp only
    have hp : n - 1 < cfg0.N := by omega
    obtain ⟨ih1, ih2⟩ := ih (n - 1) (by omega) hp (by omega)
    have hk : Kept m c ⟨n, hn⟩ (outsAt0 m c (n - 1) hp).2 := fun r k => (ih2 r k).trans (rows_same m c _ _ (by dsimp only; omega) r k)
    refine ⟨fun r l => ?_, hk⟩
    rw [out_B]
    refine (pay3_at _ _ _ _ _ r l).trans ?_
    rw [part_eq m c ⟨n, hn⟩ _ hk, Finset.sum_range_succ]
    refine congrArg₂ (· + ·) ((ih1 r l).trans ?_) rfl
    rw [show (n - 1) % 11 + 1 = n % 11 by omega, show (n - 1) / 11 = n / 11 by omega]

/-- The finished sum at a last point. -/
theorem sum_at (c : Dev nD) (t : Fin cfg0.N) (h : t.val % 11 = 10) (ht : t.val < 352) (r : Fin 2048) (l : Fin 1024) :
    (∑ s ∈ Finset.range 11, stepSum m c (t.val / 11) s r l)
    = ∑ f : Fin 2816, term (m ((c : Thread nD τ).loc main_arg0)) (m ((c : Thread nD τ).loc main_arg1)) (m ((c : Thread nD τ).loc main_arg2)) (m ((c : Thread nD τ).loc main_arg3)) (⟨t.val / 11 * 2048 + r.val, by omega⟩ : Fin 65536) l f := by
  rw [Finset.sum_range]
  have e (s : Fin 11) : stepSum m c (t.val / 11) s.val r l = ∑ f : Fin 256, term (m ((c : Thread nD τ).loc main_arg0)) (m ((c : Thread nD τ).loc main_arg1)) (m ((c : Thread nD τ).loc main_arg2)) (m ((c : Thread nD τ).loc main_arg3))
      (⟨t.val / 11 * 2048 + r.val, by omega⟩ : Fin 65536) l (⟨s.val * 256 + f.val, by omega⟩ : Fin 2816) := by
    unfold stepSum
    exact dif_pos ⟨by omega, s.isLt⟩
  refine Eq.trans (Finset.sum_congr rfl fun s _ => e s) ?_
  refine Fin.sum_mul_add_congr fun s k hl => ?_
  rfl

/-- A last point's block. -/
theorem point (c : Dev nD) (t : Fin cfg0.N) (h : t.val % 11 = 10) (r : Fin 2048) (l : Fin 1024) : (outsAt0 m c t.val t.isLt).1 (ix2 r l)
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_6.blk t).view.emb (ix2 r l)) := by
  have ht := pt_lt t
  rw [emb_o t r l ht]
  refine Eq.trans ?_ (ref_at _ _ _ _ _ _ _ _).symm
  have hp : t.val - 1 < cfg0.N := lt_of_le_of_lt (Nat.sub_le _ _) t.isLt
  obtain ⟨ih1, ih2⟩ := outs_at m c (t.val - 1) hp (by omega)
  have hk : Kept m c t (outsAt0 m c (t.val - 1) hp).2 := fun r k => (ih2 r k).trans (rows_same m c _ _ (by dsimp only; omega) r k)
  rw [outsAt0_C m c t (by omega) h]
  dsimp only
  rw [out_C]
  have e0 : (fun k => iblk m c 0 t (ix2 r k)) = _ := funext fun k => read_x m c t r k ht
  have e1 : (fun k => k0_pay3 (F := Ideal) (outsAt0 m c (t.val - 1) hp).2 (iblk m c 1 t) (iblk m c 2 t) (outsAt0 m c (t.val - 1) hp).1 (iblk m c 3 t) (ix2 r k))
      = fun k => ∑ f : Fin 2816, term (m ((c : Thread nD τ).loc main_arg0)) (m ((c : Thread nD τ).loc main_arg1)) (m ((c : Thread nD τ).loc main_arg2)) (m ((c : Thread nD τ).loc main_arg3)) (⟨t.val / 11 * 2048 + r.val, by omega⟩ : Fin 65536) k f :=
    funext fun k => (pay3_at _ _ _ _ _ r k).trans (by
      rw [part_eq m c t _ hk, ih1 r k, show (t.val - 1) % 11 + 1 = t.val % 11 by omega, show (t.val - 1) / 11 = t.val / 11 by omega,
        ← Finset.sum_range_succ, h]
      exact sum_at m c t h ht r k)
  refine Eq.trans ?_ (congrArg₂ (fun a b => lnAt (resid _ _) a b l) (read_g m c t l) (read_b m c t l))
  exact congrArg₂ (fun u v => lnAt (resid u v) _ _ l) e0 e1

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h := (flush0_6 t).mp hf
  blk_simp
  rw [after0_6]
  exact (congrArg _ (eq_ix2 y)).trans ((point m c t h (y 0) (y 1)).trans (congrArg _ (congrArg _ (eq_ix2 y).symm)))

end Cert.KernelIdeal.FfnValue

end
-- ==== Proof.FfnClaim.lean ====
/-
  The claims about the gated linear unit and its reference.
-/
module

public import proofs.«01_k».proof.Defs
public import proofs.«01_k».proof.Proof.FfnValue
public import Idealize.ShloMosaic.Lib.Quiescent

@[expose] public section

noncomputable section

namespace Cert.Claims

open Idealize.ShloMosaic Idealize.SL.Sem

/-- The reference runs, keeps its arguments and leaves no semaphore raised. -/
theorem quiescent_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

/-- From equal arguments the kernel and its reference end with equal results over the extended reals. -/
theorem algebraic_KernelIdeal_ReferenceIdeal : Cert.algebraic_KernelIdeal_ReferenceIdeal := fun m ρ m' ρ' _ hag =>
  ⟨fun c => Cert.ReferenceIdeal.FfnRef.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    (θ_run Cert.KernelIdeal.defs _ _).mono (fun _ h c => ⟨(h c).1.trans (Cert.KernelIdeal.FfnValue.final m c), (h c).2⟩) (Cert.KernelIdeal.Value.run_blocks m ρ),
    (θ_run Cert.ReferenceIdeal.defs _ _).mono (fun _ h c => ⟨(h c).1.trans (by rw [Cert.ReferenceIdeal.FfnRef.res_eq m' c, (hag c).1, (hag c).2.1, (hag c).2.2.1, (hag c).2.2.2.1, (hag c).2.2.2.2.1, (hag c).2.2.2.2.2]), (h c).2⟩) (Cert.ReferenceIdeal.Value.run m' ρ')⟩

end Cert.Claims

end
-- ==== Proof.MergeRef.lean ====
/-
  The merge's reference over the extended reals: its result as a function of its twelve arguments, and that function at an
  index: the normalised row of the residual and the output projection of the two gated halves.
-/
module

public import proofs.«01_k».proof.Proof.RowNorm
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference2Ideal.MergeRef

open Cert.Reference2Ideal Cert.Reference2Ideal.Gen Cert.RowNorm

/-- The gate that starts at column `o` of the projection. -/
abbrev SIG (o : Nat) (h : FVec Ideal S8x8192x1024 .f32) (w : FVec Ideal S1x1024x4936 .f32) (hs : S8x8192x4936.Slices ![0, 0, o] S8x8192x1024) : FVec Ideal S8x8192x1024 .f32 :=
  Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf (extractStridedSlice S8x8192x1024 ![0, 0, o]
      (Host.dotGeneral dot_S8x8192x1024_S1024x4936_S8x8192x4936_2_0_01_1_n_n none h (shapeCast _ w shapeCasts_S1x1024x4936_S1024x4936)) hs))))

/-- The convolution's input behind its meta rows, with two rows put before. -/
def CUP (cu : FVec Ideal S8x8192x512 .f32) (cm : FVec Ideal S16x512 .f32) : FVec Ideal S8x8210x512 .f32 :=
  pad S8x8210x512 ![0, 2, 0] ![0, 0, 0] ![0, 0, 0] (concatenate S8x8208x512 1 [⟨S8x16x512, (broadcastInDim S8x16x512 ![0, 1, 2] bcast_S1x16x512_S8x16x512_0_1_2
    (broadcastInDim S1x16x512 ![1, 2] bcast_S16x512_S1x16x512_1_2 cm))⟩, ⟨S8x8192x512, cu⟩] concatenates_S8x16x512_S8x8192x512_S8x8208x512_d1)
    (sitofp .f32 (constantI S_ 32 0#32)) pads_S8x8208x512_S8x8210x512_000_200_000 h_S_

/-- One tap of the convolution. -/
abbrev TAP (o : Nat) (p : FVec Ideal S8x8210x512 .f32) (w : FVec Ideal S1x3x512 .f32) (hp : S8x8210x512.Slices ![0, o, 0] S8x8208x512) (hw : S3x512.Slices ![o, 0] S1x512) :
    FVec Ideal S8x8208x512 .f32 :=
  mulf (extractStridedSlice S8x8208x512 ![0, o, 0] p hp) (broadcastInDim S8x8208x512 ![0, 1, 2] bcast_S1x1x512_S8x8208x512_0_1_2 (broadcastInDim S1x1x512 ![2] bcast_S512_S1x1x512_2
    (shapeCast _ (extractStridedSlice S1x512 ![o, 0] (shapeCast _ w shapeCasts_S1x3x512_S3x512) hw) shapeCasts_S1x512_S512)))

/-- The gated convolution without its meta rows. -/
abbrev CONV (p : FVec Ideal S8x8210x512 .f32) (gb : FVec Ideal S8x8192x512 .f32) (w : FVec Ideal S1x3x512 .f32) : FVec Ideal S8x8192x512 .f32 :=
  mulf gb (extractStridedSlice S8x8192x512 ![0, 16, 0] (addf (addf (addf (broadcastInDim S8x8208x512 ![] bcast_S_S8x8208x512 (constant S_ .f32 0x00000000#32))
    (TAP 0 p w slices_S8x8210x512_S8x8208x512_0_0_0 slices_S3x512_S1x512_0_0)) (TAP 1 p w slices_S8x8210x512_S8x8208x512_0_1_0 slices_S3x512_S1x512_1_0))
    (TAP 2 p w slices_S8x8210x512_S8x8208x512_0_2_0 slices_S3x512_S1x512_2_0)) slices_S8x8208x512_S8x8192x512_0_16_0)

/-- A half's output projection. -/
abbrev OUT (y : FVec Ideal S8x8192x512 .f32) (w : FVec Ideal S1x512x1024 .f32) : FVec Ideal S8x8192x1024 .f32 :=
  Host.dotGeneral dot_S8x8192x512_S512x1024_S8x8192x1024_2_0_01_1_n_n none y (shapeCast _ w shapeCasts_S1x512x1024_S512x1024)

/-- The residual's sum. -/
abbrev SUM (h sa ya sc yc : FVec Ideal S8x8192x1024 .f32) (wo : FVec Ideal S1x1024x1024 .f32) : FVec Ideal S8x8192x1024 .f32 :=
  addf (mulf (broadcastInDim S8x8192x1024 ![] bcast_S_S8x8192x1024 (constant S_ .f32 0x3F9837F0#32)) h)
    (Host.dotGeneral dot_S8x8192x1024_S1024x1024_S8x8192x1024_2_0_01_1_n_n none (addf (mulf sa ya) (mulf sc yc)) (shapeCast _ wo shapeCasts_S1x1024x1024_S1024x1024))

/-- Each row's mean, spread over the row. -/
abbrev MU (h : FVec Ideal S8x8192x1024 .f32) : FVec Ideal S8x8192x1024 .f32 :=
  broadcastInDim S8x8192x1024 ![0, 1, 2] bcast_S8x8192x1_S8x8192x1024_0_1_2 (Host.divf (broadcastInDim S8x8192x1 ![0, 1] bcast_S8x8192_S8x8192x1_0_1
    (Host.reduceAdd h (constant S_ .f32 0x00000000#32) reducesTo_S8x8192x1024_S8x8192_d2 h_S_)) (broadcastInDim S8x8192x1 ![] bcast_S_S8x8192x1 (constant S_ .f32 0x44800000#32)))

/-- The normalisation of every row. -/
abbrev NORM (h : FVec Ideal S8x8192x1024 .f32) (g b : FVec Ideal S1x1024 .f32) : FVec Ideal S8x8192x1024 .f32 :=
  addf (mulf (mulf (subf h (MU h)) (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf (subf h (MU h)) (subf h (MU h))) (constant S_ .f32 0x00000000#32) reducesTo_S8x8192x1024_S8x8192_d2 h_S_))
      (broadcastInDim S8x8192x1 ![] bcast_S_S8x8192x1 (constant S_ .f32 0x44800000#32))) (broadcastInDim S8x8192x1 ![] bcast_S_S8x8192x1 (constant S_ .f32 0x3727C5AC#32))))))
    (broadcastInDim S8x8192x1024 ![0, 1, 2] bcast_S1x1x1024_S8x8192x1024_0_1_2 (broadcastInDim S1x1x1024 ![2] bcast_S1024_S1x1x1024_2 (shapeCast _ g shapeCasts_S1x1024_S1024))))
    (broadcastInDim S8x8192x1024 ![0, 1, 2] bcast_S1x1x1024_S8x8192x1024_0_1_2 (broadcastInDim S1x1x1024 ![2] bcast_S1024_S1x1x1024_2 (shapeCast _ b shapeCasts_S1x1024_S1024)))

/-- The residual's sum from the arguments. -/
abbrev PRE (att : FVec Ideal S8x8192x512 .bf16) (cu : FVec Ideal S8x8192x512 .f32) (cm : FVec Ideal S16x512 .f32) (gb : FVec Ideal S8x8192x512 .f32)
    (h : FVec Ideal S8x8192x1024 .f32) (wi : FVec Ideal S1x1024x4936 .f32) (w : FVec Ideal S1x3x512 .f32) (wa wc : FVec Ideal S1x512x1024 .f32)
    (wo : FVec Ideal S1x1024x1024 .f32) : FVec Ideal S8x8192x1024 .f32 :=
  SUM h (SIG 2888 h wi slices_S8x8192x4936_S8x8192x1024_0_0_2888) (OUT (extf .f32 att bitsLt_bf16_f32) wa)
    (SIG 3912 h wi slices_S8x8192x4936_S8x8192x1024_0_0_3912) (OUT (CONV (CUP cu cm) gb w) wc) wo

/-- The reference's result. -/
def REF (att : FVec Ideal S8x8192x512 .bf16) (cu : FVec Ideal S8x8192x512 .f32) (cm : FVec Ideal S16x512 .f32) (gb : FVec Ideal S8x8192x512 .f32)
    (h : FVec Ideal S8x8192x1024 .f32) (wi : FVec Ideal S1x1024x4936 .f32) (w : FVec Ideal S1x3x512 .f32) (wa wc : FVec Ideal S1x512x1024 .f32)
    (wo : FVec Ideal S1x1024x1024 .f32) (g b : FVec Ideal S1x1024 .f32) : FVec Ideal S8x8192x1024 .f32 := NORM (PRE att cu cm gb h wi w wa wc wo) g b

set_option maxHeartbeats 1600000 in
/-- The run's composed term is `REF` of the arguments. -/
theorem res_eq (m : (ℓ : Loc nD τ sig) → Buf (Elt Ideal) ℓ) (c : Dev nD) : Value.res_main_v90 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

/-- Row `p - 2` of the convolution's input, counting the last two meta rows as the rows before the first. -/
def past (cu : FVec Ideal S8x8192x512 .f32) (cm : FVec Ideal S16x512 .f32) (b : Fin 8) (p : Nat) (hp : p < 8194) (l : Fin 512) : Ideal .f32 :=
  if h : p < 2 then cm (ix2 ⟨14 + p, by omega⟩ l) else cu (ix3 b ⟨p - 2, by omega⟩ l)

/-- The padded input at the rows that a result reads. -/
theorem cup_at (cu : FVec Ideal S8x8192x512 .f32) (cm : FVec Ideal S16x512 .f32) (b : Fin 8) (p : Fin 8210) (hp : 16 ≤ p.val) (l : Fin 512) :
    CUP cu cm (ix3 b p l) = past cu cm b (p.val - 16) (by omega) l := by
  unfold past
  pointwise [CUP]
  rw [dif_pos (by omega)]
  by_cases h : p.val - 2 < 16
  · rw [dif_pos h, dif_pos (by omega)]
    congr 2; apply Fin.ext; dsimp only; omega
  · rw [dif_neg h, dif_neg (by omega)]
    congr 2

/-- The convolution at an index. -/
def conv (cu : FVec Ideal S8x8192x512 .f32) (cm : FVec Ideal S16x512 .f32) (w : FVec Ideal S1x3x512 .f32) (b : Fin 8) (s : Fin 8192) (l : Fin 512) : Ideal .f32 :=
  w (ix3 0 0 l) * past cu cm b s.val (by omega) l + w (ix3 0 1 l) * past cu cm b (s.val + 1) (by omega) l + w (ix3 0 2 l) * past cu cm b (s.val + 2) (by omega) l

/-- The gated convolution at an index. -/
theorem conv_at (cu : FVec Ideal S8x8192x512 .f32) (cm : FVec Ideal S16x512 .f32) (gb : FVec Ideal S8x8192x512 .f32) (w : FVec Ideal S1x3x512 .f32) (b : Fin 8)
    (s : Fin 8192) (l : Fin 512) : CONV (CUP cu cm) gb w (ix3 b s l) = gb (ix3 b s l) * conv cu cm w b s l := by
  pointwise [CONV, TAP]
  unfold conv
  have e0 : CUP cu cm (ix3 b ⟨16 + s.val, by omega⟩ l) = past cu cm b s.val (by omega) l :=
    (cup_at cu cm b ⟨16 + s.val, by omega⟩ (by dsimp only; omega) l).trans (by congr 1; dsimp only; omega)
  have e1 : CUP cu cm (ix3 b ⟨1 + (16 + s.val), by omega⟩ l) = past cu cm b (s.val + 1) (by omega) l :=
    (cup_at cu cm b ⟨1 + (16 + s.val), by omega⟩ (by dsimp only; omega) l).trans (by congr 1; dsimp only; omega)
  have e2 : CUP cu cm (ix3 b ⟨2 + (16 + s.val), by omega⟩ l) = past cu cm b (s.val + 2) (by omega) l :=
    (cup_at cu cm b ⟨2 + (16 + s.val), by omega⟩ (by dsimp only; omega) l).trans (by congr 1; dsimp only; omega)
  rw [e0, e1, e2, mul_comm (past cu cm b s.val _ l), mul_comm (past cu cm b (s.val + 1) _ l), mul_comm (past cu cm b (s.val + 2) _ l)]

/-- The normalised rows at an index. -/
theorem norm_at (h : FVec Ideal S8x8192x1024 .f32) (g b : FVec Ideal S1x1024 .f32) (i : Fin 8) (s : Fin 8192) (l : Fin 1024) : NORM h g b (ix3 i s l)
    = lnAt (fun k => h (ix3 i s k)) (g (ix2 0 l)) (b (ix2 0 l)) l := by
  unfold lnAt mean
  pointwise [NORM, MU]

/-- The residual's sum at an index. -/
theorem pre_at (att : FVec Ideal S8x8192x512 .bf16) (cu : FVec Ideal S8x8192x512 .f32) (cm : FVec Ideal S16x512 .f32) (gb : FVec Ideal S8x8192x512 .f32)
    (h : FVec Ideal S8x8192x1024 .f32) (wi : FVec Ideal S1x1024x4936 .f32) (w : FVec Ideal S1x3x512 .f32) (wa wc : FVec Ideal S1x512x1024 .f32)
    (wo : FVec Ideal S1x1024x1024 .f32) (b : Fin 8) (s : Fin 8192) (l : Fin 1024) : PRE att cu cm gb h wi w wa wc wo (ix3 b s l)
    = merged (fun k => h (ix3 b s k)) (fun d k => wi (ix3 0 d ⟨2888 + k.val, by omega⟩)) (fun d k => wi (ix3 0 d ⟨3912 + k.val, by omega⟩))
        (fun e => att (ix3 b s e)) (fun e k => wa (ix3 0 e k)) (fun e => gb (ix3 b s e) * conv cu cm w b s e) (fun e k => wc (ix3 0 e k))
        (fun k l => wo (ix3 0 k l)) l := by
  unfold merged
  simp only [← conv_at]
  unfold PRE
  generalize hC : CONV (CUP cu cm) gb w = C
  pointwise [PRE, SUM, SIG, OUT]
  rfl

/-- The reference's result at an index. -/
theorem ref_at (att : FVec Ideal S8x8192x512 .bf16) (cu : FVec Ideal S8x8192x512 .f32) (cm : FVec Ideal S16x512 .f32) (gb : FVec Ideal S8x8192x512 .f32)
    (h : FVec Ideal S8x8192x1024 .f32) (wi : FVec Ideal S1x1024x4936 .f32) (w : FVec Ideal S1x3x512 .f32) (wa wc : FVec Ideal S1x512x1024 .f32)
    (wo : FVec Ideal S1x1024x1024 .f32) (g c : FVec Ideal S1x1024 .f32) (b : Fin 8) (s : Fin 8192) (l : Fin 1024) : REF att cu cm gb h wi w wa wc wo g c (ix3 b s l)
    = lnAt (merged (fun k => h (ix3 b s k)) (fun d k => wi (ix3 0 d ⟨2888 + k.val, by omega⟩)) (fun d k => wi (ix3 0 d ⟨3912 + k.val, by omega⟩))
        (fun e => att (ix3 b s e)) (fun e k => wa (ix3 0 e k)) (fun e => gb (ix3 b s e) * conv cu cm w b s e) (fun e k => wc (ix3 0 e k))
        (fun k l => wo (ix3 0 k l))) (g (ix2 0 l)) (c (ix2 0 l)) l := by
  unfold REF
  rw [norm_at]
  congr 1
  funext k
  exact pre_at att cu cm gb h wi w wa wc wo b s k

end Cert.Reference2Ideal.MergeRef

end
-- ==== Proof.MergeValue.lean ====
/-
  The merge at the extended reals: what its result array holds after the run. Point `t` of the grid handles 512 rows of one
  sequence. The two rows before a tile come with it in a small block of eight, cut from the previous tile or, for the first
  tile, from the meta rows; rotating the tile and putting these rows in place of the first ones gives the shifted inputs of
  the convolution.
-/
module

public import proofs.«01_k».proof.Proof.Gen.Kernel2Ideal.Value
public import proofs.«01_k».proof.Proof.MergeRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.MergeValue

open Cert.Kernel2Ideal Cert.Kernel2Ideal.Gen Cert.RowNorm
open Cert.Reference2Ideal.MergeRef (past conv REF ref_at)

variable (m : (ℓ : Loc nD τ sig) → Buf (Elt Ideal) ℓ)

/-- Where each window's block lies at point `t`: sequence `t / 16`, tile `t % 16`. -/
theorem idx : ∀ t : Fin cfg0.N, win0_0.index t = ![t.val / 16, t.val % 16, 0] ∧ win0_1.index t = ![t.val / 16, t.val % 16, 0]
    ∧ win0_2.index t = ![t.val / 16, t.val % 16, 0, 0] ∧ win0_3.index t = ![t.val / 16, t.val % 16, 0] ∧ win0_4.index t = ![t.val / 16, t.val % 16, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 16, t.val % 16, 0] :=
  (by decide +kernel : ∀ t : Fin grid0.N, _)

/-- The grid has 128 points. -/
theorem t_lt (t : Fin cfg0.N) : t.val < 128 := lt_of_lt_of_eq t.isLt N_0

/-! ## The host's values -/

/-- The rows before each tile: the tail of the previous tile, for the first tile the tail of the meta rows. -/
abbrev HALO (cu : FVec Ideal S8x8192x512 .f32) (cm : FVec Ideal S16x512 .f32) : FVec Ideal S8x16x8x512 .f32 :=
  concatenate S8x16x8x512 1 [⟨S8x1x8x512, broadcastInDim S8x1x8x512 ![0, 1, 2, 3] bcast_S1x1x8x512_S8x1x8x512_0_1_2_3 (broadcastInDim S1x1x8x512 ![2, 3] bcast_S8x512_S1x1x8x512_2_3
      (extractStridedSlice S8x512 ![8, 0] cm slices_S16x512_S8x512_8_0))⟩,
    ⟨S8x15x8x512, extractStridedSlice S8x15x8x512 ![0, 0, 504, 0] (shapeCast S8x16x512x512 cu shapeCasts_S8x8192x512_S8x16x512x512) slices_S8x16x512x512_S8x15x8x512_0_0_504_0⟩]
    concatenates_S8x1x8x512_S8x15x8x512_S8x16x8x512_d1

/-- The taps, filled with zero rows. -/
abbrev TAPS (w : FVec Ideal S1x3x512 .f32) : FVec Ideal S8x512 .f32 :=
  concatenate S8x512 0 [⟨S3x512, shapeCast S3x512 w shapeCasts_S1x3x512_S3x512⟩, ⟨S5x512, broadcastInDim S5x512 ![] bcast_S_S5x512 (constant S_ .f32 0x00000000#32)⟩]
    concatenates_S3x512_S5x512_S8x512_d0

/-- The two gates' columns side by side. -/
abbrev GATES (w : FVec Ideal S1x1024x4936 .f32) : FVec Ideal S1024x2048 .bf16 :=
  truncf .bf16 (concatenate S1024x2048 1 [⟨S1024x1024, extractStridedSlice S1024x1024 ![0, 2888] (shapeCast S1024x4936 w shapeCasts_S1x1024x4936_S1024x4936) slices_S1024x4936_S1024x1024_0_2888⟩,
    ⟨S1024x1024, extractStridedSlice S1024x1024 ![0, 3912] (shapeCast S1024x4936 w shapeCasts_S1x1024x4936_S1024x4936) slices_S1024x4936_S1024x1024_0_3912⟩]
    concatenates_S1024x1024_S1024x1024_S1024x2048_d1 : FVec Ideal S1024x2048 .f32) bitsLt_bf16_f32

set_option maxHeartbeats 1600000 in
theorem entry_h0 (c : Dev nD) : V m c main_arg0 = (m ((c : Thread nD τ).loc main_arg0)) := by
  unfold V; after_results <;> rfl
set_option maxHeartbeats 1600000 in
theorem entry_h1 (c : Dev nD) : V m c main_arg1 = (m ((c : Thread nD τ).loc main_arg1)) := by
  unfold V; after_results <;> rfl
set_option maxHeartbeats 1600000 in
theorem entry_h3 (c : Dev nD) : V m c main_arg3 = (m ((c : Thread nD τ).loc main_arg3)) := by
  unfold V; after_results <;> rfl
set_option maxHeartbeats 1600000 in
theorem entry_h4 (c : Dev nD) : V m c main_arg4 = (m ((c : Thread nD τ).loc main_arg4)) := by
  unfold V; after_results <;> rfl
set_option maxHeartbeats 1600000 in
theorem entry_halo (c : Dev nD) : V m c main_v34 = HALO (m ((c : Thread nD τ).loc main_arg1)) (m ((c : Thread nD τ).loc main_arg2)) := by
  unfold V; after_results <;> rfl
set_option maxHeartbeats 1600000 in
theorem entry_taps (c : Dev nD) : V m c main_v37 = TAPS (m ((c : Thread nD τ).loc main_arg6)) := by
  unfold V; after_results <;> rfl
set_option maxHeartbeats 1600000 in
theorem entry_gates (c : Dev nD) : V m c main_v28 = GATES (m ((c : Thread nD τ).loc main_arg5)) := by
  unfold V; after_results <;> rfl
set_option maxHeartbeats 1600000 in
theorem entry_wa (c : Dev nD) : V m c main_v39 = truncf .bf16 (shapeCast S512x1024 (m ((c : Thread nD τ).loc main_arg7)) shapeCasts_S1x512x1024_S512x1024 : FVec Ideal S512x1024 .f32) bitsLt_bf16_f32 := by
  unfold V; after_results <;> rfl
set_option maxHeartbeats 1600000 in
theorem entry_wc (c : Dev nD) : V m c main_v41 = truncf .bf16 (shapeCast S512x1024 (m ((c : Thread nD τ).loc main_arg8)) shapeCasts_S1x512x1024_S512x1024 : FVec Ideal S512x1024 .f32) bitsLt_bf16_f32 := by
  unfold V; after_results <;> rfl
set_option maxHeartbeats 1600000 in
theorem entry_wo (c : Dev nD) : V m c main_v43 = truncf .bf16 (shapeCast S1024x1024 (m ((c : Thread nD τ).loc main_arg9)) shapeCasts_S1x1024x1024_S1024x1024 : FVec Ideal S1024x1024 .f32) bitsLt_bf16_f32 := by
  unfold V; after_results <;> rfl
set_option maxHeartbeats 1600000 in
theorem entry_g (c : Dev nD) : V m c main_v45 = broadcastInDim S1x1024 ![1] bcast_S1024_S1x1024_1 (shapeCast S1024 (m ((c : Thread nD τ).loc main_arg10)) shapeCasts_S1x1024_S1024) := by
  unfold V; after_results <;> rfl
set_option maxHeartbeats 1600000 in
theorem entry_b (c : Dev nD) : V m c main_v47 = broadcastInDim S1x1024 ![1] bcast_S1024_S1x1024_1 (shapeCast S1024 (m ((c : Thread nD τ).loc main_arg11)) shapeCasts_S1x1024_S1024) := by
  unfold V; after_results <;> rfl

/-- The rows before a tile, at an index. -/
theorem halo_at (cu : FVec Ideal S8x8192x512 .f32) (cm : FVec Ideal S16x512 .f32) (b : Fin 8) (j : Fin 16) (i : Fin 8) (hi : 6 ≤ i.val) (l : Fin 512) :
    HALO cu cm (ix4 b j i l) = past cu cm b (512 * j.val + i.val - 6) (by omega) l := by
  unfold past
  pointwise [HALO]
  by_cases h : j.val < 1
  · rw [dif_pos h, dif_pos (by omega)]
    congr 2; apply Fin.ext; dsimp only; omega
  · rw [dif_neg h, dif_neg (by omega)]
    congr 2; apply Fin.ext; dsimp only; omega

/-- The taps at an index. -/
theorem taps_at (w : FVec Ideal S1x3x512 .f32) (k : Fin 3) (l : Fin 512) : TAPS w (ix2 ⟨k.val, by omega⟩ l) = w (ix3 0 k l) := by
  pointwise [TAPS]

/-- The first gate's columns at an index. -/
theorem gates_at (w : FVec Ideal S1x1024x4936 .f32) (d k : Fin 1024) : GATES w (ix2 d ⟨k.val, by omega⟩) = w (ix3 0 d ⟨2888 + k.val, by omega⟩) := by
  pointwise [GATES]
/-- The second gate's columns at an index. -/
theorem gates_at' (w : FVec Ideal S1x1024x4936 .f32) (d k : Fin 1024) : GATES w (ix2 d ⟨1024 + k.val, by omega⟩) = w (ix3 0 d ⟨3912 + k.val, by omega⟩) := by
  pointwise [GATES]
/-- A half's output matrix at an index. -/
theorem wa_at (w : FVec Ideal S1x512x1024 .f32) (e : Fin 512) (k : Fin 1024) :
    (truncf .bf16 (shapeCast S512x1024 w shapeCasts_S1x512x1024_S512x1024 : FVec Ideal S512x1024 .f32) bitsLt_bf16_f32 : FVec Ideal S512x1024 .bf16) (ix2 e k) = w (ix3 0 e k) := by
  pointwise
/-- The joint output matrix at an index. -/
theorem wo_at (w : FVec Ideal S1x1024x1024 .f32) (e : Fin 1024) (k : Fin 1024) :
    (truncf .bf16 (shapeCast S1024x1024 w shapeCasts_S1x1024x1024_S1024x1024 : FVec Ideal S1024x1024 .f32) bitsLt_bf16_f32 : FVec Ideal S1024x1024 .bf16) (ix2 e k) = w (ix3 0 e k) := by
  pointwise
/-- The scale or the shift of the normalisation at an index. -/
theorem ln_at (w : FVec Ideal S1x1024 .f32) (l : Fin 1024) :
    broadcastInDim S1x1024 ![1] bcast_S1024_S1x1024_1 (shapeCast S1024 w shapeCasts_S1x1024_S1024) (ix2 0 l) = w (ix2 0 l) := by
  pointwise

/-! ## Where the blocks lie -/

theorem emb_0 (t : Fin cfg0.N) (r : Fin 512) (l : Fin 512) : (win0_0.blk t).view.emb (ix3 0 r l)
    = (ix3 (⟨t.val / 16, by have := t_lt t; omega⟩ : Fin 8) (⟨t.val % 16 * 512 + r.val, by omega⟩ : Fin 8192) l : S8x8192x512.Idx) := by
  blk_ext [idx t]
theorem emb_1 (t : Fin cfg0.N) (r : Fin 512) (l : Fin 512) : (win0_1.blk t).view.emb (ix3 0 r l)
    = (ix3 (⟨t.val / 16, by have := t_lt t; omega⟩ : Fin 8) (⟨t.val % 16 * 512 + r.val, by omega⟩ : Fin 8192) l : S8x8192x512.Idx) := by
  blk_ext [idx t]
theorem emb_3 (t : Fin cfg0.N) (r : Fin 512) (l : Fin 512) : (win0_3.blk t).view.emb (ix3 0 r l)
    = (ix3 (⟨t.val / 16, by have := t_lt t; omega⟩ : Fin 8) (⟨t.val % 16 * 512 + r.val, by omega⟩ : Fin 8192) l : S8x8192x512.Idx) := by
  blk_ext [idx t]
theorem emb_4 (t : Fin cfg0.N) (r : Fin 512) (l : Fin 1024) : (win0_4.blk t).view.emb (ix3 0 r l)
    = (ix3 (⟨t.val / 16, by have := t_lt t; omega⟩ : Fin 8) (⟨t.val % 16 * 512 + r.val, by omega⟩ : Fin 8192) l : S8x8192x1024.Idx) := by
  blk_ext [idx t]
theorem emb_12 (t : Fin cfg0.N) (r : Fin 512) (l : Fin 1024) : (win0_12.blk t).view.emb (ix3 0 r l)
    = (ix3 (⟨t.val / 16, by have := t_lt t; omega⟩ : Fin 8) (⟨t.val % 16 * 512 + r.val, by omega⟩ : Fin 8192) l : S8x8192x1024.Idx) := by
  blk_ext [idx t]
theorem emb_2 (t : Fin cfg0.N) (i : Fin 8) (l : Fin 512) : (win0_2.blk t).view.emb (ix4 0 0 i l)
    = (ix4 (⟨t.val / 16, by have := t_lt t; omega⟩ : Fin 8) (⟨t.val % 16, by omega⟩ : Fin 16) i l : S8x16x8x512.Idx) := by
  blk_ext [idx t]
theorem emb_5 (t : Fin cfg0.N) (r : Fin 8) (l : Fin 512) : (win0_5.blk t).view.emb (ix2 r l) = (ix2 r l : S8x512.Idx) := by
  blk_ext [idx t]
theorem emb_6 (t : Fin cfg0.N) (r : Fin 1024) (l : Fin 2048) : (win0_6.blk t).view.emb (ix2 r l) = (ix2 r l : S1024x2048.Idx) := by
  blk_ext [idx t]
theorem emb_7 (t : Fin cfg0.N) (r : Fin 512) (l : Fin 1024) : (win0_7.blk t).view.emb (ix2 r l) = (ix2 r l : S512x1024.Idx) := by
  blk_ext [idx t]
theorem emb_8 (t : Fin cfg0.N) (r : Fin 512) (l : Fin 1024) : (win0_8.blk t).view.emb (ix2 r l) = (ix2 r l : S512x1024.Idx) := by
  blk_ext [idx t]
theorem emb_9 (t : Fin cfg0.N) (r : Fin 1024) (l : Fin 1024) : (win0_9.blk t).view.emb (ix2 r l) = (ix2 r l : S1024x1024.Idx) := by
  blk_ext [idx t]
theorem emb_10 (t : Fin cfg0.N) (r : Fin 1) (l : Fin 1024) : (win0_10.blk t).view.emb (ix2 r l) = (ix2 r l : S1x1024.Idx) := by
  blk_ext [idx t]
theorem emb_11 (t : Fin cfg0.N) (r : Fin 1) (l : Fin 1024) : (win0_11.blk t).view.emb (ix2 r l) = (ix2 r l : S1x1024.Idx) := by
  blk_ext [idx t]

/-! ## The blocks read -/

theorem read_0 (c : Dev nD) (t : Fin cfg0.N) (r : Fin 512) (l : Fin 512) : iblk m c 0 t (ix3 0 r l)
    = ((m ((c : Thread nD τ).loc main_arg0)) : FVec Ideal S8x8192x512 .bf16) (ix3 (⟨t.val / 16, by have := t_lt t; omega⟩ : Fin 8) (⟨t.val % 16 * 512 + r.val, by omega⟩ : Fin 8192) l) := by
  unfold iblk
  show V m c main_arg0 ((win0_0.blk t).view.emb (ix3 0 r l)) = _
  rw [entry_h0, emb_0]
theorem read_1 (c : Dev nD) (t : Fin cfg0.N) (r : Fin 512) (l : Fin 512) : iblk m c 1 t (ix3 0 r l)
    = ((m ((c : Thread nD τ).loc main_arg1)) : FVec Ideal S8x8192x512 .f32) (ix3 (⟨t.val / 16, by have := t_lt t; omega⟩ : Fin 8) (⟨t.val % 16 * 512 + r.val, by omega⟩ : Fin 8192) l) := by
  unfold iblk
  show V m c main_arg1 ((win0_1.blk t).view.emb (ix3 0 r l)) = _
  rw [entry_h1, emb_1]
theorem read_3 (c : Dev nD) (t : Fin cfg0.N) (r : Fin 512) (l : Fin 512) : iblk m c 3 t (ix3 0 r l)
    = ((m ((c : Thread nD τ).loc main_arg3)) : FVec Ideal S8x8192x512 .f32) (ix3 (⟨t.val / 16, by have := t_lt t; omega⟩ : Fin 8) (⟨t.val % 16 * 512 + r.val, by omega⟩ : Fin 8192) l) := by
  unfold iblk
  show V m c main_arg3 ((win0_3.blk t).view.emb (ix3 0 r l)) = _
  rw [entry_h3, emb_3]
theorem read_4 (c : Dev nD) (t : Fin cfg0.N) (r : Fin 512) (l : Fin 1024) : iblk m c 4 t (ix3 0 r l)
    = ((m ((c : Thread nD τ).loc main_arg4)) : FVec Ideal S8x8192x1024 .f32) (ix3 (⟨t.val / 16, by have := t_lt t; omega⟩ : Fin 8) (⟨t.val % 16 * 512 + r.val, by omega⟩ : Fin 8192) l) := by
  unfold iblk
  show V m c main_arg4 ((win0_4.blk t).view.emb (ix3 0 r l)) = _
  rw [entry_h4, emb_4]
theorem read_2 (c : Dev nD) (t : Fin cfg0.N) (i : Fin 8) (hi : 6 ≤ i.val) (l : Fin 512) : iblk m c 2 t (ix4 0 0 i l)
    = past (m ((c : Thread nD τ).loc main_arg1)) (m ((c : Thread nD τ).loc main_arg2)) ⟨t.val / 16, by have := t_lt t; omega⟩ (512 * (t.val % 16) + i.val - 6) (by omega) l := by
  unfold iblk
  show V m c main_v34 ((win0_2.blk t).view.emb (ix4 0 0 i l)) = _
  rw [entry_halo, emb_2]
  exact halo_at _ _ _ _ _ hi _
theorem read_5 (c : Dev nD) (t : Fin cfg0.N) (k : Fin 3) (l : Fin 512) : iblk m c 5 t (ix2 ⟨k.val, by omega⟩ l) = ((m ((c : Thread nD τ).loc main_arg6)) : FVec Ideal S1x3x512 .f32) (ix3 0 k l) := by
  unfold iblk
  show V m c main_v37 ((win0_5.blk t).view.emb (ix2 ⟨k.val, by omega⟩ l)) = _
  rw [entry_taps, emb_5]
  exact taps_at _ _ _
theorem read_6 (c : Dev nD) (t : Fin cfg0.N) (d k : Fin 1024) : iblk m c 6 t (ix2 d ⟨k.val, by omega⟩) = ((m ((c : Thread nD τ).loc main_arg5)) : FVec Ideal S1x1024x4936 .f32) (ix3 0 d ⟨2888 + k.val, by omega⟩) := by
  unfold iblk
  show V m c main_v28 ((win0_6.blk t).view.emb (ix2 d ⟨k.val, by omega⟩)) = _
  rw [entry_gates, emb_6]
  exact gates_at _ _ _
theorem read_6' (c : Dev nD) (t : Fin cfg0.N) (d k : Fin 1024) : iblk m c 6 t (ix2 d ⟨1024 + k.val, by omega⟩) = ((m ((c : Thread nD τ).loc main_arg5)) : FVec Ideal S1x1024x4936 .f32) (ix3 0 d ⟨3912 + k.val, by omega⟩) := by
  unfold iblk
  show V m c main_v28 ((win0_6.blk t).view.emb (ix2 d ⟨1024 + k.val, by omega⟩)) = _
  rw [entry_gates, emb_6]
  exact gates_at' _ _ _
theorem read_7 (c : Dev nD) (t : Fin cfg0.N) (e : Fin 512) (k : Fin 1024) : iblk m c 7 t (ix2 e k) = ((m ((c : Thread nD τ).loc main_arg7)) : FVec Ideal S1x512x1024 .f32) (ix3 0 e k) := by
  unfold iblk
  show V m c main_v39 ((win0_7.blk t).view.emb (ix2 e k)) = _
  rw [entry_wa, emb_7]
  exact wa_at _ _ _
theorem read_8 (c : Dev nD) (t : Fin cfg0.N) (e : Fin 512) (k : Fin 1024) : iblk m c 8 t (ix2 e k) = ((m ((c : Thread nD τ).loc main_arg8)) : FVec Ideal S1x512x1024 .f32) (ix3 0 e k) := by
  unfold iblk
  show V m c main_v41 ((win0_8.blk t).view.emb (ix2 e k)) = _
  rw [entry_wc, emb_8]
  exact wa_at _ _ _
theorem read_9 (c : Dev nD) (t : Fin cfg0.N) (e : Fin 1024) (k : Fin 1024) : iblk m c 9 t (ix2 e k) = ((m ((c : Thread nD τ).loc main_arg9)) : FVec Ideal S1x1024x1024 .f32) (ix3 0 e k) := by
  unfold iblk
  show V m c main_v43 ((win0_9.blk t).view.emb (ix2 e k)) = _
  rw [entry_wo, emb_9]
  exact wo_at _ _ _
theorem read_10 (c : Dev nD) (t : Fin cfg0.N) (l : Fin 1024) : iblk m c 10 t (ix2 0 l) = ((m ((c : Thread nD τ).loc main_arg10)) : FVec Ideal S1x1024 .f32) (ix2 0 l) := by
  unfold iblk
  show V m c main_v45 ((win0_10.blk t).view.emb (ix2 0 l)) = _
  rw [entry_g, emb_10]
  exact ln_at _ _
theorem read_11 (c : Dev nD) (t : Fin cfg0.N) (l : Fin 1024) : iblk m c 11 t (ix2 0 l) = ((m ((c : Thread nD τ).loc main_arg11)) : FVec Ideal S1x1024 .f32) (ix2 0 l) := by
  unfold iblk
  show V m c main_v47 ((win0_11.blk t).view.emb (ix2 0 l)) = _
  rw [entry_b, emb_11]
  exact ln_at _ _

/-! ## One point -/

/-- The comparison of a row's number with a constant. -/
theorem row_is (r : Fin 512) (n : Nat) (hn : n < 512) : IntOp.cmpi CmpIPredicate.eq (BitVec.ofNat 32 r.val) (BitVec.ofNat 32 n) = BitVec.ofBool (decide (r.val = n)) := by
  show BitVec.ofBool (BitVec.ofNat 32 r.val == BitVec.ofNat 32 n) = _
  congr 1
  rw [Bool.eq_iff_iff, beq_iff_eq, decide_eq_true_eq, ← BitVec.toNat_inj, BitVec.toNat_ofNat, BitVec.toNat_ofNat]
  omega

/-- The tile's row before row `r`. -/
theorem pay7_at (x : FVec Ideal S1x512x512 .f32) (h : FVec Ideal S1x1x8x512 .f32) (r : Fin 512) (l : Fin 512) :
    k0_pay7 (F := Ideal) x h (ix2 r l) = if r.val = 0 then h (ix4 0 0 7 l) else x (ix3 0 ⟨(r.val + 512 - 1) % 512, by omega⟩ l) := by
  pointwise [k0_pay7, k0_pay5, k0_pay6]
  rw [row_is r 0 (by omega)]
  by_cases h0 : r.val = 0
  · rw [if_pos h0, decide_eq_true h0]; rfl
  · rw [if_neg h0, decide_eq_false h0]; rfl

/-- The tile's row two before row `r`. -/
theorem pay8_at (x : FVec Ideal S1x512x512 .f32) (h : FVec Ideal S1x1x8x512 .f32) (r : Fin 512) (l : Fin 512) :
    k0_pay8 (F := Ideal) x h (ix2 r l) = if r.val = 0 then h (ix4 0 0 6 l) else if r.val = 1 then h (ix4 0 0 7 l) else x (ix3 0 ⟨(r.val + 512 - 2) % 512, by omega⟩ l) := by
  pointwise [k0_pay8, k0_pay5, k0_pay6]
  rw [row_is r 0 (by omega), row_is r 1 (by omega)]
  by_cases h0 : r.val = 0
  · rw [if_pos h0, decide_eq_true h0]; rfl
  · rw [if_neg h0, decide_eq_false h0]
    by_cases h1 : r.val = 1
    · rw [if_pos h1, decide_eq_true h1]; rfl
    · rw [if_neg h1, decide_eq_false h1]; rfl

/-- The residual's sum of one point. -/
theorem pay9_at (x0 : FVec Ideal S1x512x512 .bf16) (x1 : FVec Ideal S1x512x512 .f32) (x2 : FVec Ideal S1x1x8x512 .f32) (x3 : FVec Ideal S1x512x512 .f32) (x4 : FVec Ideal S1x512x1024 .f32)
    (x5 : FVec Ideal S8x512 .f32) (x6 : FVec Ideal S1024x2048 .bf16) (x7 : FVec Ideal S512x1024 .bf16) (x8 : FVec Ideal S512x1024 .bf16) (x9 : FVec Ideal S1024x1024 .bf16)
    (x10 : FVec Ideal S1x1024 .f32) (x11 : FVec Ideal S1x1024 .f32) (r : Fin 512) (l : Fin 1024) :
    k0_pay9 (F := Ideal) (k0_pay3 x4 (View.ld x6 r0_1)) (k0_pay4 x4 (View.ld x6 r0_2)) (k0_pay5 x1) (k0_pay7 x1 x2) (k0_pay8 x1 x2) x5 x3 x8 x0 x7 x9 x4 (ix2 r l)
    = merged (fun k => x4 (ix3 0 r k)) (fun d k => x6 (ix2 d ⟨k.val, by omega⟩)) (fun d k => x6 (ix2 d ⟨1024 + k.val, by omega⟩))
        (fun e => x0 (ix3 0 r e)) (fun e k => x7 (ix2 e k))
        (fun e => x3 (ix3 0 r e) * (x5 (ix2 0 e) * k0_pay8 (F := Ideal) x1 x2 (ix2 r e) + x5 (ix2 1 e) * k0_pay7 (F := Ideal) x1 x2 (ix2 r e) + x5 (ix2 2 e) * x1 (ix3 0 r e)))
        (fun e k => x8 (ix2 e k)) (fun k l => x9 (ix2 k l)) l := by
  unfold merged
  generalize k0_pay8 (F := Ideal) x1 x2 = p8
  generalize k0_pay7 (F := Ideal) x1 x2 = p7
  pointwise [k0_pay9, k0_pay3, k0_pay4, k0_pay2, k0_pay5]

/-- The normalised rows of one point. -/
theorem pay1_at (x : FVec Ideal S512x1024 .f32) (g b : FVec Ideal S1x1024 .f32) (r : Fin 512) (l : Fin 1024) :
    k0_pay1 (F := Ideal) x g b (ix3 0 r l) = lnAt (fun k => x (ix2 r k)) (g (ix2 0 l)) (b (ix2 0 l)) l := by
  unfold lnAt mean
  pointwise [k0_pay1]

/-- One point's result from its blocks. -/
theorem out_at (x0 : FVec Ideal S1x512x512 .bf16) (x1 : FVec Ideal S1x512x512 .f32) (x2 : FVec Ideal S1x1x8x512 .f32) (x3 : FVec Ideal S1x512x512 .f32) (x4 : FVec Ideal S1x512x1024 .f32)
    (x5 : FVec Ideal S8x512 .f32) (x6 : FVec Ideal S1024x2048 .bf16) (x7 : FVec Ideal S512x1024 .bf16) (x8 : FVec Ideal S512x1024 .bf16) (x9 : FVec Ideal S1024x1024 .bf16)
    (x10 : FVec Ideal S1x1024 .f32) (x11 : FVec Ideal S1x1024 .f32) (r : Fin 512) (l : Fin 1024) :
    out0_12 (F := Ideal) x0 x1 x2 x3 x4 x5 x6 x7 x8 x9 x10 x11 (ix3 0 r l)
    = lnAt (merged (fun k => x4 (ix3 0 r k)) (fun d k => x6 (ix2 d ⟨k.val, by omega⟩)) (fun d k => x6 (ix2 d ⟨1024 + k.val, by omega⟩))
        (fun e => x0 (ix3 0 r e)) (fun e k => x7 (ix2 e k))
        (fun e => x3 (ix3 0 r e) * (x5 (ix2 0 e) * k0_pay8 (F := Ideal) x1 x2 (ix2 r e) + x5 (ix2 1 e) * k0_pay7 (F := Ideal) x1 x2 (ix2 r e) + x5 (ix2 2 e) * x1 (ix3 0 r e)))
        (fun e k => x8 (ix2 e k)) (fun k l => x9 (ix2 k l))) (x10 (ix2 0 l)) (x11 (ix2 0 l)) l := by
  frame_out
  rw [pay1_at]
  congr 1
  funext k
  exact pay9_at x0 x1 x2 x3 x4 x5 x6 x7 x8 x9 x10 x11 r k

/-- The convolution's three inputs of row `r` at point `t`. -/
theorem tap0 (c : Dev nD) (t : Fin cfg0.N) (r : Fin 512) (l : Fin 512) : k0_pay8 (iblk m c 1 t) (iblk m c 2 t) (ix2 r l)
    = past (m ((c : Thread nD τ).loc main_arg1)) (m ((c : Thread nD τ).loc main_arg2)) ⟨t.val / 16, by have := t_lt t; omega⟩ (t.val % 16 * 512 + r.val) (by omega) l := by
  refine (pay8_at _ _ r l).trans ?_
  by_cases h0 : r.val = 0
  · rw [if_pos h0]
    refine (read_2 m c t 6 (by decide) l).trans ?_
    congr 1; have : (6 : Fin 8).val = 6 := rfl; omega
  rw [if_neg h0]
  by_cases h1 : r.val = 1
  · rw [if_pos h1]
    refine (read_2 m c t 7 (by decide) l).trans ?_
    congr 1; have : (7 : Fin 8).val = 7 := rfl; omega
  rw [if_neg h1]
  refine (read_1 m c t _ l).trans ?_
  unfold past
  rw [dif_neg (by omega)]
  congr 2; apply Fin.ext; dsimp only; omega

/-- The one-row-back input. -/
theorem tap1 (c : Dev nD) (t : Fin cfg0.N) (r : Fin 512) (l : Fin 512) : k0_pay7 (iblk m c 1 t) (iblk m c 2 t) (ix2 r l)
    = past (m ((c : Thread nD τ).loc main_arg1)) (m ((c : Thread nD τ).loc main_arg2)) ⟨t.val / 16, by have := t_lt t; omega⟩ (t.val % 16 * 512 + r.val + 1) (by omega) l := by
  refine (pay7_at _ _ r l).trans ?_
  by_cases h0 : r.val = 0
  · rw [if_pos h0]
    refine (read_2 m c t 7 (by decide) l).trans ?_
    congr 1; have : (7 : Fin 8).val = 7 := rfl; omega
  rw [if_neg h0]
  refine (read_1 m c t _ l).trans ?_
  unfold past
  rw [dif_neg (by omega)]
  congr 2; apply Fin.ext; dsimp only; omega

/-- The row itself. -/
theorem tap2 (c : Dev nD) (t : Fin cfg0.N) (r : Fin 512) (l : Fin 512) : iblk m c 1 t (ix3 0 r l)
    = past (m ((c : Thread nD τ).loc main_arg1)) (m ((c : Thread nD τ).loc main_arg2)) ⟨t.val / 16, by have := t_lt t; omega⟩ (t.val % 16 * 512 + r.val + 2) (by omega) l := by
  refine (read_1 m c t r l).trans ?_
  unfold past
  rw [dif_neg (by omega)]
  congr 2

/-- Point `t`'s block of the result. -/
theorem point (c : Dev nD) (t : Fin cfg0.N) (r : Fin 512) (l : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r l)
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ((win0_12.blk t).view.emb (ix3 0 r l)) := by
  refine (out_at _ _ _ _ _ _ _ _ _ _ _ _ r l).trans ?_
  rw [emb_12]
  refine Eq.trans ?_ (ref_at _ _ _ _ _ _ _ _ _ _ _ _ _ _ _).symm
  refine congr (congr (congr (congrArg lnAt ?_) (read_10 m c t l)) (read_11 m c t l)) rfl
  refine congr (congr (congr (congr (congr (congr (congr (congrArg merged ?_) ?_) ?_) ?_) ?_) ?_) ?_) ?_
  · funext k; exact read_4 m c t r k
  · funext d k; exact read_6 m c t d k
  · funext d k; exact read_6' m c t d k
  · funext e; exact read_0 m c t r e
  · funext e k; exact read_7 m c t e k
  · funext e
    unfold conv
    exact congrArg₂ (· * ·) (read_3 m c t r e) (congrArg₂ (· + ·) (congrArg₂ (· + ·) (congrArg₂ (· * ·) (read_5 m c t 0 e) (tap0 m c t r e))
      (congrArg₂ (· * ·) (read_5 m c t 1 e) (tap1 m c t r e))) (congrArg₂ (· * ·) (read_5 m c t 2 e) (tap2 m c t r e)))
  · funext e k; exact read_8 m c t e k
  · funext k l; exact read_9 m c t k l

/-- The result array after the run. -/
theorem final (c : Dev nD) : (dats m 0 c).arrAt 12 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  have hy : y = ix3 0 (y 1) (y 2) := by
    refine (eq_ix3 y).trans ?_
    congr 1
    exact Subsingleton.elim (α := Fin 1) _ _
  exact (congrArg _ hy).trans ((point m c t (y 1) (y 2)).trans (congrArg _ (congrArg _ hy.symm)))

end Cert.Kernel2Ideal.MergeValue

end
-- ==== Proof.MergeClaim.lean ====
/-
  The claims about the merge and its reference.
-/
module

public import proofs.«01_k».proof.Defs
public import proofs.«01_k».proof.Proof.MergeValue
public import Idealize.ShloMosaic.Lib.Quiescent

@[expose] public section

noncomputable section

namespace Cert.Claims

open Idealize.ShloMosaic Idealize.SL.Sem

/-- The reference runs, keeps its arguments and leaves no semaphore raised. -/
theorem quiescent_Reference2Ideal : Cert.quiescent_Reference2Ideal := fun m ρ _ =>
  (θ_run Cert.Reference2Ideal.defs _ _).mono (fun r h => ⟨fun c => (h c).2, Idealize.ShloMosaic.sem_eq_zero_of_no_sems (by decide) r.2⟩) (Cert.Reference2Ideal.Value.run m ρ)

/-- From equal arguments the kernel and its reference end with equal results over the extended reals. -/
theorem algebraic_Kernel2Ideal_Reference2Ideal : Cert.algebraic_Kernel2Ideal_Reference2Ideal := fun m ρ m' ρ' _ hag =>
  ⟨fun c => Cert.Reference2Ideal.MergeRef.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)),
    (θ_run Cert.Kernel2Ideal.defs _ _).mono (fun _ h c => ⟨(h c).1.trans (Cert.Kernel2Ideal.MergeValue.final m c), (h c).2⟩) (Cert.Kernel2Ideal.Value.run_blocks m ρ),
    (θ_run Cert.Reference2Ideal.defs _ _).mono (fun _ h c => ⟨(h c).1.trans (by rw [Cert.Reference2Ideal.MergeRef.res_eq m' c, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]), (h c).2⟩) (Cert.Reference2Ideal.Value.run m' ρ')⟩

end Cert.Claims

end
-- ==== Proof.GateValue.lean ====
/-
  The gate projection at the extended reals: what the two result arrays of the kernel hold after its run. Point `t` of the
  grid writes 1024 rows of each; both blocks are products of these rows of the activations with column ranges of the
  projection matrix, and the reference's terms are the same products read at the same places.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.GateValue

open Cert.Kernel3Ideal Cert.Kernel3Ideal.Gen

variable (m : (ℓ : Loc nD τ sig) → Buf (Elt Ideal) ℓ)

/-- The reference's whole projection of the rows `X` by the matrix `W`. -/
abbrev PROJ (X : FVec Ideal Cert.Reference3Ideal.S8x8192x1024 .f32) (W : FVec Ideal Cert.Reference3Ideal.S1x1024x4936 .f32) :
    FVec Ideal Cert.Reference3Ideal.S8x8192x4936 .f32 :=
  Host.dotGeneral Cert.Reference3Ideal.dot_S8x8192x1024_S1024x4936_S8x8192x4936_2_0_01_1_n_n none X
    (shapeCast _ W Cert.Reference3Ideal.Gen.shapeCasts_S1x1024x4936_S1024x4936)

/-- The reference's first result: the gate `c` times the convolution's input. -/
abbrev REFcu (X : FVec Ideal Cert.Reference3Ideal.S8x8192x1024 .f32) (W : FVec Ideal Cert.Reference3Ideal.S1x1024x4936 .f32) :
    FVec Ideal Cert.Reference3Ideal.S65536x512 .f32 :=
  shapeCast _ (mulf (extractStridedSlice Cert.Reference3Ideal.S8x8192x512 ![0, 0, 2376] (PROJ X W) Cert.Reference3Ideal.Gen.slices_S8x8192x4936_S8x8192x512_0_0_2376)
    (extractStridedSlice Cert.Reference3Ideal.S8x8192x512 ![0, 0, 1352] (PROJ X W) Cert.Reference3Ideal.Gen.slices_S8x8192x4936_S8x8192x512_0_0_1352))
    Cert.Reference3Ideal.Gen.shapeCasts_S8x8192x512_S65536x512

/-- The reference's second result: the gate `b`. -/
abbrev REFb (X : FVec Ideal Cert.Reference3Ideal.S8x8192x1024 .f32) (W : FVec Ideal Cert.Reference3Ideal.S1x1024x4936 .f32) :
    FVec Ideal Cert.Reference3Ideal.S65536x512 .f32 :=
  shapeCast _ (extractStridedSlice Cert.Reference3Ideal.S8x8192x512 ![0, 0, 1864] (PROJ X W) Cert.Reference3Ideal.Gen.slices_S8x8192x4936_S8x8192x512_0_0_1864)
    Cert.Reference3Ideal.Gen.shapeCasts_S8x8192x512_S65536x512

/-- Where each window's block lies at point `t`. -/
theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

set_option maxHeartbeats 1600000 in
/-- The rows of activations when the grid starts: the argument with its two leading axes joined. -/
theorem entry_x (c : Dev nD) : V m c main_v29 = shapeCast S65536x1024 (m ((c : Thread nD τ).loc main_arg0)) shapeCasts_S8x8192x1024_S65536x1024 := by
  unfold V; after_results <;> rfl

set_option maxHeartbeats 1600000 in
/-- The packed columns when the grid starts. -/
theorem entry_w (c : Dev nD) : V m c main_v27 = truncf .bf16 (concatenate S1024x1536 1
    [⟨S1024x512, extractStridedSlice S1024x512 ![0, 1352] (shapeCast S1024x4936 (m ((c : Thread nD τ).loc main_arg1)) shapeCasts_S1x1024x4936_S1024x4936) slices_S1024x4936_S1024x512_0_1352⟩,
     ⟨S1024x512, extractStridedSlice S1024x512 ![0, 2376] (shapeCast S1024x4936 (m ((c : Thread nD τ).loc main_arg1)) shapeCasts_S1x1024x4936_S1024x4936) slices_S1024x4936_S1024x512_0_2376⟩,
     ⟨S1024x512, extractStridedSlice S1024x512 ![0, 1864] (shapeCast S1024x4936 (m ((c : Thread nD τ).loc main_arg1)) shapeCasts_S1x1024x4936_S1024x4936) slices_S1024x4936_S1024x512_0_1864⟩]
    concatenates_S1024x512_S1024x512_S1024x512_S1024x1536_d1 : FVec Ideal S1024x1536 .f32) bitsLt_bf16_f32 := by
  unfold V; after_results <;> rfl

/-- Where an element of the block of activations lies in the array. -/
theorem emb_x (t : Fin cfg0.N) (r : Fin 1024) (k : Fin 1024) (ht : t.val < 64) :
    (win0_0.blk t).view.emb (ix2 r k) = (ix2 (⟨t.val * 1024 + r.val, by omega⟩ : Fin 65536) k : S65536x1024.Idx) := by
  blk_ext [idx t]

/-- The packed columns are one block. -/
theorem emb_w (t : Fin cfg0.N) (k : Fin 1024) (l : Fin 1536) :
    (win0_1.blk t).view.emb (ix2 k l) = (ix2 k l : S1024x1536.Idx) := by
  blk_ext [idx t]

/-- The activations with their leading axes joined, at an index. -/
theorem rows_at (X : FVec Ideal S8x8192x1024 .f32) (r : Fin 65536) (k : Fin 1024) :
    shapeCast S65536x1024 X shapeCasts_S8x8192x1024_S65536x1024 (ix2 r k) = X (ix3 ⟨r.val / 8192, by omega⟩ ⟨r.val % 8192, by omega⟩ k) := by
  pointwise

/-- The packed columns at an index. -/
theorem cols_at (W : FVec Ideal S1x1024x4936 .f32) (k : Fin 1024) (l : Fin 1536) :
    (truncf .bf16 (concatenate S1024x1536 1
    [⟨S1024x512, extractStridedSlice S1024x512 ![0, 1352] (shapeCast S1024x4936 W shapeCasts_S1x1024x4936_S1024x4936) slices_S1024x4936_S1024x512_0_1352⟩,
     ⟨S1024x512, extractStridedSlice S1024x512 ![0, 2376] (shapeCast S1024x4936 W shapeCasts_S1x1024x4936_S1024x4936) slices_S1024x4936_S1024x512_0_2376⟩,
     ⟨S1024x512, extractStridedSlice S1024x512 ![0, 1864] (shapeCast S1024x4936 W shapeCasts_S1x1024x4936_S1024x4936) slices_S1024x4936_S1024x512_0_1864⟩]
    concatenates_S1024x512_S1024x512_S1024x512_S1024x1536_d1 : FVec Ideal S1024x1536 .f32) bitsLt_bf16_f32 : FVec Ideal S1024x1536 .bf16) (ix2 k l)
    = W (ix3 0 k
      (if l.val < 512 then ⟨1352 + l.val, by omega⟩ else if l.val < 1024 then ⟨2376 + (l.val - 512), by omega⟩ else ⟨1864 + (l.val - 1024), by omega⟩)) := by
  pointwise
  by_cases h1 : l.val < 512
  · rw [dif_pos h1, if_pos h1]
  by_cases h2 : l.val < 1024
  · rw [dif_neg h1, dif_pos (by omega), if_neg h1, if_pos h2]
  · rw [dif_neg h1, dif_neg (by omega), if_neg h1, if_neg h2]
    congr 2

/-- A row of the block of activations at point `t`. -/
theorem read_x (c : Dev nD) (t : Fin cfg0.N) (r : Fin 1024) (k : Fin 1024) (ht : t.val < 64) :
    iblk m c 0 t (ix2 r k) = (m ((c : Thread nD τ).loc main_arg0) : FVec Ideal S8x8192x1024 .f32)
      (ix3 ⟨(t.val * 1024 + r.val) / 8192, by omega⟩ ⟨(t.val * 1024 + r.val) % 8192, by omega⟩ k) := by
  unfold iblk
  show V m c main_v29 ((win0_0.blk t).view.emb (ix2 r k)) = _
  rw [entry_x, emb_x t r k ht]
  exact rows_at _ _ _

/-- A column of the packed matrix, by the range it lies in. -/
theorem read_w (c : Dev nD) (t : Fin cfg0.N) (k : Fin 1024) (l : Fin 1536) :
    iblk m c 1 t (ix2 k l) = (m ((c : Thread nD τ).loc main_arg1) : FVec Ideal S1x1024x4936 .f32) (ix3 0 k
      (if l.val < 512 then ⟨1352 + l.val, by omega⟩ else if l.val < 1024 then ⟨2376 + (l.val - 512), by omega⟩ else ⟨1864 + (l.val - 1024), by omega⟩)) := by
  unfold iblk
  show V m c main_v27 ((win0_1.blk t).view.emb (ix2 k l)) = _
  rw [entry_w, emb_w t k l]
  exact cols_at _ _ _

theorem row_lt (t : Fin cfg0.N) : t.val < 64 := lt_of_lt_of_eq t.isLt N_0

/-- Where an element of a block of the results lies in its array. -/
theorem emb_o2 (t : Fin cfg0.N) (r : Fin 1024) (l : Fin 512) :
    (win0_2.blk t).view.emb (ix2 r l) = (ix2 (⟨t.val * 1024 + r.val, by have := row_lt t; omega⟩ : Fin 65536) l : S65536x512.Idx) := by
  blk_ext [idx t]
theorem emb_o3 (t : Fin cfg0.N) (r : Fin 1024) (l : Fin 512) :
    (win0_3.blk t).view.emb (ix2 r l) = (ix2 (⟨t.val * 1024 + r.val, by have := row_lt t; omega⟩ : Fin 65536) l : S65536x512.Idx) := by
  blk_ext [idx t]

/-- The reference's first result at an index. -/
theorem refcu_at (X : FVec Ideal Cert.Reference3Ideal.S8x8192x1024 .f32) (W : FVec Ideal Cert.Reference3Ideal.S1x1024x4936 .f32)
    (r : Fin 65536) (l : Fin 512) : REFcu X W (ix2 r l)
    = (∑ k : Fin 1024, X (ix3 ⟨r.val / 8192, by omega⟩ ⟨r.val % 8192, by omega⟩ k) * W (ix3 0 k ⟨2376 + l.val, by omega⟩))
      * ∑ k : Fin 1024, X (ix3 ⟨r.val / 8192, by omega⟩ ⟨r.val % 8192, by omega⟩ k) * W (ix3 0 k ⟨1352 + l.val, by omega⟩) := by
  pointwise [REFcu, PROJ]

/-- The reference's second result at an index. -/
theorem refb_at (X : FVec Ideal Cert.Reference3Ideal.S8x8192x1024 .f32) (W : FVec Ideal Cert.Reference3Ideal.S1x1024x4936 .f32)
    (r : Fin 65536) (l : Fin 512) : REFb X W (ix2 r l)
    = ∑ k : Fin 1024, X (ix3 ⟨r.val / 8192, by omega⟩ ⟨r.val % 8192, by omega⟩ k) * W (ix3 0 k ⟨1864 + l.val, by omega⟩) := by
  pointwise [REFb, PROJ]

/-- One point's first result from its two blocks. -/
theorem pay2_at (x : FVec Ideal S1024x1024 .f32) (w : FVec Ideal S1024x1536 .bf16) (r : Fin 1024) (l : Fin 512) :
    out0_2 (F := Ideal) x w (ix2 r l) = (∑ k : Fin 1024, x (ix2 r k) * w (ix2 k ⟨l.val, by omega⟩)) * ∑ k : Fin 1024, x (ix2 r k) * w (ix2 k ⟨512 + l.val, by omega⟩) := by
  frame_out
  pointwise [k0_pay2, k0_pay1]

/-- One point's second result from its two blocks. -/
theorem pay3_at (x : FVec Ideal S1024x1024 .f32) (w : FVec Ideal S1024x1536 .bf16) (r : Fin 1024) (l : Fin 512) :
    out0_3 (F := Ideal) x w (ix2 r l) = ∑ k : Fin 1024, x (ix2 r k) * w (ix2 k ⟨1024 + l.val, by omega⟩) := by
  frame_out
  pointwise [k0_pay3, k0_pay1]

/-- Point `t`'s block of the first result. -/
theorem point2 (c : Dev nD) (t : Fin cfg0.N) (r : Fin 1024) (l : Fin 512) : out0_2 (iblk m c 0 t) (iblk m c 1 t) (ix2 r l)
    = REFcu (m ((c : Thread nD τ).loc main_arg0)) (m ((c : Thread nD τ).loc main_arg1)) ((win0_2.blk t).view.emb (ix2 r l)) := by
  have ht := row_lt t
  refine (pay2_at _ _ r l).trans ?_
  rw [emb_o2]
  refine Eq.trans ?_ (refcu_at _ _ _ _).symm
  refine (mul_comm _ _).trans (congrArg₂ (· * ·) (Finset.sum_congr rfl fun k _ => congrArg₂ (· * ·) (read_x m c t r k ht) ?_) (Finset.sum_congr rfl fun k _ => congrArg₂ (· * ·) (read_x m c t r k ht) ?_))
  · refine (read_w m c t k _).trans ?_
    rw [if_neg (by simp), if_pos (by dsimp only; omega)]; congr 2; apply Fin.ext; simp
  · refine (read_w m c t k _).trans ?_
    rw [if_pos (by simp)]

/-- Point `t`'s block of the second result. -/
theorem point3 (c : Dev nD) (t : Fin cfg0.N) (r : Fin 1024) (l : Fin 512) : out0_3 (iblk m c 0 t) (iblk m c 1 t) (ix2 r l)
    = REFb (m ((c : Thread nD τ).loc main_arg0)) (m ((c : Thread nD τ).loc main_arg1)) ((win0_3.blk t).view.emb (ix2 r l)) := by
  have ht := row_lt t
  refine (pay3_at _ _ r l).trans ?_
  rw [emb_o3]
  refine Eq.trans ?_ (refb_at _ _ _ _).symm
  refine Finset.sum_congr rfl fun k _ => congrArg₂ (· * ·) (read_x m c t r k ht) ?_
  refine (read_w m c t k _).trans ?_
  rw [if_neg (by simp; omega), if_neg (by simp)]; congr 2; apply Fin.ext; simp

/-- The first result array after the run. -/
theorem final2 (c : Dev nD) : (dats m 0 c).arrAt 2 (cfgs 0).N
    = REFcu (m ((c : Thread nD τ).loc main_arg0)) (m ((c : Thread nD τ).loc main_arg1)) := by
  refine (dats m 0 c).arrAt_eq_of_covers 2 _ (by decide +kernel) fun t _ y => ?_
  blk_simp
  rw [after0_2]
  exact (congrArg _ (eq_ix2 y)).trans ((point2 m c t (y 0) (y 1)).trans (congrArg _ (congrArg _ (eq_ix2 y).symm)))

/-- The second result array after the run. -/
theorem final3 (c : Dev nD) : (dats m 0 c).arrAt 3 (cfgs 0).N
    = REFb (m ((c : Thread nD τ).loc main_arg0)) (m ((c : Thread nD τ).loc main_arg1)) := by
  refine (dats m 0 c).arrAt_eq_of_covers 3 _ (by decide +kernel) fun t _ y => ?_
  blk_simp
  rw [after0_3]
  exact (congrArg _ (eq_ix2 y)).trans ((point3 m c t (y 0) (y 1)).trans (congrArg _ (congrArg _ (eq_ix2 y).symm)))

end Cert.Kernel3Ideal.GateValue

end
-- ==== Proof.GateClaim.lean ====
/-
  The claims about the gate projection and its reference.
-/
module

public import proofs.«01_k».proof.Defs
public import proofs.«01_k».proof.Proof.GateValue
public import Idealize.ShloMosaic.Lib.Quiescent

@[expose] public section

noncomputable section

namespace Cert.Claims

open Idealize.ShloMosaic Idealize.SL.Sem

/-- The reference runs, keeps its arguments and leaves no semaphore raised. -/
theorem quiescent_Reference3Ideal : Cert.quiescent_Reference3Ideal := fun m ρ _ =>
  (θ_run Cert.Reference3Ideal.defs _ _).mono (fun r h => ⟨fun c => (h c).2.2, Idealize.ShloMosaic.sem_eq_zero_of_no_sems (by decide) r.2⟩) (Cert.Reference3Ideal.Value.run m ρ)

/-- From equal arguments the kernel and its reference end with equal results over the extended reals. -/
theorem algebraic_Kernel3Ideal_Reference3Ideal : Cert.algebraic_Kernel3Ideal_Reference3Ideal := fun m ρ m' ρ' _ hag =>
  ⟨fun c => Cert.Kernel3Ideal.GateValue.REFcu (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => Cert.Kernel3Ideal.GateValue.REFb (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun _ h c => ⟨(h c).1.trans (Cert.Kernel3Ideal.GateValue.final2 m c), (h c).2.1.trans (Cert.Kernel3Ideal.GateValue.final3 m c), (h c).2.2⟩) (Cert.Kernel3Ideal.Value.run_blocks m ρ),
    (θ_run Cert.Reference3Ideal.defs _ _).mono (fun _ h c => ⟨(h c).1.trans (by rw [(hag c).1, (hag c).2]), (h c).2.1.trans (by rw [(hag c).1, (hag c).2]), (h c).2.2⟩) (Cert.Reference3Ideal.Value.run m' ρ')⟩

end Cert.Claims

end
-- ==== Proof.RopeRef.lean ====
/-
  The rotary projection's reference over the extended reals: its six results as functions of its two arguments, and each at
  an index: the projection's columns, turned by the angle of the row's position where the result is a rotary one.
-/
module

public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference4Ideal.RopeRef

open Cert.Reference4Ideal Cert.Reference4Ideal.Gen

/-- The whole projection. -/
def PROJ (X : FVec Ideal S8x8192x1024 .f32) (W : FVec Ideal S1x1024x4936 .f32) : FVec Ideal S8x8192x4936 .f32 :=
  Host.dotGeneral dot_S8x8192x1024_S1024x4936_S8x8192x4936_2_0_01_1_n_n none X (shapeCast _ W shapeCasts_S1x1024x4936_S1024x4936)

/-- The angle of every position and frequency. -/
def ANG : FVec Ideal S8192x32 .f32 :=
  mulf (broadcastInDim S8192x32 ![0, 1] bcast_S8192x1_S8192x32_0_1 (broadcastInDim S8192x1 ![0] bcast_S8192_S8192x1_0 (sitofp .f32 (extractStridedSlice S8192 ![16] (iotaInDim S8208 32 0) slices_S8208_S8192_16)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The fill is zero. -/
theorem pad_zero : (FloatOps.sitofp (F := Ideal) FTy.f32 (0#32) : Ideal .f32) = 0 := by
  show (((0#32 : BitVec 32).toInt : ℝ) : EReal) = 0
  simp

/-- Eight scaled columns filled with zero. -/
def filled (P : Fin 4936 → Ideal .f32) (l : Fin 128) : Ideal .f32 :=
  if h : l.val < 8 then P ⟨1344 + l.val, by omega⟩ * Ideal.ofBits FTy.f32 0x3D3504F3#32 else 0

/-- One of the eight. -/
theorem filled_lo (P : Fin 4936 → Ideal .f32) (l : Fin 128) (h : l.val < 8) :
    filled P l = P ⟨1344 + l.val, by omega⟩ * Ideal.ofBits FTy.f32 0x3D3504F3#32 := dif_pos h

/-- The fill. -/
theorem filled_hi (P : Fin 4936 → Ideal .f32) (l : Fin 128) (h : ¬ l.val < 8) : filled P l = 0 := dif_neg h

/-- The projection at an index. -/
theorem proj_at (X : FVec Ideal S8x8192x1024 .f32) (W : FVec Ideal S1x1024x4936 .f32) (b : Fin 8) (s : Fin 8192) (l : Fin 4936) :
    PROJ X W (ix3 b s l) = ∑ k : Fin 1024, X (ix3 b s k) * W (ix3 0 k l) := by
  pointwise [PROJ]

/-- A head of 64 at position `s`, turned: element `d`. -/
def turn (P : Fin 64 → Ideal .f32) (s : Fin 8192) (d : Fin 64) : Ideal .f32 :=
  if h : d.val < 32 then P d * Ideal.cos (ANG (ix2 s ⟨d.val, h⟩)) - P ⟨d.val + 32, by omega⟩ * Ideal.sin (ANG (ix2 s ⟨d.val, h⟩))
  else P d * Ideal.cos (ANG (ix2 s ⟨d.val - 32, by omega⟩)) + P ⟨d.val - 32, by omega⟩ * Ideal.sin (ANG (ix2 s ⟨d.val - 32, by omega⟩))

/-- The rotation of 8 heads. -/
def ROT8 (x : FVec Ideal S8x8192x8x64 .f32) : FVec Ideal S8x8192x8x64 .f32 :=
  concatenate S8x8192x8x64 3 [⟨S8x8192x8x32, subf (mulf (extractStridedSlice S8x8192x8x32 ![0, 0, 0, 0] x slices_S8x8192x8x64_S8x8192x8x32_0_0_0_0) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.cos ANG))))) (mulf (extractStridedSlice S8x8192x8x32 ![0, 0, 0, 32] x slices_S8x8192x8x64_S8x8192x8x32_0_0_0_32) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.sin ANG)))))⟩,
    ⟨S8x8192x8x32, addf (mulf (extractStridedSlice S8x8192x8x32 ![0, 0, 0, 32] x slices_S8x8192x8x64_S8x8192x8x32_0_0_0_32) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.cos ANG))))) (mulf (extractStridedSlice S8x8192x8x32 ![0, 0, 0, 0] x slices_S8x8192x8x64_S8x8192x8x32_0_0_0_0) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.sin ANG)))))⟩] concatenates_S8x8192x8x32_S8x8192x8x32_S8x8192x8x64_d3

/-- A turned head. -/
theorem rot8_at (x : FVec Ideal S8x8192x8x64 .f32) (b : Fin 8) (s : Fin 8192) (h : Fin 8) (d : Fin 64) :
    ROT8 x (ix4 b s h d) = turn (fun j => x (ix4 b s h j)) s d := by
  skip
  unfold turn
  pointwise [ROT8]
  by_cases hd : d.val < 32
  · rw [dif_pos hd, dif_pos hd]
    congr 2
    exact congrArg x (congrArg _ (Fin.ext (Nat.add_comm 32 d.val)))
  · rw [dif_neg hd, dif_neg hd]
    congr 2
    exact congrArg x (congrArg _ (Fin.ext (Nat.add_sub_of_le (Nat.le_of_not_lt hd))))

/-- The rotation of 2 heads. -/
def ROT2 (x : FVec Ideal S8x8192x2x64 .f32) : FVec Ideal S8x8192x2x64 .f32 :=
  concatenate S8x8192x2x64 3 [⟨S8x8192x2x32, subf (mulf (extractStridedSlice S8x8192x2x32 ![0, 0, 0, 0] x slices_S8x8192x2x64_S8x8192x2x32_0_0_0_0) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.cos ANG))))) (mulf (extractStridedSlice S8x8192x2x32 ![0, 0, 0, 32] x slices_S8x8192x2x64_S8x8192x2x32_0_0_0_32) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.sin ANG)))))⟩,
    ⟨S8x8192x2x32, addf (mulf (extractStridedSlice S8x8192x2x32 ![0, 0, 0, 32] x slices_S8x8192x2x64_S8x8192x2x32_0_0_0_32) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.cos ANG))))) (mulf (extractStridedSlice S8x8192x2x32 ![0, 0, 0, 0] x slices_S8x8192x2x64_S8x8192x2x32_0_0_0_0) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.sin ANG)))))⟩] concatenates_S8x8192x2x32_S8x8192x2x32_S8x8192x2x64_d3

/-- A turned head. -/
theorem rot2_at (x : FVec Ideal S8x8192x2x64 .f32) (b : Fin 8) (s : Fin 8192) (h : Fin 2) (d : Fin 64) :
    ROT2 x (ix4 b s h d) = turn (fun j => x (ix4 b s h j)) s d := by
  skip
  unfold turn
  pointwise [ROT2]
  by_cases hd : d.val < 32
  · rw [dif_pos hd, dif_pos hd]
    congr 2
    exact congrArg x (congrArg _ (Fin.ext (Nat.add_comm 32 d.val)))
  · rw [dif_neg hd, dif_neg hd]
    congr 2
    exact congrArg x (congrArg _ (Fin.ext (Nat.add_sub_of_le (Nat.le_of_not_lt hd))))

/-- The rotation of 1 head. -/
def ROT1 (x : FVec Ideal S8x8192x1x64 .f32) : FVec Ideal S8x8192x1x64 .f32 :=
  concatenate S8x8192x1x64 3 [⟨S8x8192x1x32, subf (mulf (extractStridedSlice S8x8192x1x32 ![0, 0, 0, 0] x slices_S8x8192x1x64_S8x8192x1x32_0_0_0_0) (broadcastInDim S8x8192x1x32 ![0, 1, 2, 3] bcast_S1x8192x1x32_S8x8192x1x32_0_1_2_3 (broadcastInDim S1x8192x1x32 ![1, 2, 3] bcast_S8192x1x32_S1x8192x1x32_1_2_3 (broadcastInDim S8192x1x32 ![0, 2] bcast_S8192x32_S8192x1x32_0_2 (Host.cos ANG))))) (mulf (extractStridedSlice S8x8192x1x32 ![0, 0, 0, 32] x slices_S8x8192x1x64_S8x8192x1x32_0_0_0_32) (broadcastInDim S8x8192x1x32 ![0, 1, 2, 3] bcast_S1x8192x1x32_S8x8192x1x32_0_1_2_3 (broadcastInDim S1x8192x1x32 ![1, 2, 3] bcast_S8192x1x32_S1x8192x1x32_1_2_3 (broadcastInDim S8192x1x32 ![0, 2] bcast_S8192x32_S8192x1x32_0_2 (Host.sin ANG)))))⟩,
    ⟨S8x8192x1x32, addf (mulf (extractStridedSlice S8x8192x1x32 ![0, 0, 0, 32] x slices_S8x8192x1x64_S8x8192x1x32_0_0_0_32) (broadcastInDim S8x8192x1x32 ![0, 1, 2, 3] bcast_S1x8192x1x32_S8x8192x1x32_0_1_2_3 (broadcastInDim S1x8192x1x32 ![1, 2, 3] bcast_S8192x1x32_S1x8192x1x32_1_2_3 (broadcastInDim S8192x1x32 ![0, 2] bcast_S8192x32_S8192x1x32_0_2 (Host.cos ANG))))) (mulf (extractStridedSlice S8x8192x1x32 ![0, 0, 0, 0] x slices_S8x8192x1x64_S8x8192x1x32_0_0_0_0) (broadcastInDim S8x8192x1x32 ![0, 1, 2, 3] bcast_S1x8192x1x32_S8x8192x1x32_0_1_2_3 (broadcastInDim S1x8192x1x32 ![1, 2, 3] bcast_S8192x1x32_S1x8192x1x32_1_2_3 (broadcastInDim S8192x1x32 ![0, 2] bcast_S8192x32_S8192x1x32_0_2 (Host.sin ANG)))))⟩] concatenates_S8x8192x1x32_S8x8192x1x32_S8x8192x1x64_d3

/-- A turned head. -/
theorem rot1_at (x : FVec Ideal S8x8192x1x64 .f32) (b : Fin 8) (s : Fin 8192) (h : Fin 1) (d : Fin 64) :
    ROT1 x (ix4 b s h d) = turn (fun j => x (ix4 b s h j)) s d := by
  obtain rfl : h = 0 := Fin.ext (by omega)
  unfold turn
  pointwise [ROT1]
  by_cases hd : d.val < 32
  · rw [dif_pos hd, dif_pos hd]
    congr 2
    exact congrArg x (congrArg _ (Fin.ext (Nat.add_comm 32 d.val)))
  · rw [dif_neg hd, dif_neg hd]
    congr 2
    exact congrArg x (congrArg _ (Fin.ext (Nat.add_sub_of_le (Nat.le_of_not_lt hd))))

/-- The scaled queries. -/
def REFq (X : FVec Ideal S8x8192x1024 .f32) (W : FVec Ideal S1x1024x4936 .f32) : FVec Ideal S65536x512 .bf16 :=
  truncf .bf16 (shapeCast _ (mulf (ROT8 (shapeCast _ (extractStridedSlice S8x8192x512 ![0, 0, 0] (PROJ X W) slices_S8x8192x4936_S8x8192x512_0_0_0) shapeCasts_S8x8192x512_S8x8192x8x64))
    (broadcastInDim S8x8192x8x64 ![] bcast_S_S8x8192x8x64 (constant S_ .f32 0x3E38AA3B#32))) shapeCasts_S8x8192x8x64_S65536x512) bitsLt_bf16_f32

/-- The indexer's queries. -/
def REFqi (X : FVec Ideal S8x8192x1024 .f32) (W : FVec Ideal S1x1024x4936 .f32) : FVec Ideal S65536x512 .bf16 :=
  truncf .bf16 (shapeCast _ (ROT8 (shapeCast _ (extractStridedSlice S8x8192x512 ![0, 0, 768] (PROJ X W) slices_S8x8192x4936_S8x8192x512_0_0_768) shapeCasts_S8x8192x512_S8x8192x8x64))
    shapeCasts_S8x8192x8x64_S65536x512) bitsLt_bf16_f32

/-- The keys, each head twice. -/
def REFk (X : FVec Ideal S8x8192x1024 .f32) (W : FVec Ideal S1x1024x4936 .f32) : FVec Ideal S65536x256 .bf16 :=
  truncf .bf16 (shapeCast _ (concatenate S8x8192x2x128 3
    [⟨S8x8192x2x64, ROT2 (shapeCast _ (extractStridedSlice S8x8192x128 ![0, 0, 512] (PROJ X W) slices_S8x8192x4936_S8x8192x128_0_0_512) shapeCasts_S8x8192x128_S8x8192x2x64)⟩,
     ⟨S8x8192x2x64, ROT2 (shapeCast _ (extractStridedSlice S8x8192x128 ![0, 0, 512] (PROJ X W) slices_S8x8192x4936_S8x8192x128_0_0_512) shapeCasts_S8x8192x128_S8x8192x2x64)⟩]
    concatenates_S8x8192x2x64_S8x8192x2x64_S8x8192x2x128_d3) shapeCasts_S8x8192x2x128_S65536x256) bitsLt_bf16_f32

/-- The indexer's key, twice. -/
def REFki (X : FVec Ideal S8x8192x1024 .f32) (W : FVec Ideal S1x1024x4936 .f32) : FVec Ideal S65536x128 .bf16 :=
  truncf .bf16 (shapeCast _ (concatenate S8x8192x1x128 3
    [⟨S8x8192x1x64, ROT1 (broadcastInDim S8x8192x1x64 ![0, 1, 3] bcast_S8x8192x64_S8x8192x1x64_0_1_3 (extractStridedSlice S8x8192x64 ![0, 0, 1280] (PROJ X W) slices_S8x8192x4936_S8x8192x64_0_0_1280))⟩,
     ⟨S8x8192x1x64, ROT1 (broadcastInDim S8x8192x1x64 ![0, 1, 3] bcast_S8x8192x64_S8x8192x1x64_0_1_3 (extractStridedSlice S8x8192x64 ![0, 0, 1280] (PROJ X W) slices_S8x8192x4936_S8x8192x64_0_0_1280))⟩]
    concatenates_S8x8192x1x64_S8x8192x1x64_S8x8192x1x128_d3) shapeCasts_S8x8192x1x128_S65536x128) bitsLt_bf16_f32

/-- The values, each head twice. -/
def REFv (X : FVec Ideal S8x8192x1024 .f32) (W : FVec Ideal S1x1024x4936 .f32) : FVec Ideal S65536x256 .bf16 :=
  truncf .bf16 (shapeCast _ (concatenate S8x8192x2x128 3
    [⟨S8x8192x2x64, shapeCast _ (extractStridedSlice S8x8192x128 ![0, 0, 640] (PROJ X W) slices_S8x8192x4936_S8x8192x128_0_0_640) shapeCasts_S8x8192x128_S8x8192x2x64⟩,
     ⟨S8x8192x2x64, shapeCast _ (extractStridedSlice S8x8192x128 ![0, 0, 640] (PROJ X W) slices_S8x8192x4936_S8x8192x128_0_0_640) shapeCasts_S8x8192x128_S8x8192x2x64⟩]
    concatenates_S8x8192x2x64_S8x8192x2x64_S8x8192x2x128_d3) shapeCasts_S8x8192x2x128_S65536x256) bitsLt_bf16_f32

/-- The indexer's scaled weights, filled with zero columns. -/
def REFwi (X : FVec Ideal S8x8192x1024 .f32) (W : FVec Ideal S1x1024x4936 .f32) : FVec Ideal S65536x128 .f32 :=
  shapeCast _ (pad S8x8192x128 ![0, 0, 0] ![0, 0, 120] ![0, 0, 0] (mulf (extractStridedSlice S8x8192x8 ![0, 0, 1344] (PROJ X W) slices_S8x8192x4936_S8x8192x8_0_0_1344)
    (broadcastInDim S8x8192x8 ![] bcast_S_S8x8192x8 (constant S_ .f32 0x3D3504F3#32))) (sitofp .f32 (constantI S_ 32 0#32)) pads_S8x8192x8_S8x8192x128_000_000_01200 h_S_)
    shapeCasts_S8x8192x128_S65536x128

/-- The scaled queries at an index. -/
theorem q_at (X : FVec Ideal S8x8192x1024 .f32) (W : FVec Ideal S1x1024x4936 .f32) (r : Fin 65536) (l : Fin 512) : REFq X W (ix2 r l)
    = turn (fun j => PROJ X W (ix3 ⟨r.val / 8192, by omega⟩ ⟨r.val % 8192, by omega⟩ ⟨l.val / 64 * 64 + j.val, by omega⟩)) ⟨r.val % 8192, by omega⟩ ⟨l.val % 64, by omega⟩ * Ideal.ofBits FTy.f32 0x3E38AA3B#32 := by
  pointwise [REFq]
  refine congrArg (· * _) ((rot8_at _ _ _ _ _).trans (congrArg (fun P => turn P _ _) (funext fun j => ?_)))
  pointwise

/-- The indexer's queries at an index. -/
theorem qi_at (X : FVec Ideal S8x8192x1024 .f32) (W : FVec Ideal S1x1024x4936 .f32) (r : Fin 65536) (l : Fin 512) : REFqi X W (ix2 r l)
    = turn (fun j => PROJ X W (ix3 ⟨r.val / 8192, by omega⟩ ⟨r.val % 8192, by omega⟩ ⟨768 + (l.val / 64 * 64 + j.val), by omega⟩)) ⟨r.val % 8192, by omega⟩ ⟨l.val % 64, by omega⟩ := by
  pointwise [REFqi]
  refine (rot8_at _ _ _ _ _).trans (congrArg (fun P => turn P _ _) (funext fun j => ?_))
  pointwise

/-- The keys at an index. -/
theorem k_at (X : FVec Ideal S8x8192x1024 .f32) (W : FVec Ideal S1x1024x4936 .f32) (r : Fin 65536) (l : Fin 256) : REFk X W (ix2 r l)
    = turn (fun j => PROJ X W (ix3 ⟨r.val / 8192, by omega⟩ ⟨r.val % 8192, by omega⟩ ⟨512 + (l.val / 128 * 64 + j.val), by omega⟩)) ⟨r.val % 8192, by omega⟩ ⟨l.val % 64, by omega⟩ := by
  pointwise [REFk]
  have hl := l.isLt
  by_cases hd : l.val % 128 < 64
  · rw [dif_pos hd]
    refine (rot2_at _ _ _ _ _).trans (congr (congrArg (fun P => turn P _) (funext fun j => ?_)) (Fin.ext ?_))
    · pointwise
    · dsimp only; omega
  · rw [dif_neg hd]
    refine (rot2_at _ _ _ _ _).trans (congr (congrArg (fun P => turn P _) (funext fun j => ?_)) (Fin.ext ?_))
    · pointwise
    · dsimp only; omega

/-- The indexer's key at an index. -/
theorem ki_at (X : FVec Ideal S8x8192x1024 .f32) (W : FVec Ideal S1x1024x4936 .f32) (r : Fin 65536) (l : Fin 128) : REFki X W (ix2 r l)
    = turn (fun j => PROJ X W (ix3 ⟨r.val / 8192, by omega⟩ ⟨r.val % 8192, by omega⟩ ⟨1280 + j.val, by omega⟩)) ⟨r.val % 8192, by omega⟩ ⟨l.val % 64, by omega⟩ := by
  pointwise [REFki]
  have hl := l.isLt
  by_cases hd : l.val < 64
  · rw [dif_pos hd]
    refine (rot1_at _ _ _ _ _).trans (congr (congrArg (fun P => turn P _) (funext fun j => ?_)) (Fin.ext ?_))
    · pointwise
    · dsimp only; omega
  · rw [dif_neg hd]
    refine (rot1_at _ _ _ _ _).trans (congr (congrArg (fun P => turn P _) (funext fun j => ?_)) (Fin.ext ?_))
    · pointwise
    · dsimp only; omega

/-- The values at an index. -/
theorem v_at (X : FVec Ideal S8x8192x1024 .f32) (W : FVec Ideal S1x1024x4936 .f32) (r : Fin 65536) (l : Fin 256) : REFv X W (ix2 r l)
    = PROJ X W (ix3 ⟨r.val / 8192, by omega⟩ ⟨r.val % 8192, by omega⟩ ⟨640 + (l.val / 128 * 64 + l.val % 64), by omega⟩) := by
  pointwise [REFv]
  have hl := l.isLt
  split <;> refine congrArg _ (congrArg _ (Fin.ext ?_)) <;> dsimp only <;> omega

/-- The indexer's weights at an index. -/
theorem wi_at (X : FVec Ideal S8x8192x1024 .f32) (W : FVec Ideal S1x1024x4936 .f32) (r : Fin 65536) (l : Fin 128) : REFwi X W (ix2 r l)
    = filled (fun j => PROJ X W (ix3 ⟨r.val / 8192, by omega⟩ ⟨r.val % 8192, by omega⟩ j)) l := by
  pointwise [REFwi]
  by_cases hl : l.val < 8
  · refine (dif_pos ⟨by omega, by omega, hl⟩).trans ?_
    exact (filled_lo (fun j => PROJ X W (ix3 ⟨r.val / 8192, by omega⟩ ⟨r.val % 8192, by omega⟩ j)) l hl).symm
  · refine (dif_neg fun h => hl h.2.2).trans ?_
    exact pad_zero.trans (filled_hi _ _ hl).symm

end Cert.Reference4Ideal.RopeRef

end
-- ==== Proof.RopeValue.lean ====
/-
  The rotary projection at the extended reals: what the six result arrays of the kernel hold after its run. Point `t` of the
  grid writes 1024 rows of each. A block is a product of these rows with a range of the packed columns; a rotary one is then
  turned two heads at a time, with the partner of a column fetched by a rotation of the lanes and the sign of the sine kept in
  its table.
-/
module

public import proofs.«01_k».proof.Proof.Gen.Kernel4Ideal.Value
public import proofs.«01_k».proof.Proof.RopeRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.RopeValue

open Cert.Reference4Ideal.RopeRef Cert.Kernel4Ideal Cert.Kernel4Ideal.Gen

/-- A row times a packed column. -/
def dotc (x0 : FVec Ideal S1024x1024 .f32) (x1 : FVec Ideal S1024x1792 .bf16) (r : Fin 1024) (l : Fin 1792) : Ideal .f32 :=
  ∑ k : Fin 1024, x0 (ix2 r k) * x1 (ix2 k l)

/-- Two heads of 64, turned as the kernel turns them: the partner of lane `j` is 32 lanes up or down. -/
def spin (Q C S : Fin 128 → Ideal .f32) (j : Fin 128) : Ideal .f32 :=
  Q j * C j + (if j.val % 64 < 32 then Q ⟨(j.val + 128 - 96) % 128, by omega⟩ else Q ⟨(j.val + 128 - 32) % 128, by omega⟩) * S j

/-- The bit that tells the two halves of a head apart. -/
theorem bit : ∀ j : Fin 128, IntOp.cmpi .eq (IntOp.andi (BitVec.ofNat 32 j.val) 32#32) 0#32 = BitVec.ofBool (decide (j.val % 64 < 32)) := by
  decide +kernel

/-- A choice by a decided bit. -/
theorem select_bit (p : Prop) [Decidable p] (a b : Ideal .f32) : Scalar.select (BitVec.ofBool (decide p)) a b = if p then a else b := by
  by_cases h : p
  · rw [if_pos h, decide_eq_true h]; rfl
  · rw [if_neg h, decide_eq_false h]; rfl

/-- Two heads turned, from the products with the columns `L`. -/
theorem turned (x0 : FVec Ideal S1024x1024 .f32) (x1 : FVec Ideal S1024x1792 .bf16) (x2 x3 : FVec Ideal S1024x128 .f32) (r : Fin 1024) (L : Fin 128 → Fin 1792) (x : S1024x128.Idx) (j : Fin 128)
    (a b c : Fin 1792) (hx : x = ix2 r j) (ha : a = L j) (hb : b = L ⟨(j.val + 128 - 96) % 128, by omega⟩) (hc : c = L ⟨(j.val + 128 - 32) % 128, by omega⟩) :
    (∑ k : Fin 1024, x0 (ix2 (x 0) k) * x1 (ix2 k a)) * x2 x
      + Scalar.select (IntOp.cmpi .eq (IntOp.andi (BitVec.ofNat 32 (x 1).val) 32#32) 0#32) (∑ k : Fin 1024, x0 (ix2 (x 0) k) * x1 (ix2 k b))
          (∑ k : Fin 1024, x0 (ix2 (x 0) k) * x1 (ix2 k c)) * x3 x
    = spin (fun j => dotc x0 x1 r (L j)) (fun j => x2 (ix2 r j)) (fun j => x3 (ix2 r j)) j := by
  subst hx ha hb hc
  unfold spin dotc
  refine congrArg₂ (· + ·) rfl (congrArg₂ (· * ·) ?_ rfl)
  refine (congrArg (fun b => Scalar.select b _ _) (bit j)).trans ?_
  exact select_bit _ _ _

/-- The block of queries. -/
theorem out4_at (x0 : FVec Ideal S1024x1024 .f32) (x1 : FVec Ideal S1024x1792 .bf16) (x2 x3 : FVec Ideal S1024x128 .f32) (r : Fin 1024) (l : Fin 512) : out0_4 (F := Ideal) x0 x1 x2 x3 (ix2 r l)
    = spin (fun j => dotc x0 x1 r ⟨l.val / 128 * 128 + j.val, by omega⟩) (fun j => x2 (ix2 r j)) (fun j => x3 (ix2 r j)) ⟨l.val % 128, by omega⟩ * Ideal.ofBits FTy.f32 0x3E38AA3B#32 := by
  frame_out
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  all_goals
    have e0 : r.val = (x 0).val := h0
    have h4 := l.isLt
  case' piece0 => have e1 : l.val = 384 + (x 1).val := h1
  case' piece1 => have e1 : l.val = 256 + (x 1).val := h1
  case' piece2 => have e1 : l.val = 128 + (x 1).val := h1
  case' piece3 => have e1 : l.val = (x 1).val := h1
  all_goals
    refine congrArg (· * _) (turned x0 x1 x2 x3 r (fun j => ⟨l.val / 128 * 128 + j.val, by omega⟩) x ⟨l.val % 128, by omega⟩ _ _ _ ((eq_ix2 x).trans (congr (congrArg ix2 (Fin.ext e0.symm)) (Fin.ext (by dsimp only; omega)))) ?_ ?_ ?_)
    all_goals (apply Fin.ext; dsimp only; omega)

/-- The block of the indexer's queries. -/
theorem out5_at (x0 : FVec Ideal S1024x1024 .f32) (x1 : FVec Ideal S1024x1792 .bf16) (x2 x3 : FVec Ideal S1024x128 .f32) (r : Fin 1024) (l : Fin 512) : out0_5 (F := Ideal) x0 x1 x2 x3 (ix2 r l)
    = spin (fun j => dotc x0 x1 r ⟨512 + (l.val / 128 * 128 + j.val), by omega⟩) (fun j => x2 (ix2 r j)) (fun j => x3 (ix2 r j)) ⟨l.val % 128, by omega⟩ := by
  frame_out
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  all_goals
    have e0 : r.val = (x 0).val := h0
    have h4 := l.isLt
  case' piece0 => have e1 : l.val = 384 + (x 1).val := h1
  case' piece1 => have e1 : l.val = 256 + (x 1).val := h1
  case' piece2 => have e1 : l.val = 128 + (x 1).val := h1
  case' piece3 => have e1 : l.val = (x 1).val := h1
  all_goals
    refine turned x0 x1 x2 x3 r (fun j => ⟨512 + (l.val / 128 * 128 + j.val), by omega⟩) x ⟨l.val % 128, by omega⟩ _ _ _ ((eq_ix2 x).trans (congr (congrArg ix2 (Fin.ext e0.symm)) (Fin.ext (by dsimp only; omega)))) ?_ ?_ ?_
    all_goals (apply Fin.ext; dsimp only; omega)

/-- The block of keys. -/
theorem out6_at (x0 : FVec Ideal S1024x1024 .f32) (x1 : FVec Ideal S1024x1792 .bf16) (x2 x3 : FVec Ideal S1024x128 .f32) (r : Fin 1024) (l : Fin 256) : out0_6 (F := Ideal) x0 x1 x2 x3 (ix2 r l)
    = spin (fun j => dotc x0 x1 r ⟨1024 + (l.val / 128 * 128 + j.val), by omega⟩) (fun j => x2 (ix2 r j)) (fun j => x3 (ix2 r j)) ⟨l.val % 128, by omega⟩ := by
  frame_out
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  all_goals
    have e0 : r.val = (x 0).val := h0
    have h4 := l.isLt
  case' piece0 => have e1 : l.val = 128 + (x 1).val := h1
  case' piece1 => have e1 : l.val = (x 1).val := h1
  all_goals
    refine turned x0 x1 x2 x3 r (fun j => ⟨1024 + (l.val / 128 * 128 + j.val), by omega⟩) x ⟨l.val % 128, by omega⟩ _ _ _ ((eq_ix2 x).trans (congr (congrArg ix2 (Fin.ext e0.symm)) (Fin.ext (by dsimp only; omega)))) ?_ ?_ ?_
    all_goals (apply Fin.ext; dsimp only; omega)

/-- The block of the indexer's key. -/
theorem out7_at (x0 : FVec Ideal S1024x1024 .f32) (x1 : FVec Ideal S1024x1792 .bf16) (x2 x3 : FVec Ideal S1024x128 .f32) (r : Fin 1024) (l : Fin 128) : out0_7 (F := Ideal) x0 x1 x2 x3 (ix2 r l)
    = spin (fun j => dotc x0 x1 r ⟨1280 + j.val, by omega⟩) (fun j => x2 (ix2 r j)) (fun j => x3 (ix2 r j)) ⟨l.val % 128, by omega⟩ := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  have h4 := l.isLt
  refine turned x0 x1 x2 x3 r (fun j => ⟨1280 + j.val, by omega⟩) (ix2 r l) ⟨l.val % 128, by omega⟩ _ _ _ (congrArg (ix2 r) (Fin.ext (by dsimp only; omega))) ?_ ?_ ?_
  all_goals (apply Fin.ext; dsimp only; omega)

/-- The block of values. -/
theorem out8_at (x0 : FVec Ideal S1024x1024 .f32) (x1 : FVec Ideal S1024x1792 .bf16) (x2 x3 : FVec Ideal S1024x128 .f32) (r : Fin 1024) (l : Fin 256) : out0_8 (F := Ideal) x0 x1 x2 x3 (ix2 r l)
    = dotc x0 x1 r ⟨1408 + l.val, by omega⟩ := by
  frame_out
  unfold dotc
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]

/-- The block of the indexer's weights. -/
theorem out9_at (x0 : FVec Ideal S1024x1024 .f32) (x1 : FVec Ideal S1024x1792 .bf16) (x2 x3 : FVec Ideal S1024x128 .f32) (r : Fin 1024) (l : Fin 128) : out0_9 (F := Ideal) x0 x1 x2 x3 (ix2 r l)
    = dotc x0 x1 r ⟨1664 + l.val, by omega⟩ * Ideal.ofBits FTy.f32 0x3D3504F3#32 := by
  frame_out
  unfold dotc
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]

/-- The kernel's way of turning two heads is the reference's of turning one, when the tables hold the cosine and the signed sine. -/
theorem spin_turn (Q C S : Fin 128 → Ideal .f32) (s : Fin 8192) (j : Fin 128) (P : Fin 64 → Ideal .f32) (d : Fin 64)
    (hC : ∀ j : Fin 128, C j = Ideal.cos (ANG (ix2 s ⟨j.val % 32, by omega⟩)))
    (hS : ∀ j : Fin 128, S j = if j.val % 64 < 32 then -Ideal.sin (ANG (ix2 s ⟨j.val % 32, by omega⟩)) else Ideal.sin (ANG (ix2 s ⟨j.val % 32, by omega⟩)))
    (hP : ∀ e : Fin 64, Q ⟨j.val / 64 * 64 + e.val, by omega⟩ = P e) (hd : d.val = j.val % 64) : spin Q C S j = turn P s d := by
  have hj := j.isLt
  unfold spin turn
  have q0 : Q j = P d := by rw [← hP d]; exact congrArg Q (Fin.ext (by dsimp only; omega))
  rw [hC, hS, q0]
  by_cases h : j.val % 64 < 32
  · have hd' : d.val < 32 := by omega
    have ei : (⟨j.val % 32, by omega⟩ : Fin 32) = ⟨d.val, hd'⟩ := Fin.ext (by dsimp only; omega)
    have q1 : Q ⟨(j.val + 128 - 96) % 128, by omega⟩ = P ⟨d.val + 32, by omega⟩ := by
      rw [← hP]; exact congrArg Q (Fin.ext (by dsimp only; omega))
    rw [if_pos h, if_pos h, dif_pos hd', q1, ei, sub_eq_add_neg]
    exact congrArg (_ + ·) (mul_neg _ _)
  · have hd' : ¬ d.val < 32 := by omega
    have ei : (⟨j.val % 32, by omega⟩ : Fin 32) = ⟨d.val - 32, by omega⟩ := Fin.ext (by dsimp only; omega)
    have q1 : Q ⟨(j.val + 128 - 32) % 128, by omega⟩ = P ⟨d.val - 32, by omega⟩ := by
      rw [← hP]; exact congrArg Q (Fin.ext (by dsimp only; omega))
    rw [if_neg h, if_neg h, dif_neg hd', q1, ei]

/-- The packed columns: the ranges of the projection, keys and values with each head twice, and zero columns at the end. -/
def COLS (W : FVec Ideal S1x1024x4936 .f32) : FVec Ideal S1024x1792 .bf16 :=
  truncf .bf16 (concatenate S1024x1792 1 [⟨S1024x512, extractStridedSlice S1024x512 ![0, 0] (shapeCast S1024x4936 W shapeCasts_S1x1024x4936_S1024x4936) slices_S1024x4936_S1024x512_0_0⟩,
    ⟨S1024x512, extractStridedSlice S1024x512 ![0, 768] (shapeCast S1024x4936 W shapeCasts_S1x1024x4936_S1024x4936) slices_S1024x4936_S1024x512_0_768⟩,
    ⟨S1024x256, concatenate S1024x256 1 [⟨S1024x64, extractStridedSlice S1024x64 ![0, 0] (extractStridedSlice S1024x128 ![0, 512] (shapeCast S1024x4936 W shapeCasts_S1x1024x4936_S1024x4936) slices_S1024x4936_S1024x128_0_512) slices_S1024x128_S1024x64_0_0⟩, ⟨S1024x64, extractStridedSlice S1024x64 ![0, 0] (extractStridedSlice S1024x128 ![0, 512] (shapeCast S1024x4936 W shapeCasts_S1x1024x4936_S1024x4936) slices_S1024x4936_S1024x128_0_512) slices_S1024x128_S1024x64_0_0⟩, ⟨S1024x64, extractStridedSlice S1024x64 ![0, 64] (extractStridedSlice S1024x128 ![0, 512] (shapeCast S1024x4936 W shapeCasts_S1x1024x4936_S1024x4936) slices_S1024x4936_S1024x128_0_512) slices_S1024x128_S1024x64_0_64⟩, ⟨S1024x64, extractStridedSlice S1024x64 ![0, 64] (extractStridedSlice S1024x128 ![0, 512] (shapeCast S1024x4936 W shapeCasts_S1x1024x4936_S1024x4936) slices_S1024x4936_S1024x128_0_512) slices_S1024x128_S1024x64_0_64⟩] concatenates_S1024x64_S1024x64_S1024x64_S1024x64_S1024x256_d1⟩,
    ⟨S1024x64, extractStridedSlice S1024x64 ![0, 1280] (shapeCast S1024x4936 W shapeCasts_S1x1024x4936_S1024x4936) slices_S1024x4936_S1024x64_0_1280⟩, ⟨S1024x64, extractStridedSlice S1024x64 ![0, 1280] (shapeCast S1024x4936 W shapeCasts_S1x1024x4936_S1024x4936) slices_S1024x4936_S1024x64_0_1280⟩,
    ⟨S1024x256, concatenate S1024x256 1 [⟨S1024x64, extractStridedSlice S1024x64 ![0, 0] (extractStridedSlice S1024x128 ![0, 640] (shapeCast S1024x4936 W shapeCasts_S1x1024x4936_S1024x4936) slices_S1024x4936_S1024x128_0_640) slices_S1024x128_S1024x64_0_0⟩, ⟨S1024x64, extractStridedSlice S1024x64 ![0, 0] (extractStridedSlice S1024x128 ![0, 640] (shapeCast S1024x4936 W shapeCasts_S1x1024x4936_S1024x4936) slices_S1024x4936_S1024x128_0_640) slices_S1024x128_S1024x64_0_0⟩, ⟨S1024x64, extractStridedSlice S1024x64 ![0, 64] (extractStridedSlice S1024x128 ![0, 640] (shapeCast S1024x4936 W shapeCasts_S1x1024x4936_S1024x4936) slices_S1024x4936_S1024x128_0_640) slices_S1024x128_S1024x64_0_64⟩, ⟨S1024x64, extractStridedSlice S1024x64 ![0, 64] (extractStridedSlice S1024x128 ![0, 640] (shapeCast S1024x4936 W shapeCasts_S1x1024x4936_S1024x4936) slices_S1024x4936_S1024x128_0_640) slices_S1024x128_S1024x64_0_64⟩] concatenates_S1024x64_S1024x64_S1024x64_S1024x64_S1024x256_d1⟩,
    ⟨S1024x8, extractStridedSlice S1024x8 ![0, 1344] (shapeCast S1024x4936 W shapeCasts_S1x1024x4936_S1024x4936) slices_S1024x4936_S1024x8_0_1344⟩, ⟨S1024x120, broadcastInDim S1024x120 ![] bcast_S_S1024x120 (constant S_ .f32 0x00000000#32)⟩]
    concatenates_S1024x512_S1024x512_S1024x256_S1024x64_S1024x64_S1024x256_S1024x8_S1024x120_S1024x1792_d1 : FVec Ideal S1024x1792 .f32) bitsLt_bf16_f32

/-- The angle of every position, the prepended ones among them. -/
def KANG : FVec Ideal S8208x32 .f32 :=
  mulf (broadcastInDim S8208x32 ![0, 1] bcast_S8208x1_S8208x32_0_1 (broadcastInDim S8208x1 ![0] bcast_S8208_S8208x1_0 (sitofp .f32 (iotaInDim S8208 32 0))))
    (broadcastInDim S8208x32 ![0, 1] bcast_S1x32_S8208x32_0_1 (broadcastInDim S1x32 ![1] bcast_S32_S1x32_1 (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- The table of cosines, four times over a row of 128 lanes. -/
def COS : FVec Ideal S8192x128 .f32 :=
  extractStridedSlice S8192x128 ![16, 0] (shapeCast S8208x128 (broadcastInDim S1x8208x4x32 ![0, 1, 2, 3] bcast_S1x8208x1x32_S1x8208x4x32_0_1_2_3
    (shapeCast S1x8208x1x32 (Host.cos KANG) shapeCasts_S8208x32_S1x8208x1x32)) shapeCasts_S1x8208x4x32_S8208x128) slices_S8208x128_S8192x128_16_0

/-- The table of signed sines, twice over a row of 128 lanes. -/
def SIN : FVec Ideal S8192x128 .f32 :=
  extractStridedSlice S8192x128 ![16, 0] (shapeCast S8208x128 (broadcastInDim S1x8208x2x64 ![0, 1, 2, 3] bcast_S1x8208x1x64_S1x8208x2x64_0_1_2_3
    (shapeCast S1x8208x1x64 (concatenate S8208x64 1 [⟨S8208x32, Host.negf (Host.sin KANG)⟩, ⟨S8208x32, Host.sin KANG⟩] concatenates_S8208x32_S8208x32_S8208x64_d1)
      shapeCasts_S8208x64_S1x8208x1x64)) shapeCasts_S1x8208x2x64_S8208x128) slices_S8208x128_S8192x128_16_0

/-- The kernel's angle is the reference's. -/
theorem kang_at (s : Fin 8192) (i : Fin 32) : KANG (ix2 ⟨16 + s.val, by omega⟩ i) = ANG (ix2 s i) := by
  pointwise [KANG, ANG]

/-- The table of cosines at an index. -/
theorem cos_at (s : Fin 8192) (j : Fin 128) : COS (ix2 s j) = Ideal.cos (ANG (ix2 s ⟨j.val % 32, by omega⟩)) := by
  rw [← kang_at]
  pointwise [COS]

/-- The table of signed sines at an index. -/
theorem sin_at (s : Fin 8192) (j : Fin 128) : SIN (ix2 s j)
    = if j.val % 64 < 32 then -Ideal.sin (ANG (ix2 s ⟨j.val % 32, by omega⟩)) else Ideal.sin (ANG (ix2 s ⟨j.val % 32, by omega⟩)) := by
  rw [← kang_at]
  pointwise [SIN]
  by_cases h : j.val % 64 < 32
  · rw [dif_pos h, if_pos h]
    exact congrArg (fun i => -Ideal.sin (KANG (ix2 _ i))) (Fin.ext (by dsimp only; omega))
  · rw [dif_neg h, if_neg h]
    exact congrArg (fun i => Ideal.sin (KANG (ix2 _ i))) (Fin.ext (by dsimp only; omega))

/-- A column of the queries. -/
theorem cols_q (W : FVec Ideal S1x1024x4936 .f32) (k : Fin 1024) (l : Fin 512) : COLS W (ix2 k ⟨l.val, by omega⟩) = W (ix3 0 k ⟨l.val, by omega⟩) := by
  pointwise [COLS]

/-- A column of the indexer's queries. -/
theorem cols_qi (W : FVec Ideal S1x1024x4936 .f32) (k : Fin 1024) (l : Fin 512) : COLS W (ix2 k ⟨512 + l.val, by omega⟩) = W (ix3 0 k ⟨768 + l.val, by omega⟩) := by
  pointwise [COLS]

/-- A column of the keys. -/
theorem cols_k (W : FVec Ideal S1x1024x4936 .f32) (k : Fin 1024) (l : Fin 256) : COLS W (ix2 k ⟨1024 + l.val, by omega⟩) = W (ix3 0 k ⟨512 + (l.val / 128 * 64 + l.val % 64), by omega⟩) := by
  pointwise [COLS]
  have hl := l.isLt
  repeat' split
  all_goals first
    | (exfalso; omega)
    | exact congrArg W (congrArg (ix3 0 k) (Fin.ext (by dsimp only; omega)))
    | rfl

/-- A column of the indexer's key. -/
theorem cols_ki (W : FVec Ideal S1x1024x4936 .f32) (k : Fin 1024) (l : Fin 128) : COLS W (ix2 k ⟨1280 + l.val, by omega⟩) = W (ix3 0 k ⟨1280 + l.val % 64, by omega⟩) := by
  pointwise [COLS]
  have hl := l.isLt
  repeat' split
  all_goals first
    | (exfalso; omega)
    | exact congrArg W (congrArg (ix3 0 k) (Fin.ext (by dsimp only; omega)))
    | rfl

/-- A column of the values. -/
theorem cols_v (W : FVec Ideal S1x1024x4936 .f32) (k : Fin 1024) (l : Fin 256) : COLS W (ix2 k ⟨1408 + l.val, by omega⟩) = W (ix3 0 k ⟨640 + (l.val / 128 * 64 + l.val % 64), by omega⟩) := by
  pointwise [COLS]
  have hl := l.isLt
  repeat' split
  all_goals first
    | (exfalso; omega)
    | exact congrArg W (congrArg (ix3 0 k) (Fin.ext (by dsimp only; omega)))
    | rfl

/-- A column of the indexer's weights. -/
theorem cols_wi (W : FVec Ideal S1x1024x4936 .f32) (k : Fin 1024) (l : Fin 8) : COLS W (ix2 k ⟨1664 + l.val, by omega⟩) = W (ix3 0 k ⟨1344 + l.val, by omega⟩) := by
  pointwise [COLS]
  have hl := l.isLt
  repeat' split
  all_goals first
    | (exfalso; omega)
    | exact congrArg W (congrArg (ix3 0 k) (Fin.ext (by dsimp only; omega)))
    | rfl

/-- A zero column. -/
theorem cols_z (W : FVec Ideal S1x1024x4936 .f32) (k : Fin 1024) (l : Fin 120) : COLS W (ix2 k ⟨1672 + l.val, by omega⟩) = 0 := by
  pointwise [COLS]
  have hl := l.isLt
  repeat' split
  all_goals first
    | (exfalso; omega)
    | exact congrArg W (congrArg (ix3 0 k) (Fin.ext (by dsimp only; omega)))
    | rfl

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val % 8, 0]
    ∧ win0_3.index t = ![t.val % 8, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := (by decide +kernel : ∀ t : Fin grid0.N, _)

/-- The grid has 64 points. -/
theorem t_lt (t : Fin cfg0.N) : t.val < 64 := lt_of_lt_of_eq t.isLt N_0

set_option maxHeartbeats 1600000 in
/-- The rows when the grid starts: the argument with its two leading axes joined. -/
theorem entry_x (c : Dev nD) : V m c main_v52 = shapeCast S65536x1024 (m ((c : Thread nD τ).loc main_arg0)) shapeCasts_S8x8192x1024_S65536x1024 := by
  unfold V; after_results <;> rfl

set_option maxHeartbeats 1600000 in
/-- The packed columns when the grid starts. -/
theorem entry_w (c : Dev nD) : V m c main_v26 = COLS (m ((c : Thread nD τ).loc main_arg1)) := by
  unfold V COLS; after_results <;> rfl

set_option maxHeartbeats 1600000 in
/-- The cosines when the grid starts. -/
theorem entry_cos (c : Dev nD) : V m c main_v53 = COS := by
  unfold V COS KANG; after_results <;> rfl

set_option maxHeartbeats 1600000 in
/-- The signed sines when the grid starts. -/
theorem entry_sin (c : Dev nD) : V m c main_v54 = SIN := by
  unfold V SIN KANG; after_results <;> rfl

/-- Where an element of a block lies in its array. -/
theorem emb_0 (t : Fin cfg0.N) (r : Fin 1024) (l : Fin 1024) : (win0_0.blk t).view.emb (ix2 r l)
    = (ix2 (⟨t.val * 1024 + r.val, by have := t_lt t; omega⟩ : Fin 65536) l : S65536x1024.Idx) := by blk_ext [idx t]
theorem emb_1 (t : Fin cfg0.N) (k : Fin 1024) (l : Fin 1792) : (win0_1.blk t).view.emb (ix2 k l) = (ix2 k l : S1024x1792.Idx) := by blk_ext [idx t]
theorem emb_2 (t : Fin cfg0.N) (r : Fin 1024) (l : Fin 128) : (win0_2.blk t).view.emb (ix2 r l)
    = (ix2 (⟨(t.val * 1024 + r.val) % 8192, by omega⟩ : Fin 8192) l : S8192x128.Idx) := by
  have e : (⟨(t.val * 1024 + r.val) % 8192, by omega⟩ : Fin 8192) = ⟨t.val % 8 * 1024 + r.val, by omega⟩ := Fin.ext (by dsimp only; omega)
  rw [e]
  blk_ext [idx t]
theorem emb_3 (t : Fin cfg0.N) (r : Fin 1024) (l : Fin 128) : (win0_3.blk t).view.emb (ix2 r l)
    = (ix2 (⟨(t.val * 1024 + r.val) % 8192, by omega⟩ : Fin 8192) l : S8192x128.Idx) := by
  have e : (⟨(t.val * 1024 + r.val) % 8192, by omega⟩ : Fin 8192) = ⟨t.val % 8 * 1024 + r.val, by omega⟩ := Fin.ext (by dsimp only; omega)
  rw [e]
  blk_ext [idx t]
theorem emb_4 (t : Fin cfg0.N) (r : Fin 1024) (l : Fin 512) : (win0_4.blk t).view.emb (ix2 r l)
    = (ix2 (⟨t.val * 1024 + r.val, by have := t_lt t; omega⟩ : Fin 65536) l : S65536x512.Idx) := by blk_ext [idx t]
theorem emb_5 (t : Fin cfg0.N) (r : Fin 1024) (l : Fin 512) : (win0_5.blk t).view.emb (ix2 r l)
    = (ix2 (⟨t.val * 1024 + r.val, by have := t_lt t; omega⟩ : Fin 65536) l : S65536x512.Idx) := by blk_ext [idx t]
theorem emb_6 (t : Fin cfg0.N) (r : Fin 1024) (l : Fin 256) : (win0_6.blk t).view.emb (ix2 r l)
    = (ix2 (⟨t.val * 1024 + r.val, by have := t_lt t; omega⟩ : Fin 65536) l : S65536x256.Idx) := by blk_ext [idx t]
theorem emb_7 (t : Fin cfg0.N) (r : Fin 1024) (l : Fin 128) : (win0_7.blk t).view.emb (ix2 r l)
    = (ix2 (⟨t.val * 1024 + r.val, by have := t_lt t; omega⟩ : Fin 65536) l : S65536x128.Idx) := by blk_ext [idx t]
theorem emb_8 (t : Fin cfg0.N) (r : Fin 1024) (l : Fin 256) : (win0_8.blk t).view.emb (ix2 r l)
    = (ix2 (⟨t.val * 1024 + r.val, by have := t_lt t; omega⟩ : Fin 65536) l : S65536x256.Idx) := by blk_ext [idx t]
theorem emb_9 (t : Fin cfg0.N) (r : Fin 1024) (l : Fin 128) : (win0_9.blk t).view.emb (ix2 r l)
    = (ix2 (⟨t.val * 1024 + r.val, by have := t_lt t; omega⟩ : Fin 65536) l : S65536x128.Idx) := by blk_ext [idx t]

/-- The rows with their leading axes joined, at an index. -/
theorem rows_at (X : FVec Ideal S8x8192x1024 .f32) (r : Fin 65536) (k : Fin 1024) :
    shapeCast S65536x1024 X shapeCasts_S8x8192x1024_S65536x1024 (ix2 r k) = X (ix3 ⟨r.val / 8192, by omega⟩ ⟨r.val % 8192, by omega⟩ k) := by
  pointwise

/-- A row of the block at point `t`. -/
theorem read_x (c : Dev nD) (t : Fin cfg0.N) (r : Fin 1024) (k : Fin 1024) :
    iblk m c 0 t (ix2 r k) = (m ((c : Thread nD τ).loc main_arg0) : FVec Ideal S8x8192x1024 .f32) (ix3 ⟨(t.val * 1024 + r.val) / 8192, by have := t_lt t; omega⟩ ⟨(t.val * 1024 + r.val) % 8192, by omega⟩ k) := by
  unfold iblk
  show V m c main_v52 ((win0_0.blk t).view.emb (ix2 r k)) = _
  rw [entry_x, emb_0]
  exact rows_at _ _ _

/-- A packed column. -/
theorem read_w (c : Dev nD) (t : Fin cfg0.N) (k : Fin 1024) (l : Fin 1792) : iblk m c 1 t (ix2 k l) = COLS (m ((c : Thread nD τ).loc main_arg1)) (ix2 k l) := by
  unfold iblk
  show V m c main_v26 ((win0_1.blk t).view.emb (ix2 k l)) = _
  rw [entry_w, emb_1]

/-- The cosine of a row's position. -/
theorem read_cos (c : Dev nD) (t : Fin cfg0.N) (r : Fin 1024) (j : Fin 128) :
    iblk m c 2 t (ix2 r j) = Ideal.cos (ANG (ix2 ⟨(t.val * 1024 + r.val) % 8192, by omega⟩ ⟨j.val % 32, by omega⟩)) := by
  unfold iblk
  show V m c main_v53 ((win0_2.blk t).view.emb (ix2 r j)) = _
  rw [entry_cos, emb_2]
  exact cos_at _ _

/-- The signed sine of a row's position. -/
theorem read_sin (c : Dev nD) (t : Fin cfg0.N) (r : Fin 1024) (j : Fin 128) :
    iblk m c 3 t (ix2 r j) = if j.val % 64 < 32 then -Ideal.sin (ANG (ix2 ⟨(t.val * 1024 + r.val) % 8192, by omega⟩ ⟨j.val % 32, by omega⟩)) else Ideal.sin (ANG (ix2 ⟨(t.val * 1024 + r.val) % 8192, by omega⟩ ⟨j.val % 32, by omega⟩)) := by
  unfold iblk
  show V m c main_v54 ((win0_3.blk t).view.emb (ix2 r j)) = _
  rw [entry_sin, emb_3]
  exact sin_at _ _

/-- A product of a row with a packed column that holds the projection's column `g`. -/
theorem read_dot (c : Dev nD) (t : Fin cfg0.N) (r : Fin 1024) (l : Fin 1792) (g : Fin 4936)
    (hg : ∀ k : Fin 1024, COLS (m ((c : Thread nD τ).loc main_arg1)) (ix2 k l) = (m ((c : Thread nD τ).loc main_arg1) : FVec Ideal S1x1024x4936 .f32) (ix3 0 k g)) :
    dotc (iblk m c 0 t) (iblk m c 1 t) r l = PROJ (m ((c : Thread nD τ).loc main_arg0)) (m ((c : Thread nD τ).loc main_arg1)) (ix3 ⟨(t.val * 1024 + r.val) / 8192, by have := t_lt t; omega⟩ ⟨(t.val * 1024 + r.val) % 8192, by omega⟩ g) := by
  rw [proj_at]
  unfold dotc
  exact Finset.sum_congr rfl fun k _ => congrArg₂ (· * ·) (read_x m c t r k) ((read_w m c t k l).trans (hg k))

/-- A product with a zero column. -/
theorem read_zero (c : Dev nD) (t : Fin cfg0.N) (r : Fin 1024) (l : Fin 120) : dotc (iblk m c 0 t) (iblk m c 1 t) r ⟨1672 + l.val, by omega⟩ = 0 := by
  unfold dotc
  refine Finset.sum_eq_zero fun k _ => ?_
  rw [read_w, cols_z]
  exact mul_zero _

/-- Point `t`'s block of the queries. -/
theorem point4 (c : Dev nD) (t : Fin cfg0.N) (r : Fin 1024) (l : Fin 512) : out0_4 (iblk m c 0 t) (iblk m c 1 t) (iblk m c 2 t) (iblk m c 3 t) (ix2 r l)
    = REFq (m ((c : Thread nD τ).loc main_arg0)) (m ((c : Thread nD τ).loc main_arg1)) ((win0_4.blk t).view.emb (ix2 r l)) := by
  have h4 := l.isLt
  refine (out4_at _ _ _ _ r l).trans ?_
  rw [emb_4]
  refine Eq.trans ?_ (q_at _ _ _ _).symm
  refine congrArg (· * _) (spin_turn _ _ _ _ _ _ _ (read_cos m c t r) (read_sin m c t r) (fun e => ?_) (by dsimp only; omega))
  have e1 := e.isLt
  refine (read_dot m c t r _ ⟨l.val / 64 * 64 + e.val, by omega⟩ fun k => ?_)
  refine Eq.trans (congrArg (COLS _) (congrArg (ix2 k) (Fin.ext ?_))) ((cols_q _ k ⟨l.val / 128 * 128 + (l.val % 128 / 64 * 64 + e.val), by omega⟩).trans (congrArg _ (congrArg (ix3 0 k) (Fin.ext ?_)))) <;> dsimp only <;> omega

/-- The array of the queries after the run. -/
theorem final4 (c : Dev nD) : (dats m 0 c).arrAt 4 (cfgs 0).N = REFq (m ((c : Thread nD τ).loc main_arg0)) (m ((c : Thread nD τ).loc main_arg1)) := by
  refine (dats m 0 c).arrAt_eq_of_covers 4 _ (by decide +kernel) fun t _ y => ?_
  blk_simp
  rw [after0_4]
  exact (congrArg _ (eq_ix2 y)).trans ((point4 m c t (y 0) (y 1)).trans (congrArg _ (congrArg _ (eq_ix2 y).symm)))

/-- Point `t`'s block of the indexer's queries. -/
theorem point5 (c : Dev nD) (t : Fin cfg0.N) (r : Fin 1024) (l : Fin 512) : out0_5 (iblk m c 0 t) (iblk m c 1 t) (iblk m c 2 t) (iblk m c 3 t) (ix2 r l)
    = REFqi (m ((c : Thread nD τ).loc main_arg0)) (m ((c : Thread nD τ).loc main_arg1)) ((win0_5.blk t).view.emb (ix2 r l)) := by
  have h4 := l.isLt
  refine (out5_at _ _ _ _ r l).trans ?_
  rw [emb_5]
  refine Eq.trans ?_ (qi_at _ _ _ _).symm
  refine spin_turn _ _ _ _ _ _ _ (read_cos m c t r) (read_sin m c t r) (fun e => ?_) (by dsimp only; omega)
  have e1 := e.isLt
  refine (read_dot m c t r _ ⟨768 + (l.val / 64 * 64 + e.val), by omega⟩ fun k => ?_)
  refine Eq.trans (congrArg (COLS _) (congrArg (ix2 k) (Fin.ext ?_))) ((cols_qi _ k ⟨l.val / 128 * 128 + (l.val % 128 / 64 * 64 + e.val), by omega⟩).trans (congrArg _ (congrArg (ix3 0 k) (Fin.ext ?_)))) <;> dsimp only <;> omega

/-- The array of the indexer's queries after the run. -/
theorem final5 (c : Dev nD) : (dats m 0 c).arrAt 5 (cfgs 0).N = REFqi (m ((c : Thread nD τ).loc main_arg0)) (m ((c : Thread nD τ).loc main_arg1)) := by
  refine (dats m 0 c).arrAt_eq_of_covers 5 _ (by decide +kernel) fun t _ y => ?_
  blk_simp
  rw [after0_5]
  exact (congrArg _ (eq_ix2 y)).trans ((point5 m c t (y 0) (y 1)).trans (congrArg _ (congrArg _ (eq_ix2 y).symm)))

/-- Point `t`'s block of the keys. -/
theorem point6 (c : Dev nD) (t : Fin cfg0.N) (r : Fin 1024) (l : Fin 256) : out0_6 (iblk m c 0 t) (iblk m c 1 t) (iblk m c 2 t) (iblk m c 3 t) (ix2 r l)
    = REFk (m ((c : Thread nD τ).loc main_arg0)) (m ((c : Thread nD τ).loc main_arg1)) ((win0_6.blk t).view.emb (ix2 r l)) := by
  have h4 := l.isLt
  refine (out6_at _ _ _ _ r l).trans ?_
  rw [emb_6]
  refine Eq.trans ?_ (k_at _ _ _ _).symm
  refine spin_turn _ _ _ _ _ _ _ (read_cos m c t r) (read_sin m c t r) (fun e => ?_) (by dsimp only; omega)
  have e1 := e.isLt
  refine (read_dot m c t r _ ⟨512 + (l.val / 128 * 64 + e.val), by omega⟩ fun k => ?_)
  refine Eq.trans (congrArg (COLS _) (congrArg (ix2 k) (Fin.ext ?_))) ((cols_k _ k ⟨l.val / 128 * 128 + (l.val % 128 / 64 * 64 + e.val), by omega⟩).trans (congrArg _ (congrArg (ix3 0 k) (Fin.ext ?_)))) <;> dsimp only <;> omega

/-- The array of the keys after the run. -/
theorem final6 (c : Dev nD) : (dats m 0 c).arrAt 6 (cfgs 0).N = REFk (m ((c : Thread nD τ).loc main_arg0)) (m ((c : Thread nD τ).loc main_arg1)) := by
  refine (dats m 0 c).arrAt_eq_of_covers 6 _ (by decide +kernel) fun t _ y => ?_
  blk_simp
  rw [after0_6]
  exact (congrArg _ (eq_ix2 y)).trans ((point6 m c t (y 0) (y 1)).trans (congrArg _ (congrArg _ (eq_ix2 y).symm)))

/-- Point `t`'s block of the indexer's key. -/
theorem point7 (c : Dev nD) (t : Fin cfg0.N) (r : Fin 1024) (l : Fin 128) : out0_7 (iblk m c 0 t) (iblk m c 1 t) (iblk m c 2 t) (iblk m c 3 t) (ix2 r l)
    = REFki (m ((c : Thread nD τ).loc main_arg0)) (m ((c : Thread nD τ).loc main_arg1)) ((win0_7.blk t).view.emb (ix2 r l)) := by
  have h4 := l.isLt
  refine (out7_at _ _ _ _ r l).trans ?_
  rw [emb_7]
  refine Eq.trans ?_ (ki_at _ _ _ _).symm
  refine spin_turn _ _ _ _ _ _ _ (read_cos m c t r) (read_sin m c t r) (fun e => ?_) (by dsimp only; omega)
  have e1 := e.isLt
  refine (read_dot m c t r _ ⟨1280 + e.val, by omega⟩ fun k => ?_)
  refine Eq.trans (congrArg (COLS _) (congrArg (ix2 k) (Fin.ext ?_))) ((cols_ki _ k ⟨l.val % 128 / 64 * 64 + e.val, by omega⟩).trans (congrArg _ (congrArg (ix3 0 k) (Fin.ext ?_)))) <;> dsimp only <;> omega

/-- The array of the indexer's key after the run. -/
theorem final7 (c : Dev nD) : (dats m 0 c).arrAt 7 (cfgs 0).N = REFki (m ((c : Thread nD τ).loc main_arg0)) (m ((c : Thread nD τ).loc main_arg1)) := by
  refine (dats m 0 c).arrAt_eq_of_covers 7 _ (by decide +kernel) fun t _ y => ?_
  blk_simp
  rw [after0_7]
  exact (congrArg _ (eq_ix2 y)).trans ((point7 m c t (y 0) (y 1)).trans (congrArg _ (congrArg _ (eq_ix2 y).symm)))

/-- Point `t`'s block of the values. -/
theorem point8 (c : Dev nD) (t : Fin cfg0.N) (r : Fin 1024) (l : Fin 256) : out0_8 (iblk m c 0 t) (iblk m c 1 t) (iblk m c 2 t) (iblk m c 3 t) (ix2 r l)
    = REFv (m ((c : Thread nD τ).loc main_arg0)) (m ((c : Thread nD τ).loc main_arg1)) ((win0_8.blk t).view.emb (ix2 r l)) := by
  have h4 := l.isLt
  refine (out8_at _ _ _ _ r l).trans ?_
  rw [emb_8]
  refine Eq.trans ?_ (v_at _ _ _ _).symm
  exact read_dot m c t r _ _ fun k => cols_v _ k l

/-- The array of the values after the run. -/
theorem final8 (c : Dev nD) : (dats m 0 c).arrAt 8 (cfgs 0).N = REFv (m ((c : Thread nD τ).loc main_arg0)) (m ((c : Thread nD τ).loc main_arg1)) := by
  refine (dats m 0 c).arrAt_eq_of_covers 8 _ (by decide +kernel) fun t _ y => ?_
  blk_simp
  rw [after0_8]
  exact (congrArg _ (eq_ix2 y)).trans ((point8 m c t (y 0) (y 1)).trans (congrArg _ (congrArg _ (eq_ix2 y).symm)))

/-- Point `t`'s block of the indexer's weights. -/
theorem point9 (c : Dev nD) (t : Fin cfg0.N) (r : Fin 1024) (l : Fin 128) : out0_9 (iblk m c 0 t) (iblk m c 1 t) (iblk m c 2 t) (iblk m c 3 t) (ix2 r l)
    = REFwi (m ((c : Thread nD τ).loc main_arg0)) (m ((c : Thread nD τ).loc main_arg1)) ((win0_9.blk t).view.emb (ix2 r l)) := by
  have h4 := l.isLt
  refine (out9_at _ _ _ _ r l).trans ?_
  rw [emb_9]
  refine Eq.trans ?_ (wi_at _ _ _ _).symm
  by_cases h : l.val < 8
  · rw [filled_lo _ l h]
    exact congrArg (· * _) (read_dot m c t r _ _ fun k => cols_wi _ k ⟨l.val, h⟩)
  · rw [filled_hi _ l h]
    have e : (⟨1664 + l.val, by omega⟩ : Fin 1792) = ⟨1672 + (⟨l.val - 8, by omega⟩ : Fin 120).val, by dsimp only; omega⟩ := Fin.ext (by dsimp only; omega)
    rw [e, read_zero]
    exact zero_mul _

/-- The array of the indexer's weights after the run. -/
theorem final9 (c : Dev nD) : (dats m 0 c).arrAt 9 (cfgs 0).N = REFwi (m ((c : Thread nD τ).loc main_arg0)) (m ((c : Thread nD τ).loc main_arg1)) := by
  refine (dats m 0 c).arrAt_eq_of_covers 9 _ (by decide +kernel) fun t _ y => ?_
  blk_simp
  rw [after0_9]
  exact (congrArg _ (eq_ix2 y)).trans ((point9 m c t (y 0) (y 1)).trans (congrArg _ (congrArg _ (eq_ix2 y).symm)))

end Cert.Kernel4Ideal.RopeValue

end
-- ==== Proof.RopeClaim.lean ====
/-
  The claims about the rotary projection and its reference.
-/
module

public import proofs.«01_k».proof.Defs
public import proofs.«01_k».proof.Proof.RopeValue
public import Idealize.ShloMosaic.Lib.Quiescent

@[expose] public section

noncomputable section

namespace Cert.Claims

open Idealize.ShloMosaic Idealize.SL.Sem

/-- The reference runs, keeps its arguments and leaves no semaphore raised. -/
theorem quiescent_Reference4Ideal : Cert.quiescent_Reference4Ideal := fun m ρ _ =>
  (θ_run Cert.Reference4Ideal.defs _ _).mono (fun r h => ⟨fun c => (h c).2.2.2.2.2.2, Idealize.ShloMosaic.sem_eq_zero_of_no_sems (by decide) r.2⟩) (Cert.Reference4Ideal.Value.run m ρ)

/-- From equal arguments the kernel and its reference end with equal results over the extended reals. -/
theorem algebraic_Kernel4Ideal_Reference4Ideal : Cert.algebraic_Kernel4Ideal_Reference4Ideal := fun m ρ m' ρ' _ hag =>
  ⟨fun c => Cert.Reference4Ideal.RopeRef.REFq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
      fun c => Cert.Reference4Ideal.RopeRef.REFqi (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
      fun c => Cert.Reference4Ideal.RopeRef.REFk (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
      fun c => Cert.Reference4Ideal.RopeRef.REFki (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
      fun c => Cert.Reference4Ideal.RopeRef.REFv (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
      fun c => Cert.Reference4Ideal.RopeRef.REFwi (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun _ h c => ⟨(h c).1.trans (Cert.Kernel4Ideal.RopeValue.final4 m c),
      (h c).2.1.trans (Cert.Kernel4Ideal.RopeValue.final5 m c),
      (h c).2.2.1.trans (Cert.Kernel4Ideal.RopeValue.final6 m c),
      (h c).2.2.2.1.trans (Cert.Kernel4Ideal.RopeValue.final7 m c),
      (h c).2.2.2.2.1.trans (Cert.Kernel4Ideal.RopeValue.final8 m c),
      (h c).2.2.2.2.2.1.trans (Cert.Kernel4Ideal.RopeValue.final9 m c), (h c).2.2.2.2.2.2⟩) (Cert.Kernel4Ideal.Value.run_blocks m ρ),
    (θ_run Cert.Reference4Ideal.defs _ _).mono (fun _ h c => ⟨(h c).1.trans (Eq.trans (show _ = Cert.Reference4Ideal.RopeRef.REFq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) from rfl) (by rw [(hag c).1, (hag c).2])),
      (h c).2.1.trans (Eq.trans (show _ = Cert.Reference4Ideal.RopeRef.REFqi (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) from rfl) (by rw [(hag c).1, (hag c).2])),
      (h c).2.2.1.trans (Eq.trans (show _ = Cert.Reference4Ideal.RopeRef.REFk (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) from rfl) (by rw [(hag c).1, (hag c).2])),
      (h c).2.2.2.1.trans (Eq.trans (show _ = Cert.Reference4Ideal.RopeRef.REFki (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) from rfl) (by rw [(hag c).1, (hag c).2])),
      (h c).2.2.2.2.1.trans (Eq.trans (show _ = Cert.Reference4Ideal.RopeRef.REFv (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) from rfl) (by rw [(hag c).1, (hag c).2])),
      (h c).2.2.2.2.2.1.trans (Eq.trans (show _ = Cert.Reference4Ideal.RopeRef.REFwi (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) from rfl) (by rw [(hag c).1, (hag c).2])), (h c).2.2.2.2.2.2⟩) (Cert.Reference4Ideal.Value.run m' ρ')⟩

end Cert.Claims

end
-- ==== Proof.AttnKeep.lean ====
/-
  A program that only loads from and stores to a few buffers keeps whatever says that those buffers are held at
  some contents. `Lends c H ℓ` says that `H` holds the buffer at `ℓ` whole, at some contents, and takes it back at any
  contents; `Keeps c bd H p` says that the program `p`, started with `H`, runs to its end and leaves `H`. A value
  keeps it, and so do a load and a store through a lent buffer, a sequence, a choice and a counted loop of programs
  that keep it.
-/
module

public import proofs.«01_k».proof.Kernel5
public import Idealize.ShloMosaic.Lib.Tactic
public import Idealize.ShloMosaic.Lib.Pipeline.FrameBody

@[expose] public section

noncomputable section

namespace Cert.Proof.Attn

open Cert.Kernel5

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]

local notation "𝕄" => MT nD τ sig Unit (Elt F) ℕ (UR sig nD τ) ℕ

/-- A call of the one loop with a test is bounded by a natural number. -/
abbrev 𝒱₀ : Variants := Variants.nat

/-- `H` holds the buffer at `ℓ` whole at some contents, and takes it back at any. -/
def Lends (H : sProp 𝕄) (ℓ : Loc nD τ sig) : Prop :=
  H ⊢ iprop(∃ f : Buf (Elt F) ℓ, (ℓ ↦{fullShare} f) ∗ (∀ f' : Buf (Elt F) ℓ, (ℓ ↦{fullShare} f') -∗ H))

/-- Started with `H`, the program runs to its end and leaves `H`. -/
def Keeps (c : Dev nD) (bd : Option ℕ) (H : sProp 𝕄) {α : Type} (p : Prog (TpuEff nD τ sig (Elt F) (Λ₀ F) .tc) α) : Prop :=
  H ⊢ wp frame (wpE (defs₀ (F := F)) 𝒱₀ (c : Thread nD τ) bd) Set.univ p (fun _ => H)

variable {c : Dev nD} {bd : Option ℕ} {H : sProp (MT nD τ sig Unit (Elt F) ℕ (UR sig nD τ) ℕ)} {α β : Type}

/-- A value keeps it. -/
theorem keeps_pure (x : α) : Keeps c bd H (pure x) := by
  unfold Keeps
  rw [Prog.pure_eq_ret, wp_ret]
  iintro H
  imodintro
  iexact H

/-- A sequence. -/
theorem keeps_bind {p : Prog (TpuEff nD τ sig (Elt F) (Λ₀ F) .tc) α} {k : α → Prog (TpuEff nD τ sig (Elt F) (Λ₀ F) .tc) β}
    (hp : Keeps c bd H p) (hk : ∀ x, Keeps c bd H (k x)) : Keeps c bd H (p >>= k) := by
  unfold Keeps at *
  rw [wp_bind]
  iintro H
  iapply (wp_wand_r frame (wpE (defs₀ (F := F)) 𝒱₀ (c : Thread nD τ) bd) Set.univ)
  isplitl [H]
  · iapply hp; iexact H
  · iintro %x H
    iapply (hk x); iexact H

/-- A load through a lent buffer, and what follows. -/
theorem keeps_load {cs : CoreSpace} {s : Shape} {e : EltTy} {m : Memref sig .tc cs s e} {r : LoadRect s} {hl : m.view.LoadsAt r}
    {k : (r.shape.Idx → Elt F e) → Prog (TpuEff nD τ sig (Elt F) (Λ₀ F) .tc) β}
    (hm : Lends H (m.view.loc (c : Thread nD τ))) (hk : ∀ x, Keeps c bd H (k x)) :
    Keeps c bd H (Prog.lift (.load m r hl) >>= k) := by
  unfold Keeps Lends at *
  simp only [Prog.lift, Prog.bind_op, Prog.bind_ret]
  iintro H
  ihave H := hm $$ H
  icases H with ⟨%f, Hf, Hb⟩
  iapply (wp_load 𝒱₀ (c : Thread nD τ) bd Set.univ (m := m) (Finset.subset_univ _)) $$ Hf
  iintro Hf
  iapply (hk _)
  iapply Hb
  iexact Hf

/-- A store through a lent buffer, and what follows. -/
theorem keeps_store {cs : CoreSpace} {s : Shape} {e : EltTy} {m : Memref sig .tc cs s e} {r : Rect s} {w : r.shape.Idx → Elt F e}
    {Mk : Finset r.shape.Idx} {hx : (m.access r).Stores Mk} {hs : Mk = Finset.univ ∨ ∀ a, r.stride a = 1}
    {k : PUnit.{1} → Prog (TpuEff nD τ sig (Elt F) (Λ₀ F) .tc) β}
    (hm : Lends H (m.view.loc (c : Thread nD τ))) (hk : ∀ x, Keeps c bd H (k x)) :
    Keeps c bd H (Prog.lift (.store m r w Mk hx hs) >>= k) := by
  unfold Keeps Lends at *
  simp only [Prog.lift, Prog.bind_op, Prog.bind_ret]
  iintro H
  ihave H := hm $$ H
  icases H with ⟨%f, Hf, Hb⟩
  iapply (wp_store 𝒱₀ (c : Thread nD τ) bd Set.univ (m := m) (r := r) (Mk := Mk) (Finset.subset_univ _)) $$ Hf
  iintro Hf
  iapply (hk _)
  iapply Hb
  iexact Hf

/-- A choice. -/
theorem keeps_ite {P : Prop} [Decidable P] {p q : Prog (TpuEff nD τ sig (Elt F) (Λ₀ F) .tc) α}
    (hp : Keeps c bd H p) (hq : Keeps c bd H q) : Keeps c bd H (if P then p else q) := by
  split
  · exact hp
  · exact hq

/-- A choice whose first arm may use that its test holds. -/
theorem keeps_dite {P : Prop} [Decidable P] {p q : Prog (TpuEff nD τ sig (Elt F) (Λ₀ F) .tc) α}
    (hp : P → Keeps c bd H p) (hq : ¬P → Keeps c bd H q) : Keeps c bd H (if P then p else q) := by
  split
  · exact hp ‹_›
  · exact hq ‹_›

/-- A counted loop. -/
theorem keeps_for {w : ℕ} {l : Scf.Loop w} {hok : l.OK} {init : α}
    {body : Fin l.trips → α → Prog (TpuEff nD τ sig (Elt F) (Λ₀ F) .tc) α}
    (hb : ∀ t x, Keeps c bd H (body t x)) : Keeps c bd H (l.for hok init body) := by
  unfold Keeps at *
  iintro H
  iapply (Scf.wp_for frame (wpE (defs₀ (F := F)) 𝒱₀ (c : Thread nD τ) bd) Set.univ l.lb l.ub l.st hok init body (fun _ _ => H) hb)
  isplitl [H]
  · iexact H
  · iintro %x H
    iexact H

/-- The fourteen buffers of the attention's body, each lent by `H`: the six input blocks, the output block and the seven
    scratch arrays. -/
structure Lent (c : Dev nD) (H : sProp (MT nD τ sig Unit (Elt F) ℕ (UR sig nD τ) ℕ))
    (arg2 : Memref sig .tc .vmem S1x256x512 .bf16) (arg3 : Memref sig .tc .vmem S1x8x256 .f32)
    (arg4 : Memref sig .tc .vmem S1x256x512 .bf16) (arg5 : Memref sig .tc .vmem S1x9216x128 .bf16)
    (arg6 : Memref sig .tc .vmem S1x9216x256 .bf16) (arg7 : Memref sig .tc .vmem S1x160x9216 .bf16)
    (arg8 : Memref sig .tc .vmem S1x256x512 .bf16) (arg9 : Memref sig .tc .vmem S9216x256 .i32)
    (arg10 : Memref sig .tc .vmem S256x256 .i32) (arg11 : Memref sig .tc .vmem S4x1024x512 .f32)
    (arg12 : Memref sig .tc .vmem S4x1024x512 .bf16) (arg13 : Memref sig .tc .vmem S4x128x512 .bf16)
    (arg14 : Memref sig .tc .vmem S4x128x512 .bf16) (arg15 : Memref sig .tc .vmem S4x80x512 .f32) : Prop where
  l2 : Lends H (arg2.view.loc (c : Thread nD τ))
  l3 : Lends H (arg3.view.loc (c : Thread nD τ))
  l4 : Lends H (arg4.view.loc (c : Thread nD τ))
  l5 : Lends H (arg5.view.loc (c : Thread nD τ))
  l6 : Lends H (arg6.view.loc (c : Thread nD τ))
  l7 : Lends H (arg7.view.loc (c : Thread nD τ))
  l8 : Lends H (arg8.view.loc (c : Thread nD τ))
  l9 : Lends H (arg9.view.loc (c : Thread nD τ))
  l10 : Lends H (arg10.view.loc (c : Thread nD τ))
  l11 : Lends H (arg11.view.loc (c : Thread nD τ))
  l12 : Lends H (arg12.view.loc (c : Thread nD τ))
  l13 : Lends H (arg13.view.loc (c : Thread nD τ))
  l14 : Lends H (arg14.view.loc (c : Thread nD τ))
  l15 : Lends H (arg15.view.loc (c : Thread nD τ))

end Cert.Proof.Attn

end
-- ==== Proof.AttnPartsA.lean ====
/-
  Part after part of the attention's body loads from and stores to the body's buffers and computes on what it
  loaded, so each keeps what lends it those buffers (the first parts).
-/
module

public import proofs.«01_k».proof.Proof.AttnKeep

@[expose] public section

noncomputable section

namespace Cert.Proof.Attn

open Cert.Kernel5

open Idealize.ShloMosaic
open Idealize.ShloMosaic.TcCoe
open Idealize.SL Idealize.SL.RA Idealize.SL.BI
open Idealize.SL.Sem
open Idealize.ShloMosaic.Rounds

variable {F : FTy → Type} [BitOps F] [Facts]
variable {c : Dev nD} {bd : Option ℕ} {H : sProp (MT nD τ sig Unit (Elt F) ℕ (UR sig nD τ) ℕ)}
variable {i : grid0.Coords} {arg2 : Memref sig .tc .vmem S1x256x512 .bf16} {harg2 : arg2.IsWhole} {arg3 : Memref sig .tc .vmem S1x8x256 .f32} {harg3 : arg3.IsWhole}
  {arg4 : Memref sig .tc .vmem S1x256x512 .bf16} {harg4 : arg4.IsWhole} {arg5 : Memref sig .tc .vmem S1x9216x128 .bf16} {harg5 : arg5.IsWhole}
  {arg6 : Memref sig .tc .vmem S1x9216x256 .bf16} {harg6 : arg6.IsWhole} {arg7 : Memref sig .tc .vmem S1x160x9216 .bf16} {harg7 : arg7.IsWhole}
  {arg8 : Memref sig .tc .vmem S1x256x512 .bf16} {harg8 : arg8.IsWhole} {arg9 : Memref sig .tc .vmem S9216x256 .i32} {harg9 : arg9.IsWhole}
  {arg10 : Memref sig .tc .vmem S256x256 .i32} {harg10 : arg10.IsWhole} {arg11 : Memref sig .tc .vmem S4x1024x512 .f32} {harg11 : arg11.IsWhole}
  {arg12 : Memref sig .tc .vmem S4x1024x512 .bf16} {harg12 : arg12.IsWhole} {arg13 : Memref sig .tc .vmem S4x128x512 .bf16} {harg13 : arg13.IsWhole}
  {arg14 : Memref sig .tc .vmem S4x128x512 .bf16} {harg14 : arg14.IsWhole} {arg15 : Memref sig .tc .vmem S4x80x512 .f32} {harg15 : arg15.IsWhole}
  (L : Lent c H arg2 arg3 arg4 arg5 arg6 arg7 arg8 arg9 arg10 arg11 arg12 arg13 arg14 arg15)
include L

theorem keeps_part1 : ∀ x0 x1 x2, Keeps c bd H (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part1
  exact keeps_load L.l5 fun _ => keeps_load L.l13 fun _ => keeps_load L.l3 fun _ => keeps_load L.l3 fun _ => keeps_load L.l13 fun _ => keeps_load L.l3 fun _ => keeps_pure _

theorem keeps_part2 : ∀ x0 x1 x2 x3 x4 x5, Keeps c bd H (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part2
  exact keeps_load L.l3 fun _ => keeps_load L.l13 fun _ => keeps_load L.l3 fun _ => keeps_load L.l3 fun _ => keeps_load L.l13 fun _ => keeps_load L.l3 fun _ => keeps_pure _

theorem keeps_part3 : ∀ x0 x1 x2 x3 x4 x5 x6 x7, Keeps c bd H (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part3
  exact keeps_load L.l3 fun _ => keeps_load L.l9 fun _ => keeps_store L.l9 fun _ => keeps_load L.l10 fun _ => keeps_load L.l10 fun _ => keeps_store L.l10 fun _ => keeps_pure _

theorem keeps_part4 : ∀ x0 x1, Keeps c bd H (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part4
  exact keeps_load L.l5 fun _ => keeps_load L.l13 fun _ => keeps_load L.l3 fun _ => keeps_load L.l3 fun _ => keeps_load L.l13 fun _ => keeps_load L.l3 fun _ => keeps_pure _

theorem keeps_part5 : ∀ x0 x1 x2, Keeps c bd H (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part5
  exact keeps_load L.l3 fun _ => keeps_load L.l13 fun _ => keeps_load L.l3 fun _ => keeps_load L.l3 fun _ => keeps_load L.l13 fun _ => keeps_load L.l3 fun _ => keeps_pure _

theorem keeps_part6 : ∀ x0 x1 x2 x3 x4 x5 x6, Keeps c bd H (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part6
  exact keeps_load L.l3 fun _ => keeps_load L.l9 fun _ => keeps_store L.l9 fun _ => keeps_load L.l10 fun _ => keeps_load L.l10 fun _ => keeps_store L.l10 fun _ => keeps_load L.l5 fun _ => keeps_pure _

theorem keeps_part7 : ∀ x0 x1, Keeps c bd H (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part7
  exact keeps_load L.l13 fun _ => keeps_load L.l3 fun _ => keeps_load L.l3 fun _ => keeps_load L.l13 fun _ => keeps_load L.l3 fun _ => keeps_load L.l3 fun _ => keeps_pure _

theorem keeps_part8 : ∀ x0 x1 x2, Keeps c bd H (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part8
  exact keeps_load L.l13 fun _ => keeps_load L.l3 fun _ => keeps_load L.l3 fun _ => keeps_load L.l13 fun _ => keeps_load L.l3 fun _ => keeps_load L.l3 fun _ => keeps_pure _

theorem keeps_part9 : ∀ x0 x1 x2 x3 x4 x5 x6 x7, Keeps c bd H (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part9
  exact keeps_load L.l9 fun _ => keeps_store L.l9 fun _ => keeps_load L.l10 fun _ => keeps_load L.l10 fun _ => keeps_store L.l10 fun _ => keeps_load L.l5 fun _ => keeps_load L.l13 fun _ => keeps_pure _

theorem keeps_part10 : ∀ x0 x1 x2, Keeps c bd H (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part10
  exact keeps_load L.l3 fun _ => keeps_load L.l3 fun _ => keeps_load L.l13 fun _ => keeps_load L.l3 fun _ => keeps_load L.l3 fun _ => keeps_load L.l13 fun _ => keeps_pure _

theorem keeps_part11 : ∀ x0 x1 x2 x3 x4 x5, Keeps c bd H (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part11
  exact keeps_load L.l3 fun _ => keeps_load L.l3 fun _ => keeps_load L.l13 fun _ => keeps_load L.l3 fun _ => keeps_load L.l3 fun _ => keeps_pure _

theorem keeps_part12 : ∀ x0 x1 x2, Keeps c bd H (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part12
  exact keeps_load L.l5 fun _ => keeps_load L.l13 fun _ => keeps_load L.l3 fun _ => keeps_load L.l3 fun _ => keeps_load L.l13 fun _ => keeps_load L.l3 fun _ => keeps_pure _

theorem keeps_part13 : ∀ x0 x1 x2 x3 x4 x5, Keeps c bd H (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part13
  exact keeps_load L.l3 fun _ => keeps_load L.l13 fun _ => keeps_load L.l3 fun _ => keeps_load L.l3 fun _ => keeps_load L.l13 fun _ => keeps_load L.l3 fun _ => keeps_pure _

theorem keeps_part14 : ∀ x0 x1 x2 x3 x4 x5 x6 x7, Keeps c bd H (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part14
  exact keeps_load L.l3 fun _ => keeps_load L.l9 fun _ => keeps_store L.l9 fun _ => keeps_load L.l10 fun _ => keeps_load L.l10 fun _ => keeps_store L.l10 fun _ => keeps_pure _

theorem keeps_part15 : ∀ x0 x1, Keeps c bd H (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part15
  exact keeps_load L.l5 fun _ => keeps_load L.l13 fun _ => keeps_load L.l3 fun _ => keeps_load L.l3 fun _ => keeps_load L.l13 fun _ => keeps_load L.l3 fun _ => keeps_pure _

theorem keeps_part16 : ∀ x0 x1 x2, Keeps c bd H (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part16
  exact keeps_load L.l3 fun _ => keeps_load L.l13 fun _ => keeps_load L.l3 fun _ => keeps_load L.l3 fun _ => keeps_load L.l13 fun _ => keeps_load L.l3 fun _ => keeps_pure _

theorem keeps_part17 : ∀ x0 x1 x2 x3 x4 x5 x6, Keeps c bd H (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part17
  exact keeps_load L.l3 fun _ => keeps_load L.l9 fun _ => keeps_store L.l9 fun _ => keeps_load L.l10 fun _ => keeps_load L.l10 fun _ => keeps_store L.l10 fun _ => keeps_load L.l5 fun _ => keeps_pure _

theorem keeps_part18 : ∀ x0 x1, Keeps c bd H (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part18
  exact keeps_load L.l13 fun _ => keeps_load L.l3 fun _ => keeps_load L.l3 fun _ => keeps_load L.l13 fun _ => keeps_load L.l3 fun _ => keeps_load L.l3 fun _ => keeps_pure _

theorem keeps_part19 : ∀ x0 x1 x2, Keeps c bd H (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part19
  exact keeps_load L.l13 fun _ => keeps_load L.l3 fun _ => keeps_load L.l3 fun _ => keeps_load L.l13 fun _ => keeps_load L.l3 fun _ => keeps_load L.l3 fun _ => keeps_pure _

theorem keeps_part20 : ∀ x0 x1 x2 x3 x4 x5 x6 x7, Keeps c bd H (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part20
  exact keeps_load L.l9 fun _ => keeps_store L.l9 fun _ => keeps_load L.l10 fun _ => keeps_load L.l10 fun _ => keeps_store L.l10 fun _ => keeps_load L.l5 fun _ => keeps_load L.l13 fun _ => keeps_pure _

theorem keeps_part21 : ∀ x0 x1 x2, Keeps c bd H (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part21
  exact keeps_load L.l3 fun _ => keeps_load L.l3 fun _ => keeps_load L.l13 fun _ => keeps_load L.l3 fun _ => keeps_load L.l3 fun _ => keeps_load L.l13 fun _ => keeps_pure _

theorem keeps_part22 : ∀ x0 x1 x2 x3 x4 x5, Keeps c bd H (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part22
  exact keeps_load L.l3 fun _ => keeps_load L.l3 fun _ => keeps_load L.l13 fun _ => keeps_load L.l3 fun _ => keeps_load L.l3 fun _ => keeps_pure _

theorem keeps_part23 : ∀ x0 x1 x2 x3, Keeps c bd H (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part23
  exact keeps_load L.l5 fun _ => keeps_load L.l13 fun _ => keeps_load L.l3 fun _ => keeps_load L.l3 fun _ => keeps_load L.l13 fun _ => keeps_load L.l3 fun _ => keeps_pure _

theorem keeps_part24 : ∀ x0 x1 x2 x3 x4, Keeps c bd H (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part24
  exact keeps_load L.l3 fun _ => keeps_load L.l13 fun _ => keeps_load L.l3 fun _ => keeps_load L.l3 fun _ => keeps_load L.l13 fun _ => keeps_load L.l3 fun _ => keeps_pure _

theorem keeps_part25 : ∀ x0 x1 x2 x3 x4 x5 x6 x7 x8, Keeps c bd H (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part25
  exact keeps_load L.l3 fun _ => keeps_load L.l9 fun _ => keeps_store L.l9 fun _ => keeps_load L.l10 fun _ => keeps_load L.l10 fun _ => keeps_store L.l10 fun _ => keeps_pure _

theorem keeps_part26 : Keeps c bd H (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 ) := by
  unfold k0_part26
  exact keeps_load L.l5 fun _ => keeps_load L.l13 fun _ => keeps_load L.l3 fun _ => keeps_load L.l3 fun _ => keeps_load L.l13 fun _ => keeps_load L.l3 fun _ => keeps_load L.l3 fun _ => keeps_pure _

theorem keeps_part27 : ∀ x0 x1 x2 x3, Keeps c bd H (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part27
  exact keeps_load L.l13 fun _ => keeps_load L.l3 fun _ => keeps_load L.l3 fun _ => keeps_load L.l13 fun _ => keeps_load L.l3 fun _ => keeps_pure _

theorem keeps_part28 : ∀ x0 x1 x2 x3, Keeps c bd H (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part28
  exact keeps_load L.l5 fun _ => keeps_load L.l13 fun _ => keeps_load L.l3 fun _ => keeps_load L.l3 fun _ => keeps_load L.l13 fun _ => keeps_load L.l3 fun _ => keeps_pure _

theorem keeps_part29 : ∀ x0 x1 x2 x3 x4, Keeps c bd H (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part29
  exact keeps_load L.l3 fun _ => keeps_load L.l13 fun _ => keeps_load L.l3 fun _ => keeps_load L.l3 fun _ => keeps_load L.l13 fun _ => keeps_load L.l3 fun _ => keeps_pure _

theorem keeps_part30 : ∀ x0 x1 x2 x3 x4 x5 x6 x7 x8, Keeps c bd H (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part30
  exact keeps_load L.l3 fun _ => keeps_load L.l9 fun _ => keeps_store L.l9 fun _ => keeps_load L.l10 fun _ => keeps_load L.l10 fun _ => keeps_store L.l10 fun _ => keeps_pure _

theorem keeps_part31 : Keeps c bd H (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 ) := by
  unfold k0_part31
  exact keeps_load L.l5 fun _ => keeps_load L.l13 fun _ => keeps_load L.l3 fun _ => keeps_load L.l3 fun _ => keeps_load L.l13 fun _ => keeps_load L.l3 fun _ => keeps_load L.l3 fun _ => keeps_pure _

theorem keeps_part32 : ∀ x0 x1 x2 x3, Keeps c bd H (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part32
  exact keeps_load L.l13 fun _ => keeps_load L.l3 fun _ => keeps_load L.l3 fun _ => keeps_load L.l13 fun _ => keeps_load L.l3 fun _ => keeps_pure _

theorem keeps_part33 : ∀ x0 x1 x2 x3 x4, Keeps c bd H (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part33
  exact keeps_load L.l9 fun _ => keeps_pure _

theorem keeps_part34 : ∀ x0 x1 x2 x3 x4 x5 x6 x7 x8 x9 x10 x11 x12 x13 x14 x15 x16 x17 x18 x19 x20 x21 x22 x23 x24 x25 x26 x27 x28, Keeps c bd H (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part34
  exact keeps_load L.l9 fun _ => keeps_pure _

theorem keeps_part35 : ∀ x0 x1 x2 x3 x4 x5 x6 x7 x8 x9 x10 x11 x12 x13 x14 x15 x16 x17 x18 x19 x20 x21 x22, Keeps c bd H (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part35
  exact keeps_load L.l9 fun _ => keeps_pure _

theorem keeps_part36 : ∀ x0 x1, Keeps c bd H (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part36
  exact keeps_pure _

theorem keeps_part37 : ∀ x0 x1 x2 x3 x4 x5 x6 x7 x8 x9 x10 x11 x12 x13 x14, Keeps c bd H (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part37
  exact keeps_load L.l9 fun _ => keeps_pure _

theorem keeps_part38 : ∀ x0 x1 x2 x3 x4, Keeps c bd H (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part38
  exact keeps_load L.l9 fun _ => keeps_pure _

theorem keeps_part39 : ∀ x0 x1 x2 x3 x4 x5 x6 x7 x8 x9 x10 x11 x12 x13 x14 x15 x16 x17 x18 x19 x20 x21 x22 x23 x24 x25 x26 x27 x28, Keeps c bd H (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part39
  exact keeps_load L.l9 fun _ => keeps_pure _

theorem keeps_part40 : ∀ x0 x1 x2 x3 x4 x5 x6 x7 x8 x9 x10 x11 x12 x13 x14 x15 x16 x17 x18 x19 x20 x21 x22, Keeps c bd H (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part40
  exact keeps_load L.l9 fun _ => keeps_pure _

theorem keeps_part41 : ∀ x0 x1, Keeps c bd H (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part41
  exact keeps_pure _

theorem keeps_part42 : ∀ x0 x1 x2 x3 x4 x5 x6 x7 x8 x9 x10 x11 x12 x13 x14, Keeps c bd H (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part42
  exact keeps_load L.l9 fun _ => keeps_pure _

theorem keeps_part43 : ∀ x0 x1 x2 x3 x4, Keeps c bd H (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part43
  exact keeps_load L.l9 fun _ => keeps_pure _

theorem keeps_part44 : ∀ x0 x1 x2 x3 x4, Keeps c bd H (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part44
  exact keeps_load L.l9 fun _ => keeps_pure _

theorem keeps_part45 : ∀ x0 x1 x2 x3 x4, Keeps c bd H (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part45
  exact keeps_load L.l9 fun _ => keeps_pure _

theorem keeps_part46 : ∀ x0 x1 x2 x3 x4 x5 x6 x7 x8 x9 x10 x11 x12 x13 x14 x15 x16 x17 x18 x19 x20 x21 x22 x23 x24 x25 x26 x27 x28, Keeps c bd H (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part46
  exact keeps_load L.l9 fun _ => keeps_pure _

theorem keeps_part47 : ∀ x0 x1 x2 x3 x4 x5 x6 x7 x8 x9 x10 x11 x12 x13 x14 x15 x16 x17 x18 x19 x20 x21 x22, Keeps c bd H (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part47
  exact keeps_load L.l9 fun _ => keeps_pure _

theorem keeps_part48 : ∀ x0 x1, Keeps c bd H (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part48
  exact keeps_pure _

theorem keeps_part49 : ∀ x0 x1 x2 x3 x4 x5 x6 x7 x8 x9 x10 x11 x12 x13 x14, Keeps c bd H (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part49
  exact keeps_load L.l9 fun _ => keeps_pure _

theorem keeps_part50 : ∀ x0 x1 x2 x3 x4, Keeps c bd H (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part50
  exact keeps_load L.l9 fun _ => keeps_pure _

theorem keeps_part51 : ∀ x0 x1 x2 x3 x4 x5 x6 x7 x8 x9 x10 x11 x12 x13 x14 x15 x16 x17 x18 x19 x20 x21 x22 x23 x24 x25 x26 x27 x28, Keeps c bd H (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part51
  exact keeps_load L.l9 fun _ => keeps_pure _

theorem keeps_part52 : ∀ x0 x1 x2 x3 x4 x5 x6 x7 x8 x9 x10 x11 x12 x13 x14 x15 x16 x17 x18 x19 x20 x21 x22, Keeps c bd H (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part52
  exact keeps_load L.l9 fun _ => keeps_pure _

theorem keeps_part53 : ∀ x0 x1, Keeps c bd H (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part53
  exact keeps_pure _

theorem keeps_part54 : ∀ x0 x1 x2 x3 x4 x5 x6 x7 x8 x9 x10 x11 x12 x13 x14, Keeps c bd H (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part54
  exact keeps_load L.l9 fun _ => keeps_pure _

theorem keeps_part55 : ∀ x0 x1 x2 x3 x4, Keeps c bd H (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part55
  exact keeps_load L.l9 fun _ => keeps_pure _

theorem keeps_part56 : ∀ x0 x1 x2 x3 x4, Keeps c bd H (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part56
  exact keeps_load L.l9 fun _ => keeps_pure _

theorem keeps_part57 : ∀ x0 x1 x2 x3 x4 x5 x6 x7, Keeps c bd H (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part57
  exact keeps_pure _

theorem keeps_part58 : ∀ x0 x1 x2 x3 x4 x5, Keeps c bd H (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part58
  exact keeps_pure _

theorem keeps_part59 : ∀ x0 x1 x2 x3 x4 x5 x6 x7 x8, Keeps c bd H (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part59
  exact keeps_bind (keeps_for fun _ _ => keeps_bind (keeps_part33 L _ _ _ _ _) fun _ => keeps_bind (keeps_part34 L _ _ _ _ _ _ _ _ _ _ _ _ _ _ _ _ _ _ _ _ _ _ _ _ _ _ _ _ _) fun _ => keeps_bind (keeps_part35 L _ _ _ _ _ _ _ _ _ _ _ _ _ _ _ _ _ _ _ _ _ _ _) fun _ => keeps_bind (keeps_part36 L _ _) fun _ => keeps_bind (keeps_part37 L _ _ _ _ _ _ _ _ _ _ _ _ _ _ _) fun _ => keeps_pure _) fun _ => keeps_bind (keeps_for fun _ _ => keeps_bind (keeps_part38 L _ _ _ _ _) fun _ => keeps_bind (keeps_part39 L _ _ _ _ _ _ _ _ _ _ _ _ _ _ _ _ _ _ _ _ _ _ _ _ _ _ _ _ _) fun _ => keeps_bind (keeps_part40 L _ _ _ _ _ _ _ _ _ _ _ _ _ _ _ _ _ _ _ _ _ _ _) fun _ => keeps_bind (keeps_part41 L _ _) fun _ => keeps_bind (keeps_part42 L _ _ _ _ _ _ _ _ _ _ _ _ _ _ _) fun _ => keeps_pure _) fun _ => keeps_bind (keeps_for fun _ _ => keeps_bind (keeps_part43 L _ _ _ _ _) fun _ => keeps_pure _) fun _ => keeps_pure _

theorem keeps_part60 : ∀ x0 x1 x2 x3 x4 x5 x6 x7 x8 x9, Keeps c bd H (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part60
  exact keeps_bind (keeps_for fun _ _ => keeps_bind (keeps_part44 L _ _ _ _ _) fun _ => keeps_pure _) fun _ => keeps_pure _

theorem keeps_part61 : ∀ x0 x1 x2 x3 x4 x5 x6 x7 x8, Keeps c bd H (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part61
  exact keeps_pure _

theorem keeps_part62 : ∀ x0 x1 x2 x3 x4 x5 x6 x7 x8 x9 x10, Keeps c bd H (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part62
  exact keeps_bind (keeps_for fun _ _ => keeps_bind (keeps_part45 L _ _ _ _ _) fun _ => keeps_bind (keeps_part46 L _ _ _ _ _ _ _ _ _ _ _ _ _ _ _ _ _ _ _ _ _ _ _ _ _ _ _ _ _) fun _ => keeps_bind (keeps_part47 L _ _ _ _ _ _ _ _ _ _ _ _ _ _ _ _ _ _ _ _ _ _ _) fun _ => keeps_bind (keeps_part48 L _ _) fun _ => keeps_bind (keeps_part49 L _ _ _ _ _ _ _ _ _ _ _ _ _ _ _) fun _ => keeps_pure _) fun _ => keeps_pure _

theorem keeps_part63 : ∀ x0 x1 x2 x3 x4 x5 x6 x7, Keeps c bd H (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part63
  exact keeps_load L.l9 fun _ => keeps_load L.l9 fun _ => keeps_store L.l9 fun _ => keeps_load L.l9 fun _ => keeps_pure _

theorem keeps_part64 : ∀ x0 x1 x2 x3 x4 x5 x6 x7 x8 x9 x10 x11, Keeps c bd H (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part64
  exact keeps_load L.l9 fun _ => keeps_store L.l9 fun _ => keeps_load L.l9 fun _ => keeps_load L.l9 fun _ => keeps_store L.l9 fun _ => keeps_pure _

theorem keeps_part65 : ∀ x0 x1 x2 x3 x4 x5 x6 x7, Keeps c bd H (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part65
  exact keeps_load L.l9 fun _ => keeps_load L.l9 fun _ => keeps_store L.l9 fun _ => keeps_load L.l9 fun _ => keeps_pure _

theorem keeps_part66 : ∀ x0 x1 x2 x3 x4 x5 x6 x7 x8 x9 x10 x11, Keeps c bd H (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part66
  exact keeps_load L.l9 fun _ => keeps_store L.l9 fun _ => keeps_load L.l9 fun _ => keeps_load L.l9 fun _ => keeps_store L.l9 fun _ => keeps_pure _

theorem keeps_part67 : ∀ x0 x1 x2 x3 x4, Keeps c bd H (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part67
  exact keeps_bind (keeps_for fun _ _ => keeps_bind (keeps_part63 L _ _ _ _ _ _ _ _) fun _ => keeps_bind (keeps_part64 L _ _ _ _ _ _ _ _ _ _ _ _) fun _ => keeps_load L.l9 fun _ => keeps_load L.l9 fun _ => keeps_store L.l9 fun _ => keeps_pure _) fun _ => keeps_bind (keeps_for fun _ _ => keeps_bind (keeps_part65 L _ _ _ _ _ _ _ _) fun _ => keeps_bind (keeps_part66 L _ _ _ _ _ _ _ _ _ _ _ _) fun _ => keeps_load L.l9 fun _ => keeps_load L.l9 fun _ => keeps_store L.l9 fun _ => keeps_pure _) fun _ => keeps_pure _

theorem keeps_part68 : ∀ x0 x1 x2 x3, Keeps c bd H (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part68
  exact keeps_load L.l9 fun _ => keeps_load L.l6 fun _ => keeps_load L.l14 fun _ => keeps_load L.l11 fun _ => keeps_store L.l11 fun _ => keeps_pure _

theorem keeps_part69 : ∀ x0 x1 x2 x3 x4 x5 x6 x7 x8 x9 x10 x11, Keeps c bd H (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part69
  exact keeps_pure _

theorem keeps_part70 : ∀ x0, Keeps c bd H (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part70
  exact keeps_load L.l11 fun _ => keeps_store L.l11 fun _ => keeps_pure _

theorem keeps_part71 : ∀ x0 x1 x2 x3 x4 x5 x6 x7 x8 x9 x10, Keeps c bd H (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part71
  exact keeps_load L.l6 fun _ => keeps_load L.l14 fun _ => keeps_load L.l11 fun _ => keeps_store L.l11 fun _ => keeps_pure _

theorem keeps_part72 : ∀ x0 x1 x2 x3 x4 x5 x6 x7 x8 x9 x10 x11 x12 x13 x14 x15 x16 x17 x18 x19 x20 x21 x22 x23 x24 x25 x26 x27 x28 x29 x30 x31, Keeps c bd H (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31) := by
  intros; unfold k0_part72
  exact keeps_load L.l11 fun _ => keeps_store L.l11 fun _ => keeps_pure _

theorem keeps_part73 : ∀ x0 x1 x2 x3 x4 x5 x6 x7 x8 x9 x10 x11 x12 x13 x14 x15 x16, Keeps c bd H (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16) := by
  intros; unfold k0_part73
  exact keeps_load L.l6 fun _ => keeps_load L.l14 fun _ => keeps_pure _

theorem keeps_part74 : ∀ x0 x1 x2, Keeps c bd H (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part74
  exact keeps_load L.l11 fun _ => keeps_store L.l11 fun _ => keeps_pure _

theorem keeps_part75 : ∀ x0 x1 x2 x3 x4 x5 x6 x7 x8 x9 x10 x11 x12 x13 x14 x15 x16 x17 x18, Keeps c bd H (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18) := by
  intros; unfold k0_part75
  exact keeps_load L.l11 fun _ => keeps_store L.l11 fun _ => keeps_pure _

theorem keeps_part76 : ∀ x0 x1 x2 x3 x4 x5 x6 x7 x8 x9 x10 x11 x12 x13 x14 x15 x16 x17 x18 x19 x20 x21 x22 x23 x24 x25 x26 x27 x28 x29 x30, Keeps c bd H (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part76
  exact keeps_load L.l6 fun _ => keeps_load L.l14 fun _ => keeps_load L.l11 fun _ => keeps_store L.l11 fun _ => keeps_pure _

theorem keeps_part77 : ∀ x0 x1 x2 x3 x4 x5 x6 x7 x8 x9 x10 x11, Keeps c bd H (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part77
  exact keeps_pure _

theorem keeps_part78 : ∀ x0, Keeps c bd H (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part78
  exact keeps_load L.l11 fun _ => keeps_store L.l11 fun _ => keeps_pure _

theorem keeps_part79 : ∀ x0 x1 x2 x3 x4 x5 x6 x7 x8 x9 x10, Keeps c bd H (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part79
  exact keeps_load L.l9 fun _ => keeps_load L.l6 fun _ => keeps_load L.l14 fun _ => keeps_load L.l11 fun _ => keeps_store L.l11 fun _ => keeps_pure _

theorem keeps_part80 : ∀ x0 x1 x2 x3 x4 x5 x6 x7 x8 x9 x10 x11 x12 x13 x14 x15 x16 x17 x18 x19, Keeps c bd H (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part80
  exact keeps_load L.l11 fun _ => keeps_store L.l11 fun _ => keeps_pure _

theorem keeps_part81 : ∀ x0 x1 x2 x3, Keeps c bd H (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part81
  exact keeps_pure _

theorem keeps_part82 : ∀ x0 x1 x2, Keeps c bd H (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part82
  exact keeps_load L.l6 fun _ => keeps_load L.l14 fun _ => keeps_load L.l11 fun _ => keeps_store L.l11 fun _ => keeps_pure _

theorem keeps_part83 : ∀ x0 x1 x2 x3 x4 x5 x6 x7 x8 x9 x10 x11 x12 x13 x14 x15 x16 x17 x18 x19 x20 x21 x22 x23 x24 x25 x26 x27 x28 x29 x30, Keeps c bd H (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part83
  exact keeps_load L.l11 fun _ => keeps_store L.l11 fun _ => keeps_pure _

theorem keeps_part84 : ∀ x0 x1 x2 x3 x4 x5 x6 x7 x8 x9 x10 x11 x12 x13 x14 x15 x16 x17 x18 x19 x20 x21 x22 x23 x24 x25, Keeps c bd H (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25) := by
  intros; unfold k0_part84
  exact keeps_load L.l6 fun _ => keeps_load L.l14 fun _ => keeps_pure _

theorem keeps_part85 : ∀ x0, Keeps c bd H (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part85
  exact keeps_load L.l11 fun _ => keeps_store L.l11 fun _ => keeps_pure _

end Cert.Proof.Attn

end
-- ==== Proof.AttnPartsB.lean ====
/-
  Part after part of the attention's body loads from and stores to the body's buffers and computes on what it
  loaded, so each keeps what lends it those buffers (parts 86 to 226).
-/
module

public import proofs.«01_k».proof.Proof.AttnPartsA

@[expose] public section

noncomputable section

namespace Cert.Proof.Attn

open Cert.Kernel5

open Idealize.ShloMosaic
open Idealize.ShloMosaic.TcCoe
open Idealize.SL Idealize.SL.RA Idealize.SL.BI
open Idealize.SL.Sem
open Idealize.ShloMosaic.Rounds

variable {F : FTy → Type} [BitOps F] [Facts]
variable {c : Dev nD} {bd : Option ℕ} {H : sProp (MT nD τ sig Unit (Elt F) ℕ (UR sig nD τ) ℕ)}
variable {i : grid0.Coords} {arg2 : Memref sig .tc .vmem S1x256x512 .bf16} {harg2 : arg2.IsWhole} {arg3 : Memref sig .tc .vmem S1x8x256 .f32} {harg3 : arg3.IsWhole}
  {arg4 : Memref sig .tc .vmem S1x256x512 .bf16} {harg4 : arg4.IsWhole} {arg5 : Memref sig .tc .vmem S1x9216x128 .bf16} {harg5 : arg5.IsWhole}
  {arg6 : Memref sig .tc .vmem S1x9216x256 .bf16} {harg6 : arg6.IsWhole} {arg7 : Memref sig .tc .vmem S1x160x9216 .bf16} {harg7 : arg7.IsWhole}
  {arg8 : Memref sig .tc .vmem S1x256x512 .bf16} {harg8 : arg8.IsWhole} {arg9 : Memref sig .tc .vmem S9216x256 .i32} {harg9 : arg9.IsWhole}
  {arg10 : Memref sig .tc .vmem S256x256 .i32} {harg10 : arg10.IsWhole} {arg11 : Memref sig .tc .vmem S4x1024x512 .f32} {harg11 : arg11.IsWhole}
  {arg12 : Memref sig .tc .vmem S4x1024x512 .bf16} {harg12 : arg12.IsWhole} {arg13 : Memref sig .tc .vmem S4x128x512 .bf16} {harg13 : arg13.IsWhole}
  {arg14 : Memref sig .tc .vmem S4x128x512 .bf16} {harg14 : arg14.IsWhole} {arg15 : Memref sig .tc .vmem S4x80x512 .f32} {harg15 : arg15.IsWhole}
  (L : Lent c H arg2 arg3 arg4 arg5 arg6 arg7 arg8 arg9 arg10 arg11 arg12 arg13 arg14 arg15)
include L

theorem keeps_part86 : ∀ x0 x1 x2 x3 x4 x5 x6 x7 x8 x9 x10, Keeps c bd H (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part86
  exact keeps_load L.l11 fun _ => keeps_store L.l11 fun _ => keeps_pure _

theorem keeps_part87 : ∀ x0 x1 x2 x3 x4 x5 x6 x7 x8 x9 x10 x11 x12 x13 x14 x15 x16 x17 x18 x19 x20 x21 x22, Keeps c bd H (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part87
  exact keeps_load L.l6 fun _ => keeps_load L.l14 fun _ => keeps_load L.l11 fun _ => keeps_store L.l11 fun _ => keeps_pure _

theorem keeps_part88 : ∀ x0 x1 x2 x3 x4 x5 x6 x7 x8 x9 x10 x11 x12 x13 x14 x15 x16 x17 x18 x19, Keeps c bd H (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part88
  exact keeps_load L.l11 fun _ => keeps_store L.l11 fun _ => keeps_pure _

theorem keeps_part89 : ∀ x0 x1 x2 x3, Keeps c bd H (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part89
  exact keeps_pure _

theorem keeps_part90 : ∀ x0 x1 x2, Keeps c bd H (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part90
  exact keeps_load L.l9 fun _ => keeps_load L.l6 fun _ => keeps_load L.l14 fun _ => keeps_load L.l11 fun _ => keeps_store L.l11 fun _ => keeps_pure _

theorem keeps_part91 : ∀ x0 x1 x2 x3 x4 x5 x6 x7 x8 x9 x10 x11 x12 x13 x14 x15 x16 x17 x18 x19 x20 x21 x22 x23 x24 x25 x26 x27, Keeps c bd H (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27) := by
  intros; unfold k0_part91
  exact keeps_load L.l11 fun _ => keeps_store L.l11 fun _ => keeps_pure _

theorem keeps_part92 : ∀ x0 x1 x2 x3 x4 x5 x6 x7 x8 x9 x10 x11 x12, Keeps c bd H (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12) := by
  intros; unfold k0_part92
  exact keeps_load L.l6 fun _ => keeps_pure _

theorem keeps_part93 : ∀ x0 x1, Keeps c bd H (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part93
  exact keeps_load L.l14 fun _ => keeps_load L.l11 fun _ => keeps_store L.l11 fun _ => keeps_pure _

theorem keeps_part94 : ∀ x0 x1 x2 x3 x4 x5 x6 x7 x8 x9 x10 x11 x12 x13 x14 x15 x16 x17 x18 x19 x20 x21 x22, Keeps c bd H (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part94
  exact keeps_load L.l11 fun _ => keeps_store L.l11 fun _ => keeps_pure _

theorem keeps_part95 : ∀ x0 x1 x2 x3 x4 x5 x6 x7 x8 x9 x10 x11 x12 x13 x14 x15 x16 x17 x18 x19 x20 x21 x22 x23 x24 x25 x26 x27 x28 x29 x30 x31 x32 x33, Keeps c bd H (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part95
  exact keeps_load L.l6 fun _ => keeps_load L.l14 fun _ => keeps_load L.l11 fun _ => keeps_store L.l11 fun _ => keeps_pure _

theorem keeps_part96 : ∀ x0 x1 x2 x3 x4 x5, Keeps c bd H (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part96
  exact keeps_pure _

theorem keeps_part97 : ∀ x0 x1, Keeps c bd H (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part97
  exact keeps_load L.l11 fun _ => keeps_store L.l11 fun _ => keeps_pure _

theorem keeps_part98 : ∀ x0 x1 x2 x3 x4 x5 x6 x7 x8 x9 x10 x11 x12 x13 x14, Keeps c bd H (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part98
  exact keeps_load L.l6 fun _ => keeps_load L.l14 fun _ => keeps_load L.l11 fun _ => keeps_store L.l11 fun _ => keeps_pure _

theorem keeps_part99 : ∀ x0 x1 x2 x3 x4 x5 x6 x7 x8 x9 x10 x11 x12 x13 x14 x15 x16 x17 x18 x19 x20 x21 x22 x23 x24 x25 x26 x27, Keeps c bd H (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27) := by
  intros; unfold k0_part99
  exact keeps_load L.l11 fun _ => keeps_store L.l11 fun _ => keeps_pure _

theorem keeps_part100 : ∀ x0 x1 x2 x3 x4 x5 x6 x7 x8 x9 x10 x11 x12 x13, Keeps c bd H (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) := by
  intros; unfold k0_part100
  exact keeps_load L.l9 fun _ => keeps_pure _

theorem keeps_part101 : ∀ x0, Keeps c bd H (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part101
  exact keeps_load L.l6 fun _ => keeps_load L.l14 fun _ => keeps_load L.l11 fun _ => keeps_store L.l11 fun _ => keeps_pure _

theorem keeps_part102 : ∀ x0 x1 x2 x3 x4 x5 x6 x7 x8 x9 x10 x11 x12 x13 x14 x15 x16 x17 x18 x19 x20 x21 x22 x23 x24 x25 x26 x27 x28 x29 x30 x31 x32 x33 x34, Keeps c bd H (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34) := by
  intros; unfold k0_part102
  exact keeps_load L.l11 fun _ => keeps_store L.l11 fun _ => keeps_pure _

theorem keeps_part103 : ∀ x0 x1 x2 x3 x4 x5 x6 x7 x8 x9 x10 x11 x12 x13 x14 x15 x16 x17 x18 x19 x20, Keeps c bd H (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part103
  exact keeps_load L.l6 fun _ => keeps_load L.l14 fun _ => keeps_pure _

theorem keeps_part104 : ∀ x0 x1, Keeps c bd H (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part104
  exact keeps_load L.l11 fun _ => keeps_store L.l11 fun _ => keeps_pure _

theorem keeps_part105 : ∀ x0 x1 x2 x3 x4 x5 x6 x7 x8 x9 x10 x11 x12 x13 x14, Keeps c bd H (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part105
  exact keeps_load L.l11 fun _ => keeps_store L.l11 fun _ => keeps_pure _

theorem keeps_part106 : ∀ x0 x1 x2 x3 x4 x5 x6 x7 x8 x9 x10 x11 x12 x13 x14 x15 x16 x17 x18 x19 x20 x21 x22 x23 x24 x25 x26, Keeps c bd H (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part106
  exact keeps_load L.l6 fun _ => keeps_load L.l14 fun _ => keeps_load L.l11 fun _ => keeps_store L.l11 fun _ => keeps_pure _

theorem keeps_part107 : ∀ x0 x1 x2 x3 x4 x5 x6 x7 x8 x9 x10 x11 x12 x13 x14 x15, Keeps c bd H (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part107
  exact keeps_load L.l11 fun _ => keeps_pure _

theorem keeps_part108 : ∀ x0 x1, Keeps c bd H (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part108
  exact keeps_store L.l11 fun _ => keeps_pure _

theorem keeps_part109 : ∀ x0 x1 x2 x3 x4 x5 x6, Keeps c bd H (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part109
  exact keeps_load L.l6 fun _ => keeps_load L.l14 fun _ => keeps_load L.l11 fun _ => keeps_store L.l11 fun _ => keeps_pure _

theorem keeps_part110 : ∀ x0 x1 x2 x3 x4 x5 x6 x7 x8 x9 x10 x11 x12 x13 x14 x15 x16 x17 x18 x19 x20 x21 x22 x23 x24 x25 x26 x27 x28 x29 x30 x31 x32 x33 x34, Keeps c bd H (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34) := by
  intros; unfold k0_part110
  exact keeps_load L.l11 fun _ => keeps_store L.l11 fun _ => keeps_pure _

theorem keeps_part111 : ∀ x0 x1 x2 x3 x4 x5 x6 x7 x8 x9 x10 x11 x12 x13 x14 x15 x16 x17 x18 x19 x20 x21 x22 x23 x24 x25 x26 x27, Keeps c bd H (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27) := by
  intros; unfold k0_part111
  exact keeps_pure _

theorem keeps_part112 : ∀ x0 x1 x2 x3 x4 x5 x6 x7 x8 x9 x10, Keeps c bd H (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part112
  exact keeps_bind (keeps_part68 L _ _ _ _) fun _ => keeps_bind (keeps_part69 L _ _ _ _ _ _ _ _ _ _ _ _) fun _ => keeps_bind (keeps_part70 L _) fun _ => keeps_bind (keeps_part71 L _ _ _ _ _ _ _ _ _ _ _) fun _ => keeps_bind (keeps_part72 L _ _ _ _ _ _ _ _ _ _ _ _ _ _ _ _ _ _ _ _ _ _ _ _ _ _ _ _ _ _ _ _) fun _ => keeps_bind (keeps_part73 L _ _ _ _ _ _ _ _ _ _ _ _ _ _ _ _ _) fun _ => keeps_bind (keeps_part74 L _ _ _) fun _ => keeps_bind (keeps_part75 L _ _ _ _ _ _ _ _ _ _ _ _ _ _ _ _ _ _ _) fun _ => keeps_bind (keeps_part76 L _ _ _ _ _ _ _ _ _ _ _ _ _ _ _ _ _ _ _ _ _ _ _ _ _ _ _ _ _ _ _) fun _ => keeps_bind (keeps_part77 L _ _ _ _ _ _ _ _ _ _ _ _) fun _ => keeps_bind (keeps_part78 L _) fun _ => keeps_bind (keeps_part79 L _ _ _ _ _ _ _ _ _ _ _) fun _ => keeps_bind (keeps_part80 L _ _ _ _ _ _ _ _ _ _ _ _ _ _ _ _ _ _ _ _) fun _ => keeps_bind (keeps_part81 L _ _ _ _) fun _ => keeps_bind (keeps_part82 L _ _ _) fun _ => keeps_bind (keeps_part83 L _ _ _ _ _ _ _ _ _ _ _ _ _ _ _ _ _ _ _ _ _ _ _ _ _ _ _ _ _ _ _) fun _ => keeps_bind (keeps_part84 L _ _ _ _ _ _ _ _ _ _ _ _ _ _ _ _ _ _ _ _ _ _ _ _ _ _) fun _ => keeps_bind (keeps_part85 L _) fun _ => keeps_bind (keeps_part86 L _ _ _ _ _ _ _ _ _ _ _) fun _ => keeps_bind (keeps_part87 L _ _ _ _ _ _ _ _ _ _ _ _ _ _ _ _ _ _ _ _ _ _ _) fun _ => keeps_bind (keeps_part88 L _ _ _ _ _ _ _ _ _ _ _ _ _ _ _ _ _ _ _ _) fun _ => keeps_bind (keeps_part89 L _ _ _ _) fun _ => keeps_bind (keeps_part90 L _ _ _) fun _ => keeps_bind (keeps_part91 L _ _ _ _ _ _ _ _ _ _ _ _ _ _ _ _ _ _ _ _ _ _ _ _ _ _ _ _) fun _ => keeps_bind (keeps_part92 L _ _ _ _ _ _ _ _ _ _ _ _ _) fun _ => keeps_bind (keeps_part93 L _ _) fun _ => keeps_bind (keeps_part94 L _ _ _ _ _ _ _ _ _ _ _ _ _ _ _ _ _ _ _ _ _ _ _) fun _ => keeps_bind (keeps_part95 L _ _ _ _ _ _ _ _ _ _ _ _ _ _ _ _ _ _ _ _ _ _ _ _ _ _ _ _ _ _ _ _ _ _) fun _ => keeps_bind (keeps_part96 L _ _ _ _ _ _) fun _ => keeps_bind (keeps_part97 L _ _) fun _ => keeps_bind (keeps_part98 L _ _ _ _ _ _ _ _ _ _ _ _ _ _ _) fun _ => keeps_bind (keeps_part99 L _ _ _ _ _ _ _ _ _ _ _ _ _ _ _ _ _ _ _ _ _ _ _ _ _ _ _ _) fun _ => keeps_bind (keeps_part100 L _ _ _ _ _ _ _ _ _ _ _ _ _ _) fun _ => keeps_bind (keeps_part101 L _) fun _ => keeps_bind (keeps_part102 L _ _ _ _ _ _ _ _ _ _ _ _ _ _ _ _ _ _ _ _ _ _ _ _ _ _ _ _ _ _ _ _ _ _ _) fun _ => keeps_bind (keeps_part103 L _ _ _ _ _ _ _ _ _ _ _ _ _ _ _ _ _ _ _ _ _) fun _ => keeps_bind (keeps_part104 L _ _) fun _ => keeps_bind (keeps_part105 L _ _ _ _ _ _ _ _ _ _ _ _ _ _ _) fun _ => keeps_bind (keeps_part106 L _ _ _ _ _ _ _ _ _ _ _ _ _ _ _ _ _ _ _ _ _ _ _ _ _ _ _) fun _ => keeps_bind (keeps_part107 L _ _ _ _ _ _ _ _ _ _ _ _ _ _ _ _) fun _ => keeps_bind (keeps_part108 L _ _) fun _ => keeps_bind (keeps_part109 L _ _ _ _ _ _ _) fun _ => keeps_bind (keeps_part110 L _ _ _ _ _ _ _ _ _ _ _ _ _ _ _ _ _ _ _ _ _ _ _ _ _ _ _ _ _ _ _ _ _ _ _) fun _ => keeps_bind (keeps_part111 L _ _ _ _ _ _ _ _ _ _ _ _ _ _ _ _ _ _ _ _ _ _ _ _ _ _ _ _) fun _ => keeps_pure _

theorem keeps_part113 : ∀ x0 x1 x2 x3, Keeps c bd H (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part113
  exact keeps_load L.l9 fun _ => keeps_load L.l6 fun _ => keeps_load L.l14 fun _ => keeps_load L.l11 fun _ => keeps_store L.l11 fun _ => keeps_pure _

theorem keeps_part114 : ∀ x0 x1 x2 x3 x4 x5 x6 x7 x8 x9 x10 x11, Keeps c bd H (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part114
  exact keeps_pure _

theorem keeps_part115 : ∀ x0, Keeps c bd H (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part115
  exact keeps_load L.l11 fun _ => keeps_store L.l11 fun _ => keeps_pure _

theorem keeps_part116 : ∀ x0 x1 x2 x3 x4 x5 x6 x7 x8 x9 x10, Keeps c bd H (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part116
  exact keeps_load L.l6 fun _ => keeps_load L.l14 fun _ => keeps_load L.l11 fun _ => keeps_store L.l11 fun _ => keeps_pure _

theorem keeps_part117 : ∀ x0 x1 x2 x3 x4 x5 x6 x7 x8 x9 x10 x11 x12 x13 x14 x15 x16 x17 x18 x19 x20 x21 x22 x23 x24 x25 x26 x27 x28 x29 x30 x31, Keeps c bd H (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31) := by
  intros; unfold k0_part117
  exact keeps_load L.l11 fun _ => keeps_store L.l11 fun _ => keeps_pure _

theorem keeps_part118 : ∀ x0 x1 x2 x3 x4 x5 x6 x7 x8 x9 x10 x11 x12 x13 x14 x15 x16, Keeps c bd H (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16) := by
  intros; unfold k0_part118
  exact keeps_load L.l6 fun _ => keeps_load L.l14 fun _ => keeps_pure _

theorem keeps_part119 : ∀ x0 x1 x2, Keeps c bd H (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part119
  exact keeps_load L.l11 fun _ => keeps_store L.l11 fun _ => keeps_pure _

theorem keeps_part120 : ∀ x0 x1 x2 x3 x4 x5 x6 x7 x8 x9 x10 x11 x12 x13 x14 x15 x16 x17 x18, Keeps c bd H (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18) := by
  intros; unfold k0_part120
  exact keeps_load L.l11 fun _ => keeps_store L.l11 fun _ => keeps_pure _

theorem keeps_part121 : ∀ x0 x1 x2 x3 x4 x5 x6 x7 x8 x9 x10 x11 x12 x13 x14 x15 x16 x17 x18 x19 x20 x21 x22 x23 x24 x25 x26 x27 x28 x29 x30, Keeps c bd H (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part121
  exact keeps_load L.l6 fun _ => keeps_load L.l14 fun _ => keeps_load L.l11 fun _ => keeps_store L.l11 fun _ => keeps_pure _

theorem keeps_part122 : ∀ x0 x1 x2 x3 x4 x5 x6 x7 x8 x9 x10 x11, Keeps c bd H (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part122
  exact keeps_pure _

theorem keeps_part123 : ∀ x0, Keeps c bd H (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part123
  exact keeps_load L.l11 fun _ => keeps_store L.l11 fun _ => keeps_pure _

theorem keeps_part124 : ∀ x0 x1 x2 x3 x4 x5 x6 x7 x8 x9 x10, Keeps c bd H (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part124
  exact keeps_load L.l9 fun _ => keeps_load L.l6 fun _ => keeps_load L.l14 fun _ => keeps_load L.l11 fun _ => keeps_store L.l11 fun _ => keeps_pure _

theorem keeps_part125 : ∀ x0 x1 x2 x3 x4 x5 x6 x7 x8 x9 x10 x11 x12 x13 x14 x15 x16 x17 x18 x19, Keeps c bd H (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part125
  exact keeps_load L.l11 fun _ => keeps_store L.l11 fun _ => keeps_pure _

theorem keeps_part126 : ∀ x0 x1 x2 x3, Keeps c bd H (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part126
  exact keeps_pure _

theorem keeps_part127 : ∀ x0 x1 x2, Keeps c bd H (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part127
  exact keeps_load L.l6 fun _ => keeps_load L.l14 fun _ => keeps_load L.l11 fun _ => keeps_store L.l11 fun _ => keeps_pure _

theorem keeps_part128 : ∀ x0 x1 x2 x3 x4 x5 x6 x7 x8 x9 x10 x11 x12 x13 x14 x15 x16 x17 x18 x19 x20 x21 x22 x23 x24 x25 x26 x27 x28 x29 x30, Keeps c bd H (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part128
  exact keeps_load L.l11 fun _ => keeps_store L.l11 fun _ => keeps_pure _

theorem keeps_part129 : ∀ x0 x1 x2 x3 x4 x5 x6 x7 x8 x9 x10 x11 x12 x13 x14 x15 x16 x17 x18 x19 x20 x21 x22 x23 x24 x25, Keeps c bd H (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25) := by
  intros; unfold k0_part129
  exact keeps_load L.l6 fun _ => keeps_load L.l14 fun _ => keeps_pure _

theorem keeps_part130 : ∀ x0, Keeps c bd H (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part130
  exact keeps_load L.l11 fun _ => keeps_store L.l11 fun _ => keeps_pure _

theorem keeps_part131 : ∀ x0 x1 x2 x3 x4 x5 x6 x7 x8 x9 x10, Keeps c bd H (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part131
  exact keeps_load L.l11 fun _ => keeps_store L.l11 fun _ => keeps_pure _

theorem keeps_part132 : ∀ x0 x1 x2 x3 x4 x5 x6 x7 x8 x9 x10 x11 x12 x13 x14 x15 x16 x17 x18 x19 x20 x21 x22, Keeps c bd H (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part132
  exact keeps_load L.l6 fun _ => keeps_load L.l14 fun _ => keeps_load L.l11 fun _ => keeps_store L.l11 fun _ => keeps_pure _

theorem keeps_part133 : ∀ x0 x1 x2 x3 x4 x5 x6 x7 x8 x9 x10 x11 x12 x13 x14 x15 x16 x17 x18 x19, Keeps c bd H (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part133
  exact keeps_load L.l11 fun _ => keeps_store L.l11 fun _ => keeps_pure _

theorem keeps_part134 : ∀ x0 x1 x2 x3, Keeps c bd H (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part134
  exact keeps_pure _

theorem keeps_part135 : ∀ x0 x1 x2, Keeps c bd H (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part135
  exact keeps_load L.l9 fun _ => keeps_load L.l6 fun _ => keeps_load L.l14 fun _ => keeps_load L.l11 fun _ => keeps_store L.l11 fun _ => keeps_pure _

theorem keeps_part136 : ∀ x0 x1 x2 x3 x4 x5 x6 x7 x8 x9 x10 x11 x12 x13 x14 x15 x16 x17 x18 x19 x20 x21 x22 x23 x24 x25 x26 x27, Keeps c bd H (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27) := by
  intros; unfold k0_part136
  exact keeps_load L.l11 fun _ => keeps_store L.l11 fun _ => keeps_pure _

theorem keeps_part137 : ∀ x0 x1 x2 x3 x4 x5 x6 x7 x8 x9 x10 x11 x12, Keeps c bd H (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12) := by
  intros; unfold k0_part137
  exact keeps_load L.l6 fun _ => keeps_pure _

theorem keeps_part138 : ∀ x0 x1, Keeps c bd H (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part138
  exact keeps_load L.l14 fun _ => keeps_load L.l11 fun _ => keeps_store L.l11 fun _ => keeps_pure _

theorem keeps_part139 : ∀ x0 x1 x2 x3 x4 x5 x6 x7 x8 x9 x10 x11 x12 x13 x14 x15 x16 x17 x18 x19 x20 x21 x22, Keeps c bd H (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part139
  exact keeps_load L.l11 fun _ => keeps_store L.l11 fun _ => keeps_pure _

theorem keeps_part140 : ∀ x0 x1 x2 x3 x4 x5 x6 x7 x8 x9 x10 x11 x12 x13 x14 x15 x16 x17 x18 x19 x20 x21 x22 x23 x24 x25 x26 x27 x28 x29 x30 x31 x32 x33, Keeps c bd H (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part140
  exact keeps_load L.l6 fun _ => keeps_load L.l14 fun _ => keeps_load L.l11 fun _ => keeps_store L.l11 fun _ => keeps_pure _

theorem keeps_part141 : ∀ x0 x1 x2 x3 x4 x5, Keeps c bd H (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part141
  exact keeps_pure _

theorem keeps_part142 : ∀ x0 x1, Keeps c bd H (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part142
  exact keeps_load L.l11 fun _ => keeps_store L.l11 fun _ => keeps_pure _

theorem keeps_part143 : ∀ x0 x1 x2 x3 x4 x5 x6 x7 x8 x9 x10 x11 x12 x13 x14, Keeps c bd H (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part143
  exact keeps_load L.l6 fun _ => keeps_load L.l14 fun _ => keeps_load L.l11 fun _ => keeps_store L.l11 fun _ => keeps_pure _

theorem keeps_part144 : ∀ x0 x1 x2 x3 x4 x5 x6 x7 x8 x9 x10 x11 x12 x13 x14 x15 x16 x17 x18 x19 x20 x21 x22 x23 x24 x25 x26 x27, Keeps c bd H (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27) := by
  intros; unfold k0_part144
  exact keeps_load L.l11 fun _ => keeps_store L.l11 fun _ => keeps_pure _

theorem keeps_part145 : ∀ x0 x1 x2 x3 x4 x5 x6 x7 x8 x9 x10 x11 x12 x13, Keeps c bd H (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) := by
  intros; unfold k0_part145
  exact keeps_load L.l9 fun _ => keeps_pure _

theorem keeps_part146 : ∀ x0, Keeps c bd H (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part146
  exact keeps_load L.l6 fun _ => keeps_load L.l14 fun _ => keeps_load L.l11 fun _ => keeps_store L.l11 fun _ => keeps_pure _

theorem keeps_part147 : ∀ x0 x1 x2 x3 x4 x5 x6 x7 x8 x9 x10 x11 x12 x13 x14 x15 x16 x17 x18 x19 x20 x21 x22 x23 x24 x25 x26 x27 x28 x29 x30 x31 x32 x33 x34, Keeps c bd H (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34) := by
  intros; unfold k0_part147
  exact keeps_load L.l11 fun _ => keeps_store L.l11 fun _ => keeps_pure _

theorem keeps_part148 : ∀ x0 x1 x2 x3 x4 x5 x6 x7 x8 x9 x10 x11 x12 x13 x14 x15 x16 x17 x18 x19 x20, Keeps c bd H (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part148
  exact keeps_load L.l6 fun _ => keeps_load L.l14 fun _ => keeps_pure _

theorem keeps_part149 : ∀ x0 x1, Keeps c bd H (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part149
  exact keeps_load L.l11 fun _ => keeps_store L.l11 fun _ => keeps_pure _

theorem keeps_part150 : ∀ x0 x1 x2 x3 x4 x5 x6 x7 x8 x9 x10 x11 x12 x13 x14, Keeps c bd H (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part150
  exact keeps_load L.l11 fun _ => keeps_store L.l11 fun _ => keeps_pure _

theorem keeps_part151 : ∀ x0 x1 x2 x3 x4 x5 x6 x7 x8 x9 x10 x11 x12 x13 x14 x15 x16 x17 x18 x19 x20 x21 x22 x23 x24 x25 x26, Keeps c bd H (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part151
  exact keeps_load L.l6 fun _ => keeps_load L.l14 fun _ => keeps_load L.l11 fun _ => keeps_store L.l11 fun _ => keeps_pure _

theorem keeps_part152 : ∀ x0 x1 x2 x3 x4 x5 x6 x7 x8 x9 x10 x11 x12 x13 x14 x15, Keeps c bd H (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part152
  exact keeps_load L.l11 fun _ => keeps_pure _

theorem keeps_part153 : ∀ x0 x1, Keeps c bd H (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part153
  exact keeps_store L.l11 fun _ => keeps_pure _

theorem keeps_part154 : ∀ x0 x1 x2 x3 x4 x5 x6, Keeps c bd H (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part154
  exact keeps_load L.l6 fun _ => keeps_load L.l14 fun _ => keeps_load L.l11 fun _ => keeps_store L.l11 fun _ => keeps_pure _

theorem keeps_part155 : ∀ x0 x1 x2 x3 x4 x5 x6 x7 x8 x9 x10 x11 x12 x13 x14 x15 x16 x17 x18 x19 x20 x21 x22 x23 x24 x25 x26 x27 x28 x29 x30 x31 x32 x33 x34, Keeps c bd H (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34) := by
  intros; unfold k0_part155
  exact keeps_load L.l11 fun _ => keeps_store L.l11 fun _ => keeps_pure _

theorem keeps_part156 : ∀ x0 x1 x2 x3 x4 x5 x6 x7 x8 x9 x10 x11 x12 x13 x14 x15 x16 x17 x18 x19 x20 x21 x22 x23 x24 x25 x26 x27, Keeps c bd H (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27) := by
  intros; unfold k0_part156
  exact keeps_pure _

theorem keeps_part157 : ∀ x0 x1 x2 x3 x4 x5 x6 x7 x8 x9 x10, Keeps c bd H (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part157
  exact keeps_bind (keeps_part113 L _ _ _ _) fun _ => keeps_bind (keeps_part114 L _ _ _ _ _ _ _ _ _ _ _ _) fun _ => keeps_bind (keeps_part115 L _) fun _ => keeps_bind (keeps_part116 L _ _ _ _ _ _ _ _ _ _ _) fun _ => keeps_bind (keeps_part117 L _ _ _ _ _ _ _ _ _ _ _ _ _ _ _ _ _ _ _ _ _ _ _ _ _ _ _ _ _ _ _ _) fun _ => keeps_bind (keeps_part118 L _ _ _ _ _ _ _ _ _ _ _ _ _ _ _ _ _) fun _ => keeps_bind (keeps_part119 L _ _ _) fun _ => keeps_bind (keeps_part120 L _ _ _ _ _ _ _ _ _ _ _ _ _ _ _ _ _ _ _) fun _ => keeps_bind (keeps_part121 L _ _ _ _ _ _ _ _ _ _ _ _ _ _ _ _ _ _ _ _ _ _ _ _ _ _ _ _ _ _ _) fun _ => keeps_bind (keeps_part122 L _ _ _ _ _ _ _ _ _ _ _ _) fun _ => keeps_bind (keeps_part123 L _) fun _ => keeps_bind (keeps_part124 L _ _ _ _ _ _ _ _ _ _ _) fun _ => keeps_bind (keeps_part125 L _ _ _ _ _ _ _ _ _ _ _ _ _ _ _ _ _ _ _ _) fun _ => keeps_bind (keeps_part126 L _ _ _ _) fun _ => keeps_bind (keeps_part127 L _ _ _) fun _ => keeps_bind (keeps_part128 L _ _ _ _ _ _ _ _ _ _ _ _ _ _ _ _ _ _ _ _ _ _ _ _ _ _ _ _ _ _ _) fun _ => keeps_bind (keeps_part129 L _ _ _ _ _ _ _ _ _ _ _ _ _ _ _ _ _ _ _ _ _ _ _ _ _ _) fun _ => keeps_bind (keeps_part130 L _) fun _ => keeps_bind (keeps_part131 L _ _ _ _ _ _ _ _ _ _ _) fun _ => keeps_bind (keeps_part132 L _ _ _ _ _ _ _ _ _ _ _ _ _ _ _ _ _ _ _ _ _ _ _) fun _ => keeps_bind (keeps_part133 L _ _ _ _ _ _ _ _ _ _ _ _ _ _ _ _ _ _ _ _) fun _ => keeps_bind (keeps_part134 L _ _ _ _) fun _ => keeps_bind (keeps_part135 L _ _ _) fun _ => keeps_bind (keeps_part136 L _ _ _ _ _ _ _ _ _ _ _ _ _ _ _ _ _ _ _ _ _ _ _ _ _ _ _ _) fun _ => keeps_bind (keeps_part137 L _ _ _ _ _ _ _ _ _ _ _ _ _) fun _ => keeps_bind (keeps_part138 L _ _) fun _ => keeps_bind (keeps_part139 L _ _ _ _ _ _ _ _ _ _ _ _ _ _ _ _ _ _ _ _ _ _ _) fun _ => keeps_bind (keeps_part140 L _ _ _ _ _ _ _ _ _ _ _ _ _ _ _ _ _ _ _ _ _ _ _ _ _ _ _ _ _ _ _ _ _ _) fun _ => keeps_bind (keeps_part141 L _ _ _ _ _ _) fun _ => keeps_bind (keeps_part142 L _ _) fun _ => keeps_bind (keeps_part143 L _ _ _ _ _ _ _ _ _ _ _ _ _ _ _) fun _ => keeps_bind (keeps_part144 L _ _ _ _ _ _ _ _ _ _ _ _ _ _ _ _ _ _ _ _ _ _ _ _ _ _ _ _) fun _ => keeps_bind (keeps_part145 L _ _ _ _ _ _ _ _ _ _ _ _ _ _) fun _ => keeps_bind (keeps_part146 L _) fun _ => keeps_bind (keeps_part147 L _ _ _ _ _ _ _ _ _ _ _ _ _ _ _ _ _ _ _ _ _ _ _ _ _ _ _ _ _ _ _ _ _ _ _) fun _ => keeps_bind (keeps_part148 L _ _ _ _ _ _ _ _ _ _ _ _ _ _ _ _ _ _ _ _ _) fun _ => keeps_bind (keeps_part149 L _ _) fun _ => keeps_bind (keeps_part150 L _ _ _ _ _ _ _ _ _ _ _ _ _ _ _) fun _ => keeps_bind (keeps_part151 L _ _ _ _ _ _ _ _ _ _ _ _ _ _ _ _ _ _ _ _ _ _ _ _ _ _ _) fun _ => keeps_bind (keeps_part152 L _ _ _ _ _ _ _ _ _ _ _ _ _ _ _ _) fun _ => keeps_bind (keeps_part153 L _ _) fun _ => keeps_bind (keeps_part154 L _ _ _ _ _ _ _) fun _ => keeps_bind (keeps_part155 L _ _ _ _ _ _ _ _ _ _ _ _ _ _ _ _ _ _ _ _ _ _ _ _ _ _ _ _ _ _ _ _ _ _ _) fun _ => keeps_bind (keeps_part156 L _ _ _ _ _ _ _ _ _ _ _ _ _ _ _ _ _ _ _ _ _ _ _ _ _ _ _ _) fun _ => keeps_pure _

theorem keeps_part158 : ∀ x0 x1 x2 x3 x4 x5 x6 x7 x8, Keeps c bd H (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part158
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part159 : ∀ x0 x1 x2 x3 x4 x5 x6 x7 x8, Keeps c bd H (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part159
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part160 : ∀ x0 x1 x2 x3 x4 x5 x6 x7 x8 x9 x10, Keeps c bd H (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part160
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part161 : ∀ x0 x1 x2 x3 x4 x5 x6 x7 x8, Keeps c bd H (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part161
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part162 : ∀ x0 x1 x2 x3 x4 x5 x6 x7 x8, Keeps c bd H (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part162
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part163 : ∀ x0 x1 x2 x3 x4 x5 x6 x7 x8 x9 x10, Keeps c bd H (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part163
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part164 : ∀ x0 x1 x2 x3 x4 x5, Keeps c bd H (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part164
  exact keeps_load L.l9 fun _ => keeps_load L.l11 fun _ => keeps_load L.l11 fun _ => keeps_load L.l12 fun _ => keeps_store L.l12 fun _ => keeps_pure _

theorem keeps_part165 : ∀ x0 x1 x2, Keeps c bd H (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part165
  exact keeps_load L.l6 fun _ => keeps_load L.l14 fun _ => keeps_load L.l11 fun _ => keeps_store L.l11 fun _ => keeps_pure _

theorem keeps_part166 : ∀ x0 x1 x2 x3 x4 x5 x6 x7 x8 x9 x10 x11 x12 x13 x14 x15 x16 x17 x18 x19 x20 x21 x22 x23 x24 x25 x26 x27 x28 x29 x30 x31 x32, Keeps c bd H (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part166
  exact keeps_load L.l11 fun _ => keeps_store L.l11 fun _ => keeps_pure _

theorem keeps_part167 : ∀ x0 x1 x2 x3 x4 x5 x6 x7 x8 x9 x10 x11 x12 x13 x14 x15 x16 x17 x18 x19 x20 x21 x22 x23 x24, Keeps c bd H (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part167
  exact keeps_load L.l11 fun _ => keeps_load L.l11 fun _ => keeps_pure _

theorem keeps_part168 : ∀ x0 x1 x2 x3 x4, Keeps c bd H (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part168
  exact keeps_load L.l12 fun _ => keeps_store L.l12 fun _ => keeps_load L.l6 fun _ => keeps_load L.l14 fun _ => keeps_load L.l11 fun _ => keeps_store L.l11 fun _ => keeps_pure _

theorem keeps_part169 : ∀ x0 x1 x2 x3 x4 x5 x6 x7 x8 x9 x10 x11 x12 x13 x14 x15 x16 x17 x18 x19 x20 x21 x22 x23 x24 x25 x26 x27 x28, Keeps c bd H (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part169
  exact keeps_load L.l11 fun _ => keeps_store L.l11 fun _ => keeps_pure _

theorem keeps_part170 : ∀ x0 x1 x2 x3 x4 x5 x6 x7 x8 x9 x10 x11 x12 x13 x14, Keeps c bd H (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part170
  exact keeps_load L.l11 fun _ => keeps_pure _

theorem keeps_part171 : ∀ x0 x1 x2 x3 x4, Keeps c bd H (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part171
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part172 : ∀ x0 x1 x2 x3 x4 x5 x6 x7 x8 x9 x10 x11 x12 x13 x14 x15 x16 x17 x18 x19, Keeps c bd H (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part172
  exact keeps_load L.l11 fun _ => keeps_store L.l11 fun _ => keeps_pure _

theorem keeps_part173 : ∀ x0 x1 x2 x3, Keeps c bd H (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part173
  exact keeps_pure _

theorem keeps_part174 : ∀ x0 x1 x2 x3 x4 x5 x6, Keeps c bd H (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part174
  exact keeps_load L.l11 fun _ => keeps_load L.l11 fun _ => keeps_load L.l12 fun _ => keeps_store L.l12 fun _ => keeps_load L.l6 fun _ => keeps_load L.l14 fun _ => keeps_load L.l11 fun _ => keeps_store L.l11 fun _ => keeps_pure _

theorem keeps_part175 : ∀ x0 x1 x2 x3 x4 x5 x6 x7 x8 x9 x10, Keeps c bd H (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part175
  exact keeps_pure _

theorem keeps_part176 : ∀ x0, Keeps c bd H (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part176
  exact keeps_load L.l11 fun _ => keeps_store L.l11 fun _ => keeps_pure _

theorem keeps_part177 : ∀ x0 x1 x2 x3 x4 x5 x6 x7 x8 x9 x10 x11 x12 x13 x14 x15, Keeps c bd H (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part177
  exact keeps_load L.l9 fun _ => keeps_load L.l11 fun _ => keeps_load L.l11 fun _ => keeps_load L.l12 fun _ => keeps_store L.l12 fun _ => keeps_load L.l6 fun _ => keeps_pure _

theorem keeps_part178 : ∀ x0 x1, Keeps c bd H (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part178
  exact keeps_load L.l14 fun _ => keeps_load L.l11 fun _ => keeps_store L.l11 fun _ => keeps_pure _

theorem keeps_part179 : ∀ x0 x1 x2 x3 x4 x5 x6 x7 x8 x9 x10 x11 x12 x13 x14 x15 x16 x17 x18 x19 x20 x21 x22 x23, Keeps c bd H (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part179
  exact keeps_load L.l11 fun _ => keeps_store L.l11 fun _ => keeps_pure _

theorem keeps_part180 : ∀ x0 x1 x2 x3 x4 x5 x6 x7 x8 x9 x10 x11 x12 x13 x14 x15 x16 x17 x18 x19 x20 x21 x22 x23 x24 x25 x26 x27 x28 x29 x30 x31 x32 x33, Keeps c bd H (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part180
  exact keeps_load L.l11 fun _ => keeps_load L.l11 fun _ => keeps_load L.l12 fun _ => keeps_store L.l12 fun _ => keeps_pure _

theorem keeps_part181 : ∀ x0 x1 x2, Keeps c bd H (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part181
  exact keeps_load L.l6 fun _ => keeps_load L.l14 fun _ => keeps_load L.l11 fun _ => keeps_store L.l11 fun _ => keeps_pure _

theorem keeps_part182 : ∀ x0 x1 x2 x3 x4 x5 x6 x7 x8 x9 x10 x11 x12 x13 x14 x15 x16 x17 x18 x19 x20 x21 x22 x23 x24 x25 x26 x27 x28 x29 x30 x31 x32, Keeps c bd H (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part182
  exact keeps_load L.l11 fun _ => keeps_store L.l11 fun _ => keeps_pure _

theorem keeps_part183 : ∀ x0 x1 x2 x3 x4 x5 x6 x7 x8 x9 x10 x11 x12 x13 x14 x15 x16 x17 x18 x19 x20 x21 x22 x23 x24, Keeps c bd H (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part183
  exact keeps_load L.l11 fun _ => keeps_load L.l11 fun _ => keeps_pure _

theorem keeps_part184 : ∀ x0 x1 x2 x3 x4, Keeps c bd H (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part184
  exact keeps_load L.l12 fun _ => keeps_store L.l12 fun _ => keeps_load L.l6 fun _ => keeps_load L.l14 fun _ => keeps_load L.l11 fun _ => keeps_store L.l11 fun _ => keeps_pure _

theorem keeps_part185 : ∀ x0 x1 x2 x3 x4 x5 x6 x7 x8 x9 x10 x11 x12 x13 x14 x15 x16 x17 x18 x19 x20 x21 x22 x23 x24 x25 x26 x27 x28, Keeps c bd H (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part185
  exact keeps_load L.l11 fun _ => keeps_store L.l11 fun _ => keeps_pure _

theorem keeps_part186 : ∀ x0 x1 x2 x3 x4 x5 x6 x7 x8 x9 x10 x11 x12 x13 x14, Keeps c bd H (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part186
  exact keeps_load L.l11 fun _ => keeps_pure _

theorem keeps_part187 : ∀ x0 x1 x2 x3 x4, Keeps c bd H (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part187
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part188 : ∀ x0 x1 x2 x3 x4 x5 x6 x7 x8 x9 x10 x11 x12 x13 x14 x15 x16 x17 x18 x19, Keeps c bd H (k0_part188 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part188
  exact keeps_load L.l11 fun _ => keeps_store L.l11 fun _ => keeps_pure _

theorem keeps_part189 : ∀ x0 x1 x2 x3, Keeps c bd H (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part189
  exact keeps_pure _

theorem keeps_part190 : ∀ x0 x1 x2 x3 x4 x5 x6, Keeps c bd H (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part190
  exact keeps_load L.l9 fun _ => keeps_load L.l11 fun _ => keeps_load L.l11 fun _ => keeps_load L.l12 fun _ => keeps_store L.l12 fun _ => keeps_load L.l6 fun _ => keeps_load L.l14 fun _ => keeps_pure _

theorem keeps_part191 : ∀ x0 x1, Keeps c bd H (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part191
  exact keeps_load L.l11 fun _ => keeps_store L.l11 fun _ => keeps_pure _

theorem keeps_part192 : ∀ x0 x1 x2 x3 x4 x5 x6 x7 x8 x9 x10 x11 x12 x13 x14, Keeps c bd H (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part192
  exact keeps_load L.l11 fun _ => keeps_store L.l11 fun _ => keeps_pure _

theorem keeps_part193 : ∀ x0 x1 x2 x3 x4 x5 x6 x7 x8 x9 x10 x11 x12 x13 x14 x15 x16 x17 x18 x19 x20 x21 x22 x23 x24 x25 x26 x27 x28 x29, Keeps c bd H (k0_part193 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29) := by
  intros; unfold k0_part193
  exact keeps_load L.l11 fun _ => keeps_load L.l11 fun _ => keeps_load L.l12 fun _ => keeps_store L.l12 fun _ => keeps_load L.l6 fun _ => keeps_pure _

theorem keeps_part194 : ∀ x0 x1, Keeps c bd H (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part194
  exact keeps_load L.l14 fun _ => keeps_load L.l11 fun _ => keeps_store L.l11 fun _ => keeps_pure _

theorem keeps_part195 : ∀ x0 x1 x2 x3 x4 x5 x6 x7 x8 x9 x10 x11 x12 x13 x14 x15 x16 x17 x18 x19 x20 x21 x22 x23, Keeps c bd H (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part195
  exact keeps_load L.l11 fun _ => keeps_store L.l11 fun _ => keeps_pure _

theorem keeps_part196 : ∀ x0 x1 x2 x3 x4 x5 x6 x7 x8 x9 x10 x11 x12 x13 x14 x15 x16 x17 x18 x19 x20 x21 x22 x23 x24 x25 x26 x27 x28 x29 x30 x31 x32 x33, Keeps c bd H (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part196
  exact keeps_load L.l11 fun _ => keeps_load L.l11 fun _ => keeps_load L.l12 fun _ => keeps_store L.l12 fun _ => keeps_pure _

theorem keeps_part197 : ∀ x0 x1 x2, Keeps c bd H (k0_part197 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part197
  exact keeps_load L.l6 fun _ => keeps_load L.l14 fun _ => keeps_load L.l11 fun _ => keeps_store L.l11 fun _ => keeps_pure _

theorem keeps_part198 : ∀ x0 x1 x2 x3 x4 x5 x6 x7 x8 x9 x10 x11 x12 x13 x14 x15 x16 x17 x18 x19 x20 x21 x22 x23 x24 x25 x26 x27 x28 x29 x30 x31 x32, Keeps c bd H (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part198
  exact keeps_load L.l11 fun _ => keeps_store L.l11 fun _ => keeps_pure _

theorem keeps_part199 : ∀ x0 x1 x2 x3 x4 x5 x6 x7 x8 x9 x10 x11 x12 x13 x14 x15 x16 x17 x18 x19 x20 x21 x22 x23 x24, Keeps c bd H (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part199
  exact keeps_load L.l11 fun _ => keeps_load L.l11 fun _ => keeps_pure _

theorem keeps_part200 : ∀ x0 x1 x2 x3 x4, Keeps c bd H (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part200
  exact keeps_load L.l12 fun _ => keeps_store L.l12 fun _ => keeps_load L.l6 fun _ => keeps_load L.l14 fun _ => keeps_load L.l11 fun _ => keeps_store L.l11 fun _ => keeps_pure _

theorem keeps_part201 : ∀ x0 x1 x2 x3 x4 x5 x6 x7 x8 x9 x10 x11 x12 x13 x14 x15 x16 x17 x18 x19 x20 x21 x22 x23 x24 x25 x26 x27 x28, Keeps c bd H (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part201
  exact keeps_load L.l11 fun _ => keeps_store L.l11 fun _ => keeps_pure _

theorem keeps_part202 : ∀ x0 x1 x2 x3 x4 x5 x6 x7 x8 x9 x10 x11 x12 x13 x14 x15, Keeps c bd H (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part202
  exact keeps_load L.l9 fun _ => keeps_pure _

theorem keeps_part203 : ∀ x0 x1 x2 x3 x4 x5, Keeps c bd H (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part203
  exact keeps_load L.l11 fun _ => keeps_load L.l11 fun _ => keeps_load L.l12 fun _ => keeps_store L.l12 fun _ => keeps_load L.l6 fun _ => keeps_load L.l14 fun _ => keeps_load L.l11 fun _ => keeps_store L.l11 fun _ => keeps_pure _

theorem keeps_part204 : ∀ x0 x1, Keeps c bd H (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part204
  exact keeps_pure _

theorem keeps_part205 : ∀ x0 x1 x2 x3 x4 x5, Keeps c bd H (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part205
  exact keeps_load L.l11 fun _ => keeps_store L.l11 fun _ => keeps_pure _

theorem keeps_part206 : ∀ x0 x1 x2 x3 x4 x5 x6 x7 x8 x9 x10 x11 x12 x13 x14 x15 x16 x17 x18 x19 x20, Keeps c bd H (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part206
  exact keeps_load L.l11 fun _ => keeps_load L.l11 fun _ => keeps_load L.l12 fun _ => keeps_store L.l12 fun _ => keeps_load L.l6 fun _ => keeps_load L.l14 fun _ => keeps_pure _

theorem keeps_part207 : ∀ x0 x1, Keeps c bd H (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part207
  exact keeps_load L.l11 fun _ => keeps_store L.l11 fun _ => keeps_pure _

theorem keeps_part208 : ∀ x0 x1 x2 x3 x4 x5 x6 x7 x8 x9 x10 x11 x12 x13 x14, Keeps c bd H (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part208
  exact keeps_load L.l11 fun _ => keeps_store L.l11 fun _ => keeps_pure _

theorem keeps_part209 : ∀ x0 x1 x2 x3 x4 x5 x6 x7 x8 x9 x10 x11 x12 x13 x14 x15 x16 x17 x18 x19 x20 x21 x22 x23 x24 x25 x26 x27 x28 x29, Keeps c bd H (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29) := by
  intros; unfold k0_part209
  exact keeps_load L.l11 fun _ => keeps_load L.l11 fun _ => keeps_load L.l12 fun _ => keeps_store L.l12 fun _ => keeps_load L.l6 fun _ => keeps_pure _

theorem keeps_part210 : ∀ x0 x1, Keeps c bd H (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part210
  exact keeps_load L.l14 fun _ => keeps_load L.l11 fun _ => keeps_store L.l11 fun _ => keeps_pure _

theorem keeps_part211 : ∀ x0 x1 x2 x3 x4 x5 x6 x7 x8 x9 x10 x11 x12 x13 x14 x15 x16 x17 x18 x19 x20 x21 x22 x23, Keeps c bd H (k0_part211 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part211
  exact keeps_load L.l11 fun _ => keeps_store L.l11 fun _ => keeps_pure _

theorem keeps_part212 : ∀ x0 x1 x2 x3 x4 x5 x6 x7 x8 x9 x10 x11 x12 x13 x14 x15 x16 x17 x18 x19 x20 x21 x22 x23 x24 x25 x26 x27 x28 x29 x30 x31 x32 x33, Keeps c bd H (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part212
  exact keeps_load L.l11 fun _ => keeps_load L.l11 fun _ => keeps_load L.l12 fun _ => keeps_store L.l12 fun _ => keeps_pure _

theorem keeps_part213 : ∀ x0 x1 x2, Keeps c bd H (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part213
  exact keeps_load L.l6 fun _ => keeps_load L.l14 fun _ => keeps_load L.l11 fun _ => keeps_store L.l11 fun _ => keeps_pure _

theorem keeps_part214 : ∀ x0 x1 x2 x3 x4 x5 x6 x7 x8 x9 x10 x11 x12 x13 x14 x15 x16 x17 x18 x19 x20 x21 x22 x23 x24 x25 x26 x27 x28 x29 x30 x31 x32, Keeps c bd H (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part214
  exact keeps_load L.l11 fun _ => keeps_store L.l11 fun _ => keeps_pure _

theorem keeps_part215 : ∀ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41, Keeps c bd H (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) := by
  intros; unfold k0_part215
  exact keeps_bind (keeps_for fun _ _ => keeps_bind (keeps_part158 L _ _ _ _ _ _ _ _ _) fun _ => keeps_bind (keeps_part159 L _ _ _ _ _ _ _ _ _) fun _ => keeps_bind (keeps_part160 L _ _ _ _ _ _ _ _ _ _ _) fun _ => keeps_load L.l15 fun _ => keeps_load L.l15 fun _ => keeps_store L.l15 fun _ => keeps_pure _) fun _ => keeps_pure _

theorem keeps_part216 : ∀ x0 x1 x2 x3 x4 x5 x6 x7 x8 x9 x10 x11 x12 x13 x14 x15 x16 x17 x18 x19 x20, Keeps c bd H (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part216
  exact keeps_bind (keeps_part164 L _ _ _ _ _ _) fun _ => keeps_bind (keeps_part165 L _ _ _) fun _ => keeps_bind (keeps_part166 L _ _ _ _ _ _ _ _ _ _ _ _ _ _ _ _ _ _ _ _ _ _ _ _ _ _ _ _ _ _ _ _ _) fun _ => keeps_bind (keeps_part167 L _ _ _ _ _ _ _ _ _ _ _ _ _ _ _ _ _ _ _ _ _ _ _ _ _) fun _ => keeps_bind (keeps_part168 L _ _ _ _ _) fun _ => keeps_bind (keeps_part169 L _ _ _ _ _ _ _ _ _ _ _ _ _ _ _ _ _ _ _ _ _ _ _ _ _ _ _ _ _) fun _ => keeps_bind (keeps_part170 L _ _ _ _ _ _ _ _ _ _ _ _ _ _ _) fun _ => keeps_bind (keeps_part171 L _ _ _ _ _) fun _ => keeps_bind (keeps_part172 L _ _ _ _ _ _ _ _ _ _ _ _ _ _ _ _ _ _ _ _) fun _ => keeps_bind (keeps_part173 L _ _ _ _) fun _ => keeps_bind (keeps_part174 L _ _ _ _ _ _ _) fun _ => keeps_bind (keeps_part175 L _ _ _ _ _ _ _ _ _ _ _) fun _ => keeps_bind (keeps_part176 L _) fun _ => keeps_bind (keeps_part177 L _ _ _ _ _ _ _ _ _ _ _ _ _ _ _ _) fun _ => keeps_bind (keeps_part178 L _ _) fun _ => keeps_bind (keeps_part179 L _ _ _ _ _ _ _ _ _ _ _ _ _ _ _ _ _ _ _ _ _ _ _ _) fun _ => keeps_bind (keeps_part180 L _ _ _ _ _ _ _ _ _ _ _ _ _ _ _ _ _ _ _ _ _ _ _ _ _ _ _ _ _ _ _ _ _ _) fun _ => keeps_bind (keeps_part181 L _ _ _) fun _ => keeps_bind (keeps_part182 L _ _ _ _ _ _ _ _ _ _ _ _ _ _ _ _ _ _ _ _ _ _ _ _ _ _ _ _ _ _ _ _ _) fun _ => keeps_bind (keeps_part183 L _ _ _ _ _ _ _ _ _ _ _ _ _ _ _ _ _ _ _ _ _ _ _ _ _) fun _ => keeps_bind (keeps_part184 L _ _ _ _ _) fun _ => keeps_bind (keeps_part185 L _ _ _ _ _ _ _ _ _ _ _ _ _ _ _ _ _ _ _ _ _ _ _ _ _ _ _ _ _) fun _ => keeps_bind (keeps_part186 L _ _ _ _ _ _ _ _ _ _ _ _ _ _ _) fun _ => keeps_bind (keeps_part187 L _ _ _ _ _) fun _ => keeps_bind (keeps_part188 L _ _ _ _ _ _ _ _ _ _ _ _ _ _ _ _ _ _ _ _) fun _ => keeps_bind (keeps_part189 L _ _ _ _) fun _ => keeps_bind (keeps_part190 L _ _ _ _ _ _ _) fun _ => keeps_bind (keeps_part191 L _ _) fun _ => keeps_bind (keeps_part192 L _ _ _ _ _ _ _ _ _ _ _ _ _ _ _) fun _ => keeps_bind (keeps_part193 L _ _ _ _ _ _ _ _ _ _ _ _ _ _ _ _ _ _ _ _ _ _ _ _ _ _ _ _ _ _) fun _ => keeps_bind (keeps_part194 L _ _) fun _ => keeps_bind (keeps_part195 L _ _ _ _ _ _ _ _ _ _ _ _ _ _ _ _ _ _ _ _ _ _ _ _) fun _ => keeps_bind (keeps_part196 L _ _ _ _ _ _ _ _ _ _ _ _ _ _ _ _ _ _ _ _ _ _ _ _ _ _ _ _ _ _ _ _ _ _) fun _ => keeps_bind (keeps_part197 L _ _ _) fun _ => keeps_bind (keeps_part198 L _ _ _ _ _ _ _ _ _ _ _ _ _ _ _ _ _ _ _ _ _ _ _ _ _ _ _ _ _ _ _ _ _) fun _ => keeps_bind (keeps_part199 L _ _ _ _ _ _ _ _ _ _ _ _ _ _ _ _ _ _ _ _ _ _ _ _ _) fun _ => keeps_bind (keeps_part200 L _ _ _ _ _) fun _ => keeps_bind (keeps_part201 L _ _ _ _ _ _ _ _ _ _ _ _ _ _ _ _ _ _ _ _ _ _ _ _ _ _ _ _ _) fun _ => keeps_bind (keeps_part202 L _ _ _ _ _ _ _ _ _ _ _ _ _ _ _ _) fun _ => keeps_bind (keeps_part203 L _ _ _ _ _ _) fun _ => keeps_bind (keeps_part204 L _ _) fun _ => keeps_bind (keeps_part205 L _ _ _ _ _ _) fun _ => keeps_bind (keeps_part206 L _ _ _ _ _ _ _ _ _ _ _ _ _ _ _ _ _ _ _ _ _) fun _ => keeps_bind (keeps_part207 L _ _) fun _ => keeps_bind (keeps_part208 L _ _ _ _ _ _ _ _ _ _ _ _ _ _ _) fun _ => keeps_bind (keeps_part209 L _ _ _ _ _ _ _ _ _ _ _ _ _ _ _ _ _ _ _ _ _ _ _ _ _ _ _ _ _ _) fun _ => keeps_bind (keeps_part210 L _ _) fun _ => keeps_bind (keeps_part211 L _ _ _ _ _ _ _ _ _ _ _ _ _ _ _ _ _ _ _ _ _ _ _ _) fun _ => keeps_bind (keeps_part212 L _ _ _ _ _ _ _ _ _ _ _ _ _ _ _ _ _ _ _ _ _ _ _ _ _ _ _ _ _ _ _ _ _ _) fun _ => keeps_bind (keeps_part213 L _ _ _) fun _ => keeps_bind (keeps_part214 L _ _ _ _ _ _ _ _ _ _ _ _ _ _ _ _ _ _ _ _ _ _ _ _ _ _ _ _ _ _ _ _ _) fun _ => keeps_bind (keeps_part215 L _ _ _ _ _ _ _ _ _ _ _ _ _ _ _ _ _ _ _ _ _ _ _ _ _ _ _ _ _ _ _ _ _ _ _ _ _ _ _ _ _ _) fun _ => keeps_bind (keeps_for fun _ _ => keeps_bind (keeps_part161 L _ _ _ _ _ _ _ _ _) fun _ => keeps_bind (keeps_part162 L _ _ _ _ _ _ _ _ _) fun _ => keeps_bind (keeps_part163 L _ _ _ _ _ _ _ _ _ _ _) fun _ => keeps_load L.l15 fun _ => keeps_load L.l15 fun _ => keeps_store L.l15 fun _ => keeps_pure _) fun _ => keeps_pure _

theorem keeps_part217 : ∀ x0 x1 x2 x3 x4 x5 x6 x7 x8, Keeps c bd H (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part217
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part218 : ∀ x0 x1 x2 x3 x4 x5 x6 x7 x8, Keeps c bd H (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part218
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part219 : ∀ x0 x1 x2 x3 x4 x5 x6 x7 x8 x9 x10, Keeps c bd H (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part219
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part220 : ∀ x0 x1 x2 x3 x4 x5 x6 x7 x8, Keeps c bd H (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part220
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part221 : ∀ x0 x1 x2 x3 x4 x5 x6 x7 x8, Keeps c bd H (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part221
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part222 : ∀ x0 x1 x2 x3 x4 x5 x6 x7 x8 x9 x10, Keeps c bd H (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part222
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part223 : ∀ x0 x1 x2 x3 x4 x5, Keeps c bd H (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part223
  exact keeps_load L.l9 fun _ => keeps_load L.l11 fun _ => keeps_load L.l11 fun _ => keeps_load L.l12 fun _ => keeps_store L.l12 fun _ => keeps_pure _

theorem keeps_part224 : ∀ x0 x1 x2, Keeps c bd H (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part224
  exact keeps_load L.l6 fun _ => keeps_load L.l14 fun _ => keeps_load L.l11 fun _ => keeps_store L.l11 fun _ => keeps_pure _

theorem keeps_part225 : ∀ x0 x1 x2 x3 x4 x5 x6 x7 x8 x9 x10 x11 x12 x13 x14 x15 x16 x17 x18 x19 x20 x21 x22 x23 x24 x25 x26 x27 x28 x29 x30 x31 x32, Keeps c bd H (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part225
  exact keeps_load L.l11 fun _ => keeps_store L.l11 fun _ => keeps_pure _

theorem keeps_part226 : ∀ x0 x1 x2 x3 x4 x5 x6 x7 x8 x9 x10 x11 x12 x13 x14 x15 x16 x17 x18 x19 x20 x21 x22 x23 x24, Keeps c bd H (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part226
  exact keeps_load L.l11 fun _ => keeps_load L.l11 fun _ => keeps_pure _

end Cert.Proof.Attn

end
-- ==== Proof.AttnPartsC.lean ====
/-
  Part after part of the attention's body loads from and stores to the body's buffers and computes on what it
  loaded, so each keeps what lends it those buffers (parts 227 to 373).
-/
module

public import proofs.«01_k».proof.Proof.AttnPartsB

@[expose] public section

noncomputable section

namespace Cert.Proof.Attn

open Cert.Kernel5

open Idealize.ShloMosaic
open Idealize.ShloMosaic.TcCoe
open Idealize.SL Idealize.SL.RA Idealize.SL.BI
open Idealize.SL.Sem
open Idealize.ShloMosaic.Rounds

variable {F : FTy → Type} [BitOps F] [Facts]
variable {c : Dev nD} {bd : Option ℕ} {H : sProp (MT nD τ sig Unit (Elt F) ℕ (UR sig nD τ) ℕ)}
variable {i : grid0.Coords} {arg2 : Memref sig .tc .vmem S1x256x512 .bf16} {harg2 : arg2.IsWhole} {arg3 : Memref sig .tc .vmem S1x8x256 .f32} {harg3 : arg3.IsWhole}
  {arg4 : Memref sig .tc .vmem S1x256x512 .bf16} {harg4 : arg4.IsWhole} {arg5 : Memref sig .tc .vmem S1x9216x128 .bf16} {harg5 : arg5.IsWhole}
  {arg6 : Memref sig .tc .vmem S1x9216x256 .bf16} {harg6 : arg6.IsWhole} {arg7 : Memref sig .tc .vmem S1x160x9216 .bf16} {harg7 : arg7.IsWhole}
  {arg8 : Memref sig .tc .vmem S1x256x512 .bf16} {harg8 : arg8.IsWhole} {arg9 : Memref sig .tc .vmem S9216x256 .i32} {harg9 : arg9.IsWhole}
  {arg10 : Memref sig .tc .vmem S256x256 .i32} {harg10 : arg10.IsWhole} {arg11 : Memref sig .tc .vmem S4x1024x512 .f32} {harg11 : arg11.IsWhole}
  {arg12 : Memref sig .tc .vmem S4x1024x512 .bf16} {harg12 : arg12.IsWhole} {arg13 : Memref sig .tc .vmem S4x128x512 .bf16} {harg13 : arg13.IsWhole}
  {arg14 : Memref sig .tc .vmem S4x128x512 .bf16} {harg14 : arg14.IsWhole} {arg15 : Memref sig .tc .vmem S4x80x512 .f32} {harg15 : arg15.IsWhole}
  (L : Lent c H arg2 arg3 arg4 arg5 arg6 arg7 arg8 arg9 arg10 arg11 arg12 arg13 arg14 arg15)
include L

theorem keeps_part227 : ∀ x0 x1 x2 x3 x4, Keeps c bd H (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part227
  exact keeps_load L.l12 fun _ => keeps_store L.l12 fun _ => keeps_load L.l6 fun _ => keeps_load L.l14 fun _ => keeps_load L.l11 fun _ => keeps_store L.l11 fun _ => keeps_pure _

theorem keeps_part228 : ∀ x0 x1 x2 x3 x4 x5 x6 x7 x8 x9 x10 x11 x12 x13 x14 x15 x16 x17 x18 x19 x20 x21 x22 x23 x24 x25 x26 x27 x28, Keeps c bd H (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part228
  exact keeps_load L.l11 fun _ => keeps_store L.l11 fun _ => keeps_pure _

theorem keeps_part229 : ∀ x0 x1 x2 x3 x4 x5 x6 x7 x8 x9 x10 x11 x12 x13 x14, Keeps c bd H (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part229
  exact keeps_load L.l11 fun _ => keeps_pure _

theorem keeps_part230 : ∀ x0 x1 x2 x3 x4, Keeps c bd H (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part230
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part231 : ∀ x0 x1 x2 x3 x4 x5 x6 x7 x8 x9 x10 x11 x12 x13 x14 x15 x16 x17 x18 x19, Keeps c bd H (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part231
  exact keeps_load L.l11 fun _ => keeps_store L.l11 fun _ => keeps_pure _

theorem keeps_part232 : ∀ x0 x1 x2 x3, Keeps c bd H (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part232
  exact keeps_pure _

theorem keeps_part233 : ∀ x0 x1 x2 x3 x4 x5 x6, Keeps c bd H (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part233
  exact keeps_load L.l11 fun _ => keeps_load L.l11 fun _ => keeps_load L.l12 fun _ => keeps_store L.l12 fun _ => keeps_load L.l6 fun _ => keeps_load L.l14 fun _ => keeps_load L.l11 fun _ => keeps_store L.l11 fun _ => keeps_pure _

theorem keeps_part234 : ∀ x0 x1 x2 x3 x4 x5 x6 x7 x8 x9 x10, Keeps c bd H (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part234
  exact keeps_pure _

theorem keeps_part235 : ∀ x0, Keeps c bd H (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part235
  exact keeps_load L.l11 fun _ => keeps_store L.l11 fun _ => keeps_pure _

theorem keeps_part236 : ∀ x0 x1 x2 x3 x4 x5 x6 x7 x8 x9 x10 x11 x12 x13 x14 x15, Keeps c bd H (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part236
  exact keeps_load L.l9 fun _ => keeps_load L.l11 fun _ => keeps_load L.l11 fun _ => keeps_load L.l12 fun _ => keeps_store L.l12 fun _ => keeps_load L.l6 fun _ => keeps_pure _

theorem keeps_part237 : ∀ x0 x1, Keeps c bd H (k0_part237 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part237
  exact keeps_load L.l14 fun _ => keeps_load L.l11 fun _ => keeps_store L.l11 fun _ => keeps_pure _

theorem keeps_part238 : ∀ x0 x1 x2 x3 x4 x5 x6 x7 x8 x9 x10 x11 x12 x13 x14 x15 x16 x17 x18 x19 x20 x21 x22 x23, Keeps c bd H (k0_part238 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part238
  exact keeps_load L.l11 fun _ => keeps_store L.l11 fun _ => keeps_pure _

theorem keeps_part239 : ∀ x0 x1 x2 x3 x4 x5 x6 x7 x8 x9 x10 x11 x12 x13 x14 x15 x16 x17 x18 x19 x20 x21 x22 x23 x24 x25 x26 x27 x28 x29 x30 x31 x32 x33, Keeps c bd H (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part239
  exact keeps_load L.l11 fun _ => keeps_load L.l11 fun _ => keeps_load L.l12 fun _ => keeps_store L.l12 fun _ => keeps_pure _

theorem keeps_part240 : ∀ x0 x1 x2, Keeps c bd H (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part240
  exact keeps_load L.l6 fun _ => keeps_load L.l14 fun _ => keeps_load L.l11 fun _ => keeps_store L.l11 fun _ => keeps_pure _

theorem keeps_part241 : ∀ x0 x1 x2 x3 x4 x5 x6 x7 x8 x9 x10 x11 x12 x13 x14 x15 x16 x17 x18 x19 x20 x21 x22 x23 x24 x25 x26 x27 x28 x29 x30 x31 x32, Keeps c bd H (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part241
  exact keeps_load L.l11 fun _ => keeps_store L.l11 fun _ => keeps_pure _

theorem keeps_part242 : ∀ x0 x1 x2 x3 x4 x5 x6 x7 x8 x9 x10 x11 x12 x13 x14 x15 x16 x17 x18 x19 x20 x21 x22 x23 x24, Keeps c bd H (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part242
  exact keeps_load L.l11 fun _ => keeps_load L.l11 fun _ => keeps_pure _

theorem keeps_part243 : ∀ x0 x1 x2 x3 x4, Keeps c bd H (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part243
  exact keeps_load L.l12 fun _ => keeps_store L.l12 fun _ => keeps_load L.l6 fun _ => keeps_load L.l14 fun _ => keeps_load L.l11 fun _ => keeps_store L.l11 fun _ => keeps_pure _

theorem keeps_part244 : ∀ x0 x1 x2 x3 x4 x5 x6 x7 x8 x9 x10 x11 x12 x13 x14 x15 x16 x17 x18 x19 x20 x21 x22 x23 x24 x25 x26 x27 x28, Keeps c bd H (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part244
  exact keeps_load L.l11 fun _ => keeps_store L.l11 fun _ => keeps_pure _

theorem keeps_part245 : ∀ x0 x1 x2 x3 x4 x5 x6 x7 x8 x9 x10 x11 x12 x13 x14, Keeps c bd H (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part245
  exact keeps_load L.l11 fun _ => keeps_pure _

theorem keeps_part246 : ∀ x0 x1 x2 x3 x4, Keeps c bd H (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part246
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part247 : ∀ x0 x1 x2 x3 x4 x5 x6 x7 x8 x9 x10 x11 x12 x13 x14 x15 x16 x17 x18 x19, Keeps c bd H (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19) := by
  intros; unfold k0_part247
  exact keeps_load L.l11 fun _ => keeps_store L.l11 fun _ => keeps_pure _

theorem keeps_part248 : ∀ x0 x1 x2 x3, Keeps c bd H (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part248
  exact keeps_pure _

theorem keeps_part249 : ∀ x0 x1 x2 x3 x4 x5 x6, Keeps c bd H (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part249
  exact keeps_load L.l9 fun _ => keeps_load L.l11 fun _ => keeps_load L.l11 fun _ => keeps_load L.l12 fun _ => keeps_store L.l12 fun _ => keeps_load L.l6 fun _ => keeps_load L.l14 fun _ => keeps_pure _

theorem keeps_part250 : ∀ x0 x1, Keeps c bd H (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part250
  exact keeps_load L.l11 fun _ => keeps_store L.l11 fun _ => keeps_pure _

theorem keeps_part251 : ∀ x0 x1 x2 x3 x4 x5 x6 x7 x8 x9 x10 x11 x12 x13 x14, Keeps c bd H (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part251
  exact keeps_load L.l11 fun _ => keeps_store L.l11 fun _ => keeps_pure _

theorem keeps_part252 : ∀ x0 x1 x2 x3 x4 x5 x6 x7 x8 x9 x10 x11 x12 x13 x14 x15 x16 x17 x18 x19 x20 x21 x22 x23 x24 x25 x26 x27 x28 x29, Keeps c bd H (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29) := by
  intros; unfold k0_part252
  exact keeps_load L.l11 fun _ => keeps_load L.l11 fun _ => keeps_load L.l12 fun _ => keeps_store L.l12 fun _ => keeps_load L.l6 fun _ => keeps_pure _

theorem keeps_part253 : ∀ x0 x1, Keeps c bd H (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part253
  exact keeps_load L.l14 fun _ => keeps_load L.l11 fun _ => keeps_store L.l11 fun _ => keeps_pure _

theorem keeps_part254 : ∀ x0 x1 x2 x3 x4 x5 x6 x7 x8 x9 x10 x11 x12 x13 x14 x15 x16 x17 x18 x19 x20 x21 x22 x23, Keeps c bd H (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part254
  exact keeps_load L.l11 fun _ => keeps_store L.l11 fun _ => keeps_pure _

theorem keeps_part255 : ∀ x0 x1 x2 x3 x4 x5 x6 x7 x8 x9 x10 x11 x12 x13 x14 x15 x16 x17 x18 x19 x20 x21 x22 x23 x24 x25 x26 x27 x28 x29 x30 x31 x32 x33, Keeps c bd H (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part255
  exact keeps_load L.l11 fun _ => keeps_load L.l11 fun _ => keeps_load L.l12 fun _ => keeps_store L.l12 fun _ => keeps_pure _

theorem keeps_part256 : ∀ x0 x1 x2, Keeps c bd H (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part256
  exact keeps_load L.l6 fun _ => keeps_load L.l14 fun _ => keeps_load L.l11 fun _ => keeps_store L.l11 fun _ => keeps_pure _

theorem keeps_part257 : ∀ x0 x1 x2 x3 x4 x5 x6 x7 x8 x9 x10 x11 x12 x13 x14 x15 x16 x17 x18 x19 x20 x21 x22 x23 x24 x25 x26 x27 x28 x29 x30 x31 x32, Keeps c bd H (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part257
  exact keeps_load L.l11 fun _ => keeps_store L.l11 fun _ => keeps_pure _

theorem keeps_part258 : ∀ x0 x1 x2 x3 x4 x5 x6 x7 x8 x9 x10 x11 x12 x13 x14 x15 x16 x17 x18 x19 x20 x21 x22 x23 x24, Keeps c bd H (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part258
  exact keeps_load L.l11 fun _ => keeps_load L.l11 fun _ => keeps_pure _

theorem keeps_part259 : ∀ x0 x1 x2 x3 x4, Keeps c bd H (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part259
  exact keeps_load L.l12 fun _ => keeps_store L.l12 fun _ => keeps_load L.l6 fun _ => keeps_load L.l14 fun _ => keeps_load L.l11 fun _ => keeps_store L.l11 fun _ => keeps_pure _

theorem keeps_part260 : ∀ x0 x1 x2 x3 x4 x5 x6 x7 x8 x9 x10 x11 x12 x13 x14 x15 x16 x17 x18 x19 x20 x21 x22 x23 x24 x25 x26 x27 x28, Keeps c bd H (k0_part260 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28) := by
  intros; unfold k0_part260
  exact keeps_load L.l11 fun _ => keeps_store L.l11 fun _ => keeps_pure _

theorem keeps_part261 : ∀ x0 x1 x2 x3 x4 x5 x6 x7 x8 x9 x10 x11 x12 x13 x14 x15, Keeps c bd H (k0_part261 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part261
  exact keeps_load L.l9 fun _ => keeps_pure _

theorem keeps_part262 : ∀ x0 x1 x2 x3 x4 x5, Keeps c bd H (k0_part262 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part262
  exact keeps_load L.l11 fun _ => keeps_load L.l11 fun _ => keeps_load L.l12 fun _ => keeps_store L.l12 fun _ => keeps_load L.l6 fun _ => keeps_load L.l14 fun _ => keeps_load L.l11 fun _ => keeps_store L.l11 fun _ => keeps_pure _

theorem keeps_part263 : ∀ x0 x1, Keeps c bd H (k0_part263 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part263
  exact keeps_pure _

theorem keeps_part264 : ∀ x0 x1 x2 x3 x4 x5, Keeps c bd H (k0_part264 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part264
  exact keeps_load L.l11 fun _ => keeps_store L.l11 fun _ => keeps_pure _

theorem keeps_part265 : ∀ x0 x1 x2 x3 x4 x5 x6 x7 x8 x9 x10 x11 x12 x13 x14 x15 x16 x17 x18 x19 x20, Keeps c bd H (k0_part265 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part265
  exact keeps_load L.l11 fun _ => keeps_load L.l11 fun _ => keeps_load L.l12 fun _ => keeps_store L.l12 fun _ => keeps_load L.l6 fun _ => keeps_load L.l14 fun _ => keeps_pure _

theorem keeps_part266 : ∀ x0 x1, Keeps c bd H (k0_part266 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part266
  exact keeps_load L.l11 fun _ => keeps_store L.l11 fun _ => keeps_pure _

theorem keeps_part267 : ∀ x0 x1 x2 x3 x4 x5 x6 x7 x8 x9 x10 x11 x12 x13 x14, Keeps c bd H (k0_part267 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) := by
  intros; unfold k0_part267
  exact keeps_load L.l11 fun _ => keeps_store L.l11 fun _ => keeps_pure _

theorem keeps_part268 : ∀ x0 x1 x2 x3 x4 x5 x6 x7 x8 x9 x10 x11 x12 x13 x14 x15 x16 x17 x18 x19 x20 x21 x22 x23 x24 x25 x26 x27 x28 x29, Keeps c bd H (k0_part268 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29) := by
  intros; unfold k0_part268
  exact keeps_load L.l11 fun _ => keeps_load L.l11 fun _ => keeps_load L.l12 fun _ => keeps_store L.l12 fun _ => keeps_load L.l6 fun _ => keeps_pure _

theorem keeps_part269 : ∀ x0 x1, Keeps c bd H (k0_part269 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part269
  exact keeps_load L.l14 fun _ => keeps_load L.l11 fun _ => keeps_store L.l11 fun _ => keeps_pure _

theorem keeps_part270 : ∀ x0 x1 x2 x3 x4 x5 x6 x7 x8 x9 x10 x11 x12 x13 x14 x15 x16 x17 x18 x19 x20 x21 x22 x23, Keeps c bd H (k0_part270 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part270
  exact keeps_load L.l11 fun _ => keeps_store L.l11 fun _ => keeps_pure _

theorem keeps_part271 : ∀ x0 x1 x2 x3 x4 x5 x6 x7 x8 x9 x10 x11 x12 x13 x14 x15 x16 x17 x18 x19 x20 x21 x22 x23 x24 x25 x26 x27 x28 x29 x30 x31 x32 x33, Keeps c bd H (k0_part271 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33) := by
  intros; unfold k0_part271
  exact keeps_load L.l11 fun _ => keeps_load L.l11 fun _ => keeps_load L.l12 fun _ => keeps_store L.l12 fun _ => keeps_pure _

theorem keeps_part272 : ∀ x0 x1 x2, Keeps c bd H (k0_part272 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part272
  exact keeps_load L.l6 fun _ => keeps_load L.l14 fun _ => keeps_load L.l11 fun _ => keeps_store L.l11 fun _ => keeps_pure _

theorem keeps_part273 : ∀ x0 x1 x2 x3 x4 x5 x6 x7 x8 x9 x10 x11 x12 x13 x14 x15 x16 x17 x18 x19 x20 x21 x22 x23 x24 x25 x26 x27 x28 x29 x30 x31 x32, Keeps c bd H (k0_part273 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part273
  exact keeps_load L.l11 fun _ => keeps_store L.l11 fun _ => keeps_pure _

theorem keeps_part274 : ∀ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41, Keeps c bd H (k0_part274 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) := by
  intros; unfold k0_part274
  exact keeps_bind (keeps_for fun _ _ => keeps_bind (keeps_part217 L _ _ _ _ _ _ _ _ _) fun _ => keeps_bind (keeps_part218 L _ _ _ _ _ _ _ _ _) fun _ => keeps_bind (keeps_part219 L _ _ _ _ _ _ _ _ _ _ _) fun _ => keeps_load L.l15 fun _ => keeps_load L.l15 fun _ => keeps_store L.l15 fun _ => keeps_pure _) fun _ => keeps_pure _

theorem keeps_part275 : ∀ x0 x1 x2 x3 x4 x5 x6 x7 x8 x9 x10 x11 x12 x13 x14 x15 x16 x17 x18 x19 x20, Keeps c bd H (k0_part275 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part275
  exact keeps_bind (keeps_part223 L _ _ _ _ _ _) fun _ => keeps_bind (keeps_part224 L _ _ _) fun _ => keeps_bind (keeps_part225 L _ _ _ _ _ _ _ _ _ _ _ _ _ _ _ _ _ _ _ _ _ _ _ _ _ _ _ _ _ _ _ _ _) fun _ => keeps_bind (keeps_part226 L _ _ _ _ _ _ _ _ _ _ _ _ _ _ _ _ _ _ _ _ _ _ _ _ _) fun _ => keeps_bind (keeps_part227 L _ _ _ _ _) fun _ => keeps_bind (keeps_part228 L _ _ _ _ _ _ _ _ _ _ _ _ _ _ _ _ _ _ _ _ _ _ _ _ _ _ _ _ _) fun _ => keeps_bind (keeps_part229 L _ _ _ _ _ _ _ _ _ _ _ _ _ _ _) fun _ => keeps_bind (keeps_part230 L _ _ _ _ _) fun _ => keeps_bind (keeps_part231 L _ _ _ _ _ _ _ _ _ _ _ _ _ _ _ _ _ _ _ _) fun _ => keeps_bind (keeps_part232 L _ _ _ _) fun _ => keeps_bind (keeps_part233 L _ _ _ _ _ _ _) fun _ => keeps_bind (keeps_part234 L _ _ _ _ _ _ _ _ _ _ _) fun _ => keeps_bind (keeps_part235 L _) fun _ => keeps_bind (keeps_part236 L _ _ _ _ _ _ _ _ _ _ _ _ _ _ _ _) fun _ => keeps_bind (keeps_part237 L _ _) fun _ => keeps_bind (keeps_part238 L _ _ _ _ _ _ _ _ _ _ _ _ _ _ _ _ _ _ _ _ _ _ _ _) fun _ => keeps_bind (keeps_part239 L _ _ _ _ _ _ _ _ _ _ _ _ _ _ _ _ _ _ _ _ _ _ _ _ _ _ _ _ _ _ _ _ _ _) fun _ => keeps_bind (keeps_part240 L _ _ _) fun _ => keeps_bind (keeps_part241 L _ _ _ _ _ _ _ _ _ _ _ _ _ _ _ _ _ _ _ _ _ _ _ _ _ _ _ _ _ _ _ _ _) fun _ => keeps_bind (keeps_part242 L _ _ _ _ _ _ _ _ _ _ _ _ _ _ _ _ _ _ _ _ _ _ _ _ _) fun _ => keeps_bind (keeps_part243 L _ _ _ _ _) fun _ => keeps_bind (keeps_part244 L _ _ _ _ _ _ _ _ _ _ _ _ _ _ _ _ _ _ _ _ _ _ _ _ _ _ _ _ _) fun _ => keeps_bind (keeps_part245 L _ _ _ _ _ _ _ _ _ _ _ _ _ _ _) fun _ => keeps_bind (keeps_part246 L _ _ _ _ _) fun _ => keeps_bind (keeps_part247 L _ _ _ _ _ _ _ _ _ _ _ _ _ _ _ _ _ _ _ _) fun _ => keeps_bind (keeps_part248 L _ _ _ _) fun _ => keeps_bind (keeps_part249 L _ _ _ _ _ _ _) fun _ => keeps_bind (keeps_part250 L _ _) fun _ => keeps_bind (keeps_part251 L _ _ _ _ _ _ _ _ _ _ _ _ _ _ _) fun _ => keeps_bind (keeps_part252 L _ _ _ _ _ _ _ _ _ _ _ _ _ _ _ _ _ _ _ _ _ _ _ _ _ _ _ _ _ _) fun _ => keeps_bind (keeps_part253 L _ _) fun _ => keeps_bind (keeps_part254 L _ _ _ _ _ _ _ _ _ _ _ _ _ _ _ _ _ _ _ _ _ _ _ _) fun _ => keeps_bind (keeps_part255 L _ _ _ _ _ _ _ _ _ _ _ _ _ _ _ _ _ _ _ _ _ _ _ _ _ _ _ _ _ _ _ _ _ _) fun _ => keeps_bind (keeps_part256 L _ _ _) fun _ => keeps_bind (keeps_part257 L _ _ _ _ _ _ _ _ _ _ _ _ _ _ _ _ _ _ _ _ _ _ _ _ _ _ _ _ _ _ _ _ _) fun _ => keeps_bind (keeps_part258 L _ _ _ _ _ _ _ _ _ _ _ _ _ _ _ _ _ _ _ _ _ _ _ _ _) fun _ => keeps_bind (keeps_part259 L _ _ _ _ _) fun _ => keeps_bind (keeps_part260 L _ _ _ _ _ _ _ _ _ _ _ _ _ _ _ _ _ _ _ _ _ _ _ _ _ _ _ _ _) fun _ => keeps_bind (keeps_part261 L _ _ _ _ _ _ _ _ _ _ _ _ _ _ _ _) fun _ => keeps_bind (keeps_part262 L _ _ _ _ _ _) fun _ => keeps_bind (keeps_part263 L _ _) fun _ => keeps_bind (keeps_part264 L _ _ _ _ _ _) fun _ => keeps_bind (keeps_part265 L _ _ _ _ _ _ _ _ _ _ _ _ _ _ _ _ _ _ _ _ _) fun _ => keeps_bind (keeps_part266 L _ _) fun _ => keeps_bind (keeps_part267 L _ _ _ _ _ _ _ _ _ _ _ _ _ _ _) fun _ => keeps_bind (keeps_part268 L _ _ _ _ _ _ _ _ _ _ _ _ _ _ _ _ _ _ _ _ _ _ _ _ _ _ _ _ _ _) fun _ => keeps_bind (keeps_part269 L _ _) fun _ => keeps_bind (keeps_part270 L _ _ _ _ _ _ _ _ _ _ _ _ _ _ _ _ _ _ _ _ _ _ _ _) fun _ => keeps_bind (keeps_part271 L _ _ _ _ _ _ _ _ _ _ _ _ _ _ _ _ _ _ _ _ _ _ _ _ _ _ _ _ _ _ _ _ _ _) fun _ => keeps_bind (keeps_part272 L _ _ _) fun _ => keeps_bind (keeps_part273 L _ _ _ _ _ _ _ _ _ _ _ _ _ _ _ _ _ _ _ _ _ _ _ _ _ _ _ _ _ _ _ _ _) fun _ => keeps_bind (keeps_part274 L _ _ _ _ _ _ _ _ _ _ _ _ _ _ _ _ _ _ _ _ _ _ _ _ _ _ _ _ _ _ _ _ _ _ _ _ _ _ _ _ _ _) fun _ => keeps_bind (keeps_for fun _ _ => keeps_bind (keeps_part220 L _ _ _ _ _ _ _ _ _) fun _ => keeps_bind (keeps_part221 L _ _ _ _ _ _ _ _ _) fun _ => keeps_bind (keeps_part222 L _ _ _ _ _ _ _ _ _ _ _) fun _ => keeps_load L.l15 fun _ => keeps_load L.l15 fun _ => keeps_store L.l15 fun _ => keeps_pure _) fun _ => keeps_pure _

theorem keeps_part276 : ∀ x0 x1 x2 x3 x4 x5 x6 x7 x8, Keeps c bd H (k0_part276 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part276
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part277 : ∀ x0 x1 x2 x3 x4 x5 x6 x7 x8, Keeps c bd H (k0_part277 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part277
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part278 : ∀ x0 x1 x2 x3 x4 x5 x6 x7 x8 x9 x10, Keeps c bd H (k0_part278 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part278
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part279 : ∀ x0 x1 x2 x3 x4 x5 x6 x7 x8, Keeps c bd H (k0_part279 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part279
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part280 : ∀ x0 x1 x2 x3 x4 x5 x6 x7 x8 x9, Keeps c bd H (k0_part280 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part280
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part281 : ∀ x0 x1 x2 x3 x4 x5 x6 x7 x8 x9 x10 x11, Keeps c bd H (k0_part281 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part281
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part282 : ∀ x0 x1 x2 x3 x4 x5 x6, Keeps c bd H (k0_part282 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part282
  exact keeps_load L.l9 fun _ => keeps_load L.l11 fun _ => keeps_load L.l11 fun _ => keeps_load L.l12 fun _ => keeps_store L.l12 fun _ => keeps_pure _

theorem keeps_part283 : ∀ x0 x1, Keeps c bd H (k0_part283 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part283
  exact keeps_load L.l6 fun _ => keeps_load L.l14 fun _ => keeps_load L.l11 fun _ => keeps_store L.l11 fun _ => keeps_pure _

theorem keeps_part284 : ∀ x0 x1 x2 x3 x4 x5 x6 x7 x8 x9 x10 x11 x12 x13 x14 x15 x16 x17 x18 x19 x20 x21 x22 x23 x24 x25 x26 x27 x28 x29 x30, Keeps c bd H (k0_part284 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part284
  exact keeps_load L.l11 fun _ => keeps_store L.l11 fun _ => keeps_pure _

theorem keeps_part285 : ∀ x0 x1 x2 x3 x4 x5 x6 x7 x8 x9 x10 x11 x12 x13 x14 x15 x16 x17 x18 x19 x20 x21 x22 x23 x24 x25 x26, Keeps c bd H (k0_part285 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part285
  exact keeps_load L.l11 fun _ => keeps_load L.l11 fun _ => keeps_pure _

theorem keeps_part286 : ∀ x0 x1 x2, Keeps c bd H (k0_part286 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part286
  exact keeps_load L.l12 fun _ => keeps_store L.l12 fun _ => keeps_load L.l6 fun _ => keeps_load L.l14 fun _ => keeps_load L.l11 fun _ => keeps_store L.l11 fun _ => keeps_pure _

theorem keeps_part287 : ∀ x0 x1 x2 x3 x4 x5 x6 x7 x8 x9 x10 x11 x12 x13 x14 x15 x16 x17 x18 x19 x20 x21 x22 x23 x24 x25 x26 x27 x28 x29 x30, Keeps c bd H (k0_part287 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part287
  exact keeps_load L.l11 fun _ => keeps_store L.l11 fun _ => keeps_pure _

theorem keeps_part288 : ∀ x0 x1 x2 x3 x4 x5 x6 x7 x8 x9 x10 x11 x12 x13 x14 x15 x16, Keeps c bd H (k0_part288 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16) := by
  intros; unfold k0_part288
  exact keeps_load L.l11 fun _ => keeps_pure _

theorem keeps_part289 : ∀ x0 x1 x2 x3, Keeps c bd H (k0_part289 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part289
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part290 : ∀ x0 x1 x2 x3 x4 x5 x6 x7 x8 x9 x10 x11 x12 x13 x14 x15 x16 x17 x18 x19 x20 x21, Keeps c bd H (k0_part290 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21) := by
  intros; unfold k0_part290
  exact keeps_load L.l11 fun _ => keeps_store L.l11 fun _ => keeps_pure _

theorem keeps_part291 : ∀ x0 x1 x2 x3 x4 x5 x6, Keeps c bd H (k0_part291 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part291
  exact keeps_pure _

theorem keeps_part292 : ∀ x0 x1 x2 x3, Keeps c bd H (k0_part292 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part292
  exact keeps_load L.l11 fun _ => keeps_load L.l11 fun _ => keeps_load L.l12 fun _ => keeps_store L.l12 fun _ => keeps_load L.l6 fun _ => keeps_load L.l14 fun _ => keeps_load L.l11 fun _ => keeps_store L.l11 fun _ => keeps_pure _

theorem keeps_part293 : ∀ x0 x1 x2 x3 x4 x5 x6 x7 x8 x9 x10 x11 x12, Keeps c bd H (k0_part293 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12) := by
  intros; unfold k0_part293
  exact keeps_pure _

theorem keeps_part294 : ∀ x0, Keeps c bd H (k0_part294 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part294
  exact keeps_load L.l11 fun _ => keeps_store L.l11 fun _ => keeps_pure _

theorem keeps_part295 : ∀ x0 x1 x2 x3 x4 x5 x6 x7 x8 x9 x10 x11 x12, Keeps c bd H (k0_part295 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12) := by
  intros; unfold k0_part295
  exact keeps_load L.l9 fun _ => keeps_load L.l11 fun _ => keeps_load L.l11 fun _ => keeps_load L.l12 fun _ => keeps_store L.l12 fun _ => keeps_load L.l6 fun _ => keeps_pure _

theorem keeps_part296 : ∀ x0 x1, Keeps c bd H (k0_part296 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part296
  exact keeps_load L.l14 fun _ => keeps_load L.l11 fun _ => keeps_store L.l11 fun _ => keeps_pure _

theorem keeps_part297 : ∀ x0 x1 x2 x3 x4 x5 x6 x7 x8 x9 x10 x11 x12 x13 x14 x15 x16 x17 x18 x19 x20 x21, Keeps c bd H (k0_part297 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21) := by
  intros; unfold k0_part297
  exact keeps_load L.l11 fun _ => keeps_store L.l11 fun _ => keeps_pure _

theorem keeps_part298 : ∀ x0 x1 x2 x3 x4 x5 x6 x7 x8 x9 x10 x11 x12 x13 x14 x15 x16 x17 x18 x19 x20 x21 x22 x23 x24 x25 x26 x27 x28 x29 x30 x31 x32 x33 x34 x35, Keeps c bd H (k0_part298 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34 x35) := by
  intros; unfold k0_part298
  exact keeps_load L.l11 fun _ => keeps_load L.l11 fun _ => keeps_load L.l12 fun _ => keeps_store L.l12 fun _ => keeps_pure _

theorem keeps_part299 : ∀ x0 x1, Keeps c bd H (k0_part299 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part299
  exact keeps_load L.l6 fun _ => keeps_load L.l14 fun _ => keeps_load L.l11 fun _ => keeps_store L.l11 fun _ => keeps_pure _

theorem keeps_part300 : ∀ x0 x1 x2 x3 x4 x5 x6 x7 x8 x9 x10 x11 x12 x13 x14 x15 x16 x17 x18 x19 x20 x21 x22 x23 x24 x25 x26 x27 x28 x29 x30, Keeps c bd H (k0_part300 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part300
  exact keeps_load L.l11 fun _ => keeps_store L.l11 fun _ => keeps_pure _

theorem keeps_part301 : ∀ x0 x1 x2 x3 x4 x5 x6 x7 x8 x9 x10 x11 x12 x13 x14 x15 x16 x17 x18 x19 x20 x21 x22 x23 x24 x25 x26, Keeps c bd H (k0_part301 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part301
  exact keeps_load L.l11 fun _ => keeps_load L.l11 fun _ => keeps_pure _

theorem keeps_part302 : ∀ x0 x1 x2, Keeps c bd H (k0_part302 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part302
  exact keeps_load L.l12 fun _ => keeps_store L.l12 fun _ => keeps_load L.l6 fun _ => keeps_load L.l14 fun _ => keeps_load L.l11 fun _ => keeps_store L.l11 fun _ => keeps_pure _

theorem keeps_part303 : ∀ x0 x1 x2 x3 x4 x5 x6 x7 x8 x9 x10 x11 x12 x13 x14 x15 x16 x17 x18 x19 x20 x21 x22 x23 x24 x25 x26 x27 x28 x29 x30, Keeps c bd H (k0_part303 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part303
  exact keeps_load L.l11 fun _ => keeps_store L.l11 fun _ => keeps_pure _

theorem keeps_part304 : ∀ x0 x1 x2 x3 x4 x5 x6 x7 x8 x9 x10 x11 x12 x13 x14 x15 x16, Keeps c bd H (k0_part304 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16) := by
  intros; unfold k0_part304
  exact keeps_load L.l11 fun _ => keeps_pure _

theorem keeps_part305 : ∀ x0 x1 x2 x3, Keeps c bd H (k0_part305 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part305
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part306 : ∀ x0 x1 x2 x3 x4 x5 x6 x7 x8 x9 x10 x11 x12 x13 x14 x15 x16 x17 x18 x19 x20 x21, Keeps c bd H (k0_part306 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21) := by
  intros; unfold k0_part306
  exact keeps_load L.l11 fun _ => keeps_store L.l11 fun _ => keeps_pure _

theorem keeps_part307 : ∀ x0 x1 x2 x3 x4 x5 x6, Keeps c bd H (k0_part307 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part307
  exact keeps_pure _

theorem keeps_part308 : ∀ x0 x1 x2 x3 x4, Keeps c bd H (k0_part308 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part308
  exact keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part309 : ∀ x0 x1 x2 x3 x4 x5, Keeps c bd H (k0_part309 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part309
  exact keeps_load L.l11 fun _ => keeps_load L.l12 fun _ => keeps_store L.l12 fun _ => keeps_load L.l11 fun _ => keeps_load L.l11 fun _ => keeps_load L.l12 fun _ => keeps_store L.l12 fun _ => keeps_load L.l11 fun _ => keeps_load L.l11 fun _ => keeps_pure _

theorem keeps_part310 : ∀ x0 x1 x2 x3 x4 x5, Keeps c bd H (k0_part310 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part310
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part311 : ∀ x0 x1 x2 x3 x4 x5 x6 x7 x8 x9 x10 x11 x12 x13 x14 x15 x16 x17 x18 x19 x20 x21 x22 x23, Keeps c bd H (k0_part311 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part311
  exact keeps_store L.l12 fun _ => keeps_load L.l11 fun _ => keeps_load L.l11 fun _ => keeps_load L.l12 fun _ => keeps_store L.l12 fun _ => keeps_bind (keeps_for fun _ _ => keeps_bind (keeps_part276 L _ _ _ _ _ _ _ _ _) fun _ => keeps_bind (keeps_part277 L _ _ _ _ _ _ _ _ _) fun _ => keeps_bind (keeps_part278 L _ _ _ _ _ _ _ _ _ _ _) fun _ => keeps_load L.l15 fun _ => keeps_load L.l15 fun _ => keeps_store L.l15 fun _ => keeps_pure _) fun _ => keeps_bind (keeps_for fun _ _ => keeps_bind (keeps_part279 L _ _ _ _ _ _ _ _ _) fun _ => keeps_bind (keeps_part280 L _ _ _ _ _ _ _ _ _ _) fun _ => keeps_bind (keeps_part281 L _ _ _ _ _ _ _ _ _ _ _ _) fun _ => keeps_load L.l15 fun _ => keeps_load L.l15 fun _ => keeps_store L.l15 fun _ => keeps_pure _) fun _ => keeps_pure _

theorem keeps_part312 : ∀ x0 x1 x2 x3 x4 x5 x6 x7 x8, Keeps c bd H (k0_part312 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part312
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part313 : ∀ x0 x1 x2 x3 x4 x5 x6 x7 x8, Keeps c bd H (k0_part313 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part313
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part314 : ∀ x0 x1 x2 x3 x4 x5 x6 x7 x8 x9 x10, Keeps c bd H (k0_part314 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part314
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part315 : ∀ x0 x1 x2 x3 x4 x5 x6 x7 x8, Keeps c bd H (k0_part315 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part315
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part316 : ∀ x0 x1 x2 x3 x4 x5 x6 x7 x8 x9, Keeps c bd H (k0_part316 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part316
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part317 : ∀ x0 x1 x2 x3 x4 x5 x6 x7 x8 x9 x10 x11, Keeps c bd H (k0_part317 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part317
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part318 : ∀ x0 x1 x2 x3 x4 x5 x6, Keeps c bd H (k0_part318 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part318
  exact keeps_load L.l9 fun _ => keeps_load L.l11 fun _ => keeps_load L.l11 fun _ => keeps_load L.l12 fun _ => keeps_store L.l12 fun _ => keeps_pure _

theorem keeps_part319 : ∀ x0 x1, Keeps c bd H (k0_part319 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part319
  exact keeps_load L.l6 fun _ => keeps_load L.l14 fun _ => keeps_load L.l11 fun _ => keeps_store L.l11 fun _ => keeps_pure _

theorem keeps_part320 : ∀ x0 x1 x2 x3 x4 x5 x6 x7 x8 x9 x10 x11 x12 x13 x14 x15 x16 x17 x18 x19 x20 x21 x22 x23 x24 x25 x26 x27 x28 x29 x30, Keeps c bd H (k0_part320 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part320
  exact keeps_load L.l11 fun _ => keeps_store L.l11 fun _ => keeps_pure _

theorem keeps_part321 : ∀ x0 x1 x2 x3 x4 x5 x6 x7 x8 x9 x10 x11 x12 x13 x14 x15 x16 x17 x18 x19 x20 x21 x22 x23 x24 x25 x26, Keeps c bd H (k0_part321 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part321
  exact keeps_load L.l11 fun _ => keeps_load L.l11 fun _ => keeps_pure _

theorem keeps_part322 : ∀ x0 x1 x2, Keeps c bd H (k0_part322 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part322
  exact keeps_load L.l12 fun _ => keeps_store L.l12 fun _ => keeps_load L.l6 fun _ => keeps_load L.l14 fun _ => keeps_load L.l11 fun _ => keeps_store L.l11 fun _ => keeps_pure _

theorem keeps_part323 : ∀ x0 x1 x2 x3 x4 x5 x6 x7 x8 x9 x10 x11 x12 x13 x14 x15 x16 x17 x18 x19 x20 x21 x22 x23 x24 x25 x26 x27 x28 x29 x30, Keeps c bd H (k0_part323 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part323
  exact keeps_load L.l11 fun _ => keeps_store L.l11 fun _ => keeps_pure _

theorem keeps_part324 : ∀ x0 x1 x2 x3 x4 x5 x6 x7 x8 x9 x10 x11 x12 x13 x14 x15 x16, Keeps c bd H (k0_part324 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16) := by
  intros; unfold k0_part324
  exact keeps_load L.l11 fun _ => keeps_pure _

theorem keeps_part325 : ∀ x0 x1 x2 x3, Keeps c bd H (k0_part325 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part325
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part326 : ∀ x0 x1 x2 x3 x4 x5 x6 x7 x8 x9 x10 x11 x12 x13 x14 x15 x16 x17 x18 x19 x20 x21, Keeps c bd H (k0_part326 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21) := by
  intros; unfold k0_part326
  exact keeps_load L.l11 fun _ => keeps_store L.l11 fun _ => keeps_pure _

theorem keeps_part327 : ∀ x0 x1 x2 x3 x4 x5 x6, Keeps c bd H (k0_part327 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part327
  exact keeps_pure _

theorem keeps_part328 : ∀ x0 x1 x2 x3, Keeps c bd H (k0_part328 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part328
  exact keeps_load L.l11 fun _ => keeps_load L.l11 fun _ => keeps_load L.l12 fun _ => keeps_store L.l12 fun _ => keeps_load L.l6 fun _ => keeps_load L.l14 fun _ => keeps_load L.l11 fun _ => keeps_store L.l11 fun _ => keeps_pure _

theorem keeps_part329 : ∀ x0 x1 x2 x3 x4 x5 x6 x7 x8 x9 x10 x11 x12, Keeps c bd H (k0_part329 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12) := by
  intros; unfold k0_part329
  exact keeps_pure _

theorem keeps_part330 : ∀ x0, Keeps c bd H (k0_part330 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part330
  exact keeps_load L.l11 fun _ => keeps_store L.l11 fun _ => keeps_pure _

theorem keeps_part331 : ∀ x0 x1 x2 x3 x4 x5 x6 x7 x8 x9 x10 x11 x12, Keeps c bd H (k0_part331 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12) := by
  intros; unfold k0_part331
  exact keeps_load L.l9 fun _ => keeps_load L.l11 fun _ => keeps_load L.l11 fun _ => keeps_load L.l12 fun _ => keeps_store L.l12 fun _ => keeps_load L.l6 fun _ => keeps_pure _

theorem keeps_part332 : ∀ x0 x1, Keeps c bd H (k0_part332 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part332
  exact keeps_load L.l14 fun _ => keeps_load L.l11 fun _ => keeps_store L.l11 fun _ => keeps_pure _

theorem keeps_part333 : ∀ x0 x1 x2 x3 x4 x5 x6 x7 x8 x9 x10 x11 x12 x13 x14 x15 x16 x17 x18 x19 x20 x21, Keeps c bd H (k0_part333 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21) := by
  intros; unfold k0_part333
  exact keeps_load L.l11 fun _ => keeps_store L.l11 fun _ => keeps_pure _

theorem keeps_part334 : ∀ x0 x1 x2 x3 x4 x5 x6 x7 x8 x9 x10 x11 x12 x13 x14 x15 x16 x17 x18 x19 x20 x21 x22 x23 x24 x25 x26 x27 x28 x29 x30 x31 x32 x33 x34 x35, Keeps c bd H (k0_part334 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34 x35) := by
  intros; unfold k0_part334
  exact keeps_load L.l11 fun _ => keeps_load L.l11 fun _ => keeps_load L.l12 fun _ => keeps_store L.l12 fun _ => keeps_pure _

theorem keeps_part335 : ∀ x0 x1, Keeps c bd H (k0_part335 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part335
  exact keeps_load L.l6 fun _ => keeps_load L.l14 fun _ => keeps_load L.l11 fun _ => keeps_store L.l11 fun _ => keeps_pure _

theorem keeps_part336 : ∀ x0 x1 x2 x3 x4 x5 x6 x7 x8 x9 x10 x11 x12 x13 x14 x15 x16 x17 x18 x19 x20 x21 x22 x23 x24 x25 x26 x27 x28 x29 x30, Keeps c bd H (k0_part336 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part336
  exact keeps_load L.l11 fun _ => keeps_store L.l11 fun _ => keeps_pure _

theorem keeps_part337 : ∀ x0 x1 x2 x3 x4 x5 x6 x7 x8 x9 x10 x11 x12 x13 x14 x15 x16 x17 x18 x19 x20 x21 x22 x23 x24 x25 x26, Keeps c bd H (k0_part337 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part337
  exact keeps_load L.l11 fun _ => keeps_load L.l11 fun _ => keeps_pure _

theorem keeps_part338 : ∀ x0 x1 x2, Keeps c bd H (k0_part338 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part338
  exact keeps_load L.l12 fun _ => keeps_store L.l12 fun _ => keeps_load L.l6 fun _ => keeps_load L.l14 fun _ => keeps_load L.l11 fun _ => keeps_store L.l11 fun _ => keeps_pure _

theorem keeps_part339 : ∀ x0 x1 x2 x3 x4 x5 x6 x7 x8 x9 x10 x11 x12 x13 x14 x15 x16 x17 x18 x19 x20 x21 x22 x23 x24 x25 x26 x27 x28 x29 x30, Keeps c bd H (k0_part339 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part339
  exact keeps_load L.l11 fun _ => keeps_store L.l11 fun _ => keeps_pure _

theorem keeps_part340 : ∀ x0 x1 x2 x3 x4 x5 x6 x7 x8 x9 x10 x11 x12 x13 x14 x15 x16, Keeps c bd H (k0_part340 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16) := by
  intros; unfold k0_part340
  exact keeps_load L.l11 fun _ => keeps_pure _

theorem keeps_part341 : ∀ x0 x1 x2 x3, Keeps c bd H (k0_part341 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part341
  exact keeps_load L.l11 fun _ => keeps_load L.l12 fun _ => keeps_store L.l12 fun _ => keeps_load L.l6 fun _ => keeps_load L.l14 fun _ => keeps_load L.l11 fun _ => keeps_store L.l11 fun _ => keeps_pure _

theorem keeps_part342 : ∀ x0 x1 x2 x3 x4 x5 x6 x7 x8 x9 x10 x11 x12 x13 x14 x15 x16 x17 x18 x19 x20 x21, Keeps c bd H (k0_part342 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21) := by
  intros; unfold k0_part342
  exact keeps_load L.l11 fun _ => keeps_store L.l11 fun _ => keeps_pure _

theorem keeps_part343 : ∀ x0 x1 x2 x3 x4 x5 x6, Keeps c bd H (k0_part343 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part343
  exact keeps_pure _

theorem keeps_part344 : ∀ x0 x1 x2 x3 x4, Keeps c bd H (k0_part344 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part344
  exact keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part345 : ∀ x0 x1 x2 x3 x4 x5, Keeps c bd H (k0_part345 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part345
  exact keeps_load L.l11 fun _ => keeps_load L.l12 fun _ => keeps_store L.l12 fun _ => keeps_load L.l11 fun _ => keeps_load L.l11 fun _ => keeps_load L.l12 fun _ => keeps_store L.l12 fun _ => keeps_load L.l11 fun _ => keeps_load L.l11 fun _ => keeps_pure _

theorem keeps_part346 : ∀ x0 x1 x2 x3 x4 x5, Keeps c bd H (k0_part346 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part346
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part347 : ∀ x0 x1 x2 x3 x4 x5 x6 x7 x8 x9 x10 x11 x12 x13 x14 x15 x16 x17 x18 x19 x20 x21 x22 x23, Keeps c bd H (k0_part347 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23) := by
  intros; unfold k0_part347
  exact keeps_store L.l12 fun _ => keeps_load L.l11 fun _ => keeps_load L.l11 fun _ => keeps_load L.l12 fun _ => keeps_store L.l12 fun _ => keeps_bind (keeps_for fun _ _ => keeps_bind (keeps_part312 L _ _ _ _ _ _ _ _ _) fun _ => keeps_bind (keeps_part313 L _ _ _ _ _ _ _ _ _) fun _ => keeps_bind (keeps_part314 L _ _ _ _ _ _ _ _ _ _ _) fun _ => keeps_load L.l15 fun _ => keeps_load L.l15 fun _ => keeps_store L.l15 fun _ => keeps_pure _) fun _ => keeps_bind (keeps_for fun _ _ => keeps_bind (keeps_part315 L _ _ _ _ _ _ _ _ _) fun _ => keeps_bind (keeps_part316 L _ _ _ _ _ _ _ _ _ _) fun _ => keeps_bind (keeps_part317 L _ _ _ _ _ _ _ _ _ _ _ _) fun _ => keeps_load L.l15 fun _ => keeps_load L.l15 fun _ => keeps_store L.l15 fun _ => keeps_pure _) fun _ => keeps_pure _

theorem keeps_part348 : ∀ x0 x1 x2 x3 x4, Keeps c bd H (k0_part348 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part348
  exact keeps_load L.l9 fun _ => keeps_load L.l6 fun _ => keeps_load L.l14 fun _ => keeps_load L.l11 fun _ => keeps_store L.l11 fun _ => keeps_pure _

theorem keeps_part349 : ∀ x0 x1 x2, Keeps c bd H (k0_part349 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part349
  exact keeps_pure _

theorem keeps_part350 : ∀ x0 x1 x2 x3 x4, Keeps c bd H (k0_part350 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part350
  exact keeps_load L.l11 fun _ => keeps_store L.l11 fun _ => keeps_pure _

theorem keeps_part351 : ∀ x0 x1 x2 x3 x4 x5 x6 x7 x8 x9 x10 x11 x12 x13 x14 x15 x16 x17, Keeps c bd H (k0_part351 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17) := by
  intros; unfold k0_part351
  exact keeps_load L.l6 fun _ => keeps_load L.l14 fun _ => keeps_load L.l11 fun _ => keeps_store L.l11 fun _ => keeps_pure _

theorem keeps_part352 : ∀ x0 x1 x2 x3 x4 x5 x6 x7 x8 x9 x10 x11 x12 x13 x14 x15 x16 x17 x18 x19 x20 x21 x22, Keeps c bd H (k0_part352 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part352
  exact keeps_load L.l11 fun _ => keeps_store L.l11 fun _ => keeps_pure _

theorem keeps_part353 : ∀ x0 x1 x2 x3 x4 x5 x6 x7 x8, Keeps c bd H (k0_part353 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part353
  exact keeps_pure _

theorem keeps_part354 : ∀ x0 x1, Keeps c bd H (k0_part354 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part354
  exact keeps_load L.l6 fun _ => keeps_load L.l14 fun _ => keeps_load L.l11 fun _ => keeps_store L.l11 fun _ => keeps_pure _

theorem keeps_part355 : ∀ x0 x1 x2 x3 x4 x5 x6 x7 x8 x9 x10 x11 x12 x13 x14 x15 x16 x17 x18 x19 x20 x21 x22 x23 x24 x25 x26 x27 x28 x29 x30, Keeps c bd H (k0_part355 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part355
  exact keeps_load L.l11 fun _ => keeps_store L.l11 fun _ => keeps_pure _

theorem keeps_part356 : ∀ x0 x1 x2 x3 x4 x5 x6 x7 x8 x9 x10 x11 x12 x13 x14 x15 x16 x17 x18 x19 x20 x21 x22 x23 x24 x25 x26, Keeps c bd H (k0_part356 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part356
  exact keeps_load L.l6 fun _ => keeps_load L.l14 fun _ => keeps_pure _

theorem keeps_part357 : ∀ x0, Keeps c bd H (k0_part357 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part357
  exact keeps_load L.l11 fun _ => keeps_store L.l11 fun _ => keeps_pure _

theorem keeps_part358 : ∀ x0 x1 x2 x3 x4 x5 x6 x7 x8 x9 x10 x11 x12 x13, Keeps c bd H (k0_part358 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) := by
  intros; unfold k0_part358
  exact keeps_load L.l11 fun _ => keeps_store L.l11 fun _ => keeps_pure _

theorem keeps_part359 : ∀ x0 x1 x2 x3 x4 x5 x6 x7 x8 x9 x10 x11 x12 x13 x14 x15 x16 x17 x18 x19 x20 x21 x22 x23 x24 x25 x26, Keeps c bd H (k0_part359 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part359
  exact keeps_load L.l9 fun _ => keeps_load L.l6 fun _ => keeps_load L.l14 fun _ => keeps_pure _

theorem keeps_part360 : ∀ x0, Keeps c bd H (k0_part360 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part360
  exact keeps_load L.l11 fun _ => keeps_store L.l11 fun _ => keeps_pure _

theorem keeps_part361 : ∀ x0 x1 x2 x3 x4 x5 x6 x7 x8 x9 x10 x11, Keeps c bd H (k0_part361 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part361
  exact keeps_load L.l11 fun _ => keeps_store L.l11 fun _ => keeps_pure _

theorem keeps_part362 : ∀ x0 x1 x2 x3 x4 x5 x6 x7 x8 x9 x10 x11 x12 x13 x14 x15 x16 x17 x18 x19 x20 x21 x22 x23 x24, Keeps c bd H (k0_part362 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part362
  exact keeps_load L.l6 fun _ => keeps_load L.l14 fun _ => keeps_load L.l11 fun _ => keeps_store L.l11 fun _ => keeps_pure _

theorem keeps_part363 : ∀ x0 x1 x2 x3 x4 x5 x6 x7 x8 x9 x10 x11 x12 x13 x14 x15, Keeps c bd H (k0_part363 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part363
  exact keeps_load L.l11 fun _ => keeps_pure _

theorem keeps_part364 : ∀ x0 x1, Keeps c bd H (k0_part364 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part364
  exact keeps_store L.l11 fun _ => keeps_pure _

theorem keeps_part365 : ∀ x0 x1 x2 x3 x4 x5 x6 x7, Keeps c bd H (k0_part365 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part365
  exact keeps_load L.l6 fun _ => keeps_load L.l14 fun _ => keeps_load L.l11 fun _ => keeps_store L.l11 fun _ => keeps_pure _

theorem keeps_part366 : ∀ x0 x1 x2 x3 x4 x5 x6 x7 x8 x9 x10 x11 x12 x13 x14 x15 x16 x17 x18 x19 x20 x21 x22 x23 x24 x25 x26 x27 x28 x29 x30 x31 x32, Keeps c bd H (k0_part366 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part366
  exact keeps_load L.l11 fun _ => keeps_store L.l11 fun _ => keeps_pure _

theorem keeps_part367 : ∀ x0 x1 x2 x3 x4 x5 x6 x7 x8 x9 x10 x11 x12 x13 x14 x15 x16 x17 x18, Keeps c bd H (k0_part367 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18) := by
  intros; unfold k0_part367
  exact keeps_load L.l6 fun _ => keeps_pure _

theorem keeps_part368 : ∀ x0 x1, Keeps c bd H (k0_part368 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part368
  exact keeps_load L.l14 fun _ => keeps_load L.l11 fun _ => keeps_store L.l11 fun _ => keeps_pure _

theorem keeps_part369 : ∀ x0 x1 x2 x3 x4 x5 x6 x7 x8 x9 x10 x11 x12 x13 x14 x15 x16 x17 x18 x19 x20, Keeps c bd H (k0_part369 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part369
  exact keeps_load L.l11 fun _ => keeps_store L.l11 fun _ => keeps_pure _

theorem keeps_part370 : ∀ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, Keeps c bd H (k0_part370 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45) := by
  intros; unfold k0_part370
  exact keeps_pure _

theorem keeps_part371 : ∀ x0 x1 x2 x3 x4, Keeps c bd H (k0_part371 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part371
  exact keeps_load L.l9 fun _ => keeps_load L.l6 fun _ => keeps_load L.l14 fun _ => keeps_load L.l11 fun _ => keeps_store L.l11 fun _ => keeps_pure _

theorem keeps_part372 : ∀ x0 x1 x2, Keeps c bd H (k0_part372 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part372
  exact keeps_pure _

theorem keeps_part373 : ∀ x0 x1 x2 x3 x4, Keeps c bd H (k0_part373 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) := by
  intros; unfold k0_part373
  exact keeps_load L.l11 fun _ => keeps_store L.l11 fun _ => keeps_pure _

end Cert.Proof.Attn

end
-- ==== Proof.AttnPartsD.lean ====
/-
  Part after part of the attention's body loads from and stores to the body's buffers and computes on what it
  loaded, so each keeps what lends it those buffers (parts 374 to 447).
-/
module

public import proofs.«01_k».proof.Proof.AttnPartsC

@[expose] public section

noncomputable section

namespace Cert.Proof.Attn

open Cert.Kernel5

open Idealize.ShloMosaic
open Idealize.ShloMosaic.TcCoe
open Idealize.SL Idealize.SL.RA Idealize.SL.BI
open Idealize.SL.Sem
open Idealize.ShloMosaic.Rounds

variable {F : FTy → Type} [BitOps F] [Facts]
variable {c : Dev nD} {bd : Option ℕ} {H : sProp (MT nD τ sig Unit (Elt F) ℕ (UR sig nD τ) ℕ)}
variable {i : grid0.Coords} {arg2 : Memref sig .tc .vmem S1x256x512 .bf16} {harg2 : arg2.IsWhole} {arg3 : Memref sig .tc .vmem S1x8x256 .f32} {harg3 : arg3.IsWhole}
  {arg4 : Memref sig .tc .vmem S1x256x512 .bf16} {harg4 : arg4.IsWhole} {arg5 : Memref sig .tc .vmem S1x9216x128 .bf16} {harg5 : arg5.IsWhole}
  {arg6 : Memref sig .tc .vmem S1x9216x256 .bf16} {harg6 : arg6.IsWhole} {arg7 : Memref sig .tc .vmem S1x160x9216 .bf16} {harg7 : arg7.IsWhole}
  {arg8 : Memref sig .tc .vmem S1x256x512 .bf16} {harg8 : arg8.IsWhole} {arg9 : Memref sig .tc .vmem S9216x256 .i32} {harg9 : arg9.IsWhole}
  {arg10 : Memref sig .tc .vmem S256x256 .i32} {harg10 : arg10.IsWhole} {arg11 : Memref sig .tc .vmem S4x1024x512 .f32} {harg11 : arg11.IsWhole}
  {arg12 : Memref sig .tc .vmem S4x1024x512 .bf16} {harg12 : arg12.IsWhole} {arg13 : Memref sig .tc .vmem S4x128x512 .bf16} {harg13 : arg13.IsWhole}
  {arg14 : Memref sig .tc .vmem S4x128x512 .bf16} {harg14 : arg14.IsWhole} {arg15 : Memref sig .tc .vmem S4x80x512 .f32} {harg15 : arg15.IsWhole}
  (L : Lent c H arg2 arg3 arg4 arg5 arg6 arg7 arg8 arg9 arg10 arg11 arg12 arg13 arg14 arg15)
include L

theorem keeps_part374 : ∀ x0 x1 x2 x3 x4 x5 x6 x7 x8 x9 x10 x11 x12 x13 x14 x15 x16 x17, Keeps c bd H (k0_part374 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17) := by
  intros; unfold k0_part374
  exact keeps_load L.l6 fun _ => keeps_load L.l14 fun _ => keeps_load L.l11 fun _ => keeps_store L.l11 fun _ => keeps_pure _

theorem keeps_part375 : ∀ x0 x1 x2 x3 x4 x5 x6 x7 x8 x9 x10 x11 x12 x13 x14 x15 x16 x17 x18 x19 x20 x21 x22, Keeps c bd H (k0_part375 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part375
  exact keeps_load L.l11 fun _ => keeps_store L.l11 fun _ => keeps_pure _

theorem keeps_part376 : ∀ x0 x1 x2 x3 x4 x5 x6 x7 x8, Keeps c bd H (k0_part376 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part376
  exact keeps_pure _

theorem keeps_part377 : ∀ x0 x1, Keeps c bd H (k0_part377 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part377
  exact keeps_load L.l6 fun _ => keeps_load L.l14 fun _ => keeps_load L.l11 fun _ => keeps_store L.l11 fun _ => keeps_pure _

theorem keeps_part378 : ∀ x0 x1 x2 x3 x4 x5 x6 x7 x8 x9 x10 x11 x12 x13 x14 x15 x16 x17 x18 x19 x20 x21 x22 x23 x24 x25 x26 x27 x28 x29 x30, Keeps c bd H (k0_part378 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30) := by
  intros; unfold k0_part378
  exact keeps_load L.l11 fun _ => keeps_store L.l11 fun _ => keeps_pure _

theorem keeps_part379 : ∀ x0 x1 x2 x3 x4 x5 x6 x7 x8 x9 x10 x11 x12 x13 x14 x15 x16 x17 x18 x19 x20 x21 x22 x23 x24 x25 x26, Keeps c bd H (k0_part379 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part379
  exact keeps_load L.l6 fun _ => keeps_load L.l14 fun _ => keeps_pure _

theorem keeps_part380 : ∀ x0, Keeps c bd H (k0_part380 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part380
  exact keeps_load L.l11 fun _ => keeps_store L.l11 fun _ => keeps_pure _

theorem keeps_part381 : ∀ x0 x1 x2 x3 x4 x5 x6 x7 x8 x9 x10 x11 x12 x13, Keeps c bd H (k0_part381 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) := by
  intros; unfold k0_part381
  exact keeps_load L.l11 fun _ => keeps_store L.l11 fun _ => keeps_pure _

theorem keeps_part382 : ∀ x0 x1 x2 x3 x4 x5 x6 x7 x8 x9 x10 x11 x12 x13 x14 x15 x16 x17 x18 x19 x20 x21 x22 x23 x24 x25 x26, Keeps c bd H (k0_part382 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26) := by
  intros; unfold k0_part382
  exact keeps_load L.l9 fun _ => keeps_load L.l6 fun _ => keeps_load L.l14 fun _ => keeps_pure _

theorem keeps_part383 : ∀ x0, Keeps c bd H (k0_part383 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part383
  exact keeps_load L.l11 fun _ => keeps_store L.l11 fun _ => keeps_pure _

theorem keeps_part384 : ∀ x0 x1 x2 x3 x4 x5 x6 x7 x8 x9 x10 x11, Keeps c bd H (k0_part384 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part384
  exact keeps_load L.l11 fun _ => keeps_store L.l11 fun _ => keeps_pure _

theorem keeps_part385 : ∀ x0 x1 x2 x3 x4 x5 x6 x7 x8 x9 x10 x11 x12 x13 x14 x15 x16 x17 x18 x19 x20 x21 x22 x23 x24, Keeps c bd H (k0_part385 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24) := by
  intros; unfold k0_part385
  exact keeps_load L.l6 fun _ => keeps_load L.l14 fun _ => keeps_load L.l11 fun _ => keeps_store L.l11 fun _ => keeps_pure _

theorem keeps_part386 : ∀ x0 x1 x2 x3 x4 x5 x6 x7 x8 x9 x10 x11 x12 x13 x14 x15, Keeps c bd H (k0_part386 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15) := by
  intros; unfold k0_part386
  exact keeps_load L.l11 fun _ => keeps_pure _

theorem keeps_part387 : ∀ x0 x1, Keeps c bd H (k0_part387 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part387
  exact keeps_store L.l11 fun _ => keeps_pure _

theorem keeps_part388 : ∀ x0 x1 x2 x3 x4 x5 x6 x7, Keeps c bd H (k0_part388 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part388
  exact keeps_load L.l6 fun _ => keeps_load L.l14 fun _ => keeps_load L.l11 fun _ => keeps_store L.l11 fun _ => keeps_pure _

theorem keeps_part389 : ∀ x0 x1 x2 x3 x4 x5 x6 x7 x8 x9 x10 x11 x12 x13 x14 x15 x16 x17 x18 x19 x20 x21 x22 x23 x24 x25 x26 x27 x28 x29 x30 x31 x32, Keeps c bd H (k0_part389 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32) := by
  intros; unfold k0_part389
  exact keeps_load L.l11 fun _ => keeps_store L.l11 fun _ => keeps_pure _

theorem keeps_part390 : ∀ x0 x1 x2 x3 x4 x5 x6 x7 x8 x9 x10 x11 x12 x13 x14 x15 x16 x17 x18, Keeps c bd H (k0_part390 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18) := by
  intros; unfold k0_part390
  exact keeps_load L.l6 fun _ => keeps_pure _

theorem keeps_part391 : ∀ x0 x1, Keeps c bd H (k0_part391 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part391
  exact keeps_load L.l14 fun _ => keeps_load L.l11 fun _ => keeps_store L.l11 fun _ => keeps_pure _

theorem keeps_part392 : ∀ x0 x1 x2 x3 x4 x5 x6 x7 x8 x9 x10 x11 x12 x13 x14 x15 x16 x17 x18 x19 x20, Keeps c bd H (k0_part392 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part392
  exact keeps_load L.l11 fun _ => keeps_store L.l11 fun _ => keeps_pure _

theorem keeps_part393 : ∀ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45, Keeps c bd H (k0_part393 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45) := by
  intros; unfold k0_part393
  exact keeps_pure _

theorem keeps_part394 : ∀ x0 x1 x2 x3 x4 x5 x6 x7 x8, Keeps c bd H (k0_part394 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part394
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part395 : ∀ x0 x1 x2 x3 x4 x5 x6 x7 x8, Keeps c bd H (k0_part395 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part395
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part396 : ∀ x0 x1 x2 x3 x4 x5 x6 x7 x8 x9 x10, Keeps c bd H (k0_part396 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part396
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part397 : ∀ x0 x1 x2 x3 x4 x5 x6 x7 x8, Keeps c bd H (k0_part397 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part397
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part398 : ∀ x0 x1 x2 x3 x4 x5 x6 x7 x8 x9, Keeps c bd H (k0_part398 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part398
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part399 : ∀ x0 x1 x2 x3 x4 x5 x6 x7 x8 x9 x10 x11, Keeps c bd H (k0_part399 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part399
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part400 : ∀ x0 x1 x2 x3 x4 x5 x6, Keeps c bd H (k0_part400 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part400
  exact keeps_load L.l11 fun _ => keeps_load L.l11 fun _ => keeps_load L.l12 fun _ => keeps_store L.l12 fun _ => keeps_load L.l11 fun _ => keeps_load L.l11 fun _ => keeps_pure _

theorem keeps_part401 : ∀ x0 x1 x2 x3 x4 x5, Keeps c bd H (k0_part401 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part401
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part402 : ∀ x0 x1 x2 x3 x4 x5, Keeps c bd H (k0_part402 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part402
  exact keeps_store L.l12 fun _ => keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part403 : ∀ x0 x1 x2 x3 x4 x5, Keeps c bd H (k0_part403 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part403
  exact keeps_load L.l11 fun _ => keeps_load L.l12 fun _ => keeps_store L.l12 fun _ => keeps_load L.l11 fun _ => keeps_load L.l11 fun _ => keeps_load L.l12 fun _ => keeps_store L.l12 fun _ => keeps_load L.l11 fun _ => keeps_load L.l11 fun _ => keeps_pure _

theorem keeps_part404 : ∀ x0 x1 x2 x3 x4 x5 x6, Keeps c bd H (k0_part404 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part404
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part405 : ∀ x0 x1 x2 x3 x4 x5, Keeps c bd H (k0_part405 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part405
  exact keeps_store L.l12 fun _ => keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part406 : ∀ x0 x1 x2 x3 x4 x5, Keeps c bd H (k0_part406 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part406
  exact keeps_load L.l11 fun _ => keeps_load L.l12 fun _ => keeps_store L.l12 fun _ => keeps_load L.l11 fun _ => keeps_load L.l11 fun _ => keeps_load L.l12 fun _ => keeps_store L.l12 fun _ => keeps_load L.l11 fun _ => keeps_load L.l11 fun _ => keeps_pure _

theorem keeps_part407 : ∀ x0 x1 x2 x3 x4 x5 x6 x7 x8, Keeps c bd H (k0_part407 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part407
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part408 : ∀ x0 x1 x2 x3 x4 x5 x6 x7 x8, Keeps c bd H (k0_part408 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part408
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part409 : ∀ x0 x1 x2 x3 x4 x5 x6 x7 x8 x9 x10, Keeps c bd H (k0_part409 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) := by
  intros; unfold k0_part409
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part410 : ∀ x0 x1 x2 x3 x4 x5 x6 x7 x8, Keeps c bd H (k0_part410 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8) := by
  intros; unfold k0_part410
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part411 : ∀ x0 x1 x2 x3 x4 x5 x6 x7 x8 x9, Keeps c bd H (k0_part411 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part411
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part412 : ∀ x0 x1 x2 x3 x4 x5 x6 x7 x8 x9 x10 x11, Keeps c bd H (k0_part412 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part412
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part413 : ∀ x0 x1 x2 x3 x4 x5 x6, Keeps c bd H (k0_part413 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part413
  exact keeps_load L.l11 fun _ => keeps_load L.l11 fun _ => keeps_load L.l12 fun _ => keeps_store L.l12 fun _ => keeps_load L.l11 fun _ => keeps_load L.l11 fun _ => keeps_pure _

theorem keeps_part414 : ∀ x0 x1 x2 x3 x4 x5, Keeps c bd H (k0_part414 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part414
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part415 : ∀ x0 x1 x2 x3 x4 x5, Keeps c bd H (k0_part415 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part415
  exact keeps_store L.l12 fun _ => keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part416 : ∀ x0 x1 x2 x3 x4 x5, Keeps c bd H (k0_part416 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part416
  exact keeps_load L.l11 fun _ => keeps_load L.l12 fun _ => keeps_store L.l12 fun _ => keeps_load L.l11 fun _ => keeps_load L.l11 fun _ => keeps_load L.l12 fun _ => keeps_store L.l12 fun _ => keeps_load L.l11 fun _ => keeps_load L.l11 fun _ => keeps_pure _

theorem keeps_part417 : ∀ x0 x1 x2 x3 x4 x5 x6, Keeps c bd H (k0_part417 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part417
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part418 : ∀ x0 x1 x2 x3 x4 x5, Keeps c bd H (k0_part418 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part418
  exact keeps_store L.l12 fun _ => keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part419 : ∀ x0 x1 x2 x3 x4 x5, Keeps c bd H (k0_part419 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part419
  exact keeps_load L.l11 fun _ => keeps_load L.l12 fun _ => keeps_store L.l12 fun _ => keeps_load L.l11 fun _ => keeps_load L.l11 fun _ => keeps_load L.l12 fun _ => keeps_store L.l12 fun _ => keeps_load L.l11 fun _ => keeps_load L.l11 fun _ => keeps_pure _

theorem keeps_part420 : ∀ x0 x1 x2 x3 x4 x5 x6 x7, Keeps c bd H (k0_part420 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part420
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part421 : ∀ x0 x1 x2 x3 x4 x5 x6 x7, Keeps c bd H (k0_part421 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part421
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part422 : ∀ x0 x1 x2 x3 x4 x5 x6 x7 x8 x9, Keeps c bd H (k0_part422 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part422
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part423 : ∀ x0 x1 x2 x3 x4 x5 x6 x7, Keeps c bd H (k0_part423 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part423
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part424 : ∀ x0 x1 x2 x3 x4 x5 x6 x7, Keeps c bd H (k0_part424 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part424
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part425 : ∀ x0 x1 x2 x3 x4 x5 x6 x7 x8 x9, Keeps c bd H (k0_part425 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part425
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part426 : ∀ x0 x1 x2 x3 x4 x5 x6, Keeps c bd H (k0_part426 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part426
  exact keeps_load L.l11 fun _ => keeps_load L.l11 fun _ => keeps_load L.l12 fun _ => keeps_store L.l12 fun _ => keeps_load L.l11 fun _ => keeps_load L.l11 fun _ => keeps_pure _

theorem keeps_part427 : ∀ x0 x1 x2 x3 x4 x5, Keeps c bd H (k0_part427 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part427
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part428 : ∀ x0 x1 x2 x3 x4 x5, Keeps c bd H (k0_part428 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part428
  exact keeps_store L.l12 fun _ => keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part429 : ∀ x0 x1 x2 x3 x4 x5 x6 x7 x8 x9 x10 x11 x12 x13 x14 x15 x16 x17 x18 x19 x20, Keeps c bd H (k0_part429 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part429
  exact keeps_bind (keeps_part426 L _ _ _ _ _ _ _) fun _ => keeps_bind (keeps_part427 L _ _ _ _ _ _) fun _ => keeps_bind (keeps_part428 L _ _ _ _ _ _) fun _ => keeps_load L.l11 fun _ => keeps_load L.l12 fun _ => keeps_store L.l12 fun _ => keeps_load L.l11 fun _ => keeps_load L.l11 fun _ => keeps_load L.l12 fun _ => keeps_store L.l12 fun _ => keeps_bind (keeps_for fun _ _ => keeps_bind (keeps_part420 L _ _ _ _ _ _ _ _) fun _ => keeps_bind (keeps_part421 L _ _ _ _ _ _ _ _) fun _ => keeps_bind (keeps_part422 L _ _ _ _ _ _ _ _ _ _) fun _ => keeps_load L.l15 fun _ => keeps_load L.l15 fun _ => keeps_store L.l15 fun _ => keeps_pure _) fun _ => keeps_pure _

theorem keeps_part430 : ∀ x0 x1 x2 x3 x4 x5 x6 x7, Keeps c bd H (k0_part430 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part430
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part431 : ∀ x0 x1 x2 x3 x4 x5 x6 x7, Keeps c bd H (k0_part431 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part431
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part432 : ∀ x0 x1 x2 x3 x4 x5 x6 x7 x8 x9, Keeps c bd H (k0_part432 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part432
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part433 : ∀ x0 x1 x2 x3 x4 x5 x6 x7, Keeps c bd H (k0_part433 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part433
  exact keeps_load L.l7 fun _ => keeps_load L.l12 fun _ => keeps_load L.l15 fun _ => keeps_load L.l15 fun _ => keeps_store L.l15 fun _ => keeps_load L.l15 fun _ => keeps_load L.l15 fun _ => keeps_store L.l15 fun _ => keeps_load L.l7 fun _ => keeps_pure _

theorem keeps_part434 : ∀ x0 x1 x2 x3 x4 x5 x6 x7, Keeps c bd H (k0_part434 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) := by
  intros; unfold k0_part434
  exact keeps_load L.l12 fun _ => keeps_load L.l15 fun _ => keeps_load L.l15 fun _ => keeps_store L.l15 fun _ => keeps_load L.l15 fun _ => keeps_load L.l15 fun _ => keeps_store L.l15 fun _ => keeps_load L.l7 fun _ => keeps_load L.l12 fun _ => keeps_load L.l15 fun _ => keeps_pure _

theorem keeps_part435 : ∀ x0 x1 x2 x3 x4 x5 x6 x7 x8 x9, Keeps c bd H (k0_part435 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9) := by
  intros; unfold k0_part435
  exact keeps_load L.l15 fun _ => keeps_store L.l15 fun _ => keeps_load L.l15 fun _ => keeps_load L.l15 fun _ => keeps_store L.l15 fun _ => keeps_load L.l7 fun _ => keeps_load L.l12 fun _ => keeps_load L.l15 fun _ => keeps_load L.l15 fun _ => keeps_store L.l15 fun _ => keeps_pure _

theorem keeps_part436 : ∀ x0 x1 x2 x3 x4 x5 x6, Keeps c bd H (k0_part436 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part436
  exact keeps_load L.l11 fun _ => keeps_load L.l11 fun _ => keeps_load L.l12 fun _ => keeps_store L.l12 fun _ => keeps_load L.l11 fun _ => keeps_load L.l11 fun _ => keeps_pure _

theorem keeps_part437 : ∀ x0 x1 x2 x3 x4 x5, Keeps c bd H (k0_part437 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part437
  exact keeps_load L.l12 fun _ => keeps_store L.l12 fun _ => keeps_load L.l11 fun _ => keeps_load L.l11 fun _ => keeps_load L.l12 fun _ => keeps_store L.l12 fun _ => keeps_load L.l11 fun _ => keeps_load L.l11 fun _ => keeps_load L.l12 fun _ => keeps_pure _

theorem keeps_part438 : ∀ x0 x1 x2 x3 x4 x5, Keeps c bd H (k0_part438 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part438
  exact keeps_store L.l12 fun _ => keeps_load L.l11 fun _ => keeps_load L.l11 fun _ => keeps_load L.l12 fun _ => keeps_store L.l12 fun _ => keeps_load L.l11 fun _ => keeps_load L.l11 fun _ => keeps_load L.l12 fun _ => keeps_store L.l12 fun _ => keeps_load L.l11 fun _ => keeps_pure _

theorem keeps_part439 : ∀ x0 x1 x2 x3 x4 x5 x6 x7 x8 x9 x10 x11 x12 x13 x14 x15 x16 x17 x18 x19 x20, Keeps c bd H (k0_part439 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20) := by
  intros; unfold k0_part439
  exact keeps_bind (keeps_part436 L _ _ _ _ _ _ _) fun _ => keeps_bind (keeps_part437 L _ _ _ _ _ _) fun _ => keeps_bind (keeps_part438 L _ _ _ _ _ _) fun _ => keeps_load L.l11 fun _ => keeps_load L.l12 fun _ => keeps_store L.l12 fun _ => keeps_load L.l11 fun _ => keeps_load L.l11 fun _ => keeps_load L.l12 fun _ => keeps_store L.l12 fun _ => keeps_bind (keeps_for fun _ _ => keeps_bind (keeps_part430 L _ _ _ _ _ _ _ _) fun _ => keeps_bind (keeps_part431 L _ _ _ _ _ _ _ _) fun _ => keeps_bind (keeps_part432 L _ _ _ _ _ _ _ _ _ _) fun _ => keeps_load L.l15 fun _ => keeps_load L.l15 fun _ => keeps_store L.l15 fun _ => keeps_pure _) fun _ => keeps_pure _

theorem keeps_part440 : Keeps c bd H (k0_part440 (F := F) i arg2 harg2 arg3 harg3 arg4 harg4 arg5 harg5 arg6 harg6 arg7 harg7 arg8 harg8 arg9 harg9 arg10 harg10 arg11 harg11 arg12 harg12 arg13 harg13 arg14 harg14 arg15 harg15 ) := by
  unfold k0_part440
  exact keeps_load L.l2 fun _ => keeps_pure _

theorem keeps_part441 : ∀ x0 x1 x2, Keeps c bd H (k0_part441 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2) := by
  intros; unfold k0_part441
  exact keeps_load L.l13 fun _ => keeps_store L.l13 fun _ => keeps_load L.l4 fun _ => keeps_load L.l14 fun _ => keeps_store L.l14 fun _ => keeps_load L.l2 fun _ => keeps_load L.l13 fun _ => keeps_store L.l13 fun _ => keeps_pure _

theorem keeps_part442 : ∀ x0, Keeps c bd H (k0_part442 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part442
  exact keeps_load L.l4 fun _ => keeps_load L.l14 fun _ => keeps_store L.l14 fun _ => keeps_load L.l2 fun _ => keeps_load L.l13 fun _ => keeps_store L.l13 fun _ => keeps_load L.l4 fun _ => keeps_pure _

theorem keeps_part443 : ∀ x0 x1 x2 x3, Keeps c bd H (k0_part443 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  intros; unfold k0_part443
  exact keeps_load L.l14 fun _ => keeps_store L.l14 fun _ => keeps_load L.l2 fun _ => keeps_load L.l13 fun _ => keeps_store L.l13 fun _ => keeps_load L.l4 fun _ => keeps_load L.l14 fun _ => keeps_store L.l14 fun _ => keeps_pure _

theorem keeps_part444 : ∀ x0 x1, Keeps c bd H (k0_part444 (F := F) i arg2 harg2 arg3 harg3 arg4 harg4 arg5 harg5 arg6 harg6 arg7 harg7 arg8 harg8 arg9 harg9 arg10 harg10 arg11 harg11 arg12 harg12 arg13 harg13 arg14 harg14 arg15 harg15 x0 x1) := by
  intros; unfold k0_part444
  exact keeps_pure _

theorem keeps_part445 : ∀ x0 x1 x2 x3 x4 x5, Keeps c bd H (k0_part445 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part445
  exact keeps_load L.l10 fun _ => keeps_store L.l10 fun _ => keeps_bind (keeps_for fun _ _ => keeps_bind (keeps_part1 L _ _ _) fun _ => keeps_bind (keeps_part2 L _ _ _ _ _ _) fun _ => keeps_bind (keeps_part3 L _ _ _ _ _ _ _ _) fun _ => keeps_bind (keeps_part4 L _ _) fun _ => keeps_bind (keeps_part5 L _ _ _) fun _ => keeps_bind (keeps_part6 L _ _ _ _ _ _ _) fun _ => keeps_bind (keeps_part7 L _ _) fun _ => keeps_bind (keeps_part8 L _ _ _) fun _ => keeps_bind (keeps_part9 L _ _ _ _ _ _ _ _) fun _ => keeps_bind (keeps_part10 L _ _ _) fun _ => keeps_bind (keeps_part11 L _ _ _ _ _ _) fun _ => keeps_load L.l9 fun _ => keeps_store L.l9 fun _ => keeps_load L.l10 fun _ => keeps_load L.l10 fun _ => keeps_store L.l10 fun _ => keeps_pure _) fun _ => keeps_bind (keeps_for fun _ _ => keeps_bind (keeps_part12 L _ _ _) fun _ => keeps_bind (keeps_part13 L _ _ _ _ _ _) fun _ => keeps_bind (keeps_part14 L _ _ _ _ _ _ _ _) fun _ => keeps_bind (keeps_part15 L _ _) fun _ => keeps_bind (keeps_part16 L _ _ _) fun _ => keeps_bind (keeps_part17 L _ _ _ _ _ _ _) fun _ => keeps_bind (keeps_part18 L _ _) fun _ => keeps_bind (keeps_part19 L _ _ _) fun _ => keeps_bind (keeps_part20 L _ _ _ _ _ _ _ _) fun _ => keeps_bind (keeps_part21 L _ _ _) fun _ => keeps_bind (keeps_part22 L _ _ _ _ _ _) fun _ => keeps_load L.l9 fun _ => keeps_store L.l9 fun _ => keeps_load L.l10 fun _ => keeps_load L.l10 fun _ => keeps_store L.l10 fun _ => keeps_pure _) fun _ => keeps_bind (keeps_for fun _ _ => keeps_bind (keeps_part23 L _ _ _ _) fun _ => keeps_bind (keeps_part24 L _ _ _ _ _) fun _ => keeps_bind (keeps_part25 L _ _ _ _ _ _ _ _ _) fun _ => keeps_bind (keeps_part26 L) fun _ => keeps_bind (keeps_part27 L _ _ _ _) fun _ => keeps_load L.l3 fun _ => keeps_load L.l9 fun _ => keeps_store L.l9 fun _ => keeps_load L.l10 fun _ => keeps_load L.l10 fun _ => keeps_store L.l10 fun _ => keeps_pure _) fun _ => keeps_bind (keeps_for fun _ _ => keeps_bind (keeps_part28 L _ _ _ _) fun _ => keeps_bind (keeps_part29 L _ _ _ _ _) fun _ => keeps_bind (keeps_part30 L _ _ _ _ _ _ _ _ _) fun _ => keeps_bind (keeps_part31 L) fun _ => keeps_bind (keeps_part32 L _ _ _ _) fun _ => keeps_load L.l3 fun _ => keeps_load L.l9 fun _ => keeps_store L.l9 fun _ => keeps_load L.l10 fun _ => keeps_load L.l10 fun _ => keeps_store L.l10 fun _ => keeps_pure _) fun _ => keeps_load L.l10 fun _ => keeps_pure _

theorem keeps_part446 : ∀ x0 x1 x2 x3 x4 x5 x6 x7 x8 x9 x10 x11 x12 x13 x14 x15 x16 x17, Keeps c bd H (k0_part446 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17) := by
  intros; unfold k0_part446
  exact keeps_pure _

theorem keeps_part447 : ∀ x0 x1 x2 x3 x4 x5 x6 x7 x8 x9 x10 x11, Keeps c bd H (k0_part447 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) := by
  intros; unfold k0_part447
  exact keeps_pure _

end Cert.Proof.Attn

end
-- ==== Proof.AttnWhile.lean ====
/-
  The search's loop with a test reads one buffer, the keys', and runs while its counter is below 160; each trip adds
  two to the counter. So it ends, and it keeps what lends it that buffer.
-/
module

public import proofs.«01_k».proof.Proof.AttnKeep

@[expose] public section

noncomputable section

namespace Cert.Proof.Attn

open Cert.Kernel5

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]
variable {c : Dev nD} {bd : Option ℕ} {H : sProp (MT nD τ sig Unit (Elt F) ℕ (UR sig nD τ) ℕ)}
variable {i : grid0.Coords} {arg9 : Memref sig .tc .vmem S9216x256 .i32} {harg9 : arg9.IsWhole} (l9 : Lends H (arg9.view.loc (c : Thread nD τ)))
include l9

theorem keeps_part453 : ∀ x0 x1 x2 x3 x4 x5 x6 x7 x8 x9 x10 x11, Keeps c bd H (k0_part453 (F := F) i x0 arg9 harg9 x1 x2 x3 x4 x5 x6 x7 x8 x9 x10 x11) := by
  intros; unfold k0_part453
  exact keeps_load l9 fun _ => keeps_pure _

theorem keeps_part454 : ∀ x0 x1 x2 x3 x4 x5 x6 x7 x8 x9 x10 x11 x12 x13 x14 x15 x16 x17 x18 x19 x20 x21 x22 x23 x24 x25 x26 x27 x28 x29 x30 x31 x32 x33 x34 x35, Keeps c bd H (k0_part454 (F := F) i x0 arg9 harg9 x1 x2 x3 x4 x5 x6 x7 x8 x9 x10 x11 x12 x13 x14 x15 x16 x17 x18 x19 x20 x21 x22 x23 x24 x25 x26 x27 x28 x29 x30 x31 x32 x33 x34 x35) := by
  intros; unfold k0_part454
  exact keeps_load l9 fun _ => keeps_pure _

theorem keeps_part455 : ∀ x0 x1 x2 x3 x4 x5 x6 x7 x8 x9 x10 x11 x12 x13 x14 x15 x16 x17 x18 x19 x20 x21 x22 x23 x24 x25 x26 x27 x28 x29, Keeps c bd H (k0_part455 (F := F) i x0 arg9 harg9 x1 x2 x3 x4 x5 x6 x7 x8 x9 x10 x11 x12 x13 x14 x15 x16 x17 x18 x19 x20 x21 x22 x23 x24 x25 x26 x27 x28 x29) := by
  intros; unfold k0_part455
  exact keeps_load l9 fun _ => keeps_pure _

theorem keeps_part456 : ∀ x0 x1 x2 x3 x4 x5 x6 x7 x8 x9, Keeps c bd H (k0_part456 (F := F) i x0 arg9 harg9 x1 x2 x3 x4 x5 x6 x7 x8 x9) := by
  intros; unfold k0_part456
  exact keeps_pure _

theorem keeps_part457 : ∀ x0 x1 x2 x3 x4 x5 x6 x7 x8 x9 x10 x11 x12 x13 x14 x15 x16 x17 x18 x19 x20 x21, Keeps c bd H (k0_part457 (F := F) i x0 arg9 harg9 x1 x2 x3 x4 x5 x6 x7 x8 x9 x10 x11 x12 x13 x14 x15 x16 x17 x18 x19 x20 x21) := by
  intros; unfold k0_part457
  exact keeps_load l9 fun _ => keeps_pure _

theorem keeps_part458 : ∀ x0 x1 x2 x3 x4 x5 x6 x7 x8 x9 x10 x11, Keeps c bd H (k0_part458 (F := F) i x0 arg9 harg9 x1 x2 x3 x4 x5 x6 x7 x8 x9 x10 x11) := by
  intros; unfold k0_part458
  exact keeps_load l9 fun _ => keeps_pure _

theorem keeps_part459 : ∀ x0 x1 x2 x3 x4 x5 x6 x7 x8 x9 x10 x11 x12 x13 x14 x15 x16 x17 x18 x19 x20 x21 x22 x23 x24 x25 x26 x27 x28 x29 x30 x31 x32 x33 x34 x35, Keeps c bd H (k0_part459 (F := F) i x0 arg9 harg9 x1 x2 x3 x4 x5 x6 x7 x8 x9 x10 x11 x12 x13 x14 x15 x16 x17 x18 x19 x20 x21 x22 x23 x24 x25 x26 x27 x28 x29 x30 x31 x32 x33 x34 x35) := by
  intros; unfold k0_part459
  exact keeps_load l9 fun _ => keeps_pure _

theorem keeps_part460 : ∀ x0 x1 x2 x3 x4 x5 x6 x7 x8 x9 x10 x11 x12 x13 x14 x15 x16 x17 x18 x19 x20 x21 x22 x23 x24 x25 x26 x27 x28 x29, Keeps c bd H (k0_part460 (F := F) i x0 arg9 harg9 x1 x2 x3 x4 x5 x6 x7 x8 x9 x10 x11 x12 x13 x14 x15 x16 x17 x18 x19 x20 x21 x22 x23 x24 x25 x26 x27 x28 x29) := by
  intros; unfold k0_part460
  exact keeps_load l9 fun _ => keeps_pure _

theorem keeps_part461 : ∀ x0 x1 x2 x3 x4 x5 x6 x7 x8 x9, Keeps c bd H (k0_part461 (F := F) i x0 arg9 harg9 x1 x2 x3 x4 x5 x6 x7 x8 x9) := by
  intros; unfold k0_part461
  exact keeps_pure _

theorem keeps_part462 : ∀ x0 x1 x2 x3 x4 x5 x6 x7 x8 x9 x10 x11 x12 x13 x14 x15 x16 x17 x18 x19 x20 x21, Keeps c bd H (k0_part462 (F := F) i x0 arg9 harg9 x1 x2 x3 x4 x5 x6 x7 x8 x9 x10 x11 x12 x13 x14 x15 x16 x17 x18 x19 x20 x21) := by
  intros; unfold k0_part462
  exact keeps_load l9 fun _ => keeps_pure _

theorem keeps_part463 : ∀ x0 x1 x2 x3 x4 x5 x6 x7 x8 x9 x10 x11, Keeps c bd H (k0_part463 (F := F) i x0 arg9 harg9 x1 x2 x3 x4 x5 x6 x7 x8 x9 x10 x11) := by
  intros; unfold k0_part463
  exact keeps_load l9 fun _ => keeps_pure _

theorem keeps_part464 : ∀ x0 x1 x2 x3 x4 x5 x6 x7 x8 x9 x10 x11, Keeps c bd H (k0_part464 (F := F) i x0 arg9 harg9 x1 x2 x3 x4 x5 x6 x7 x8 x9 x10 x11) := by
  intros; unfold k0_part464
  exact keeps_load l9 fun _ => keeps_pure _

theorem keeps_part465 : ∀ x0 x1 x2 x3 x4 x5 x6 x7 x8 x9 x10 x11, Keeps c bd H (k0_part465 (F := F) i x0 arg9 harg9 x1 x2 x3 x4 x5 x6 x7 x8 x9 x10 x11) := by
  intros; unfold k0_part465
  exact keeps_load l9 fun _ => keeps_pure _

theorem keeps_part466 : ∀ x0 x1 x2 x3 x4 x5 x6 x7 x8 x9 x10 x11 x12 x13 x14 x15 x16 x17 x18 x19 x20 x21 x22 x23 x24 x25 x26 x27 x28 x29 x30 x31 x32 x33 x34 x35, Keeps c bd H (k0_part466 (F := F) i x0 arg9 harg9 x1 x2 x3 x4 x5 x6 x7 x8 x9 x10 x11 x12 x13 x14 x15 x16 x17 x18 x19 x20 x21 x22 x23 x24 x25 x26 x27 x28 x29 x30 x31 x32 x33 x34 x35) := by
  intros; unfold k0_part466
  exact keeps_load l9 fun _ => keeps_pure _

theorem keeps_part467 : ∀ x0 x1 x2 x3 x4 x5 x6 x7 x8 x9 x10 x11 x12 x13 x14 x15 x16 x17 x18 x19 x20 x21 x22 x23 x24 x25 x26 x27 x28 x29, Keeps c bd H (k0_part467 (F := F) i x0 arg9 harg9 x1 x2 x3 x4 x5 x6 x7 x8 x9 x10 x11 x12 x13 x14 x15 x16 x17 x18 x19 x20 x21 x22 x23 x24 x25 x26 x27 x28 x29) := by
  intros; unfold k0_part467
  exact keeps_load l9 fun _ => keeps_pure _

theorem keeps_part468 : ∀ x0 x1 x2 x3 x4 x5 x6 x7 x8 x9, Keeps c bd H (k0_part468 (F := F) i x0 arg9 harg9 x1 x2 x3 x4 x5 x6 x7 x8 x9) := by
  intros; unfold k0_part468
  exact keeps_pure _

theorem keeps_part469 : ∀ x0 x1 x2 x3 x4 x5 x6 x7 x8 x9 x10 x11 x12 x13 x14 x15 x16 x17 x18 x19 x20 x21, Keeps c bd H (k0_part469 (F := F) i x0 arg9 harg9 x1 x2 x3 x4 x5 x6 x7 x8 x9 x10 x11 x12 x13 x14 x15 x16 x17 x18 x19 x20 x21) := by
  intros; unfold k0_part469
  exact keeps_load l9 fun _ => keeps_pure _

theorem keeps_part470 : ∀ x0 x1 x2 x3 x4 x5 x6 x7 x8 x9 x10 x11, Keeps c bd H (k0_part470 (F := F) i x0 arg9 harg9 x1 x2 x3 x4 x5 x6 x7 x8 x9 x10 x11) := by
  intros; unfold k0_part470
  exact keeps_load l9 fun _ => keeps_pure _

theorem keeps_part471 : ∀ x0 x1 x2 x3 x4 x5 x6 x7 x8 x9 x10 x11 x12 x13 x14 x15 x16 x17 x18 x19 x20 x21 x22 x23 x24 x25 x26 x27 x28 x29 x30 x31 x32 x33 x34 x35, Keeps c bd H (k0_part471 (F := F) i x0 arg9 harg9 x1 x2 x3 x4 x5 x6 x7 x8 x9 x10 x11 x12 x13 x14 x15 x16 x17 x18 x19 x20 x21 x22 x23 x24 x25 x26 x27 x28 x29 x30 x31 x32 x33 x34 x35) := by
  intros; unfold k0_part471
  exact keeps_load l9 fun _ => keeps_pure _

theorem keeps_part472 : ∀ x0 x1 x2 x3 x4 x5 x6 x7 x8 x9 x10 x11 x12 x13 x14 x15 x16 x17 x18 x19 x20 x21 x22 x23 x24 x25 x26 x27 x28 x29, Keeps c bd H (k0_part472 (F := F) i x0 arg9 harg9 x1 x2 x3 x4 x5 x6 x7 x8 x9 x10 x11 x12 x13 x14 x15 x16 x17 x18 x19 x20 x21 x22 x23 x24 x25 x26 x27 x28 x29) := by
  intros; unfold k0_part472
  exact keeps_load l9 fun _ => keeps_pure _

theorem keeps_part473 : ∀ x0 x1 x2 x3 x4 x5 x6 x7 x8 x9, Keeps c bd H (k0_part473 (F := F) i x0 arg9 harg9 x1 x2 x3 x4 x5 x6 x7 x8 x9) := by
  intros; unfold k0_part473
  exact keeps_pure _

theorem keeps_part474 : ∀ x0 x1 x2 x3 x4 x5 x6 x7 x8 x9 x10 x11 x12 x13 x14 x15 x16 x17 x18 x19 x20 x21, Keeps c bd H (k0_part474 (F := F) i x0 arg9 harg9 x1 x2 x3 x4 x5 x6 x7 x8 x9 x10 x11 x12 x13 x14 x15 x16 x17 x18 x19 x20 x21) := by
  intros; unfold k0_part474
  exact keeps_load l9 fun _ => keeps_pure _

theorem keeps_part475 : ∀ x0 x1 x2 x3 x4 x5 x6 x7 x8 x9 x10 x11, Keeps c bd H (k0_part475 (F := F) i x0 arg9 harg9 x1 x2 x3 x4 x5 x6 x7 x8 x9 x10 x11) := by
  intros; unfold k0_part475
  exact keeps_load l9 fun _ => keeps_pure _

theorem keeps_part476 : ∀ x0 x1 x2 x3 x4 x5 x6 x7 x8 x9 x10 x11, Keeps c bd H (k0_part476 (F := F) i x0 arg9 harg9 x1 x2 x3 x4 x5 x6 x7 x8 x9 x10 x11) := by
  intros; unfold k0_part476
  exact keeps_load l9 fun _ => keeps_pure _

theorem keeps_part477 : ∀ x0 x1 x2 x3 x4 x5 x6 x7, Keeps c bd H (k0_part477 (F := F) i x0 arg9 harg9 x1 x2 x3 x4 x5 x6 x7) := by
  intros; unfold k0_part477
  exact keeps_pure _

theorem keeps_part478 : ∀ x0 x1 x2 x3 x4 x5 x6 x7 x8 x9 x10, Keeps c bd H (k0_part478 (F := F) i x0 arg9 harg9 x1 x2 x3 x4 x5 x6 x7 x8 x9 x10) := by
  intros; unfold k0_part478
  exact keeps_pure _

theorem keeps_part479 : ∀ x0 x1 x2 x3 x4 x5 x6 x7 x8 x9 x10, Keeps c bd H (k0_part479 (F := F) i x0 arg9 harg9 x1 x2 x3 x4 x5 x6 x7 x8 x9 x10) := by
  intros; unfold k0_part479
  exact keeps_bind (keeps_for fun _ _ => keeps_bind (keeps_part453 l9 _ _ _ _ _ _ _ _ _ _ _ _) fun _ => keeps_bind (keeps_part454 l9 _ _ _ _ _ _ _ _ _ _ _ _ _ _ _ _ _ _ _ _ _ _ _ _ _ _ _ _ _ _ _ _ _ _ _ _) fun _ => keeps_bind (keeps_part455 l9 _ _ _ _ _ _ _ _ _ _ _ _ _ _ _ _ _ _ _ _ _ _ _ _ _ _ _ _ _ _) fun _ => keeps_bind (keeps_part456 l9 _ _ _ _ _ _ _ _ _ _) fun _ => keeps_bind (keeps_part457 l9 _ _ _ _ _ _ _ _ _ _ _ _ _ _ _ _ _ _ _ _ _ _) fun _ => keeps_pure _) fun _ => keeps_bind (keeps_for fun _ _ => keeps_bind (keeps_part458 l9 _ _ _ _ _ _ _ _ _ _ _ _) fun _ => keeps_bind (keeps_part459 l9 _ _ _ _ _ _ _ _ _ _ _ _ _ _ _ _ _ _ _ _ _ _ _ _ _ _ _ _ _ _ _ _ _ _ _ _) fun _ => keeps_bind (keeps_part460 l9 _ _ _ _ _ _ _ _ _ _ _ _ _ _ _ _ _ _ _ _ _ _ _ _ _ _ _ _ _ _) fun _ => keeps_bind (keeps_part461 l9 _ _ _ _ _ _ _ _ _ _) fun _ => keeps_bind (keeps_part462 l9 _ _ _ _ _ _ _ _ _ _ _ _ _ _ _ _ _ _ _ _ _ _) fun _ => keeps_pure _) fun _ => keeps_bind (keeps_for fun _ _ => keeps_bind (keeps_part463 l9 _ _ _ _ _ _ _ _ _ _ _ _) fun _ => keeps_pure _) fun _ => keeps_bind (keeps_for fun _ _ => keeps_bind (keeps_part464 l9 _ _ _ _ _ _ _ _ _ _ _ _) fun _ => keeps_pure _) fun _ => keeps_pure _

theorem keeps_part480 : ∀ x0 x1 x2 x3 x4 x5 x6 x7 x8 x9, Keeps c bd H (k0_part480 (F := F) i x0 arg9 harg9 x1 x2 x3 x4 x5 x6 x7 x8 x9) := by
  intros; unfold k0_part480
  exact keeps_pure _

theorem keeps_part481 : ∀ x0 x1 x2 x3 x4 x5 x6 x7 x8 x9 x10 x11 x12 x13 x14, Keeps c bd H (k0_part481 (F := F) i x0 arg9 harg9 x1 x2 x3 x4 x5 x6 x7 x8 x9 x10 x11 x12 x13 x14) := by
  intros; unfold k0_part481
  exact keeps_pure _

theorem keeps_part482 : ∀ x0 x1 x2 x3 x4 x5 x6 x7 x8 x9 x10 x11 x12 x13 x14 x15 x16, Keeps c bd H (k0_part482 (F := F) i x0 arg9 harg9 x1 x2 x3 x4 x5 x6 x7 x8 x9 x10 x11 x12 x13 x14 x15 x16) := by
  intros; unfold k0_part482
  exact keeps_bind (keeps_for fun _ _ => keeps_bind (keeps_part465 l9 _ _ _ _ _ _ _ _ _ _ _ _) fun _ => keeps_bind (keeps_part466 l9 _ _ _ _ _ _ _ _ _ _ _ _ _ _ _ _ _ _ _ _ _ _ _ _ _ _ _ _ _ _ _ _ _ _ _ _) fun _ => keeps_bind (keeps_part467 l9 _ _ _ _ _ _ _ _ _ _ _ _ _ _ _ _ _ _ _ _ _ _ _ _ _ _ _ _ _ _) fun _ => keeps_bind (keeps_part468 l9 _ _ _ _ _ _ _ _ _ _) fun _ => keeps_bind (keeps_part469 l9 _ _ _ _ _ _ _ _ _ _ _ _ _ _ _ _ _ _ _ _ _ _) fun _ => keeps_pure _) fun _ => keeps_bind (keeps_for fun _ _ => keeps_bind (keeps_part470 l9 _ _ _ _ _ _ _ _ _ _ _ _) fun _ => keeps_bind (keeps_part471 l9 _ _ _ _ _ _ _ _ _ _ _ _ _ _ _ _ _ _ _ _ _ _ _ _ _ _ _ _ _ _ _ _ _ _ _ _) fun _ => keeps_bind (keeps_part472 l9 _ _ _ _ _ _ _ _ _ _ _ _ _ _ _ _ _ _ _ _ _ _ _ _ _ _ _ _ _ _) fun _ => keeps_bind (keeps_part473 l9 _ _ _ _ _ _ _ _ _ _) fun _ => keeps_bind (keeps_part474 l9 _ _ _ _ _ _ _ _ _ _ _ _ _ _ _ _ _ _ _ _ _ _) fun _ => keeps_pure _) fun _ => keeps_pure _

omit l9

/-- A call of the loop, entered below the bound in force, and what its function keeps. -/
theorem keeps_call {a : (Λ₀ F).Args 1} (v : ℕ) (hv : ∀ u ∈ bd, v < u) (h : Keeps c (some v) H (defs₀ (F := F) .tc 1 a)) :
    Keeps c bd H (Prog.lift (.call (1 : (Λ₀ F).Label) a)) := by
  unfold Keeps at *
  simp only [Prog.lift]
  iintro H
  iapply (wp_call 𝒱₀ (c : Thread nD τ) bd Set.univ v hv)
  iapply (wp_wand_r frame (wpE (defs₀ (F := F)) 𝒱₀ (c : Thread nD τ) (some v)) Set.univ)
  isplitl [H]
  · iapply h; iexact H
  · iintro %x H
    rw [wp_ret]
    imodintro
    iexact H

/-- The signed order on words. -/
theorem slt_iff {x y : BitVec 32} (h : Scalar.cmpi .slt x y = 1#1) : x.toInt < y.toInt := by
  simp only [Scalar.cmpi, IntOp.cmpi, BitVec.slt] at h
  by_contra hn
  simp [hn] at h

/-- A conjunction of two bits that holds has both. -/
theorem andi_left {x y : BitVec 1} (h : Scalar.andi x y = 1#1) : x = 1#1 := by
  revert x y; decide

/-- Two more, from below 160. -/
theorem toInt_two {x : BitVec 32} (h : x.toInt < 160) : (Scalar.addi (Scalar.addi x 1#32) 1#32).toInt = x.toInt + 2 := by
  have h1 : Scalar.addi (Scalar.addi x 1#32) 1#32 = x + 2#32 := by
    show x + 1#32 + 1#32 = x + 2#32
    rw [BitVec.add_assoc]; rfl
  rw [h1, BitVec.toInt_add]
  have h2 : (2#32 : BitVec 32).toInt = 2 := by decide
  have h3 : -2147483648 ≤ x.toInt := BitVec.le_toInt x
  rw [h2]
  exact Int.bmod_eq_of_le (by omega) (by omega)

/-- A program that returns a value at once goes on with it. -/
theorem keeps_ret {α β : Type} {x : α} {k : α → Prog (TpuEff nD τ sig (Elt F) (Λ₀ F) .tc) β} (h : Keeps c bd H (k x)) :
    Keeps c bd H (pure x >>= k) := h

include l9

/-- The function of the loop, entered with the counter at most `n` short of 160. -/
theorem keeps_while1 (n : ℕ) : ∀ (x0 : IVec S1x256 1) (x1 : IVec S256x256 32) (x : BitVec 32) (y1 y2 : IVec S1x256 32)
    (y3 y4 : FVec F S1x256 .f32) (y5 : F .f32), 160 ≤ x.toInt + n →
    Keeps c (some n) H (cc0_while1 (F := F) i x0 arg9 harg9 x1 x y1 y2 y3 y4 y5) := by
  induction n with
  | zero =>
    intro x0 x1 x y1 y2 y3 y4 y5 hx
    unfold cc0_while1
    refine keeps_dite (fun h => ?_) (fun _ => keeps_pure _)
    have h' := slt_iff (andi_left h)
    have h2 : (160#32 : BitVec 32).toInt = 160 := by decide
    omega
  | succ n ih =>
    intro x0 x1 x y1 y2 y3 y4 y5 hx
    unfold cc0_while1
    refine keeps_dite (fun h => ?_) (fun _ => keeps_pure _)
    have h' := slt_iff (andi_left h)
    have h2 : (160#32 : BitVec 32).toInt = 160 := by decide
    rw [h2] at h'
    refine keeps_bind (keeps_part477 l9 _ _ _ _ _ _ _ _) fun _ => keeps_bind (keeps_part478 l9 _ _ _ _ _ _ _ _ _ _ _) fun _ =>
      keeps_bind (keeps_part479 l9 _ _ _ _ _ _ _ _ _ _ _) fun _ => ?_
    unfold k0_part480
    refine keeps_ret ?_
    refine keeps_bind (keeps_part481 l9 _ _ _ _ _ _ _ _ _ _ _ _ _ _ _) fun _ => keeps_bind (keeps_part482 l9 _ _ _ _ _ _ _ _ _ _ _ _ _ _ _ _ _) fun _ =>
      keeps_bind (keeps_for fun _ _ => keeps_bind (keeps_part475 l9 _ _ _ _ _ _ _ _ _ _ _ _) fun _ => keeps_pure _) fun _ =>
      keeps_bind (keeps_for fun _ _ => keeps_bind (keeps_part476 l9 _ _ _ _ _ _ _ _ _ _ _ _) fun _ => keeps_pure _) fun _ => ?_
    refine keeps_call n (fun u hu => by cases hu; exact Nat.lt_succ_self n) ?_
    refine ih _ _ _ _ _ _ _ _ ?_
    have h3 := toInt_two h'
    omega

/-- A call of the loop from where no bound is in force. -/
theorem keeps_while : ∀ (x0 : IVec S1x256 1) (x1 : IVec S256x256 32) (x : BitVec 32) (y1 y2 : IVec S1x256 32)
    (y3 y4 : FVec F S1x256 .f32) (y5 : F .f32),
    Keeps c none H (Prog.lift (.call (1 : (Λ₀ F).Label) ⟨i, x0, arg9, harg9, x1, x, y1, y2, y3, y4, y5⟩)) := by
  intro x0 x1 x y1 y2 y3 y4 y5
  refine keeps_call (160 - x.toInt).toNat (fun u hu => nomatch hu) ?_
  exact keeps_while1 l9 _ _ _ _ _ _ _ _ _ (by omega)

end Cert.Proof.Attn

end
-- ==== Proof.AttnBody.lean ====
/-
  The attention's body as a whole, from its last parts and the search's loop with a test, keeps what lends it its
  fourteen buffers.
-/
module

public import proofs.«01_k».proof.Proof.AttnPartsD
public import proofs.«01_k».proof.Proof.AttnWhile

@[expose] public section

noncomputable section

namespace Cert.Proof.Attn

open Cert.Kernel5

open Idealize.ShloMosaic
open Idealize.ShloMosaic.TcCoe
open Idealize.SL Idealize.SL.RA Idealize.SL.BI
open Idealize.SL.Sem
open Idealize.ShloMosaic.Rounds

variable {F : FTy → Type} [BitOps F] [Facts]
variable {c : Dev nD} {H : sProp (MT nD τ sig Unit (Elt F) ℕ (UR sig nD τ) ℕ)}
variable {i : grid0.Coords} {arg2 : Memref sig .tc .vmem S1x256x512 .bf16} {harg2 : arg2.IsWhole} {arg3 : Memref sig .tc .vmem S1x8x256 .f32} {harg3 : arg3.IsWhole}
  {arg4 : Memref sig .tc .vmem S1x256x512 .bf16} {harg4 : arg4.IsWhole} {arg5 : Memref sig .tc .vmem S1x9216x128 .bf16} {harg5 : arg5.IsWhole}
  {arg6 : Memref sig .tc .vmem S1x9216x256 .bf16} {harg6 : arg6.IsWhole} {arg7 : Memref sig .tc .vmem S1x160x9216 .bf16} {harg7 : arg7.IsWhole}
  {arg8 : Memref sig .tc .vmem S1x256x512 .bf16} {harg8 : arg8.IsWhole} {arg9 : Memref sig .tc .vmem S9216x256 .i32} {harg9 : arg9.IsWhole}
  {arg10 : Memref sig .tc .vmem S256x256 .i32} {harg10 : arg10.IsWhole} {arg11 : Memref sig .tc .vmem S4x1024x512 .f32} {harg11 : arg11.IsWhole}
  {arg12 : Memref sig .tc .vmem S4x1024x512 .bf16} {harg12 : arg12.IsWhole} {arg13 : Memref sig .tc .vmem S4x128x512 .bf16} {harg13 : arg13.IsWhole}
  {arg14 : Memref sig .tc .vmem S4x128x512 .bf16} {harg14 : arg14.IsWhole} {arg15 : Memref sig .tc .vmem S4x80x512 .f32} {harg15 : arg15.IsWhole}
  (L : Lent c H arg2 arg3 arg4 arg5 arg6 arg7 arg8 arg9 arg10 arg11 arg12 arg13 arg14 arg15)
include L

theorem keeps_part448 : ∀ x0 x1 x2 x3 x4 x5, Keeps c none H (k0_part448 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  intros; unfold k0_part448
  exact keeps_bind (keeps_for fun _ _ => keeps_bind (keeps_part57 L _ _ _ _ _ _ _ _) fun _ => keeps_bind (keeps_part58 L _ _ _ _ _ _) fun _ => keeps_bind (keeps_part59 L _ _ _ _ _ _ _ _ _) fun _ => keeps_bind (keeps_part60 L _ _ _ _ _ _ _ _ _ _) fun _ => keeps_bind (keeps_part61 L _ _ _ _ _ _ _ _ _) fun _ => keeps_bind (keeps_part62 L _ _ _ _ _ _ _ _ _ _ _) fun _ => keeps_bind (keeps_for fun _ _ => keeps_bind (keeps_part50 L _ _ _ _ _) fun _ => keeps_bind (keeps_part51 L _ _ _ _ _ _ _ _ _ _ _ _ _ _ _ _ _ _ _ _ _ _ _ _ _ _ _ _ _) fun _ => keeps_bind (keeps_part52 L _ _ _ _ _ _ _ _ _ _ _ _ _ _ _ _ _ _ _ _ _ _ _) fun _ => keeps_bind (keeps_part53 L _ _) fun _ => keeps_bind (keeps_part54 L _ _ _ _ _ _ _ _ _ _ _ _ _ _ _) fun _ => keeps_pure _) fun _ => keeps_bind (keeps_for fun _ _ => keeps_bind (keeps_part55 L _ _ _ _ _) fun _ => keeps_pure _) fun _ => keeps_bind (keeps_for fun _ _ => keeps_bind (keeps_part56 L _ _ _ _ _) fun _ => keeps_pure _) fun _ => keeps_pure _) fun _ => keeps_bind (keeps_while L.l9 _ _ _ _ _ _ _ _) fun _ => keeps_ite (keeps_bind (keeps_part67 L _ _ _ _ _) fun _ => keeps_bind (keeps_for fun _ _ => keeps_load L.l9 fun _ => keeps_load L.l9 fun _ => keeps_store L.l9 fun _ => keeps_pure _) fun _ => keeps_bind (keeps_for fun _ _ => keeps_load L.l9 fun _ => keeps_load L.l9 fun _ => keeps_store L.l9 fun _ => keeps_pure _) fun _ => keeps_load L.l15 fun _ => keeps_pure _) (keeps_load L.l15 fun _ => keeps_pure _)

theorem keeps_part449 : ∀ x0 x1 x2 x3 x4 x5 x6, Keeps c none H (k0_part449 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) := by
  intros; unfold k0_part449
  exact keeps_store L.l15 fun _ => keeps_bind (keeps_for fun _ _ => keeps_bind (keeps_part112 L _ _ _ _ _ _ _ _ _ _ _) fun _ => keeps_pure _) fun _ => keeps_bind (keeps_for fun _ _ => keeps_bind (keeps_part157 L _ _ _ _ _ _ _ _ _ _ _) fun _ => keeps_pure _) fun _ => keeps_bind (keeps_for fun _ _ => keeps_bind (keeps_part216 L _ _ _ _ _ _ _ _ _ _ _ _ _ _ _ _ _ _ _ _ _) fun _ => keeps_pure _) fun _ => keeps_bind (keeps_for fun _ _ => keeps_bind (keeps_part275 L _ _ _ _ _ _ _ _ _ _ _ _ _ _ _ _ _ _ _ _ _) fun _ => keeps_pure _) fun _ => keeps_bind (keeps_for fun _ _ => keeps_bind (keeps_part282 L _ _ _ _ _ _ _) fun _ => keeps_bind (keeps_part283 L _ _) fun _ => keeps_bind (keeps_part284 L _ _ _ _ _ _ _ _ _ _ _ _ _ _ _ _ _ _ _ _ _ _ _ _ _ _ _ _ _ _ _) fun _ => keeps_bind (keeps_part285 L _ _ _ _ _ _ _ _ _ _ _ _ _ _ _ _ _ _ _ _ _ _ _ _ _ _ _) fun _ => keeps_bind (keeps_part286 L _ _ _) fun _ => keeps_bind (keeps_part287 L _ _ _ _ _ _ _ _ _ _ _ _ _ _ _ _ _ _ _ _ _ _ _ _ _ _ _ _ _ _ _) fun _ => keeps_bind (keeps_part288 L _ _ _ _ _ _ _ _ _ _ _ _ _ _ _ _ _) fun _ => keeps_bind (keeps_part289 L _ _ _ _) fun _ => keeps_bind (keeps_part290 L _ _ _ _ _ _ _ _ _ _ _ _ _ _ _ _ _ _ _ _ _ _) fun _ => keeps_bind (keeps_part291 L _ _ _ _ _ _ _) fun _ => keeps_bind (keeps_part292 L _ _ _ _) fun _ => keeps_bind (keeps_part293 L _ _ _ _ _ _ _ _ _ _ _ _ _) fun _ => keeps_bind (keeps_part294 L _) fun _ => keeps_bind (keeps_part295 L _ _ _ _ _ _ _ _ _ _ _ _ _) fun _ => keeps_bind (keeps_part296 L _ _) fun _ => keeps_bind (keeps_part297 L _ _ _ _ _ _ _ _ _ _ _ _ _ _ _ _ _ _ _ _ _ _) fun _ => keeps_bind (keeps_part298 L _ _ _ _ _ _ _ _ _ _ _ _ _ _ _ _ _ _ _ _ _ _ _ _ _ _ _ _ _ _ _ _ _ _ _ _) fun _ => keeps_bind (keeps_part299 L _ _) fun _ => keeps_bind (keeps_part300 L _ _ _ _ _ _ _ _ _ _ _ _ _ _ _ _ _ _ _ _ _ _ _ _ _ _ _ _ _ _ _) fun _ => keeps_bind (keeps_part301 L _ _ _ _ _ _ _ _ _ _ _ _ _ _ _ _ _ _ _ _ _ _ _ _ _ _ _) fun _ => keeps_bind (keeps_part302 L _ _ _) fun _ => keeps_bind (keeps_part303 L _ _ _ _ _ _ _ _ _ _ _ _ _ _ _ _ _ _ _ _ _ _ _ _ _ _ _ _ _ _ _) fun _ => keeps_bind (keeps_part304 L _ _ _ _ _ _ _ _ _ _ _ _ _ _ _ _ _) fun _ => keeps_bind (keeps_part305 L _ _ _ _) fun _ => keeps_bind (keeps_part306 L _ _ _ _ _ _ _ _ _ _ _ _ _ _ _ _ _ _ _ _ _ _) fun _ => keeps_bind (keeps_part307 L _ _ _ _ _ _ _) fun _ => keeps_bind (keeps_part308 L _ _ _ _ _) fun _ => keeps_bind (keeps_part309 L _ _ _ _ _ _) fun _ => keeps_bind (keeps_part310 L _ _ _ _ _ _) fun _ => keeps_bind (keeps_part311 L _ _ _ _ _ _ _ _ _ _ _ _ _ _ _ _ _ _ _ _ _ _ _ _) fun _ => keeps_pure _) fun _ => keeps_bind (keeps_for fun _ _ => keeps_bind (keeps_part318 L _ _ _ _ _ _ _) fun _ => keeps_bind (keeps_part319 L _ _) fun _ => keeps_bind (keeps_part320 L _ _ _ _ _ _ _ _ _ _ _ _ _ _ _ _ _ _ _ _ _ _ _ _ _ _ _ _ _ _ _) fun _ => keeps_bind (keeps_part321 L _ _ _ _ _ _ _ _ _ _ _ _ _ _ _ _ _ _ _ _ _ _ _ _ _ _ _) fun _ => keeps_bind (keeps_part322 L _ _ _) fun _ => keeps_bind (keeps_part323 L _ _ _ _ _ _ _ _ _ _ _ _ _ _ _ _ _ _ _ _ _ _ _ _ _ _ _ _ _ _ _) fun _ => keeps_bind (keeps_part324 L _ _ _ _ _ _ _ _ _ _ _ _ _ _ _ _ _) fun _ => keeps_bind (keeps_part325 L _ _ _ _) fun _ => keeps_bind (keeps_part326 L _ _ _ _ _ _ _ _ _ _ _ _ _ _ _ _ _ _ _ _ _ _) fun _ => keeps_bind (keeps_part327 L _ _ _ _ _ _ _) fun _ => keeps_bind (keeps_part328 L _ _ _ _) fun _ => keeps_bind (keeps_part329 L _ _ _ _ _ _ _ _ _ _ _ _ _) fun _ => keeps_bind (keeps_part330 L _) fun _ => keeps_bind (keeps_part331 L _ _ _ _ _ _ _ _ _ _ _ _ _) fun _ => keeps_bind (keeps_part332 L _ _) fun _ => keeps_bind (keeps_part333 L _ _ _ _ _ _ _ _ _ _ _ _ _ _ _ _ _ _ _ _ _ _) fun _ => keeps_bind (keeps_part334 L _ _ _ _ _ _ _ _ _ _ _ _ _ _ _ _ _ _ _ _ _ _ _ _ _ _ _ _ _ _ _ _ _ _ _ _) fun _ => keeps_bind (keeps_part335 L _ _) fun _ => keeps_bind (keeps_part336 L _ _ _ _ _ _ _ _ _ _ _ _ _ _ _ _ _ _ _ _ _ _ _ _ _ _ _ _ _ _ _) fun _ => keeps_bind (keeps_part337 L _ _ _ _ _ _ _ _ _ _ _ _ _ _ _ _ _ _ _ _ _ _ _ _ _ _ _) fun _ => keeps_bind (keeps_part338 L _ _ _) fun _ => keeps_bind (keeps_part339 L _ _ _ _ _ _ _ _ _ _ _ _ _ _ _ _ _ _ _ _ _ _ _ _ _ _ _ _ _ _ _) fun _ => keeps_bind (keeps_part340 L _ _ _ _ _ _ _ _ _ _ _ _ _ _ _ _ _) fun _ => keeps_bind (keeps_part341 L _ _ _ _) fun _ => keeps_bind (keeps_part342 L _ _ _ _ _ _ _ _ _ _ _ _ _ _ _ _ _ _ _ _ _ _) fun _ => keeps_bind (keeps_part343 L _ _ _ _ _ _ _) fun _ => keeps_bind (keeps_part344 L _ _ _ _ _) fun _ => keeps_bind (keeps_part345 L _ _ _ _ _ _) fun _ => keeps_bind (keeps_part346 L _ _ _ _ _ _) fun _ => keeps_bind (keeps_part347 L _ _ _ _ _ _ _ _ _ _ _ _ _ _ _ _ _ _ _ _ _ _ _ _) fun _ => keeps_pure _) fun _ => keeps_pure _

theorem keeps_part450 : ∀ x0 x1 x2 x3 x4 x5 x6 x7 x8 x9 x10 x11 x12 x13 x14 x15 x16 x17 x18 x19 x20 x21 x22, Keeps c none H (k0_part450 (F := F) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 x15 x16 x17 x18 x19 x20 x21 x22) := by
  intros; unfold k0_part450
  exact keeps_bind (keeps_for fun _ _ => keeps_bind (keeps_part348 L _ _ _ _ _) fun _ => keeps_bind (keeps_part349 L _ _ _) fun _ => keeps_bind (keeps_part350 L _ _ _ _ _) fun _ => keeps_bind (keeps_part351 L _ _ _ _ _ _ _ _ _ _ _ _ _ _ _ _ _ _) fun _ => keeps_bind (keeps_part352 L _ _ _ _ _ _ _ _ _ _ _ _ _ _ _ _ _ _ _ _ _ _ _) fun _ => keeps_bind (keeps_part353 L _ _ _ _ _ _ _ _ _) fun _ => keeps_bind (keeps_part354 L _ _) fun _ => keeps_bind (keeps_part355 L _ _ _ _ _ _ _ _ _ _ _ _ _ _ _ _ _ _ _ _ _ _ _ _ _ _ _ _ _ _ _) fun _ => keeps_bind (keeps_part356 L _ _ _ _ _ _ _ _ _ _ _ _ _ _ _ _ _ _ _ _ _ _ _ _ _ _ _) fun _ => keeps_bind (keeps_part357 L _) fun _ => keeps_bind (keeps_part358 L _ _ _ _ _ _ _ _ _ _ _ _ _ _) fun _ => keeps_bind (keeps_part359 L _ _ _ _ _ _ _ _ _ _ _ _ _ _ _ _ _ _ _ _ _ _ _ _ _ _ _) fun _ => keeps_bind (keeps_part360 L _) fun _ => keeps_bind (keeps_part361 L _ _ _ _ _ _ _ _ _ _ _ _) fun _ => keeps_bind (keeps_part362 L _ _ _ _ _ _ _ _ _ _ _ _ _ _ _ _ _ _ _ _ _ _ _ _ _) fun _ => keeps_bind (keeps_part363 L _ _ _ _ _ _ _ _ _ _ _ _ _ _ _ _) fun _ => keeps_bind (keeps_part364 L _ _) fun _ => keeps_bind (keeps_part365 L _ _ _ _ _ _ _ _) fun _ => keeps_bind (keeps_part366 L _ _ _ _ _ _ _ _ _ _ _ _ _ _ _ _ _ _ _ _ _ _ _ _ _ _ _ _ _ _ _ _ _) fun _ => keeps_bind (keeps_part367 L _ _ _ _ _ _ _ _ _ _ _ _ _ _ _ _ _ _ _) fun _ => keeps_bind (keeps_part368 L _ _) fun _ => keeps_bind (keeps_part369 L _ _ _ _ _ _ _ _ _ _ _ _ _ _ _ _ _ _ _ _ _) fun _ => keeps_bind (keeps_part370 L _ _ _ _ _ _ _ _ _ _ _ _ _ _ _ _ _ _ _ _ _ _ _ _ _ _ _ _ _ _ _ _ _ _ _ _ _ _ _ _ _ _ _ _ _ _) fun _ => keeps_pure _) fun _ => keeps_bind (keeps_for fun _ _ => keeps_bind (keeps_part371 L _ _ _ _ _) fun _ => keeps_bind (keeps_part372 L _ _ _) fun _ => keeps_bind (keeps_part373 L _ _ _ _ _) fun _ => keeps_bind (keeps_part374 L _ _ _ _ _ _ _ _ _ _ _ _ _ _ _ _ _ _) fun _ => keeps_bind (keeps_part375 L _ _ _ _ _ _ _ _ _ _ _ _ _ _ _ _ _ _ _ _ _ _ _) fun _ => keeps_bind (keeps_part376 L _ _ _ _ _ _ _ _ _) fun _ => keeps_bind (keeps_part377 L _ _) fun _ => keeps_bind (keeps_part378 L _ _ _ _ _ _ _ _ _ _ _ _ _ _ _ _ _ _ _ _ _ _ _ _ _ _ _ _ _ _ _) fun _ => keeps_bind (keeps_part379 L _ _ _ _ _ _ _ _ _ _ _ _ _ _ _ _ _ _ _ _ _ _ _ _ _ _ _) fun _ => keeps_bind (keeps_part380 L _) fun _ => keeps_bind (keeps_part381 L _ _ _ _ _ _ _ _ _ _ _ _ _ _) fun _ => keeps_bind (keeps_part382 L _ _ _ _ _ _ _ _ _ _ _ _ _ _ _ _ _ _ _ _ _ _ _ _ _ _ _) fun _ => keeps_bind (keeps_part383 L _) fun _ => keeps_bind (keeps_part384 L _ _ _ _ _ _ _ _ _ _ _ _) fun _ => keeps_bind (keeps_part385 L _ _ _ _ _ _ _ _ _ _ _ _ _ _ _ _ _ _ _ _ _ _ _ _ _) fun _ => keeps_bind (keeps_part386 L _ _ _ _ _ _ _ _ _ _ _ _ _ _ _ _) fun _ => keeps_bind (keeps_part387 L _ _) fun _ => keeps_bind (keeps_part388 L _ _ _ _ _ _ _ _) fun _ => keeps_bind (keeps_part389 L _ _ _ _ _ _ _ _ _ _ _ _ _ _ _ _ _ _ _ _ _ _ _ _ _ _ _ _ _ _ _ _ _) fun _ => keeps_bind (keeps_part390 L _ _ _ _ _ _ _ _ _ _ _ _ _ _ _ _ _ _ _) fun _ => keeps_bind (keeps_part391 L _ _) fun _ => keeps_bind (keeps_part392 L _ _ _ _ _ _ _ _ _ _ _ _ _ _ _ _ _ _ _ _ _) fun _ => keeps_bind (keeps_part393 L _ _ _ _ _ _ _ _ _ _ _ _ _ _ _ _ _ _ _ _ _ _ _ _ _ _ _ _ _ _ _ _ _ _ _ _ _ _ _ _ _ _ _ _ _ _) fun _ => keeps_pure _) fun _ => keeps_bind (keeps_for fun _ _ => keeps_bind (keeps_part400 L _ _ _ _ _ _ _) fun _ => keeps_bind (keeps_part401 L _ _ _ _ _ _) fun _ => keeps_bind (keeps_part402 L _ _ _ _ _ _) fun _ => keeps_bind (keeps_part403 L _ _ _ _ _ _) fun _ => keeps_bind (keeps_part404 L _ _ _ _ _ _ _) fun _ => keeps_bind (keeps_part405 L _ _ _ _ _ _) fun _ => keeps_bind (keeps_part406 L _ _ _ _ _ _) fun _ => keeps_load L.l12 fun _ => keeps_store L.l12 fun _ => keeps_bind (keeps_for fun _ _ => keeps_bind (keeps_part394 L _ _ _ _ _ _ _ _ _) fun _ => keeps_bind (keeps_part395 L _ _ _ _ _ _ _ _ _) fun _ => keeps_bind (keeps_part396 L _ _ _ _ _ _ _ _ _ _ _) fun _ => keeps_load L.l15 fun _ => keeps_load L.l15 fun _ => keeps_store L.l15 fun _ => keeps_pure _) fun _ => keeps_bind (keeps_for fun _ _ => keeps_bind (keeps_part397 L _ _ _ _ _ _ _ _ _) fun _ => keeps_bind (keeps_part398 L _ _ _ _ _ _ _ _ _ _) fun _ => keeps_bind (keeps_part399 L _ _ _ _ _ _ _ _ _ _ _ _) fun _ => keeps_load L.l15 fun _ => keeps_load L.l15 fun _ => keeps_store L.l15 fun _ => keeps_pure _) fun _ => keeps_pure _) fun _ => keeps_bind (keeps_for fun _ _ => keeps_bind (keeps_part413 L _ _ _ _ _ _ _) fun _ => keeps_bind (keeps_part414 L _ _ _ _ _ _) fun _ => keeps_bind (keeps_part415 L _ _ _ _ _ _) fun _ => keeps_bind (keeps_part416 L _ _ _ _ _ _) fun _ => keeps_bind (keeps_part417 L _ _ _ _ _ _ _) fun _ => keeps_bind (keeps_part418 L _ _ _ _ _ _) fun _ => keeps_bind (keeps_part419 L _ _ _ _ _ _) fun _ => keeps_load L.l12 fun _ => keeps_store L.l12 fun _ => keeps_bind (keeps_for fun _ _ => keeps_bind (keeps_part407 L _ _ _ _ _ _ _ _ _) fun _ => keeps_bind (keeps_part408 L _ _ _ _ _ _ _ _ _) fun _ => keeps_bind (keeps_part409 L _ _ _ _ _ _ _ _ _ _ _) fun _ => keeps_load L.l15 fun _ => keeps_load L.l15 fun _ => keeps_store L.l15 fun _ => keeps_pure _) fun _ => keeps_bind (keeps_for fun _ _ => keeps_bind (keeps_part410 L _ _ _ _ _ _ _ _ _) fun _ => keeps_bind (keeps_part411 L _ _ _ _ _ _ _ _ _ _) fun _ => keeps_bind (keeps_part412 L _ _ _ _ _ _ _ _ _ _ _ _) fun _ => keeps_load L.l15 fun _ => keeps_load L.l15 fun _ => keeps_store L.l15 fun _ => keeps_pure _) fun _ => keeps_pure _) fun _ => keeps_bind (keeps_for fun _ _ => keeps_bind (keeps_part429 L _ _ _ _ _ _ _ _ _ _ _ _ _ _ _ _ _ _ _ _ _) fun _ => keeps_bind (keeps_for fun _ _ => keeps_bind (keeps_part423 L _ _ _ _ _ _ _ _) fun _ => keeps_bind (keeps_part424 L _ _ _ _ _ _ _ _) fun _ => keeps_bind (keeps_part425 L _ _ _ _ _ _ _ _ _ _) fun _ => keeps_load L.l15 fun _ => keeps_load L.l15 fun _ => keeps_store L.l15 fun _ => keeps_pure _) fun _ => keeps_pure _) fun _ => keeps_bind (keeps_for fun _ _ => keeps_bind (keeps_part439 L _ _ _ _ _ _ _ _ _ _ _ _ _ _ _ _ _ _ _ _ _) fun _ => keeps_bind (keeps_for fun _ _ => keeps_bind (keeps_part433 L _ _ _ _ _ _ _ _) fun _ => keeps_bind (keeps_part434 L _ _ _ _ _ _ _ _) fun _ => keeps_bind (keeps_part435 L _ _ _ _ _ _ _ _ _ _) fun _ => keeps_load L.l15 fun _ => keeps_load L.l15 fun _ => keeps_store L.l15 fun _ => keeps_pure _) fun _ => keeps_pure _) fun _ => keeps_load L.l15 fun _ => keeps_load L.l15 fun _ => keeps_load L.l15 fun _ => keeps_load L.l15 fun _ => keeps_pure _

theorem keeps_part451 : ∀ x0, Keeps c none H (k0_part451 (F := F) i arg2 harg2 arg3 harg3 arg4 harg4 arg5 harg5 arg6 harg6 arg7 harg7 arg8 harg8 arg9 harg9 arg10 harg10 arg11 harg11 arg12 harg12 arg13 harg13 arg14 harg14 arg15 harg15 x0) := by
  intros; unfold k0_part451
  exact keeps_load L.l8 fun _ => keeps_store L.l8 fun _ => keeps_load L.l15 fun _ => keeps_load L.l15 fun _ => keeps_load L.l15 fun _ => keeps_load L.l15 fun _ => keeps_load L.l8 fun _ => keeps_store L.l8 fun _ => keeps_load L.l15 fun _ => keeps_load L.l15 fun _ => keeps_load L.l15 fun _ => keeps_pure _

theorem keeps_part452 : Keeps c none H (k0_part452 (F := F) i arg2 harg2 arg3 harg3 arg4 harg4 arg5 harg5 arg6 harg6 arg7 harg7 arg8 harg8 arg9 harg9 arg10 harg10 arg11 harg11 arg12 harg12 arg13 harg13 arg14 harg14 arg15 harg15 ) := by
  unfold k0_part452
  exact keeps_bind (keeps_part440 L) fun _ => keeps_bind (keeps_part441 L _ _ _) fun _ => keeps_bind (keeps_part442 L _) fun _ => keeps_bind (keeps_part443 L _ _ _ _) fun _ => keeps_bind (keeps_part444 L _ _) fun _ => keeps_bind (keeps_part445 L _ _ _ _ _ _) fun _ => keeps_bind (keeps_part446 L _ _ _ _ _ _ _ _ _ _ _ _ _ _ _ _ _ _) fun _ => keeps_bind (keeps_part447 L _ _ _ _ _ _ _ _ _ _ _ _) fun _ => keeps_bind (keeps_part448 L _ _ _ _ _ _) fun _ => keeps_bind (keeps_part449 L _ _ _ _ _ _ _) fun _ => keeps_bind (keeps_part450 L _ _ _ _ _ _ _ _ _ _ _ _ _ _ _ _ _ _ _ _ _ _ _) fun _ => keeps_bind (keeps_part451 L _) fun _ => keeps_load L.l15 fun _ => keeps_load L.l8 fun _ => keeps_store L.l8 fun _ => keeps_load L.l15 fun _ => keeps_load L.l15 fun _ => keeps_load L.l15 fun _ => keeps_load L.l15 fun _ => keeps_load L.l8 fun _ => keeps_pure _

theorem keeps_body : Keeps c none H (cc0_dsa_attn (F := F) i arg2 harg2 arg3 harg3 arg4 harg4 arg5 harg5 arg6 harg6 arg7 harg7 arg8 harg8 arg9 harg9 arg10 harg10 arg11 harg11 arg12 harg12 arg13 harg13 arg14 harg14 arg15 harg15 ) := by
  unfold cc0_dsa_attn
  exact keeps_bind (keeps_part452 L) fun _ => keeps_store L.l8 fun _ => keeps_pure _

end Cert.Proof.Attn

end
-- ==== Proof.AttnFrame.lean ====
/-
  The sparse attention's frame: the launch runs to its end on every core, the nine argument arrays are left as they
  were and every counter ends at zero.

  The body keeps what lends it its fourteen buffers (`keeps_body`); here what lends them is everything the pipeline
  hands the body at a point: the seven scratch arrays and the generator's register, the counters it owes, and the
  seven windows' current buffers, each at some contents.  So nothing is said of what the body computes.
-/
module

public import proofs.«01_k».proof.Proof.AttnBody
public import proofs.«01_k».proof.Proof.Gen.Kernel5
public import proofs.«01_k».proof.Proof.Gen.Kernel5.Launch
public import proofs.«01_k».proof.Proof.Gen.Kernel5.Points
public import Idealize.ShloMosaic.Lib.Pipeline.FrameBody
public import Idealize.ShloMosaic.Lib.Claim
public import Idealize.ShloMosaic.Lib.Tactic

@[expose] public section

noncomputable section

namespace Cert.Proof.Attn

open Cert.Kernel5 Cert.Kernel5.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F]

local notation "𝕄" => MT nD τ sig Unit (Elt F) ℕ (UR sig nD τ) ℕ

/-! ## What lends a buffer -/

section Lending

variable {A B : sProp (MT nD τ sig Unit (Elt F) ℕ (UR sig nD τ) ℕ)} {ℓ : Loc nD τ sig}

/-- A buffer held whole at some contents is lent by just that. -/
theorem lends_here : Lends (F := F) iprop(∃ f : Buf (Elt F) ℓ, ℓ ↦{fullShare} f) ℓ := by
  unfold Lends
  iintro ⟨%f, H⟩
  iexists f
  isplitl [H]; · iexact H
  iintro %g H
  iexists g
  iexact H

/-- What the left part lends, the whole lends. -/
theorem lends_left (h : Lends A ℓ) : Lends iprop(A ∗ B) ℓ := by
  unfold Lends at *
  iintro ⟨HA, HB⟩
  ihave H := h $$ HA
  icases H with ⟨%f, H, Hk⟩
  iexists f
  isplitl [H]; · iexact H
  iintro %g H
  isplitr [HB]
  · iapply Hk $$ H
  · iexact HB

/-- What the right part lends, the whole lends. -/
theorem lends_right (h : Lends B ℓ) : Lends iprop(A ∗ B) ℓ := by
  unfold Lends at *
  iintro ⟨HA, HB⟩
  ihave H := h $$ HB
  icases H with ⟨%f, H, Hk⟩
  iexists f
  isplitl [H]; · iexact H
  iintro %g H
  isplitl [HA]; · iexact HA
  iapply Hk $$ H

end Lending

/-- A memref owned at some contents. -/
def held (c : Dev nD) {s : Shape} {e : EltTy} (b : Memref sig .tc .vmem s e) : sProp 𝕄 :=
  iprop(∃ X, owns (c : Thread nD τ) b fullShare X)

/-- A whole memref owned at some contents lends its buffer. -/
theorem lends_held (c : Dev nD) {s : Shape} {e : EltTy} {b : Memref sig .tc .vmem s e} (hb : b.IsWhole) :
    Lends (held (F := F) c b) (b.view.loc (c : Thread nD τ)) := by
  unfold held
  rw [hb.exists_owns_eq]
  exact lends_here

/-! ## The body at a point -/

variable (m : (ℓ : Loc nD τ sig) → Buf (Elt F) ℓ) (ρ : Dev nD → PrngReg)

/-- Core `c`'s buffers as the launch finds them: after the host's operations. -/
abbrev V (c : Dev nD) (b : Ref sig .tc) : Buf (Elt F) ((c : Thread nD τ).loc b) :=
  StableHlo.after hostOps0 (fun b => m (c, b)) b

/-- The launch's proof data: the arrays as the host left them, the body free to leave anything in any buffer. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

/-- Everything the body is handed at point `t`. -/
def around (c : Dev nD) (t : Fin (cfg0 (F := F)).N) : sProp 𝕄 :=
  iprop((rdat m c).Φ t.castSucc ∗ (rdat m c).owesAt () t.castSucc
    ∗ held c (st0_0 t) ∗ held c (st0_1 t) ∗ held c (st0_2 t) ∗ held c (st0_3 t) ∗ held c (st0_4 t) ∗ held c (st0_5 t)
    ∗ held c (st0_6 t))

/-- The launch's own part holds the seven scratch arrays. -/
theorem rdat_scratch (c : Dev nD) (t : Fin ((cfg0 (F := F)).N + 1)) :
    (rdat m c).Φ t = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f))
      ∗ ∃ r, prngReg c r) := by
  show Pipeline.ΦA spec0 c = _
  unfold Pipeline.ΦA
  rw [scopedRest0_eq]

/-- What the body is handed lends it its fourteen buffers. -/
theorem lent (c : Dev nD) (t : Fin (cfg0 (F := F)).N) :
    Lent c (around m c t) (st0_0 t) (st0_1 t) (st0_2 t) (st0_3 t) (st0_4 t) (st0_5 t) (st0_6 t)
      (Memref.whole cc0_scratch0) (Memref.whole cc0_scratch1) (Memref.whole cc0_scratch2) (Memref.whole cc0_scratch3)
      (Memref.whole cc0_scratch4) (Memref.whole cc0_scratch5) (Memref.whole cc0_scratch6) := by
  unfold around
  rw [rdat_scratch]
  constructor
  · exact lends_right (lends_right (lends_left (lends_held c (stage_whole0 0 _))))
  · exact lends_right (lends_right (lends_right (lends_left (lends_held c (stage_whole0 1 _)))))
  · exact lends_right (lends_right (lends_right (lends_right (lends_left (lends_held c (stage_whole0 2 _))))))
  · exact lends_right (lends_right (lends_right (lends_right (lends_right (lends_left (lends_held c (stage_whole0 3 _)))))))
  · exact lends_right (lends_right (lends_right (lends_right (lends_right (lends_right (lends_left (lends_held c (stage_whole0 4 _))))))))
  · exact lends_right (lends_right (lends_right (lends_right (lends_right (lends_right (lends_right (lends_left (lends_held c (stage_whole0 5 _)))))))))
  · exact lends_right (lends_right (lends_right (lends_right (lends_right (lends_right (lends_right (lends_right (lends_held c (stage_whole0 6 _)))))))))
  · exact lends_left (lends_left (lends_left lends_here))
  · exact lends_left (lends_left (lends_right (lends_left lends_here)))
  · exact lends_left (lends_left (lends_right (lends_right (lends_left lends_here))))
  · exact lends_left (lends_left (lends_right (lends_right (lends_right (lends_left lends_here)))))
  · exact lends_left (lends_left (lends_right (lends_right (lends_right (lends_right (lends_left lends_here))))))
  · exact lends_left (lends_left (lends_right (lends_right (lends_right (lends_right (lends_right (lends_left lends_here)))))))
  · exact lends_left (lends_left (lends_right (lends_right (lends_right (lends_right (lends_right (lends_right lends_here)))))))

/-- The body at a point keeps everything it is handed. -/
theorem body_keeps (c : Dev nD) (t : Fin (cfg0 (F := F)).N) : Keeps c none (around m c t) (bodyAt0 t) :=
  keeps_body (lent m c t)

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- A memref owned at given contents is owned at some. -/
theorem held_of (c : Dev nD) {s : Shape} {e : EltTy} (b : Memref sig .tc .vmem s e) (X : s.Idx → Elt F e) :
    (owns (c : Thread nD τ) b fullShare X : sProp 𝕄) ⊢ held c b := by
  unfold held
  iintro H
  iexists X
  iexact H

/-- A memref owned at some contents is owned at contents of which nothing is asked. -/
theorem held_any (c : Dev nD) {s : Shape} {e : EltTy} (b : Memref sig .tc .vmem s e) :
    (held c b : sProp 𝕄) ⊢ iprop(∃ X, ⌜True⌝ ∗ owns (c : Thread nD τ) b fullShare X) := by
  unfold held
  iintro ⟨%X, H⟩
  iexists X
  isplitr; · ipureintro; trivial
  iexact H

/-- What is asked of the body at every point. -/
theorem body_obliged (c : Dev nD) : (rdat m c).BodyObligation (defs₀ (F := F)) 𝒱₀ () Set.univ := fun t Y _ => by
  rw [bigSep_W0, bigSep_W0, body_row]
  refine triple_restated (body_keeps m c t) rfl ?_ fun _ => ?_
  · exact BI.sep_mono (BI.Entails.refl _) (BI.sep_mono (BI.Entails.refl _) (BI.sep_mono (held_of c (st0_0 t) (Y 0)) (BI.sep_mono (held_of c (st0_1 t) (Y 1)) (
      BI.sep_mono (held_of c (st0_2 t) (Y 2)) (BI.sep_mono (held_of c (st0_3 t) (Y 3)) (
      BI.sep_mono (held_of c (st0_4 t) (Y 4)) (BI.sep_mono (held_of c (st0_5 t) (Y 5)) (
      held_of c (st0_6 t) (Y 6)))))))))
  · exact BI.sep_mono (BI.Entails.refl _) (BI.sep_mono (BI.Entails.refl _) (BI.sep_mono (held_any c (st0_0 t)) (BI.sep_mono (held_any c (st0_1 t)) (
      BI.sep_mono (held_any c (st0_2 t)) (BI.sep_mono (held_any c (st0_3 t)) (
      BI.sep_mono (held_any c (st0_4 t)) (BI.sep_mono (held_any c (st0_5 t)) (
      held_any c (st0_6 t)))))))))

/-! ## The launch -/

theorem ops_fresh : (hostOps0 : List (HloOp τ sig (Elt F))).Forall fun op => op.fresh = ∅ := by
  simp only [List.Forall]; repeat' constructor

set_option maxHeartbeats 800000 in
/-- The program up to the launch: the host's operations, then the region. -/
theorem up_to_launch (𝒱 : Variants) :
    Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub ops_fresh main_chain

set_option backward.isDefEq.respectTransparency.types false in
set_option maxHeartbeats 800000 in
/-- The launch runs to its end, every other array is as the host left it and every counter is zero. -/
theorem run : θ_run defs (onTc (τ := τ) (main (F := F))) (s₀ m ρ)
    (fun r => RDat.FramePost (cfg0 (F := F)) (rdat m) (V m) r ∧ r.2.sem = fun _ => 0) :=
  Pipeline.RDat.θ_run_frame (Q' := _) cfgs (0 : Fin 1) launch0 defs₀ 𝒱₀ (rdat m) m ρ main
    (hbody := fun c => body_obliged m c) (hshare := fun c w => by unfold RDat.share; split <;> rfl)
    (howed := fun _ _ => rfl) (V := V m) (hmain := up_to_launch m 𝒱₀) (hA := by intros; rfl) (hΦ := fun _ _ => rfl)

/-- The host's operations leave `main_arg0` alone. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg1` alone. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg2` alone. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg3` alone. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg4` alone. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg5` alone. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg6` alone. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg7` alone. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The host's operations leave `main_arg8` alone. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The frame: from any memory with zero counters the program runs to its end, leaves its nine argument arrays as they
    were and every counter at zero. -/
theorem frame : θ_run defs (onTc (τ := τ) (main (F := F))) ⟨m, fun _ => 0, ρ⟩ (fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (show ∀ w : Fin 7, (spec0 w).arr.view.ref ≠ main_arg0 from by decide))).trans (V_arg0 m c),
      ((h.1 c).2 main_arg1 (Pipeline.mem_restRefs_of main_arg1 (by decide) (show ∀ w : Fin 7, (spec0 w).arr.view.ref ≠ main_arg1 from by decide))).trans (V_arg1 m c),
      ((h.1 c).2 main_arg2 (Pipeline.mem_restRefs_of main_arg2 (by decide) (show ∀ w : Fin 7, (spec0 w).arr.view.ref ≠ main_arg2 from by decide))).trans (V_arg2 m c),
      ((h.1 c).2 main_arg3 (Pipeline.mem_restRefs_of main_arg3 (by decide) (show ∀ w : Fin 7, (spec0 w).arr.view.ref ≠ main_arg3 from by decide))).trans (V_arg3 m c),
      ((h.1 c).2 main_arg4 (Pipeline.mem_restRefs_of main_arg4 (by decide) (show ∀ w : Fin 7, (spec0 w).arr.view.ref ≠ main_arg4 from by decide))).trans (V_arg4 m c),
      ((h.1 c).2 main_arg5 (Pipeline.mem_restRefs_of main_arg5 (by decide) (show ∀ w : Fin 7, (spec0 w).arr.view.ref ≠ main_arg5 from by decide))).trans (V_arg5 m c),
      ((h.1 c).2 main_arg6 (Pipeline.mem_restRefs_of main_arg6 (by decide) (show ∀ w : Fin 7, (spec0 w).arr.view.ref ≠ main_arg6 from by decide))).trans (V_arg6 m c),
      ((h.1 c).2 main_arg7 (Pipeline.mem_restRefs_of main_arg7 (by decide) (show ∀ w : Fin 7, (spec0 w).arr.view.ref ≠ main_arg7 from by decide))).trans (V_arg7 m c),
      ((h.1 c).2 main_arg8 (Pipeline.mem_restRefs_of main_arg8 (by decide) (show ∀ w : Fin 7, (spec0 w).arr.view.ref ≠ main_arg8 from by decide))).trans (V_arg8 m c)⟩, h.2⟩) (run m ρ)

end Cert.Proof.Attn

end
-- ==== Proof.MetaRef.lean ====
/-
  What the reference makes of 16 rows over the extended reals: their keys and the indexer's key, turned by the angle of the
  row's position, their values and the convolution's gated input, each at an index.
-/
module

public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference6Ideal.MetaRef

open Cert.Reference6Ideal Cert.Reference6Ideal.Gen

/-- The whole projection of the 16 rows. -/
def PROJ (X : FVec Ideal S16x1024 .f32) (W : FVec Ideal S1x1024x4936 .f32) : FVec Ideal S1x16x4936 .f32 :=
  Host.dotGeneral dot_S1x16x1024_S1024x4936_S1x16x4936_2_0_01_1_n_n none (broadcastInDim S1x16x1024 ![1, 2] bcast_S16x1024_S1x16x1024_1_2 X) (shapeCast _ W shapeCasts_S1x1024x4936_S1024x4936)

/-- The projection at an index. -/
theorem proj_at (X : FVec Ideal S16x1024 .f32) (W : FVec Ideal S1x1024x4936 .f32) (r : Fin 16) (l : Fin 4936) :
    PROJ X W (ix3 0 r l) = ∑ k : Fin 1024, X (ix2 r k) * W (ix3 0 k l) := by
  pointwise [PROJ]

/-- The angle of every position and frequency. -/
def ANG : FVec Ideal S16x32 .f32 :=
  mulf (broadcastInDim S16x32 ![0, 1] bcast_S16x1_S16x32_0_1 (broadcastInDim S16x1 ![0] bcast_S16_S16x1_0 (sitofp .f32 (iotaInDim S16 32 0)))) (broadcastInDim S16x32 ![0, 1] bcast_S1x32_S16x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A head of 64 turned by the angles `A`: element `d`. -/
def turn (A : Fin 32 → Ideal .f32) (P : Fin 64 → Ideal .f32) (d : Fin 64) : Ideal .f32 :=
  if h : d.val < 32 then P d * Ideal.cos (A ⟨d.val, h⟩) - P ⟨d.val + 32, by omega⟩ * Ideal.sin (A ⟨d.val, h⟩)
  else P d * Ideal.cos (A ⟨d.val - 32, by omega⟩) + P ⟨d.val - 32, by omega⟩ * Ideal.sin (A ⟨d.val - 32, by omega⟩)

/-- The rotation of 2 heads. -/
def ROT2 (x : FVec Ideal S1x16x2x64 .f32) : FVec Ideal S1x16x2x64 .f32 :=
  concatenate S1x16x2x64 3 [⟨S1x16x2x32, subf (mulf (extractStridedSlice S1x16x2x32 ![0, 0, 0, 0] x slices_S1x16x2x64_S1x16x2x32_0_0_0_0) (broadcastInDim S1x16x2x32 ![0, 1, 2, 3] bcast_S1x16x1x32_S1x16x2x32_0_1_2_3 (broadcastInDim S1x16x1x32 ![1, 2, 3] bcast_S16x1x32_S1x16x1x32_1_2_3 (broadcastInDim S16x1x32 ![0, 2] bcast_S16x32_S16x1x32_0_2 (Host.cos ANG))))) (mulf (extractStridedSlice S1x16x2x32 ![0, 0, 0, 32] x slices_S1x16x2x64_S1x16x2x32_0_0_0_32) (broadcastInDim S1x16x2x32 ![0, 1, 2, 3] bcast_S1x16x1x32_S1x16x2x32_0_1_2_3 (broadcastInDim S1x16x1x32 ![1, 2, 3] bcast_S16x1x32_S1x16x1x32_1_2_3 (broadcastInDim S16x1x32 ![0, 2] bcast_S16x32_S16x1x32_0_2 (Host.sin ANG)))))⟩,
    ⟨S1x16x2x32, addf (mulf (extractStridedSlice S1x16x2x32 ![0, 0, 0, 32] x slices_S1x16x2x64_S1x16x2x32_0_0_0_32) (broadcastInDim S1x16x2x32 ![0, 1, 2, 3] bcast_S1x16x1x32_S1x16x2x32_0_1_2_3 (broadcastInDim S1x16x1x32 ![1, 2, 3] bcast_S16x1x32_S1x16x1x32_1_2_3 (broadcastInDim S16x1x32 ![0, 2] bcast_S16x32_S16x1x32_0_2 (Host.cos ANG))))) (mulf (extractStridedSlice S1x16x2x32 ![0, 0, 0, 0] x slices_S1x16x2x64_S1x16x2x32_0_0_0_0) (broadcastInDim S1x16x2x32 ![0, 1, 2, 3] bcast_S1x16x1x32_S1x16x2x32_0_1_2_3 (broadcastInDim S1x16x1x32 ![1, 2, 3] bcast_S16x1x32_S1x16x1x32_1_2_3 (broadcastInDim S16x1x32 ![0, 2] bcast_S16x32_S16x1x32_0_2 (Host.sin ANG)))))⟩] concatenates_S1x16x2x32_S1x16x2x32_S1x16x2x64_d3

/-- A turned head. -/
theorem rot2_at (x : FVec Ideal S1x16x2x64 .f32) (s : Fin 16) (h : Fin 2) (d : Fin 64) :
    ROT2 x (ix4 0 s h d) = turn (fun i => ANG (ix2 s i)) (fun j => x (ix4 0 s h j)) d := by
  skip
  unfold turn
  pointwise [ROT2]
  by_cases hd : d.val < 32
  · rw [dif_pos hd, dif_pos hd]
    congr 2
    exact congrArg x (congrArg _ (Fin.ext (Nat.add_comm 32 d.val)))
  · rw [dif_neg hd, dif_neg hd]
    congr 2
    exact congrArg x (congrArg _ (Fin.ext (Nat.add_sub_of_le (Nat.le_of_not_lt hd))))

/-- The rotation of 1 head. -/
def ROT1 (x : FVec Ideal S1x16x1x64 .f32) : FVec Ideal S1x16x1x64 .f32 :=
  concatenate S1x16x1x64 3 [⟨S1x16x1x32, subf (mulf (extractStridedSlice S1x16x1x32 ![0, 0, 0, 0] x slices_S1x16x1x64_S1x16x1x32_0_0_0_0) (broadcastInDim S1x16x1x32 ![1, 2, 3] bcast_S16x1x32_S1x16x1x32_1_2_3 (broadcastInDim S16x1x32 ![0, 2] bcast_S16x32_S16x1x32_0_2 (Host.cos ANG)))) (mulf (extractStridedSlice S1x16x1x32 ![0, 0, 0, 32] x slices_S1x16x1x64_S1x16x1x32_0_0_0_32) (broadcastInDim S1x16x1x32 ![1, 2, 3] bcast_S16x1x32_S1x16x1x32_1_2_3 (broadcastInDim S16x1x32 ![0, 2] bcast_S16x32_S16x1x32_0_2 (Host.sin ANG))))⟩,
    ⟨S1x16x1x32, addf (mulf (extractStridedSlice S1x16x1x32 ![0, 0, 0, 32] x slices_S1x16x1x64_S1x16x1x32_0_0_0_32) (broadcastInDim S1x16x1x32 ![1, 2, 3] bcast_S16x1x32_S1x16x1x32_1_2_3 (broadcastInDim S16x1x32 ![0, 2] bcast_S16x32_S16x1x32_0_2 (Host.cos ANG)))) (mulf (extractStridedSlice S1x16x1x32 ![0, 0, 0, 0] x slices_S1x16x1x64_S1x16x1x32_0_0_0_0) (broadcastInDim S1x16x1x32 ![1, 2, 3] bcast_S16x1x32_S1x16x1x32_1_2_3 (broadcastInDim S16x1x32 ![0, 2] bcast_S16x32_S16x1x32_0_2 (Host.sin ANG))))⟩] concatenates_S1x16x1x32_S1x16x1x32_S1x16x1x64_d3

/-- A turned head. -/
theorem rot1_at (x : FVec Ideal S1x16x1x64 .f32) (s : Fin 16) (h : Fin 1) (d : Fin 64) :
    ROT1 x (ix4 0 s h d) = turn (fun i => ANG (ix2 s i)) (fun j => x (ix4 0 s h j)) d := by
  obtain rfl : h = 0 := Fin.ext (by omega)
  unfold turn
  pointwise [ROT1]
  by_cases hd : d.val < 32
  · rw [dif_pos hd, dif_pos hd]
    congr 2
    exact congrArg x (congrArg _ (Fin.ext (Nat.add_comm 32 d.val)))
  · rw [dif_neg hd, dif_neg hd]
    congr 2
    exact congrArg x (congrArg _ (Fin.ext (Nat.add_sub_of_le (Nat.le_of_not_lt hd))))

/-- The keys, each head twice. -/
def REFk (X : FVec Ideal S16x1024 .f32) (W : FVec Ideal S1x1024x4936 .f32) : FVec Ideal S16x256 .bf16 :=
  truncf .bf16 (shapeCast _ (concatenate S1x16x2x128 3
    [⟨S1x16x2x64, ROT2 (shapeCast _ (extractStridedSlice S1x16x128 ![0, 0, 512] (PROJ X W) slices_S1x16x4936_S1x16x128_0_0_512) shapeCasts_S1x16x128_S1x16x2x64)⟩,
     ⟨S1x16x2x64, ROT2 (shapeCast _ (extractStridedSlice S1x16x128 ![0, 0, 512] (PROJ X W) slices_S1x16x4936_S1x16x128_0_0_512) shapeCasts_S1x16x128_S1x16x2x64)⟩]
    concatenates_S1x16x2x64_S1x16x2x64_S1x16x2x128_d3) shapeCasts_S1x16x2x128_S16x256) bitsLt_bf16_f32

/-- The indexer's key, twice. -/
def REFki (X : FVec Ideal S16x1024 .f32) (W : FVec Ideal S1x1024x4936 .f32) : FVec Ideal S16x128 .bf16 :=
  truncf .bf16 (shapeCast _ (concatenate S1x16x1x128 3
    [⟨S1x16x1x64, ROT1 (broadcastInDim S1x16x1x64 ![0, 1, 3] bcast_S1x16x64_S1x16x1x64_0_1_3 (extractStridedSlice S1x16x64 ![0, 0, 1280] (PROJ X W) slices_S1x16x4936_S1x16x64_0_0_1280))⟩,
     ⟨S1x16x1x64, ROT1 (broadcastInDim S1x16x1x64 ![0, 1, 3] bcast_S1x16x64_S1x16x1x64_0_1_3 (extractStridedSlice S1x16x64 ![0, 0, 1280] (PROJ X W) slices_S1x16x4936_S1x16x64_0_0_1280))⟩]
    concatenates_S1x16x1x64_S1x16x1x64_S1x16x1x128_d3) shapeCasts_S1x16x1x128_S16x128) bitsLt_bf16_f32

/-- The values, each head twice. -/
def REFv (X : FVec Ideal S16x1024 .f32) (W : FVec Ideal S1x1024x4936 .f32) : FVec Ideal S16x256 .bf16 :=
  truncf .bf16 (shapeCast _ (concatenate S1x16x2x128 3
    [⟨S1x16x2x64, shapeCast _ (extractStridedSlice S1x16x128 ![0, 0, 640] (PROJ X W) slices_S1x16x4936_S1x16x128_0_0_640) shapeCasts_S1x16x128_S1x16x2x64⟩,
     ⟨S1x16x2x64, shapeCast _ (extractStridedSlice S1x16x128 ![0, 0, 640] (PROJ X W) slices_S1x16x4936_S1x16x128_0_0_640) shapeCasts_S1x16x128_S1x16x2x64⟩]
    concatenates_S1x16x2x64_S1x16x2x64_S1x16x2x128_d3) shapeCasts_S1x16x2x128_S16x256) bitsLt_bf16_f32

/-- The gate `c` times the convolution's input. -/
def REFcu (X : FVec Ideal S16x1024 .f32) (W : FVec Ideal S1x1024x4936 .f32) : FVec Ideal S16x512 .f32 :=
  shapeCast _ (mulf (extractStridedSlice S1x16x512 ![0, 0, 2376] (PROJ X W) slices_S1x16x4936_S1x16x512_0_0_2376) (extractStridedSlice S1x16x512 ![0, 0, 1352] (PROJ X W) slices_S1x16x4936_S1x16x512_0_0_1352)) shapeCasts_S1x16x512_S16x512

/-- The keys at an index. -/
theorem k_at (X : FVec Ideal S16x1024 .f32) (W : FVec Ideal S1x1024x4936 .f32) (r : Fin 16) (l : Fin 256) : REFk X W (ix2 r l)
    = turn (fun i => ANG (ix2 r i)) (fun j => PROJ X W (ix3 0 r ⟨512 + (l.val / 128 * 64 + j.val), by omega⟩)) ⟨l.val % 64, by omega⟩ := by
  pointwise [REFk]
  have hl := l.isLt
  by_cases hd : l.val % 128 < 64
  · rw [dif_pos hd]
    refine (rot2_at _ _ _ _).trans (congr (congrArg (fun P => turn _ P) (funext fun j => ?_)) (Fin.ext ?_))
    · pointwise
    · dsimp only; omega
  · rw [dif_neg hd]
    refine (rot2_at _ _ _ _).trans (congr (congrArg (fun P => turn _ P) (funext fun j => ?_)) (Fin.ext ?_))
    · pointwise
    · dsimp only; omega

/-- The indexer's key at an index. -/
theorem ki_at (X : FVec Ideal S16x1024 .f32) (W : FVec Ideal S1x1024x4936 .f32) (r : Fin 16) (l : Fin 128) : REFki X W (ix2 r l)
    = turn (fun i => ANG (ix2 r i)) (fun j => PROJ X W (ix3 0 r ⟨1280 + j.val, by omega⟩)) ⟨l.val % 64, by omega⟩ := by
  pointwise [REFki]
  have hl := l.isLt
  by_cases hd : l.val < 64
  · rw [dif_pos hd]
    refine (rot1_at _ _ _ _).trans (congr (congrArg (fun P => turn _ P) (funext fun j => ?_)) (Fin.ext ?_))
    · pointwise
    · dsimp only; omega
  · rw [dif_neg hd]
    refine (rot1_at _ _ _ _).trans (congr (congrArg (fun P => turn _ P) (funext fun j => ?_)) (Fin.ext ?_))
    · pointwise
    · dsimp only; omega

/-- The values at an index. -/
theorem v_at (X : FVec Ideal S16x1024 .f32) (W : FVec Ideal S1x1024x4936 .f32) (r : Fin 16) (l : Fin 256) : REFv X W (ix2 r l)
    = PROJ X W (ix3 0 r ⟨640 + (l.val / 128 * 64 + l.val % 64), by omega⟩) := by
  pointwise [REFv]
  have hl := l.isLt
  split <;> refine congrArg _ (congrArg _ (Fin.ext ?_)) <;> dsimp only <;> omega

/-- The convolution's gated input at an index. -/
theorem cu_at (X : FVec Ideal S16x1024 .f32) (W : FVec Ideal S1x1024x4936 .f32) (r : Fin 16) (l : Fin 512) : REFcu X W (ix2 r l)
    = PROJ X W (ix3 0 r ⟨2376 + l.val, by omega⟩) * PROJ X W (ix3 0 r ⟨1352 + l.val, by omega⟩) := by
  pointwise [REFcu]

end Cert.Reference6Ideal.MetaRef

end
-- ==== Proof.MetaBlocks.lean ====
/-
  What the two projection calls make of the meta tokens' 16 rows over the extended reals: their grids have one point each, so
  a block is the whole array. The keys and the indexer's key are turned two heads at a time from tables whose rows begin at
  position 0, the values and the gated input are products with ranges of the packed columns.
-/
module

public import proofs.«01_k».proof.Proof.Gen.Kernel6Ideal.Frame
public import proofs.«01_k».proof.Proof.MetaRef
public import proofs.«01_k».proof.Proof.RopeValue
public import proofs.«01_k».proof.Proof.GateValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.MetaValue

open Cert.Reference6Ideal.MetaRef Cert.Kernel6Ideal Cert.Kernel6Ideal.Gen
open Cert.Kernel4Ideal.RopeValue (spin bit select_bit COLS cols_k cols_ki cols_v KANG)

/-- A row times a packed column. -/
def dotc (x0 : FVec Ideal S16x1024 .f32) (x1 : FVec Ideal S1024x1792 .bf16) (r : Fin 16) (l : Fin 1792) : Ideal .f32 :=
  ∑ k : Fin 1024, x0 (ix2 r k) * x1 (ix2 k l)

/-- Two heads turned, from the products with the columns `L`. -/
theorem turned (x0 : FVec Ideal S16x1024 .f32) (x1 : FVec Ideal S1024x1792 .bf16) (x2 x3 : FVec Ideal S16x128 .f32) (r : Fin 16) (L : Fin 128 → Fin 1792) (x : S16x128.Idx) (j : Fin 128)
    (a b c : Fin 1792) (hx : x = ix2 r j) (ha : a = L j) (hb : b = L ⟨(j.val + 128 - 96) % 128, by omega⟩) (hc : c = L ⟨(j.val + 128 - 32) % 128, by omega⟩) :
    (∑ k : Fin 1024, x0 (ix2 (x 0) k) * x1 (ix2 k a)) * x2 x
      + Scalar.select (IntOp.cmpi .eq (IntOp.andi (BitVec.ofNat 32 (x 1).val) 32#32) 0#32) (∑ k : Fin 1024, x0 (ix2 (x 0) k) * x1 (ix2 k b))
          (∑ k : Fin 1024, x0 (ix2 (x 0) k) * x1 (ix2 k c)) * x3 x
    = spin (fun j => dotc x0 x1 r (L j)) (fun j => x2 (ix2 r j)) (fun j => x3 (ix2 r j)) j := by
  subst hx ha hb hc
  unfold spin dotc
  refine congrArg₂ (· + ·) rfl (congrArg₂ (· * ·) ?_ rfl)
  refine (congrArg (fun b => Scalar.select b _ _) (bit j)).trans ?_
  exact select_bit _ _ _

/-- The block of keys. -/
theorem out6_at (x0 : FVec Ideal S16x1024 .f32) (x1 : FVec Ideal S1024x1792 .bf16) (x2 x3 : FVec Ideal S16x128 .f32) (r : Fin 16) (l : Fin 256) : out0_6 (F := Ideal) x0 x1 x2 x3 (ix2 r l)
    = spin (fun j => dotc x0 x1 r ⟨1024 + (l.val / 128 * 128 + j.val), by omega⟩) (fun j => x2 (ix2 r j)) (fun j => x3 (ix2 r j)) ⟨l.val % 128, by omega⟩ := by
  frame_out
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  all_goals
    have e0 : r.val = (x 0).val := h0
    have h4 := l.isLt
  case' piece0 => have e1 : l.val = 128 + (x 1).val := h1
  case' piece1 => have e1 : l.val = (x 1).val := h1
  all_goals
    refine turned x0 x1 x2 x3 r (fun j => ⟨1024 + (l.val / 128 * 128 + j.val), by omega⟩) x ⟨l.val % 128, by omega⟩ _ _ _ ((eq_ix2 x).trans (congr (congrArg ix2 (Fin.ext e0.symm)) (Fin.ext (by dsimp only; omega)))) ?_ ?_ ?_
    all_goals (apply Fin.ext; dsimp only; omega)

/-- The block of the indexer's key. -/
theorem out7_at (x0 : FVec Ideal S16x1024 .f32) (x1 : FVec Ideal S1024x1792 .bf16) (x2 x3 : FVec Ideal S16x128 .f32) (r : Fin 16) (l : Fin 128) : out0_7 (F := Ideal) x0 x1 x2 x3 (ix2 r l)
    = spin (fun j => dotc x0 x1 r ⟨1280 + j.val, by omega⟩) (fun j => x2 (ix2 r j)) (fun j => x3 (ix2 r j)) ⟨l.val % 128, by omega⟩ := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  have h4 := l.isLt
  refine turned x0 x1 x2 x3 r (fun j => ⟨1280 + j.val, by omega⟩) (ix2 r l) ⟨l.val % 128, by omega⟩ _ _ _ (congrArg (ix2 r) (Fin.ext (by dsimp only; omega))) ?_ ?_ ?_
  all_goals (apply Fin.ext; dsimp only; omega)

/-- The block of values. -/
theorem out8_at (x0 : FVec Ideal S16x1024 .f32) (x1 : FVec Ideal S1024x1792 .bf16) (x2 x3 : FVec Ideal S16x128 .f32) (r : Fin 16) (l : Fin 256) : out0_8 (F := Ideal) x0 x1 x2 x3 (ix2 r l) = dotc x0 x1 r ⟨1408 + l.val, by omega⟩ := by
  frame_out
  unfold dotc
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]

/-- The block of gated inputs. -/
theorem gate_at (x : FVec Ideal S16x1024 .f32) (w : FVec Ideal S1024x1536 .bf16) (r : Fin 16) (l : Fin 512) :
    out1_2 (F := Ideal) x w (ix2 r l) = (∑ k : Fin 1024, x (ix2 r k) * w (ix2 k ⟨l.val, by omega⟩)) * ∑ k : Fin 1024, x (ix2 r k) * w (ix2 k ⟨512 + l.val, by omega⟩) := by
  frame_out
  pointwise [k1_pay2, k1_pay1]

/-- Two heads turned are each turned, when the tables hold the cosine and the signed sine of the angles `A`. -/
theorem spin_turn (Q C S : Fin 128 → Ideal .f32) (A : Fin 32 → Ideal .f32) (j : Fin 128) (P : Fin 64 → Ideal .f32) (d : Fin 64)
    (hC : ∀ j : Fin 128, C j = Ideal.cos (A ⟨j.val % 32, by omega⟩))
    (hS : ∀ j : Fin 128, S j = if j.val % 64 < 32 then -Ideal.sin (A ⟨j.val % 32, by omega⟩) else Ideal.sin (A ⟨j.val % 32, by omega⟩))
    (hP : ∀ e : Fin 64, Q ⟨j.val / 64 * 64 + e.val, by omega⟩ = P e) (hd : d.val = j.val % 64) : spin Q C S j = turn A P d := by
  have hj := j.isLt
  unfold spin turn
  have q0 : Q j = P d := by rw [← hP d]; exact congrArg Q (Fin.ext (by dsimp only; omega))
  rw [hC, hS, q0]
  by_cases h : j.val % 64 < 32
  · have hd' : d.val < 32 := by omega
    have ei : (⟨j.val % 32, by omega⟩ : Fin 32) = ⟨d.val, hd'⟩ := Fin.ext (by dsimp only; omega)
    have q1 : Q ⟨(j.val + 128 - 96) % 128, by omega⟩ = P ⟨d.val + 32, by omega⟩ := by
      rw [← hP]; exact congrArg Q (Fin.ext (by dsimp only; omega))
    rw [if_pos h, if_pos h, dif_pos hd', q1, ei, sub_eq_add_neg]
    exact congrArg (_ + ·) (mul_neg _ _)
  · have hd' : ¬ d.val < 32 := by omega
    have ei : (⟨j.val % 32, by omega⟩ : Fin 32) = ⟨d.val - 32, by omega⟩ := Fin.ext (by dsimp only; omega)
    have q1 : Q ⟨(j.val + 128 - 32) % 128, by omega⟩ = P ⟨d.val - 32, by omega⟩ := by
      rw [← hP]; exact congrArg Q (Fin.ext (by dsimp only; omega))
    rw [if_neg h, if_neg h, dif_neg hd', q1, ei]

/-- The first 16 rows of the table of cosines, four times over a row of 128 lanes. -/
def COS : FVec Ideal S16x128 .f32 :=
  extractStridedSlice S16x128 ![0, 0] (shapeCast S8208x128 (broadcastInDim S1x8208x4x32 ![0, 1, 2, 3] bcast_S1x8208x1x32_S1x8208x4x32_0_1_2_3
    (shapeCast S1x8208x1x32 (Host.cos KANG) shapeCasts_S8208x32_S1x8208x1x32)) shapeCasts_S1x8208x4x32_S8208x128) slices_S8208x128_S16x128_0_0

/-- The first 16 rows of the table of signed sines, twice over a row of 128 lanes. -/
def SIN : FVec Ideal S16x128 .f32 :=
  extractStridedSlice S16x128 ![0, 0] (shapeCast S8208x128 (broadcastInDim S1x8208x2x64 ![0, 1, 2, 3] bcast_S1x8208x1x64_S1x8208x2x64_0_1_2_3
    (shapeCast S1x8208x1x64 (concatenate S8208x64 1 [⟨S8208x32, Host.negf (Host.sin KANG)⟩, ⟨S8208x32, Host.sin KANG⟩] concatenates_S8208x32_S8208x32_S8208x64_d1)
      shapeCasts_S8208x64_S1x8208x1x64)) shapeCasts_S1x8208x2x64_S8208x128) slices_S8208x128_S16x128_0_0

/-- The kernel's angle is the reference's. -/
theorem kang_at (s : Fin 16) (i : Fin 32) : KANG (ix2 ⟨s.val, by omega⟩ i) = ANG (ix2 s i) := by
  pointwise [KANG, ANG]

/-- The table of cosines at an index. -/
theorem cos_at (s : Fin 16) (j : Fin 128) : COS (ix2 s j) = Ideal.cos (ANG (ix2 s ⟨j.val % 32, by omega⟩)) := by
  rw [← kang_at]
  pointwise [COS]

/-- The table of signed sines at an index. -/
theorem sin_at (s : Fin 16) (j : Fin 128) : SIN (ix2 s j)
    = if j.val % 64 < 32 then -Ideal.sin (ANG (ix2 s ⟨j.val % 32, by omega⟩)) else Ideal.sin (ANG (ix2 s ⟨j.val % 32, by omega⟩)) := by
  rw [← kang_at]
  pointwise [SIN]
  by_cases h : j.val % 64 < 32
  · rw [dif_pos h, if_pos h]
    exact congrArg (fun i => -Ideal.sin (KANG (ix2 _ i))) (Fin.ext (by dsimp only; omega))
  · rw [dif_neg h, if_neg h]
    exact congrArg (fun i => Ideal.sin (KANG (ix2 _ i))) (Fin.ext (by dsimp only; omega))

end Cert.Kernel6Ideal.MetaValue

end
-- ==== Proof.MetaValue.lean ====
/-
  What the four result arrays of the two projection calls on the meta tokens' rows hold after the run.
-/
module

public import proofs.«01_k».proof.Proof.Gen.Kernel6Ideal.Frame
public import proofs.«01_k».proof.Proof.MetaBlocks
public import proofs.«01_k».proof.Proof.RopeValue
public import proofs.«01_k».proof.Proof.GateValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.MetaValue

open Cert.Reference6Ideal.MetaRef Cert.Kernel6Ideal Cert.Kernel6Ideal.Gen
open Cert.Kernel4Ideal.RopeValue (spin bit select_bit COLS cols_k cols_ki cols_v KANG)

variable (m : (ℓ : Loc nD τ sig) → Buf (Elt Ideal) ℓ) (ρ : Dev nD → PrngReg)

/-- Every window of the first call has its block at the origin. -/
theorem idx0 : ∀ t : Fin cfg0.N, win0_0.index t = ![0, 0] ∧ win0_1.index t = ![0, 0] ∧ win0_2.index t = ![0, 0]
    ∧ win0_3.index t = ![0, 0] ∧ win0_6.index t = ![0, 0] ∧ win0_7.index t = ![0, 0] ∧ win0_8.index t = ![0, 0] := (by decide +kernel : ∀ t : Fin grid0.N, _)

/-- So has every window of the second. -/
theorem idx1 : ∀ t : Fin cfg1.N, win1_0.index t = ![0, 0] ∧ win1_1.index t = ![0, 0] ∧ win1_2.index t = ![0, 0] := (by decide +kernel : ∀ t : Fin grid1.N, _)

/-- The rows when the first call starts. -/
theorem entry_x (c : Dev nD) : V1 m ρ c main_arg0 = m ((c : Thread nD τ).loc main_arg0) := W1_args m ρ c main_arg0 (by decide)

set_option maxHeartbeats 1600000 in
/-- The packed columns when the first call starts. -/
theorem entry_w (c : Dev nD) : V1 m ρ c main_v26 = COLS (m ((c : Thread nD τ).loc main_arg1)) := by
  show StableHlo.after hostOps0 (W0 m ρ c) _ = _
  unfold COLS; after_results <;> rfl

set_option maxHeartbeats 1600000 in
/-- The cosines when the first call starts. -/
theorem entry_cos (c : Dev nD) : V1 m ρ c main_v52 = COS := by
  show StableHlo.after hostOps0 (W0 m ρ c) _ = _
  unfold COS KANG; after_results <;> rfl

set_option maxHeartbeats 1600000 in
/-- The signed sines when the first call starts. -/
theorem entry_sin (c : Dev nD) : V1 m ρ c main_v53 = SIN := by
  show StableHlo.after hostOps0 (W0 m ρ c) _ = _
  unfold SIN KANG; after_results <;> rfl

set_option maxHeartbeats 1600000 in
/-- The second call's packed columns. -/
theorem entry_g (c : Dev nD) : V1 m ρ c main_v27 = truncf .bf16 (concatenate S1024x1536 1
    [⟨S1024x512, extractStridedSlice S1024x512 ![0, 1352] (shapeCast S1024x4936 (m ((c : Thread nD τ).loc main_arg1)) shapeCasts_S1x1024x4936_S1024x4936) slices_S1024x4936_S1024x512_0_1352⟩,
     ⟨S1024x512, extractStridedSlice S1024x512 ![0, 2376] (shapeCast S1024x4936 (m ((c : Thread nD τ).loc main_arg1)) shapeCasts_S1x1024x4936_S1024x4936) slices_S1024x4936_S1024x512_0_2376⟩,
     ⟨S1024x512, extractStridedSlice S1024x512 ![0, 1864] (shapeCast S1024x4936 (m ((c : Thread nD τ).loc main_arg1)) shapeCasts_S1x1024x4936_S1024x4936) slices_S1024x4936_S1024x512_0_1864⟩]
    concatenates_S1024x512_S1024x512_S1024x512_S1024x1536_d1 : FVec Ideal S1024x1536 .f32) bitsLt_bf16_f32 := by
  show StableHlo.after hostOps0 (W0 m ρ c) _ = _
  after_results <;> rfl

/-- Where an element of a block lies in its array. -/
theorem emb0_0 (t : Fin cfg0.N) (r : Fin 16) (l : Fin 1024) : (win0_0.blk t).view.emb (ix2 r l) = (ix2 r l : S16x1024.Idx) := by blk_ext [idx0 t]
theorem emb0_1 (t : Fin cfg0.N) (r : Fin 1024) (l : Fin 1792) : (win0_1.blk t).view.emb (ix2 r l) = (ix2 r l : S1024x1792.Idx) := by blk_ext [idx0 t]
theorem emb0_2 (t : Fin cfg0.N) (r : Fin 16) (l : Fin 128) : (win0_2.blk t).view.emb (ix2 r l) = (ix2 r l : S16x128.Idx) := by blk_ext [idx0 t]
theorem emb0_3 (t : Fin cfg0.N) (r : Fin 16) (l : Fin 128) : (win0_3.blk t).view.emb (ix2 r l) = (ix2 r l : S16x128.Idx) := by blk_ext [idx0 t]
theorem emb0_6 (t : Fin cfg0.N) (r : Fin 16) (l : Fin 256) : (win0_6.blk t).view.emb (ix2 r l) = (ix2 r l : S16x256.Idx) := by blk_ext [idx0 t]
theorem emb0_7 (t : Fin cfg0.N) (r : Fin 16) (l : Fin 128) : (win0_7.blk t).view.emb (ix2 r l) = (ix2 r l : S16x128.Idx) := by blk_ext [idx0 t]
theorem emb0_8 (t : Fin cfg0.N) (r : Fin 16) (l : Fin 256) : (win0_8.blk t).view.emb (ix2 r l) = (ix2 r l : S16x256.Idx) := by blk_ext [idx0 t]
theorem emb1_0 (t : Fin cfg1.N) (r : Fin 16) (l : Fin 1024) : (win1_0.blk t).view.emb (ix2 r l) = (ix2 r l : S16x1024.Idx) := by blk_ext [idx1 t]
theorem emb1_1 (t : Fin cfg1.N) (r : Fin 1024) (l : Fin 1536) : (win1_1.blk t).view.emb (ix2 r l) = (ix2 r l : S1024x1536.Idx) := by blk_ext [idx1 t]
theorem emb1_2 (t : Fin cfg1.N) (r : Fin 16) (l : Fin 512) : (win1_2.blk t).view.emb (ix2 r l) = (ix2 r l : S16x512.Idx) := by blk_ext [idx1 t]

/-- A row. -/
theorem read_x (c : Dev nD) (t : Fin cfg0.N) (r : Fin 16) (k : Fin 1024) :
    iblk0 (V1 m ρ) c 0 t (ix2 r k) = (m ((c : Thread nD τ).loc main_arg0) : FVec Ideal S16x1024 .f32) (ix2 r k) := by
  unfold iblk0
  show V1 m ρ c main_arg0 ((win0_0.blk t).view.emb (ix2 r k)) = _
  rw [entry_x, emb0_0]

/-- A packed column. -/
theorem read_w (c : Dev nD) (t : Fin cfg0.N) (k : Fin 1024) (l : Fin 1792) : iblk0 (V1 m ρ) c 1 t (ix2 k l) = COLS (m ((c : Thread nD τ).loc main_arg1)) (ix2 k l) := by
  unfold iblk0
  show V1 m ρ c main_v26 ((win0_1.blk t).view.emb (ix2 k l)) = _
  rw [entry_w, emb0_1]

/-- The cosine of a row's position. -/
theorem read_cos (c : Dev nD) (t : Fin cfg0.N) (r : Fin 16) (j : Fin 128) :
    iblk0 (V1 m ρ) c 2 t (ix2 r j) = Ideal.cos (ANG (ix2 r ⟨j.val % 32, by omega⟩)) := by
  unfold iblk0
  show V1 m ρ c main_v52 ((win0_2.blk t).view.emb (ix2 r j)) = _
  rw [entry_cos, emb0_2]
  exact cos_at _ _

/-- The signed sine of a row's position. -/
theorem read_sin (c : Dev nD) (t : Fin cfg0.N) (r : Fin 16) (j : Fin 128) :
    iblk0 (V1 m ρ) c 3 t (ix2 r j) = if j.val % 64 < 32 then -Ideal.sin (ANG (ix2 r ⟨j.val % 32, by omega⟩)) else Ideal.sin (ANG (ix2 r ⟨j.val % 32, by omega⟩)) := by
  unfold iblk0
  show V1 m ρ c main_v53 ((win0_3.blk t).view.emb (ix2 r j)) = _
  rw [entry_sin, emb0_3]
  exact sin_at _ _

/-- A product of a row with a packed column that holds the projection's column `g`. -/
theorem read_dot (c : Dev nD) (t : Fin cfg0.N) (r : Fin 16) (l : Fin 1792) (g : Fin 4936)
    (hg : ∀ k : Fin 1024, COLS (m ((c : Thread nD τ).loc main_arg1)) (ix2 k l) = (m ((c : Thread nD τ).loc main_arg1) : FVec Ideal S1x1024x4936 .f32) (ix3 0 k g)) :
    dotc (iblk0 (V1 m ρ) c 0 t) (iblk0 (V1 m ρ) c 1 t) r l = PROJ (m ((c : Thread nD τ).loc main_arg0)) (m ((c : Thread nD τ).loc main_arg1)) (ix3 0 r g) := by
  rw [proj_at]
  unfold dotc
  exact Finset.sum_congr rfl fun k _ => congrArg₂ (· * ·) (read_x m ρ c t r k) ((read_w m ρ c t k l).trans (hg k))

/-- The block of the keys. -/
theorem point6 (c : Dev nD) (t : Fin cfg0.N) (r : Fin 16) (l : Fin 256) : out0_6 (iblk0 (V1 m ρ) c 0 t) (iblk0 (V1 m ρ) c 1 t) (iblk0 (V1 m ρ) c 2 t) (iblk0 (V1 m ρ) c 3 t) (ix2 r l)
    = REFk (m ((c : Thread nD τ).loc main_arg0)) (m ((c : Thread nD τ).loc main_arg1)) ((win0_6.blk t).view.emb (ix2 r l)) := by
  have h4 := l.isLt
  refine (out6_at _ _ _ _ r l).trans ?_
  rw [emb0_6]
  refine Eq.trans ?_ (k_at _ _ _ _).symm
  refine spin_turn _ _ _ _ _ _ _ (read_cos m ρ c t r) (read_sin m ρ c t r) (fun e => ?_) (by dsimp only; omega)
  have e1 := e.isLt
  refine (read_dot m ρ c t r _ ⟨512 + (l.val / 128 * 64 + e.val), by omega⟩ fun k => ?_)
  refine Eq.trans (congrArg (COLS _) (congrArg (ix2 k) (Fin.ext ?_))) ((cols_k _ k ⟨l.val / 128 * 128 + (l.val % 128 / 64 * 64 + e.val), by omega⟩).trans (congrArg _ (congrArg (ix3 0 k) (Fin.ext ?_)))) <;> dsimp only <;> omega

/-- The array of the keys after the first call. -/
theorem final6 (c : Dev nD) : (dat0 (V1 m ρ) c).arrAt 6 cfg0.N = REFk (m ((c : Thread nD τ).loc main_arg0)) (m ((c : Thread nD τ).loc main_arg1)) := by
  refine (dat0 (V1 m ρ) c).arrAt_eq_of_covers 6 _ (by decide +kernel) fun t _ y => ?_
  blk_simp
  rw [after0_6]
  exact (congrArg _ (eq_ix2 y)).trans ((point6 m ρ c t (y 0) (y 1)).trans (congrArg _ (congrArg _ (eq_ix2 y).symm)))

/-- The block of the indexer's key. -/
theorem point7 (c : Dev nD) (t : Fin cfg0.N) (r : Fin 16) (l : Fin 128) : out0_7 (iblk0 (V1 m ρ) c 0 t) (iblk0 (V1 m ρ) c 1 t) (iblk0 (V1 m ρ) c 2 t) (iblk0 (V1 m ρ) c 3 t) (ix2 r l)
    = REFki (m ((c : Thread nD τ).loc main_arg0)) (m ((c : Thread nD τ).loc main_arg1)) ((win0_7.blk t).view.emb (ix2 r l)) := by
  have h4 := l.isLt
  refine (out7_at _ _ _ _ r l).trans ?_
  rw [emb0_7]
  refine Eq.trans ?_ (ki_at _ _ _ _).symm
  refine spin_turn _ _ _ _ _ _ _ (read_cos m ρ c t r) (read_sin m ρ c t r) (fun e => ?_) (by dsimp only; omega)
  have e1 := e.isLt
  refine (read_dot m ρ c t r _ ⟨1280 + e.val, by omega⟩ fun k => ?_)
  refine Eq.trans (congrArg (COLS _) (congrArg (ix2 k) (Fin.ext ?_))) ((cols_ki _ k ⟨l.val % 128 / 64 * 64 + e.val, by omega⟩).trans (congrArg _ (congrArg (ix3 0 k) (Fin.ext ?_)))) <;> dsimp only <;> omega

/-- The array of the indexer's key after the first call. -/
theorem final7 (c : Dev nD) : (dat0 (V1 m ρ) c).arrAt 7 cfg0.N = REFki (m ((c : Thread nD τ).loc main_arg0)) (m ((c : Thread nD τ).loc main_arg1)) := by
  refine (dat0 (V1 m ρ) c).arrAt_eq_of_covers 7 _ (by decide +kernel) fun t _ y => ?_
  blk_simp
  rw [after0_7]
  exact (congrArg _ (eq_ix2 y)).trans ((point7 m ρ c t (y 0) (y 1)).trans (congrArg _ (congrArg _ (eq_ix2 y).symm)))

/-- The block of the values. -/
theorem point8 (c : Dev nD) (t : Fin cfg0.N) (r : Fin 16) (l : Fin 256) : out0_8 (iblk0 (V1 m ρ) c 0 t) (iblk0 (V1 m ρ) c 1 t) (iblk0 (V1 m ρ) c 2 t) (iblk0 (V1 m ρ) c 3 t) (ix2 r l)
    = REFv (m ((c : Thread nD τ).loc main_arg0)) (m ((c : Thread nD τ).loc main_arg1)) ((win0_8.blk t).view.emb (ix2 r l)) := by
  have h4 := l.isLt
  refine (out8_at _ _ _ _ r l).trans ?_
  rw [emb0_8]
  refine Eq.trans ?_ (v_at _ _ _ _).symm
  exact read_dot m ρ c t r _ _ fun k => cols_v _ k l

/-- The array of the values after the first call. -/
theorem final8 (c : Dev nD) : (dat0 (V1 m ρ) c).arrAt 8 cfg0.N = REFv (m ((c : Thread nD τ).loc main_arg0)) (m ((c : Thread nD τ).loc main_arg1)) := by
  refine (dat0 (V1 m ρ) c).arrAt_eq_of_covers 8 _ (by decide +kernel) fun t _ y => ?_
  blk_simp
  rw [after0_8]
  exact (congrArg _ (eq_ix2 y)).trans ((point8 m ρ c t (y 0) (y 1)).trans (congrArg _ (congrArg _ (eq_ix2 y).symm)))

/-- The second call finds the rows as the first found them. -/
theorem entry2_x (c : Dev nD) : V2 m ρ c main_arg0 = m ((c : Thread nD τ).loc main_arg0) := W2_args m ρ c main_arg0 (by decide)

/-- The second call's packed columns are not touched by the first. -/
theorem entry2_g (c : Dev nD) : V2 m ρ c main_v27 = V1 m ρ c main_v27 := W2_of m ρ c main_v27 (by decide)

/-- A row, at the second call. -/
theorem read2_x (c : Dev nD) (t : Fin cfg1.N) (r : Fin 16) (k : Fin 1024) :
    iblk1 (V2 m ρ) c 0 t (ix2 r k) = (m ((c : Thread nD τ).loc main_arg0) : FVec Ideal S16x1024 .f32) (ix2 r k) := by
  unfold iblk1
  show V2 m ρ c main_arg0 ((win1_0.blk t).view.emb (ix2 r k)) = _
  rw [entry2_x, emb1_0]

/-- A packed column, at the second call. -/
theorem read2_g (c : Dev nD) (t : Fin cfg1.N) (k : Fin 1024) (l : Fin 1536) :
    iblk1 (V2 m ρ) c 1 t (ix2 k l) = (m ((c : Thread nD τ).loc main_arg1) : FVec Ideal S1x1024x4936 .f32) (ix3 0 k
      (if l.val < 512 then ⟨1352 + l.val, by omega⟩ else if l.val < 1024 then ⟨2376 + (l.val - 512), by omega⟩ else ⟨1864 + (l.val - 1024), by omega⟩)) := by
  unfold iblk1
  show V2 m ρ c main_v27 ((win1_1.blk t).view.emb (ix2 k l)) = _
  rw [entry2_g, entry_g, emb1_1]
  exact Cert.Kernel3Ideal.GateValue.cols_at _ _ _

/-- The block of gated inputs. -/
theorem pointg (c : Dev nD) (t : Fin cfg1.N) (r : Fin 16) (l : Fin 512) : out1_2 (iblk1 (V2 m ρ) c 0 t) (iblk1 (V2 m ρ) c 1 t) (ix2 r l)
    = REFcu (m ((c : Thread nD τ).loc main_arg0)) (m ((c : Thread nD τ).loc main_arg1)) ((win1_2.blk t).view.emb (ix2 r l)) := by
  refine (gate_at _ _ r l).trans ?_
  rw [emb1_2, cu_at, proj_at, proj_at, mul_comm]
  refine congrArg₂ (· * ·) (Finset.sum_congr rfl fun k _ => ?_) (Finset.sum_congr rfl fun k _ => ?_)
  · refine congrArg₂ (· * ·) (read2_x m ρ c t r k) ((read2_g m ρ c t k _).trans (congrArg _ (congrArg (ix3 0 k) ?_)))
    rw [if_neg (by dsimp only; omega), if_pos (by dsimp only; omega)]
    exact Fin.ext (by dsimp only; omega)
  · refine congrArg₂ (· * ·) (read2_x m ρ c t r k) ((read2_g m ρ c t k _).trans (congrArg _ (congrArg (ix3 0 k) ?_)))
    rw [if_pos l.isLt]

/-- The array of gated inputs after the second call. -/
theorem finalg (c : Dev nD) : (dat1 (V2 m ρ) c).arrAt 2 cfg1.N = REFcu (m ((c : Thread nD τ).loc main_arg0)) (m ((c : Thread nD τ).loc main_arg1)) := by
  refine (dat1 (V2 m ρ) c).arrAt_eq_of_covers 2 _ (by decide +kernel) fun t _ y => ?_
  blk_simp
  rw [after1_2]
  exact (congrArg _ (eq_ix2 y)).trans ((pointg m ρ c t (y 0) (y 1)).trans (congrArg _ (congrArg _ (eq_ix2 y).symm)))

end Cert.Kernel6Ideal.MetaValue

end
-- ==== Proof.MetaRun.lean ====
/-
  The run of the two projection calls on the meta tokens' rows, with the contents of the four result arrays read back beside
  the arguments. The launch is the frame's; only what is read at the end is more.
-/
module

public import proofs.«01_k».proof.Proof.MetaValue

@[expose] public section

set_option maxRecDepth 16384

noncomputable section

namespace Cert.Kernel6Ideal.MetaRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen
open Cert.Reference6Ideal.MetaRef (REFk REFki REFv REFcu)

variable (m : (ℓ : Loc nD τ sig) → Buf (Elt Ideal) ℓ) (ρ : Dev nD → PrngReg)

local notation "𝕄" => MT nD τ sig Unit (Elt Ideal) ℕ (UR sig nD τ) ℕ

/-- What an output array of the first call holds at the end: the second call has none of them. -/
theorem end0 (c : Dev nD) (w : Fin cfg0.W) (h : ∀ v, Pipeline.arrRef spec1 v ≠ Pipeline.arrRef spec0 w) :
    W3 m ρ c (Proc.devRef .tc (Pipeline.arrRef spec0 w)) = (dat0 (V1 m ρ) c).arrAt w cfg0.N :=
  (W3_of_ne m ρ c _ h).trans (W2_arr m ρ c w)

/-- The tokens the launch hands over, and nothing else, cover what the run begins with. -/
theorem begin_tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

/-- Nothing is owed to any device besides. -/
theorem begin_rest : (BI.emp : sProp 𝕄) ⊢ bigSep Finset.univ (fun _ : Dev nD => (BI.emp : sProp 𝕄)) := by
  rw [BI.bigSep_emp_const]

/-- At launch every buffer outside a scope is held with what it holds. -/
theorem begin_held (c : Dev nD) : (unscopedBufs c (fun b => m ((c : Thread nD τ).loc b)) : sProp 𝕄) = StableHlo.held (c : Thread nD τ) (Pipeline.ucRefs τ sig) (W0 m ρ c) :=
  Pipeline.unscopedBufs_held c (W0 m ρ c)

set_option backward.isDefEq.respectTransparency.types false in
/-- The run ends with the reference's terms in the four result arrays and the arguments as they were. -/
theorem run : θ_run defs (onTc (τ := τ) (main (F := Ideal))) ⟨m, fun _ => 0, ρ⟩ (fun r => ∀ c : Dev nD,
      r.2.mem ((c.tc : Thread nD τ).loc main_v54_2) = REFk (m ((c : Thread nD τ).loc main_arg0)) (m ((c : Thread nD τ).loc main_arg1))
      ∧ r.2.mem ((c.tc : Thread nD τ).loc main_v54_3) = REFki (m ((c : Thread nD τ).loc main_arg0)) (m ((c : Thread nD τ).loc main_arg1))
      ∧ r.2.mem ((c.tc : Thread nD τ).loc main_v54_4) = REFv (m ((c : Thread nD τ).loc main_arg0)) (m ((c : Thread nD τ).loc main_arg1))
      ∧ r.2.mem ((c.tc : Thread nD τ).loc main_v55_0) = REFcu (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply begin_tokens
        iexact H
      iapply begin_rest
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [begin_held m ρ c]
      iintro ⟨⟨Hbufs, -, Howes, -, Hprng, -⟩, -⟩
      imodintro
      isplitl [Hbufs]
      · iexact Hbufs
      isplitl [Hprng]
      · iexists _
        iexact Hprng
      iexists ∅
      iexact Howes)
    (QY := fun c s => ∀ b ∈ Pipeline.ucRefs τ sig, s.mem (((c : Thread nD τ)).1, b) = W3 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W3 m ρ c) s')
      isplitl [Hbufs] <;> iassumption)
    (hQ := fun s h _ c =>
      ⟨((h c _ (mem_uc main_v54_2 (by decide))).trans (end0 m ρ c 6 (by decide))).trans (MetaValue.final6 m ρ c),
       ((h c _ (mem_uc main_v54_3 (by decide))).trans (end0 m ρ c 7 (by decide))).trans (MetaValue.final7 m ρ c),
       ((h c _ (mem_uc main_v54_4 (by decide))).trans (end0 m ρ c 8 (by decide))).trans (MetaValue.final8 m ρ c),
       ((h c _ (mem_uc main_v55_0 (by decide))).trans (W3_arr m ρ c 2)).trans (MetaValue.finalg m ρ c),
       (h c _ (mem_uc main_arg0 (by decide))).trans (W3_main_arg0 m ρ c),
       (h c _ (mem_uc main_arg1 (by decide))).trans (W3_main_arg1 m ρ c)⟩)

end Cert.Kernel6Ideal.MetaRun

end
-- ==== Proof.MetaClaim.lean ====
/-
  The claims about the two projections of the meta tokens' rows and their reference.
-/
module

public import proofs.«01_k».proof.Defs
public import proofs.«01_k».proof.Proof.MetaRun
public import Idealize.ShloMosaic.Lib.Quiescent

@[expose] public section

noncomputable section

namespace Cert.Claims

open Idealize.ShloMosaic Idealize.SL.Sem

/-- The reference runs, keeps its arguments and leaves no semaphore raised. -/
theorem quiescent_Reference6Ideal : Cert.quiescent_Reference6Ideal := fun m ρ _ =>
  (θ_run Cert.Reference6Ideal.defs _ _).mono (fun r h => ⟨fun c => (h c).2.2.2.2, Idealize.ShloMosaic.sem_eq_zero_of_no_sems (by decide) r.2⟩) (Cert.Reference6Ideal.Value.run m ρ)

/-- From equal arguments the two calls and their reference end with equal results over the extended reals. -/
theorem algebraic_Kernel6Ideal_Reference6Ideal : Cert.algebraic_Kernel6Ideal_Reference6Ideal := fun m ρ m' ρ' _ hag =>
  ⟨fun c => Cert.Reference6Ideal.MetaRef.REFk (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
      fun c => Cert.Reference6Ideal.MetaRef.REFki (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
      fun c => Cert.Reference6Ideal.MetaRef.REFv (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
      fun c => Cert.Reference6Ideal.MetaRef.REFcu (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun _ h c => h c) (Cert.Kernel6Ideal.MetaRun.run m ρ),
    (θ_run Cert.Reference6Ideal.defs _ _).mono (fun _ h c => ⟨(h c).1.trans (Eq.trans (show _ = Cert.Reference6Ideal.MetaRef.REFk (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) from rfl) (by rw [(hag c).1, (hag c).2])),
      (h c).2.1.trans (Eq.trans (show _ = Cert.Reference6Ideal.MetaRef.REFki (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) from rfl) (by rw [(hag c).1, (hag c).2])),
      (h c).2.2.1.trans (Eq.trans (show _ = Cert.Reference6Ideal.MetaRef.REFv (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) from rfl) (by rw [(hag c).1, (hag c).2])),
      (h c).2.2.2.1.trans (Eq.trans (show _ = Cert.Reference6Ideal.MetaRef.REFcu (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) from rfl) (by rw [(hag c).1, (hag c).2])), (h c).2.2.2.2⟩) (Cert.Reference6Ideal.Value.run m' ρ')⟩

end Cert.Claims

end
-- ==== Proof.MetaFfnIdealBody.lean ====
/-
  The body of the gated linear unit on the meta tokens' 16 rows, in the reading over the reals: one grid point, which zeroes
  its result, adds the products and normalises. What it leaves in the result's block.
-/
module

public import proofs.«01_k».proof.Proof.Gen.Kernel7Ideal.Launch
public import proofs.«01_k».proof.Proof.Gen.Kernel7Ideal.Points
public import proofs.«01_k».proof.Proof.Gen.Kernel7Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.MetaFfn

open Cert.Kernel7Ideal Cert.Kernel7Ideal.Gen

variable {F : FTy → Type} [FloatOps F]

local notation "𝕄" => MT nD τ sig Unit (Elt F) ℕ (UR sig nD τ) ℕ

/-- The offset of a whole block. -/
theorem hz : (![0, 0] : Fin 2 → Nat) = fun _ => 0 := funext fun a => by fin_cases a <;> rfl

theorem hz1 : (![BitVec.toNat (Scalar.indexCast (Scalar.muli 0#32 16#32)), 0] : Fin 2 → Nat) = fun _ => 0 := hz

/-- The last of several stores, when it is of the whole block, is what the block then holds. -/
theorem read_last {S : Shape} {e : EltTy} (v : View sig .tc .vmem S e) {off : Fin S.rank → Nat} (h : off = fun _ => 0)
    (inb : ∀ a, off a + S.size a ≤ S.size a) (G : v.ty.Contents (Elt F)) (P : S.Idx → Elt F e) (l : List (View.Piece (Elt F) S e)) :
    v.read (Elt F) (v.writes (Elt F) G (⟨Rect.unit off S.size inb, P⟩ :: l)) = P := by
  subst h; funext y
  have e := View.read_writes_cons_emb v G (Rect.whole S) P l y
  rw [Rect.emb_whole_apply] at e
  exact e

/-- A load of the whole block after such a store reads it. -/
theorem load_last {S : Shape} {e : EltTy} (v : View sig .tc .vmem S e) {off off' : Fin S.rank → Nat} (h : off = fun _ => 0) (h' : off' = fun _ => 0)
    (inb : ∀ a, off a + S.size a ≤ S.size a) (inb' : ∀ a, off' a + S.size a ≤ S.size a) (P : S.Idx → Elt F e) (l : List (View.Piece (Elt F) S e)) :
    v.readCov (⟨Rect.unit off S.size inb, P⟩ :: l) (Rect.unit off' S.size inb').toLoadRect = P := by
  subst h; subst h'
  exact View.readCov_cons_toLoadRect v _ _ _

/-- Both branches of the body are taken at the only point. -/
theorem taken1 : ∀ t : Fin cfg0.N, (Scalar.cmpi .ne (Scalar.extui (Scalar.cmpi .eq (BitVec.ofNat 32 (grid0.coords t 1).val) 0#32)) 0#32) = 1#1 :=
  (by decide +kernel : ∀ t : Fin grid0.N, (Scalar.cmpi .ne (Scalar.extui (Scalar.cmpi .eq (BitVec.ofNat 32 (grid0.coords t 1).val) 0#32)) 0#32) = 1#1)
theorem taken2 : ∀ t : Fin cfg0.N, k0_cond2 (grid0.coords t) = 1#1 :=
  (by decide +kernel : ∀ t : Fin grid0.N, k0_cond2 (grid0.coords t) = 1#1)

/-- What the body leaves in the result's block, from the six blocks it reads. -/
def left (x0 : Vec F S16x1024 .f32) (x1 : Vec F S1024x2816 .bf16) (x2 : Vec F S1024x2816 .bf16) (x3 : Vec F S2816x1024 .bf16) (x4 : Vec F S1x1024 .f32) (x5 : Vec F S1x1024 .f32) : Vec F S16x1024 .f32 :=
  k0_pay4 x0 (k0_pay3 (k0_pay2 x0) x1 x2 (k0_pay1 (F := F)) x3) x4 x5

set_option maxHeartbeats 2000000 in
/-- The body reads its six blocks, leaves `left` of them in the seventh, and uses the scratch. -/
theorem runs (c : Dev nD) (i : grid0.Coords) (arg2 : Memref sig .tc .vmem S16x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S16x1024 .f32) (harg8 : arg8.IsWhole) (arg9 : Memref sig .tc .vmem S16x1024 .bf16) (harg9 : arg9.IsWhole)
    (h1 : (Scalar.cmpi .ne (Scalar.extui (Scalar.cmpi .eq (BitVec.ofNat 32 (i 1).val) 0#32)) 0#32) = 1#1) (h2 : k0_cond2 i = 1#1) (x0 : Vec F S16x1024 .f32) (x1 : Vec F S1024x2816 .bf16) (x2 : Vec F S1024x2816 .bf16) (x3 : Vec F S2816x1024 .bf16) (x4 : Vec F S1x1024 .f32) (x5 : Vec F S1x1024 .f32)
    (E : Set ℕ) (K : PUnit.{1} → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (left x0 x1 x2 x3 x4 x5) ∗ (∃ d, owns (c : Thread nD τ) arg9 fullShare d)) -∗ K ⟨⟩))
    ⊢ wp frame (wpE (defs₀ (F := F)) Variants.none c none) E (cc0_ffn_ln i arg2 harg2 arg3 harg3 arg4 harg4 arg5 harg5 arg6 harg6 arg7 harg7 arg8 harg8 arg9 harg9) K := by
  rw [cc0_ffn_ln_eq_skeleton]
  unfold cc0_ffn_ln_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  obtain rfl := harg2.eq_unread e0
  obtain rfl := harg3.eq_unread e1
  obtain rfl := harg4.eq_unread e2
  obtain rfl := harg5.eq_unread e3
  obtain rfl := harg6.eq_unread e4
  obtain rfl := harg7.eq_unread e5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _
    isplitr
    swap; · iexact H6
    ipureintro
    sl_unfold_words
    refine (read_last arg8.view hz1 _ _ _ _).trans ?_
    unfold left
    simp only [View.readAt_eq_ld, harg2.read_unread, harg3.read_unread, harg4.read_unread, harg5.read_unread, harg6.read_unread, harg7.read_unread, load_last (S := S16x1024) _ hz hz, View.ld_unit_zero (S := S16x1024) hz, View.ld_unit_zero (S := S1024x2816) hz, View.ld_unit_zero (S := S2816x1024) hz, View.ld_unit_zero (S := S1x1024) hz]
    exact congrArg₂ (fun a b => k0_pay4 a b x4 x5) (View.ld_unit_zero (S := S16x1024) hz1 _ x0) (load_last (S := S16x1024) _ hz hz1 _ _ _ _)
  iexists _
  iexists _
  isplitr
  swap; · iexact H7
  ipureintro; exact rfl

end Cert.Kernel7Ideal.MetaFfn

end
-- ==== Proof.MetaFfnIdealFrame.lean ====
/-
  The gated linear unit on the meta tokens' 16 rows, as a whole program: it runs to its end, keeps its arguments, and its
  result array is what the one grid point leaves. For any floats. The text of the reading over the reals.
-/
module

public import proofs.«01_k».proof.Proof.Gen.Kernel7Ideal.Launch
public import proofs.«01_k».proof.Proof.Gen.Kernel7Ideal.Points
public import proofs.«01_k».proof.Proof.Gen.Kernel7Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import proofs.«01_k».proof.Proof.MetaFfnIdealBody

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.MetaFfn

open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the grid starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to its grid. -/
theorem upto : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- A buffer that no operation before the grid writes is as it was given. -/
theorem given (c : Dev nD) (b : Ref sig .tc) (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem given0 (c : Dev nD) : V m c main_arg0 = m ((c : Thread nD τ).loc main_arg0) := given m c main_arg0 (by
  simp only [hostOps0, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide))
theorem given1 (c : Dev nD) : V m c main_arg1 = m ((c : Thread nD τ).loc main_arg1) := given m c main_arg1 (by
  simp only [hostOps0, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide))
theorem given2 (c : Dev nD) : V m c main_arg2 = m ((c : Thread nD τ).loc main_arg2) := given m c main_arg2 (by
  simp only [hostOps0, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide))
theorem given3 (c : Dev nD) : V m c main_arg3 = m ((c : Thread nD τ).loc main_arg3) := given m c main_arg3 (by
  simp only [hostOps0, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide))
theorem given4 (c : Dev nD) : V m c main_arg4 = m ((c : Thread nD τ).loc main_arg4) := given m c main_arg4 (by
  simp only [hostOps0, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide))
theorem given5 (c : Dev nD) : V m c main_arg5 = m ((c : Thread nD τ).loc main_arg5) := given m c main_arg5 (by
  simp only [hostOps0, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide))

/-- Window `w`'s block, read off its array when the grid starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the one grid point does to the arrays and blocks: the inputs' blocks stay, the result's is what the body leaves of
    them; the scratch is the body's own, at anything before and after. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = left (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- The rest of the body's memory: the scratch at anything, and the random numbers' register. -/
theorem rest_eq (c : Dev nD) : (Pipeline.ΦA spec0 c : sProp 𝕄)
    = iprop(iprop((∃ d, owns (c : Thread nD τ) (Memref.whole cc0_scratch0 : Memref sig .tc .vmem S16x1024 .bf16) fullShare d)) ∗ (∃ r, prngReg c r)) := by
  unfold Pipeline.ΦA; rw [scopedRest0_eq]; simp only [owns_whole]; try rfl

/-- What the body is given at a point, and what it gives back. -/
def held (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 4000000 in
/-- The body at the point. -/
theorem at_point (c : Dev nD) (t : Fin cfg0.N) :
    held m c t ⊢ wp frame (wpE (defs₀ (F := F)) Variants.none c none) Set.univ (bodyAt0 t) (fun _ => returned m c t) := by
  unfold held returned bodyAt0
  simp only [before_0, before_1, before_2, before_3, before_4, before_5]
  rw [show (dats m 0 c).owesAt () t.succ = (dats m 0 c).owesAt () t.castSucc from rfl,
    after_0, after_1, after_2, after_3, after_4, after_5, after_6,
    show (dats m 0 c).Φ t.castSucc = Pipeline.ΦA spec0 c from rfl, show (dats m 0 c).Φ t.succ = Pipeline.ΦA spec0 c from rfl, rest_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (runs c (grid0.coords t) _ _ _ _ _ _ _ _ _ _ _ _ _ _ _ _ (taken1 t) (taken2 t) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

theorem obliged (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
/-- The program runs to its end with the windows' arrays as the grid point makes them, and no counter raised. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obliged m c).loose) (hshare := fun c => (dats m 0 c).share_full fun _ => rfl)
    (howed := fun _ _ => rfl) (V := V m) (hmain := upto m) (hA := A_eq m)
    (hin := fun c => Idealize.SL.BI.Entails.refl _) (hout := fun c => Idealize.SL.BI.Entails.refl _)

/-- The arguments after the run. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl cfg0.N).trans (given0 m c)),
    ((h c).2 main_arg1 (Pipeline.mem_restRefs_of main_arg1 (by decide) (by decide))).trans (given1 m c),
    ((h c).2 main_arg2 (Pipeline.mem_restRefs_of main_arg2 (by decide) (by decide))).trans (given2 m c),
    ((h c).2 main_arg3 (Pipeline.mem_restRefs_of main_arg3 (by decide) (by decide))).trans (given3 m c),
    ((h c).2 main_arg4 (Pipeline.mem_restRefs_of main_arg4 (by decide) (by decide))).trans (given4 m c),
    ((h c).2 main_arg5 (Pipeline.mem_restRefs_of main_arg5 (by decide) (by decide))).trans (given5 m c)⟩

/-- The program runs, keeps its arguments and leaves no semaphore raised. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m r h.1, h.2⟩) (run_main m ρ)

end Cert.Kernel7Ideal.MetaFfn

end
-- ==== Proof.MetaFfnRef.lean ====
/-
  The reference of the gated linear unit on the meta tokens' 16 rows, over the extended reals: its result as a function of its
  six arguments, and that function at an index.
-/
module

public import proofs.«01_k».proof.Proof.RowNorm
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference7Ideal.MetaFfnRef

open Cert.Reference7Ideal Cert.Reference7Ideal.Gen Cert.RowNorm

/-- The rows times a matrix of 2816 columns. -/
abbrev WIDE (X : FVec Ideal S16x1024 .f32) (W : FVec Ideal S1x1024x2816 .f32) : FVec Ideal S16x2816 .f32 :=
  Host.dotGeneral dot_S16x1024_S1024x2816_S16x2816_1_0_0_1_n_n none X (shapeCast _ W shapeCasts_S1x1024x2816_S1024x2816)

/-- The residual's sum. -/
abbrev H (X : FVec Ideal S16x1024 .f32) (Wg Wu : FVec Ideal S1x1024x2816 .f32) (Wd : FVec Ideal S1x2816x1024 .f32) : FVec Ideal S16x1024 .f32 :=
  addf (mulf (broadcastInDim S16x1024 ![] bcast_S_S16x1024 (constant S_ .f32 0x3F9837F0#32)) X)
    (mulf (broadcastInDim S16x1024 ![] bcast_S_S16x1024 (constant S_ .f32 0x3F000000#32))
      (Host.dotGeneral dot_S16x2816_S2816x1024_S16x1024_1_0_0_1_n_n none
        (mulf (mulf (WIDE X Wg) (Host.divf (broadcastInDim S16x2816 ![] bcast_S_S16x2816 (constant S_ .f32 0x3F800000#32))
          (addf (broadcastInDim S16x2816 ![] bcast_S_S16x2816 (constant S_ .f32 0x3F800000#32)) (Host.exp (Host.negf (WIDE X Wg)))))) (WIDE X Wu))
        (shapeCast _ Wd shapeCasts_S1x2816x1024_S2816x1024)))

/-- Each row's mean, spread over the row. -/
abbrev MU (h : FVec Ideal S16x1024 .f32) : FVec Ideal S16x1024 .f32 :=
  broadcastInDim S16x1024 ![0, 1] bcast_S16x1_S16x1024_0_1 (Host.divf (broadcastInDim S16x1 ![0] bcast_S16_S16x1_0
    (Host.reduceAdd h (constant S_ .f32 0x00000000#32) reducesTo_S16x1024_S16_d1 h_S_)) (broadcastInDim S16x1 ![] bcast_S_S16x1 (constant S_ .f32 0x44800000#32)))

/-- A row of the scale or the shift, spread over the rows. -/
abbrev ALL (g : FVec Ideal S1x1024 .f32) : FVec Ideal S16x1024 .f32 :=
  broadcastInDim S16x1024 ![0, 1] bcast_S1x1024_S16x1024_0_1 (broadcastInDim S1x1024 ![1] bcast_S1024_S1x1024_1 (shapeCast _ g shapeCasts_S1x1024_S1024))

/-- The normalisation of every row. -/
abbrev NORM (h : FVec Ideal S16x1024 .f32) (g b : FVec Ideal S1x1024 .f32) : FVec Ideal S16x1024 .f32 :=
  addf (mulf (mulf (subf h (MU h)) (broadcastInDim S16x1024 ![0, 1] bcast_S16x1_S16x1024_0_1
    (Host.rsqrt (addf (Host.divf (broadcastInDim S16x1 ![0] bcast_S16_S16x1_0
      (Host.reduceAdd (mulf (subf h (MU h)) (subf h (MU h))) (constant S_ .f32 0x00000000#32) reducesTo_S16x1024_S16_d1 h_S_))
      (broadcastInDim S16x1 ![] bcast_S_S16x1 (constant S_ .f32 0x44800000#32))) (broadcastInDim S16x1 ![] bcast_S_S16x1 (constant S_ .f32 0x3727C5AC#32))))))
    (ALL g)) (ALL b)

/-- The reference's result. -/
def REF (X : FVec Ideal S16x1024 .f32) (Wg Wu : FVec Ideal S1x1024x2816 .f32) (Wd : FVec Ideal S1x2816x1024 .f32) (g b : FVec Ideal S1x1024 .f32) :
    FVec Ideal S16x1024 .f32 := NORM (H X Wg Wu Wd) g b

set_option maxHeartbeats 1600000 in
/-- The run's composed term is `REF` of the arguments. -/
theorem res_eq (m : (ℓ : Loc nD τ sig) → Buf (Elt Ideal) ℓ) (c : Dev nD) : Value.res_main_v36 m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- One of the 2816 products that a result's sum before the residual has. -/
def term (X : FVec Ideal S16x1024 .f32) (Wg Wu : FVec Ideal S1x1024x2816 .f32) (Wd : FVec Ideal S1x2816x1024 .f32) (r : Fin 16) (l : Fin 1024)
    (f : Fin 2816) : Ideal .f32 :=
  ((∑ k : Fin 1024, X (ix2 r k) * Wg (ix3 0 k f)) * Ideal.logistic (∑ k : Fin 1024, X (ix2 r k) * Wg (ix3 0 k f))
    * ∑ k : Fin 1024, X (ix2 r k) * Wu (ix3 0 k f)) * Wd (ix3 0 f l)

/-- The normalised rows at an index. -/
theorem norm_at (h : FVec Ideal S16x1024 .f32) (g b : FVec Ideal S1x1024 .f32) (r : Fin 16) (l : Fin 1024) : NORM h g b (ix2 r l)
    = lnAt (fun k => h (ix2 r k)) (g (ix2 0 l)) (b (ix2 0 l)) l := by
  unfold lnAt mean
  pointwise [NORM, MU, ALL]

/-- The residual's sum at an index. -/
theorem h_at (X : FVec Ideal S16x1024 .f32) (Wg Wu : FVec Ideal S1x1024x2816 .f32) (Wd : FVec Ideal S1x2816x1024 .f32) (r : Fin 16) (l : Fin 1024) :
    H X Wg Wu Wd (ix2 r l) = resid (fun k => X (ix2 r k)) (fun k => ∑ f : Fin 2816, term X Wg Wu Wd r k f) l := by
  unfold resid term
  pointwise [H, WIDE]
  rfl

/-- The reference's result at an index. -/
theorem ref_at (X : FVec Ideal S16x1024 .f32) (Wg Wu : FVec Ideal S1x1024x2816 .f32) (Wd : FVec Ideal S1x2816x1024 .f32) (g b : FVec Ideal S1x1024 .f32)
    (r : Fin 16) (l : Fin 1024) : REF X Wg Wu Wd g b (ix2 r l)
    = lnAt (resid (fun k => X (ix2 r k)) (fun k => ∑ f : Fin 2816, term X Wg Wu Wd r k f)) (g (ix2 0 l)) (b (ix2 0 l)) l := by
  unfold REF
  rw [norm_at]
  congr 1
  funext k
  exact h_at X Wg Wu Wd r k

end Cert.Reference7Ideal.MetaFfnRef

end
-- ==== Proof.MetaFfnValue.lean ====
/-
  The gated linear unit on the meta tokens' 16 rows, over the extended reals: what the result array holds after the run. The
  one grid point adds all 2816 products of every element to zero and normalises the rows.
-/
module

public import proofs.«01_k».proof.Proof.MetaFfnIdealFrame
public import proofs.«01_k».proof.Proof.MetaFfnRef
public import proofs.«01_k».proof.Proof.RowNorm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.MetaFfn

open Cert.Kernel7Ideal Cert.Kernel7Ideal.Gen
open Cert.Reference7Ideal.MetaFfnRef (REF term ref_at)
open Cert.RowNorm

/-- The sum of an element's 2816 products. -/
def part (xb : FVec Ideal S16x1024 .bf16) (wg wu : FVec Ideal S1024x2816 .bf16) (wd : FVec Ideal S2816x1024 .bf16) (r : Fin 16) (l : Fin 1024) : Ideal .f32 :=
  ∑ f : Fin 2816, ((∑ k : Fin 1024, xb (ix2 r k) * wg (ix2 k f)) * Ideal.logistic (∑ k : Fin 1024, xb (ix2 r k) * wg (ix2 k f))
    * ∑ k : Fin 1024, xb (ix2 r k) * wu (ix2 k f)) * wd (ix2 f l)

/-- The accumulating store. -/
theorem sum_at (xb : FVec Ideal S16x1024 .bf16) (wg wu : FVec Ideal S1024x2816 .bf16) (a : FVec Ideal S16x1024 .f32) (wd : FVec Ideal S2816x1024 .bf16)
    (r : Fin 16) (l : Fin 1024) : k0_pay3 (F := Ideal) xb wg wu a wd (ix2 r l) = a (ix2 r l) + part xb wg wu wd r l := by
  unfold part
  pointwise [k0_pay3]

/-- The normalising store. -/
theorem norm_at (x o : FVec Ideal S16x1024 .f32) (g b : FVec Ideal S1x1024 .f32) (r : Fin 16) (l : Fin 1024) :
    k0_pay4 (F := Ideal) x o g b (ix2 r l) = lnAt (resid (fun k => x (ix2 r k)) (fun k => o (ix2 r k))) (g (ix2 0 l)) (b (ix2 0 l)) l := by
  unfold lnAt mean resid
  pointwise [k0_pay4]

/-- The narrowed rows are the rows. -/
theorem rows_at (x : FVec Ideal S16x1024 .f32) (r : Fin 16) (l : Fin 1024) : k0_pay2 (F := Ideal) x (ix2 r l) = x (ix2 r l) := by
  pointwise [k0_pay2]

theorem zero_at (r : Fin 16) (l : Fin 1024) : k0_pay1 (F := Ideal) (ix2 r l) = 0 := by
  pointwise [k0_pay1]

variable (m : (ℓ : Loc nD τ sig) → Buf (Elt Ideal) ℓ) (ρ : Dev nD → PrngReg)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

set_option maxHeartbeats 1600000 in
/-- The array `main_v1` when the grid starts. -/
theorem entry_wg (c : Dev nD) : V m c main_v1 = truncf .bf16 (shapeCast S1024x2816 (m ((c : Thread nD τ).loc main_arg1)) shapeCasts_S1x1024x2816_S1024x2816 : FVec Ideal S1024x2816 .f32) bitsLt_bf16_f32 := by
  unfold V; after_results <;> rfl

set_option maxHeartbeats 1600000 in
/-- The array `main_v3` when the grid starts. -/
theorem entry_wu (c : Dev nD) : V m c main_v3 = truncf .bf16 (shapeCast S1024x2816 (m ((c : Thread nD τ).loc main_arg2)) shapeCasts_S1x1024x2816_S1024x2816 : FVec Ideal S1024x2816 .f32) bitsLt_bf16_f32 := by
  unfold V; after_results <;> rfl

set_option maxHeartbeats 1600000 in
/-- The array `main_v5` when the grid starts. -/
theorem entry_wd (c : Dev nD) : V m c main_v5 = truncf .bf16 (shapeCast S2816x1024 (m ((c : Thread nD τ).loc main_arg3)) shapeCasts_S1x2816x1024_S2816x1024 : FVec Ideal S2816x1024 .f32) bitsLt_bf16_f32 := by
  unfold V; after_results <;> rfl

set_option maxHeartbeats 1600000 in
/-- The array `main_v7` when the grid starts. -/
theorem entry_g (c : Dev nD) : V m c main_v7 = broadcastInDim S1x1024 ![1] bcast_S1024_S1x1024_1 (shapeCast S1024 (m ((c : Thread nD τ).loc main_arg4)) shapeCasts_S1x1024_S1024 : FVec Ideal S1024 .f32) := by
  unfold V; after_results <;> rfl

set_option maxHeartbeats 1600000 in
/-- The array `main_v9` when the grid starts. -/
theorem entry_b (c : Dev nD) : V m c main_v9 = broadcastInDim S1x1024 ![1] bcast_S1024_S1x1024_1 (shapeCast S1024 (m ((c : Thread nD τ).loc main_arg5)) shapeCasts_S1x1024_S1024 : FVec Ideal S1024 .f32) := by
  unfold V; after_results <;> rfl

theorem cols_at (W : FVec Ideal S1x1024x2816 .f32) (k : Fin 1024) (f : Fin 2816) :
    (truncf .bf16 (shapeCast S1024x2816 W shapeCasts_S1x1024x2816_S1024x2816 : FVec Ideal S1024x2816 .f32) bitsLt_bf16_f32 : FVec Ideal S1024x2816 .bf16) (ix2 k f) = W (ix3 0 k f) := by
  pointwise
theorem down_at (W : FVec Ideal S1x2816x1024 .f32) (f : Fin 2816) (l : Fin 1024) :
    (truncf .bf16 (shapeCast S2816x1024 W shapeCasts_S1x2816x1024_S2816x1024 : FVec Ideal S2816x1024 .f32) bitsLt_bf16_f32 : FVec Ideal S2816x1024 .bf16) (ix2 f l) = W (ix3 0 f l) := by
  pointwise
theorem vec_at (g : FVec Ideal S1x1024 .f32) (a : Fin 1) (l : Fin 1024) :
    broadcastInDim S1x1024 ![1] bcast_S1024_S1x1024_1 (shapeCast S1024 g shapeCasts_S1x1024_S1024 : FVec Ideal S1024 .f32) (ix2 a l) = g (ix2 0 l) := by
  pointwise

/-- Where an element of a block lies in its array. -/
theorem emb_x (t : Fin cfg0.N) (a : Fin 16) (b : Fin 1024) : (win0_0.blk t).view.emb (ix2 a b) = (ix2 a b : S16x1024.Idx) := by
  blk_ext [idx t]
theorem emb_wg (t : Fin cfg0.N) (a : Fin 1024) (b : Fin 2816) : (win0_1.blk t).view.emb (ix2 a b) = (ix2 a b : S1024x2816.Idx) := by
  blk_ext [idx t]
theorem emb_wu (t : Fin cfg0.N) (a : Fin 1024) (b : Fin 2816) : (win0_2.blk t).view.emb (ix2 a b) = (ix2 a b : S1024x2816.Idx) := by
  blk_ext [idx t]
theorem emb_wd (t : Fin cfg0.N) (a : Fin 2816) (b : Fin 1024) : (win0_3.blk t).view.emb (ix2 a b) = (ix2 a b : S2816x1024.Idx) := by
  blk_ext [idx t]
theorem emb_g (t : Fin cfg0.N) (a : Fin 1) (b : Fin 1024) : (win0_4.blk t).view.emb (ix2 a b) = (ix2 a b : S1x1024.Idx) := by
  blk_ext [idx t]
theorem emb_b (t : Fin cfg0.N) (a : Fin 1) (b : Fin 1024) : (win0_5.blk t).view.emb (ix2 a b) = (ix2 a b : S1x1024.Idx) := by
  blk_ext [idx t]
theorem emb_o (t : Fin cfg0.N) (a : Fin 16) (b : Fin 1024) : (win0_6.blk t).view.emb (ix2 a b) = (ix2 a b : S16x1024.Idx) := by
  blk_ext [idx t]

/-- The six blocks at an index, from the arguments. -/
theorem read_x (c : Dev nD) (t : Fin cfg0.N) (a : Fin 16) (b : Fin 1024) : iblk m c 0 t (ix2 a b) = (m ((c : Thread nD τ).loc main_arg0) : FVec Ideal S16x1024 .f32) (ix2 a b) := by
  unfold iblk
  show V m c main_arg0 ((win0_0.blk t).view.emb (ix2 a b)) = _
  rw [given0, emb_x t a b]

theorem read_wg (c : Dev nD) (t : Fin cfg0.N) (a : Fin 1024) (b : Fin 2816) : iblk m c 1 t (ix2 a b) = (m ((c : Thread nD τ).loc main_arg1) : FVec Ideal S1x1024x2816 .f32) (ix3 0 a b) := by
  unfold iblk
  show V m c main_v1 ((win0_1.blk t).view.emb (ix2 a b)) = _
  rw [entry_wg, emb_wg t a b]
  exact cols_at _ _ _
theorem read_wu (c : Dev nD) (t : Fin cfg0.N) (a : Fin 1024) (b : Fin 2816) : iblk m c 2 t (ix2 a b) = (m ((c : Thread nD τ).loc main_arg2) : FVec Ideal S1x1024x2816 .f32) (ix3 0 a b) := by
  unfold iblk
  show V m c main_v3 ((win0_2.blk t).view.emb (ix2 a b)) = _
  rw [entry_wu, emb_wu t a b]
  exact cols_at _ _ _
theorem read_wd (c : Dev nD) (t : Fin cfg0.N) (a : Fin 2816) (b : Fin 1024) : iblk m c 3 t (ix2 a b) = (m ((c : Thread nD τ).loc main_arg3) : FVec Ideal S1x2816x1024 .f32) (ix3 0 a b) := by
  unfold iblk
  show V m c main_v5 ((win0_3.blk t).view.emb (ix2 a b)) = _
  rw [entry_wd, emb_wd t a b]
  exact down_at _ _ _
theorem read_g (c : Dev nD) (t : Fin cfg0.N) (a : Fin 1) (b : Fin 1024) : iblk m c 4 t (ix2 a b) = (m ((c : Thread nD τ).loc main_arg4) : FVec Ideal S1x1024 .f32) (ix2 0 b) := by
  unfold iblk
  show V m c main_v7 ((win0_4.blk t).view.emb (ix2 a b)) = _
  rw [entry_g, emb_g t a b]
  exact vec_at _ _ _
theorem read_b (c : Dev nD) (t : Fin cfg0.N) (a : Fin 1) (b : Fin 1024) : iblk m c 5 t (ix2 a b) = (m ((c : Thread nD τ).loc main_arg5) : FVec Ideal S1x1024 .f32) (ix2 0 b) := by
  unfold iblk
  show V m c main_v9 ((win0_5.blk t).view.emb (ix2 a b)) = _
  rw [entry_b, emb_b t a b]
  exact vec_at _ _ _

/-- The sum the point adds to zero is the reference's. -/
theorem acc_at (c : Dev nD) (t : Fin cfg0.N) (r : Fin 16) (l : Fin 1024) :
    k0_pay3 (F := Ideal) (k0_pay2 (iblk m c 0 t)) (iblk m c 1 t) (iblk m c 2 t) (k0_pay1 (F := Ideal)) (iblk m c 3 t) (ix2 r l)
    = ∑ f : Fin 2816, term (m ((c : Thread nD τ).loc main_arg0)) (m ((c : Thread nD τ).loc main_arg1)) (m ((c : Thread nD τ).loc main_arg2)) (m ((c : Thread nD τ).loc main_arg3)) r l f := by
  refine (sum_at _ _ _ _ _ r l).trans ?_
  rw [zero_at, zero_add]
  unfold part term
  refine Finset.sum_congr rfl fun f _ => ?_
  have hg : (∑ k : Fin 1024, k0_pay2 (F := Ideal) (iblk m c 0 t) (ix2 r k) * iblk m c 1 t (ix2 k f)) = _ :=
    Finset.sum_congr rfl fun k _ => congrArg₂ (· * ·) ((rows_at _ r k).trans (read_x m c t r k)) (read_wg m c t k f)
  have hu : (∑ k : Fin 1024, k0_pay2 (F := Ideal) (iblk m c 0 t) (ix2 r k) * iblk m c 2 t (ix2 k f)) = _ :=
    Finset.sum_congr rfl fun k _ => congrArg₂ (· * ·) ((rows_at _ r k).trans (read_x m c t r k)) (read_wu m c t k f)
  exact congrArg₂ (· * ·) (congrArg₂ (· * ·) (congrArg₂ (· * ·) hg (congrArg Ideal.logistic hg)) hu) (read_wd m c t f l)

/-- The block that the point leaves. -/
theorem point (c : Dev nD) (t : Fin cfg0.N) (r : Fin 16) (l : Fin 1024) :
    left (F := Ideal) (iblk m c 0 t) (iblk m c 1 t) (iblk m c 2 t) (iblk m c 3 t) (iblk m c 4 t) (iblk m c 5 t) (ix2 r l) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_6.blk t).view.emb (ix2 r l)) := by
  rw [emb_o t r l]
  refine Eq.trans ?_ (ref_at _ _ _ _ _ _ _ _).symm
  unfold left
  refine (norm_at _ _ _ _ r l).trans ?_
  have e0 : (fun k => iblk m c 0 t (ix2 r k)) = _ := funext fun k => read_x m c t r k
  have e1 := funext fun k => acc_at m c t r k
  refine Eq.trans ?_ (congrArg₂ (fun a b => lnAt (resid _ _) a b l) (read_g m c t 0 l) (read_b m c t 0 l))
  exact congrArg₂ (fun u v => lnAt (resid u v) _ _ l) e0 e1

/-- The result array after the run. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after_6]
  exact (congrArg _ (eq_ix2 y)).trans ((point m c t (y 0) (y 1)).trans (congrArg _ (congrArg _ (eq_ix2 y).symm)))

/-- The run: the result is the reference's function of the arguments, and these are kept. -/
theorem result : θ_run defs (onTc (τ := τ) (main (F := Ideal))) ⟨m, fun _ => 0, ρ⟩ (fun r => ∀ c : Dev nD,
      r.2.mem ((c.tc : Thread nD τ).loc main_v10) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final m c), kept m r h.1 c⟩) (run_main m ρ)

end Cert.Kernel7Ideal.MetaFfn

end
-- ==== Proof.MetaFfnClaim.lean ====
/-
  The claims about the gated linear unit on the meta tokens' 16 rows and its reference.
-/
module

public import proofs.«01_k».proof.Defs
public import proofs.«01_k».proof.Proof.MetaFfnFrame
public import proofs.«01_k».proof.Proof.MetaFfnValue
public import Idealize.ShloMosaic.Lib.Quiescent

@[expose] public section

noncomputable section

namespace Cert.Claims

open Idealize.ShloMosaic Idealize.SL.Sem

/-- The reference runs, keeps its arguments and leaves no semaphore raised. -/
theorem quiescent_Reference7Ideal : Cert.quiescent_Reference7Ideal := fun m ρ _ =>
  (θ_run Cert.Reference7Ideal.defs _ _).mono (fun r h => ⟨fun c => (h c).2, Idealize.ShloMosaic.sem_eq_zero_of_no_sems (by decide) r.2⟩) (Cert.Reference7Ideal.Value.run m ρ)

/-- From equal arguments the kernel and its reference end with equal results over the extended reals. -/
theorem algebraic_Kernel7Ideal_Reference7Ideal : Cert.algebraic_Kernel7Ideal_Reference7Ideal := fun m ρ m' ρ' _ hag =>
  ⟨fun c => Cert.Reference7Ideal.MetaFfnRef.REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    Cert.Kernel7Ideal.MetaFfn.result m ρ,
    (θ_run Cert.Reference7Ideal.defs _ _).mono (fun _ h c => ⟨(h c).1.trans (by rw [Cert.Reference7Ideal.MetaFfnRef.res_eq m' c, (hag c).1, (hag c).2.1, (hag c).2.2.1, (hag c).2.2.2.1, (hag c).2.2.2.2.1, (hag c).2.2.2.2.2]), (h c).2⟩) (Cert.Reference7Ideal.Value.run m' ρ')⟩

end Cert.Claims

end
-- ==== Proof.lean ====
/-
  The certificate: the calls' frames, and the results of all but the sparse attention against their references over the
  extended reals.
-/
module

public import proofs.«01_k».proof.Defs
public import proofs.«01_k».proof.Proof.Gen.Kernel.Frame
public import proofs.«01_k».proof.Proof.Gen.KernelIdeal.Frame
public import proofs.«01_k».proof.Proof.FfnClaim
public import proofs.«01_k».proof.Proof.Gen.Kernel2.Frame
public import proofs.«01_k».proof.Proof.Gen.Kernel2Ideal.Frame
public import proofs.«01_k».proof.Proof.MergeClaim
public import proofs.«01_k».proof.Proof.Gen.Kernel3.Frame
public import proofs.«01_k».proof.Proof.Gen.Kernel3Ideal.Frame
public import proofs.«01_k».proof.Proof.GateClaim
public import proofs.«01_k».proof.Proof.Gen.Kernel4.Frame
public import proofs.«01_k».proof.Proof.Gen.Kernel4Ideal.Frame
public import proofs.«01_k».proof.Proof.RopeClaim
public import proofs.«01_k».proof.Proof.AttnFrame
public import proofs.«01_k».proof.Proof.Gen.Kernel6.Frame
public import proofs.«01_k».proof.Proof.Gen.Kernel6Ideal.Frame
public import proofs.«01_k».proof.Proof.MetaClaim
public import proofs.«01_k».proof.Proof.MetaFfnClaim

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m ρ _ => Cert.Kernel.Gen.frame m ρ,
  fun m ρ _ => Cert.KernelIdeal.Gen.frame m ρ,
  Cert.Claims.quiescent_ReferenceIdeal,
  fun m ρ _ => Cert.Kernel2.Gen.frame m ρ,
  fun m ρ _ => Cert.Kernel2Ideal.Gen.frame m ρ,
  Cert.Claims.quiescent_Reference2Ideal,
  fun m ρ _ => Cert.Kernel3.Gen.frame m ρ,
  fun m ρ _ => Cert.Kernel3Ideal.Gen.frame m ρ,
  Cert.Claims.quiescent_Reference3Ideal,
  fun m ρ _ => Cert.Kernel4.Gen.frame m ρ,
  fun m ρ _ => Cert.Kernel4Ideal.Gen.frame m ρ,
  Cert.Claims.quiescent_Reference4Ideal,
  fun m ρ _ => Cert.Proof.Attn.frame m ρ,
  fun m ρ _ => Cert.Kernel6.Gen.frame m ρ,
  fun m ρ _ => Cert.Kernel6Ideal.Gen.frame m ρ,
  Cert.Claims.quiescent_Reference6Ideal,
  fun m ρ _ => Cert.Kernel7.MetaFfn.keeps m ρ,
  fun m ρ _ => Cert.Kernel7Ideal.MetaFfn.keeps m ρ,
  Cert.Claims.quiescent_Reference7Ideal,
  trivial,
  Cert.Claims.algebraic_KernelIdeal_ReferenceIdeal,
  trivial,
  Cert.Claims.algebraic_Kernel2Ideal_Reference2Ideal,
  trivial,
  Cert.Claims.algebraic_Kernel3Ideal_Reference3Ideal,
  trivial,
  Cert.Claims.algebraic_Kernel4Ideal_Reference4Ideal,
  trivial,
  Cert.Claims.algebraic_Kernel6Ideal_Reference6Ideal,
  trivial,
  Cert.Claims.algebraic_Kernel7Ideal_Reference7Ideal⟩

end Cert.Proof

end
